-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def Pre_Kernel44 (m : (ℓ : Loc Cert.Kernel44.nD Cert.Kernel44.τ Cert.Kernel44.sig) → Buf (Elt Bits) ℓ) : Prop :=
  True

def Pre_Kernel44Ideal (m : (ℓ : Loc Cert.Kernel44Ideal.nD Cert.Kernel44Ideal.τ Cert.Kernel44Ideal.sig) → Buf (Elt Ideal) ℓ) : Prop :=
  True

def Pre_Reference44Ideal (m : (ℓ : Loc Cert.Reference44Ideal.nD Cert.Reference44Ideal.τ Cert.Reference44Ideal.sig) → Buf (Elt Ideal) ℓ) : Prop :=
  True

def Pre_Kernel45 (m : (ℓ : Loc Cert.Kernel45.nD Cert.Kernel45.τ Cert.Kernel45.sig) → Buf (Elt Bits) ℓ) : Prop :=
  True

def Pre_Kernel45Ideal (m : (ℓ : Loc Cert.Kernel45Ideal.nD Cert.Kernel45Ideal.τ Cert.Kernel45Ideal.sig) → Buf (Elt Ideal) ℓ) : Prop :=
  True

def Pre_Reference45Ideal (m : (ℓ : Loc Cert.Reference45Ideal.nD Cert.Reference45Ideal.τ Cert.Reference45Ideal.sig) → Buf (Elt Ideal) ℓ) : Prop :=
  True

def Pre_Kernel46 (m : (ℓ : Loc Cert.Kernel46.nD Cert.Kernel46.τ Cert.Kernel46.sig) → Buf (Elt Bits) ℓ) : Prop :=
  True

def Pre_Kernel46Ideal (m : (ℓ : Loc Cert.Kernel46Ideal.nD Cert.Kernel46Ideal.τ Cert.Kernel46Ideal.sig) → Buf (Elt Ideal) ℓ) : Prop :=
  True

def Pre_Reference46Ideal (m : (ℓ : Loc Cert.Reference46Ideal.nD Cert.Reference46Ideal.τ Cert.Reference46Ideal.sig) → Buf (Elt Ideal) ℓ) : Prop :=
  True

def Pre_Kernel47 (m : (ℓ : Loc Cert.Kernel47.nD Cert.Kernel47.τ Cert.Kernel47.sig) → Buf (Elt Bits) ℓ) : Prop :=
  True

def Pre_Kernel47Ideal (m : (ℓ : Loc Cert.Kernel47Ideal.nD Cert.Kernel47Ideal.τ Cert.Kernel47Ideal.sig) → Buf (Elt Ideal) ℓ) : Prop :=
  True

def Pre_Reference47Ideal (m : (ℓ : Loc Cert.Reference47Ideal.nD Cert.Reference47Ideal.τ Cert.Reference47Ideal.sig) → Buf (Elt Ideal) ℓ) : Prop :=
  True

def Pre_Kernel48 (m : (ℓ : Loc Cert.Kernel48.nD Cert.Kernel48.τ Cert.Kernel48.sig) → Buf (Elt Bits) ℓ) : Prop :=
  True

def Pre_Kernel48Ideal (m : (ℓ : Loc Cert.Kernel48Ideal.nD Cert.Kernel48Ideal.τ Cert.Kernel48Ideal.sig) → Buf (Elt Ideal) ℓ) : Prop :=
  True

def Pre_Reference48Ideal (m : (ℓ : Loc Cert.Reference48Ideal.nD Cert.Reference48Ideal.τ Cert.Reference48Ideal.sig) → Buf (Elt Ideal) ℓ) : Prop :=
  True

def Pre_Kernel49 (m : (ℓ : Loc Cert.Kernel49.nD Cert.Kernel49.τ Cert.Kernel49.sig) → Buf (Elt Bits) ℓ) : Prop :=
  True

def Pre_Kernel49Ideal (m : (ℓ : Loc Cert.Kernel49Ideal.nD Cert.Kernel49Ideal.τ Cert.Kernel49Ideal.sig) → Buf (Elt Ideal) ℓ) : Prop :=
  True

def Pre_Reference49Ideal (m : (ℓ : Loc Cert.Reference49Ideal.nD Cert.Reference49Ideal.τ Cert.Reference49Ideal.sig) → Buf (Elt Ideal) ℓ) : Prop :=
  True

def Pre_Kernel50 (m : (ℓ : Loc Cert.Kernel50.nD Cert.Kernel50.τ Cert.Kernel50.sig) → Buf (Elt Bits) ℓ) : Prop :=
  True

def Pre_Kernel50Ideal (m : (ℓ : Loc Cert.Kernel50Ideal.nD Cert.Kernel50Ideal.τ Cert.Kernel50Ideal.sig) → Buf (Elt Ideal) ℓ) : Prop :=
  True

def Pre_Reference50Ideal (m : (ℓ : Loc Cert.Reference50Ideal.nD Cert.Reference50Ideal.τ Cert.Reference50Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1)
      ∧ r.2.mem ((c.tc : Thread Cert.Kernel41.nD Cert.Kernel41.τ).loc Cert.Kernel41.main_arg2) = m ((c.tc : Thread Cert.Kernel41.nD Cert.Kernel41.τ).loc Cert.Kernel41.main_arg2)
      ∧ r.2.mem ((c.tc : Thread Cert.Kernel41.nD Cert.Kernel41.τ).loc Cert.Kernel41.main_arg3) = m ((c.tc : Thread Cert.Kernel41.nD Cert.Kernel41.τ).loc Cert.Kernel41.main_arg3))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
      ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2)
      ∧ r.2.mem ((c.tc : Thread Cert.Reference41Ideal.nD Cert.Reference41Ideal.τ).loc Cert.Reference41Ideal.main_arg3) = m ((c.tc : Thread Cert.Reference41Ideal.nD Cert.Reference41Ideal.τ).loc Cert.Reference41Ideal.main_arg3))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1)
      ∧ r.2.mem ((c.tc : Thread Cert.Kernel42.nD Cert.Kernel42.τ).loc Cert.Kernel42.main_arg2) = m ((c.tc : Thread Cert.Kernel42.nD Cert.Kernel42.τ).loc Cert.Kernel42.main_arg2))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
      ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1)
      ∧ r.2.mem ((c.tc : Thread Cert.Reference42Ideal.nD Cert.Reference42Ideal.τ).loc Cert.Reference42Ideal.main_arg2) = m ((c.tc : Thread Cert.Reference42Ideal.nD Cert.Reference42Ideal.τ).loc Cert.Reference42Ideal.main_arg2))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0))
      ∧ r.2.sem = fun _ => 0)

def quiescent_Kernel44 [hKernel44 : Cert.Kernel44.Facts] : Prop :=
  ∀ (m : (ℓ : Loc Cert.Kernel44.nD Cert.Kernel44.τ Cert.Kernel44.sig) → Buf (Elt Bits) ℓ) (g : Dev Cert.Kernel44.nD → PrngReg), Pre_Kernel44 m →
    θ_run (Cert.Kernel44.defs (F := Bits)) (onTc (τ := Cert.Kernel44.τ) (Cert.Kernel44.main (F := Bits))) ⟨m, fun _ => 0, g⟩ (fun r => (∀ c : Dev Cert.Kernel44.nD,
      r.2.mem ((c.tc : Thread Cert.Kernel44.nD Cert.Kernel44.τ).loc Cert.Kernel44.main_arg0) = m ((c.tc : Thread Cert.Kernel44.nD Cert.Kernel44.τ).loc Cert.Kernel44.main_arg0)
      ∧ r.2.mem ((c.tc : Thread Cert.Kernel44.nD Cert.Kernel44.τ).loc Cert.Kernel44.main_arg1) = m ((c.tc : Thread Cert.Kernel44.nD Cert.Kernel44.τ).loc Cert.Kernel44.main_arg1)
      ∧ r.2.mem ((c.tc : Thread Cert.Kernel44.nD Cert.Kernel44.τ).loc Cert.Kernel44.main_arg2) = m ((c.tc : Thread Cert.Kernel44.nD Cert.Kernel44.τ).loc Cert.Kernel44.main_arg2)
      ∧ r.2.mem ((c.tc : Thread Cert.Kernel44.nD Cert.Kernel44.τ).loc Cert.Kernel44.main_arg3) = m ((c.tc : Thread Cert.Kernel44.nD Cert.Kernel44.τ).loc Cert.Kernel44.main_arg3)
      ∧ r.2.mem ((c.tc : Thread Cert.Kernel44.nD Cert.Kernel44.τ).loc Cert.Kernel44.main_arg4) = m ((c.tc : Thread Cert.Kernel44.nD Cert.Kernel44.τ).loc Cert.Kernel44.main_arg4))
      ∧ r.2.sem = fun _ => 0)

def quiescent_Kernel44Ideal [hKernel44Ideal : Cert.Kernel44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg), Pre_Kernel44Ideal m →
    θ_run (Cert.Kernel44Ideal.defs (F := Ideal)) (onTc (τ := Cert.Kernel44Ideal.τ) (Cert.Kernel44Ideal.main (F := Ideal))) ⟨m, fun _ => 0, g⟩ (fun r => (∀ c : Dev Cert.Kernel44Ideal.nD,
      r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
      ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
      ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2)
      ∧ r.2.mem ((c.tc : Thread Cert.Kernel44Ideal.nD Cert.Kernel44Ideal.τ).loc Cert.Kernel44Ideal.main_arg3) = m ((c.tc : Thread Cert.Kernel44Ideal.nD Cert.Kernel44Ideal.τ).loc Cert.Kernel44Ideal.main_arg3)
      ∧ r.2.mem ((c.tc : Thread Cert.Kernel44Ideal.nD Cert.Kernel44Ideal.τ).loc Cert.Kernel44Ideal.main_arg4) = m ((c.tc : Thread Cert.Kernel44Ideal.nD Cert.Kernel44Ideal.τ).loc Cert.Kernel44Ideal.main_arg4))
      ∧ r.2.sem = fun _ => 0)

def quiescent_Reference44Ideal [hReference44Ideal : Cert.Reference44Ideal.Facts] : Prop :=
  ∀ (m : (ℓ : Loc Cert.Reference44Ideal.nD Cert.Reference44Ideal.τ Cert.Reference44Ideal.sig) → Buf (Elt Ideal) ℓ) (g : Dev Cert.Reference44Ideal.nD → PrngReg), Pre_Reference44Ideal m →
    θ_run (Cert.Reference44Ideal.defs (F := Ideal)) (onTc (τ := Cert.Reference44Ideal.τ) (Cert.Reference44Ideal.main (F := Ideal))) ⟨m, fun _ => 0, g⟩ (fun r => (∀ c : Dev Cert.Reference44Ideal.nD,
      r.2.mem ((c.tc : Thread Cert.Reference44Ideal.nD Cert.Reference44Ideal.τ).loc Cert.Reference44Ideal.main_arg0) = m ((c.tc : Thread Cert.Reference44Ideal.nD Cert.Reference44Ideal.τ).loc Cert.Reference44Ideal.main_arg0)
      ∧ r.2.mem ((c.tc : Thread Cert.Reference44Ideal.nD Cert.Reference44Ideal.τ).loc Cert.Reference44Ideal.main_arg1) = m ((c.tc : Thread Cert.Reference44Ideal.nD Cert.Reference44Ideal.τ).loc Cert.Reference44Ideal.main_arg1)
      ∧ r.2.mem ((c.tc : Thread Cert.Reference44Ideal.nD Cert.Reference44Ideal.τ).loc Cert.Reference44Ideal.main_arg2) = m ((c.tc : Thread Cert.Reference44Ideal.nD Cert.Reference44Ideal.τ).loc Cert.Reference44Ideal.main_arg2)
      ∧ r.2.mem ((c.tc : Thread Cert.Reference44Ideal.nD Cert.Reference44Ideal.τ).loc Cert.Reference44Ideal.main_arg3) = m ((c.tc : Thread Cert.Reference44Ideal.nD Cert.Reference44Ideal.τ).loc Cert.Reference44Ideal.main_arg3)
      ∧ r.2.mem ((c.tc : Thread Cert.Reference44Ideal.nD Cert.Reference44Ideal.τ).loc Cert.Reference44Ideal.main_arg4) = m ((c.tc : Thread Cert.Reference44Ideal.nD Cert.Reference44Ideal.τ).loc Cert.Reference44Ideal.main_arg4))
      ∧ r.2.sem = fun _ => 0)

def quiescent_Kernel45 [hKernel45 : Cert.Kernel45.Facts] : Prop :=
  ∀ (m : (ℓ : Loc Cert.Kernel45.nD Cert.Kernel45.τ Cert.Kernel45.sig) → Buf (Elt Bits) ℓ) (g : Dev Cert.Kernel45.nD → PrngReg), Pre_Kernel45 m →
    θ_run (Cert.Kernel45.defs (F := Bits)) (onTc (τ := Cert.Kernel45.τ) (Cert.Kernel45.main (F := Bits))) ⟨m, fun _ => 0, g⟩ (fun r => (∀ c : Dev Cert.Kernel45.nD,
      r.2.mem ((c.tc : Thread Cert.Kernel45.nD Cert.Kernel45.τ).loc Cert.Kernel45.main_arg0) = m ((c.tc : Thread Cert.Kernel45.nD Cert.Kernel45.τ).loc Cert.Kernel45.main_arg0)
      ∧ r.2.mem ((c.tc : Thread Cert.Kernel45.nD Cert.Kernel45.τ).loc Cert.Kernel45.main_arg1) = m ((c.tc : Thread Cert.Kernel45.nD Cert.Kernel45.τ).loc Cert.Kernel45.main_arg1)
      ∧ r.2.mem ((c.tc : Thread Cert.Kernel45.nD Cert.Kernel45.τ).loc Cert.Kernel45.main_arg2) = m ((c.tc : Thread Cert.Kernel45.nD Cert.Kernel45.τ).loc Cert.Kernel45.main_arg2)
      ∧ r.2.mem ((c.tc : Thread Cert.Kernel45.nD Cert.Kernel45.τ).loc Cert.Kernel45.main_arg3) = m ((c.tc : Thread Cert.Kernel45.nD Cert.Kernel45.τ).loc Cert.Kernel45.main_arg3)
      ∧ r.2.mem ((c.tc : Thread Cert.Kernel45.nD Cert.Kernel45.τ).loc Cert.Kernel45.main_arg4) = m ((c.tc : Thread Cert.Kernel45.nD Cert.Kernel45.τ).loc Cert.Kernel45.main_arg4))
      ∧ r.2.sem = fun _ => 0)

def quiescent_Kernel45Ideal [hKernel45Ideal : Cert.Kernel45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg), Pre_Kernel45Ideal m →
    θ_run (Cert.Kernel45Ideal.defs (F := Ideal)) (onTc (τ := Cert.Kernel45Ideal.τ) (Cert.Kernel45Ideal.main (F := Ideal))) ⟨m, fun _ => 0, g⟩ (fun r => (∀ c : Dev Cert.Kernel45Ideal.nD,
      r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
      ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1)
      ∧ r.2.mem ((c.tc : Thread Cert.Kernel45Ideal.nD Cert.Kernel45Ideal.τ).loc Cert.Kernel45Ideal.main_arg2) = m ((c.tc : Thread Cert.Kernel45Ideal.nD Cert.Kernel45Ideal.τ).loc Cert.Kernel45Ideal.main_arg2)
      ∧ r.2.mem ((c.tc : Thread Cert.Kernel45Ideal.nD Cert.Kernel45Ideal.τ).loc Cert.Kernel45Ideal.main_arg3) = m ((c.tc : Thread Cert.Kernel45Ideal.nD Cert.Kernel45Ideal.τ).loc Cert.Kernel45Ideal.main_arg3)
      ∧ r.2.mem ((c.tc : Thread Cert.Kernel45Ideal.nD Cert.Kernel45Ideal.τ).loc Cert.Kernel45Ideal.main_arg4) = m ((c.tc : Thread Cert.Kernel45Ideal.nD Cert.Kernel45Ideal.τ).loc Cert.Kernel45Ideal.main_arg4))
      ∧ r.2.sem = fun _ => 0)

def quiescent_Reference45Ideal [hReference45Ideal : Cert.Reference45Ideal.Facts] : Prop :=
  ∀ (m : (ℓ : Loc Cert.Reference45Ideal.nD Cert.Reference45Ideal.τ Cert.Reference45Ideal.sig) → Buf (Elt Ideal) ℓ) (g : Dev Cert.Reference45Ideal.nD → PrngReg), Pre_Reference45Ideal m →
    θ_run (Cert.Reference45Ideal.defs (F := Ideal)) (onTc (τ := Cert.Reference45Ideal.τ) (Cert.Reference45Ideal.main (F := Ideal))) ⟨m, fun _ => 0, g⟩ (fun r => (∀ c : Dev Cert.Reference45Ideal.nD,
      r.2.mem ((c.tc : Thread Cert.Reference45Ideal.nD Cert.Reference45Ideal.τ).loc Cert.Reference45Ideal.main_arg0) = m ((c.tc : Thread Cert.Reference45Ideal.nD Cert.Reference45Ideal.τ).loc Cert.Reference45Ideal.main_arg0)
      ∧ r.2.mem ((c.tc : Thread Cert.Reference45Ideal.nD Cert.Reference45Ideal.τ).loc Cert.Reference45Ideal.main_arg1) = m ((c.tc : Thread Cert.Reference45Ideal.nD Cert.Reference45Ideal.τ).loc Cert.Reference45Ideal.main_arg1)
      ∧ r.2.mem ((c.tc : Thread Cert.Reference45Ideal.nD Cert.Reference45Ideal.τ).loc Cert.Reference45Ideal.main_arg2) = m ((c.tc : Thread Cert.Reference45Ideal.nD Cert.Reference45Ideal.τ).loc Cert.Reference45Ideal.main_arg2)
      ∧ r.2.mem ((c.tc : Thread Cert.Reference45Ideal.nD Cert.Reference45Ideal.τ).loc Cert.Reference45Ideal.main_arg3) = m ((c.tc : Thread Cert.Reference45Ideal.nD Cert.Reference45Ideal.τ).loc Cert.Reference45Ideal.main_arg3)
      ∧ r.2.mem ((c.tc : Thread Cert.Reference45Ideal.nD Cert.Reference45Ideal.τ).loc Cert.Reference45Ideal.main_arg4) = m ((c.tc : Thread Cert.Reference45Ideal.nD Cert.Reference45Ideal.τ).loc Cert.Reference45Ideal.main_arg4))
      ∧ r.2.sem = fun _ => 0)

def quiescent_Kernel46 [hKernel46 : Cert.Kernel46.Facts] : Prop :=
  ∀ (m : (ℓ : Loc Cert.Kernel46.nD Cert.Kernel46.τ Cert.Kernel46.sig) → Buf (Elt Bits) ℓ) (g : Dev Cert.Kernel46.nD → PrngReg), Pre_Kernel46 m →
    θ_run (Cert.Kernel46.defs (F := Bits)) (onTc (τ := Cert.Kernel46.τ) (Cert.Kernel46.main (F := Bits))) ⟨m, fun _ => 0, g⟩ (fun r => (∀ c : Dev Cert.Kernel46.nD,
      r.2.mem ((c.tc : Thread Cert.Kernel46.nD Cert.Kernel46.τ).loc Cert.Kernel46.main_arg0) = m ((c.tc : Thread Cert.Kernel46.nD Cert.Kernel46.τ).loc Cert.Kernel46.main_arg0)
      ∧ r.2.mem ((c.tc : Thread Cert.Kernel46.nD Cert.Kernel46.τ).loc Cert.Kernel46.main_arg1) = m ((c.tc : Thread Cert.Kernel46.nD Cert.Kernel46.τ).loc Cert.Kernel46.main_arg1)
      ∧ r.2.mem ((c.tc : Thread Cert.Kernel46.nD Cert.Kernel46.τ).loc Cert.Kernel46.main_arg2) = m ((c.tc : Thread Cert.Kernel46.nD Cert.Kernel46.τ).loc Cert.Kernel46.main_arg2)
      ∧ r.2.mem ((c.tc : Thread Cert.Kernel46.nD Cert.Kernel46.τ).loc Cert.Kernel46.main_arg3) = m ((c.tc : Thread Cert.Kernel46.nD Cert.Kernel46.τ).loc Cert.Kernel46.main_arg3)
      ∧ r.2.mem ((c.tc : Thread Cert.Kernel46.nD Cert.Kernel46.τ).loc Cert.Kernel46.main_arg4) = m ((c.tc : Thread Cert.Kernel46.nD Cert.Kernel46.τ).loc Cert.Kernel46.main_arg4))
      ∧ r.2.sem = fun _ => 0)

def quiescent_Kernel46Ideal [hKernel46Ideal : Cert.Kernel46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg), Pre_Kernel46Ideal m →
    θ_run (Cert.Kernel46Ideal.defs (F := Ideal)) (onTc (τ := Cert.Kernel46Ideal.τ) (Cert.Kernel46Ideal.main (F := Ideal))) ⟨m, fun _ => 0, g⟩ (fun r => (∀ c : Dev Cert.Kernel46Ideal.nD,
      r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
      ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1)
      ∧ r.2.mem ((c.tc : Thread Cert.Kernel46Ideal.nD Cert.Kernel46Ideal.τ).loc Cert.Kernel46Ideal.main_arg2) = m ((c.tc : Thread Cert.Kernel46Ideal.nD Cert.Kernel46Ideal.τ).loc Cert.Kernel46Ideal.main_arg2)
      ∧ r.2.mem ((c.tc : Thread Cert.Kernel46Ideal.nD Cert.Kernel46Ideal.τ).loc Cert.Kernel46Ideal.main_arg3) = m ((c.tc : Thread Cert.Kernel46Ideal.nD Cert.Kernel46Ideal.τ).loc Cert.Kernel46Ideal.main_arg3)
      ∧ r.2.mem ((c.tc : Thread Cert.Kernel46Ideal.nD Cert.Kernel46Ideal.τ).loc Cert.Kernel46Ideal.main_arg4) = m ((c.tc : Thread Cert.Kernel46Ideal.nD Cert.Kernel46Ideal.τ).loc Cert.Kernel46Ideal.main_arg4))
      ∧ r.2.sem = fun _ => 0)

def quiescent_Reference46Ideal [hReference46Ideal : Cert.Reference46Ideal.Facts] : Prop :=
  ∀ (m : (ℓ : Loc Cert.Reference46Ideal.nD Cert.Reference46Ideal.τ Cert.Reference46Ideal.sig) → Buf (Elt Ideal) ℓ) (g : Dev Cert.Reference46Ideal.nD → PrngReg), Pre_Reference46Ideal m →
    θ_run (Cert.Reference46Ideal.defs (F := Ideal)) (onTc (τ := Cert.Reference46Ideal.τ) (Cert.Reference46Ideal.main (F := Ideal))) ⟨m, fun _ => 0, g⟩ (fun r => (∀ c : Dev Cert.Reference46Ideal.nD,
      r.2.mem ((c.tc : Thread Cert.Reference46Ideal.nD Cert.Reference46Ideal.τ).loc Cert.Reference46Ideal.main_arg0) = m ((c.tc : Thread Cert.Reference46Ideal.nD Cert.Reference46Ideal.τ).loc Cert.Reference46Ideal.main_arg0)
      ∧ r.2.mem ((c.tc : Thread Cert.Reference46Ideal.nD Cert.Reference46Ideal.τ).loc Cert.Reference46Ideal.main_arg1) = m ((c.tc : Thread Cert.Reference46Ideal.nD Cert.Reference46Ideal.τ).loc Cert.Reference46Ideal.main_arg1)
      ∧ r.2.mem ((c.tc : Thread Cert.Reference46Ideal.nD Cert.Reference46Ideal.τ).loc Cert.Reference46Ideal.main_arg2) = m ((c.tc : Thread Cert.Reference46Ideal.nD Cert.Reference46Ideal.τ).loc Cert.Reference46Ideal.main_arg2)
      ∧ r.2.mem ((c.tc : Thread Cert.Reference46Ideal.nD Cert.Reference46Ideal.τ).loc Cert.Reference46Ideal.main_arg3) = m ((c.tc : Thread Cert.Reference46Ideal.nD Cert.Reference46Ideal.τ).loc Cert.Reference46Ideal.main_arg3)
      ∧ r.2.mem ((c.tc : Thread Cert.Reference46Ideal.nD Cert.Reference46Ideal.τ).loc Cert.Reference46Ideal.main_arg4) = m ((c.tc : Thread Cert.Reference46Ideal.nD Cert.Reference46Ideal.τ).loc Cert.Reference46Ideal.main_arg4))
      ∧ r.2.sem = fun _ => 0)

def quiescent_Kernel47 [hKernel47 : Cert.Kernel47.Facts] : Prop :=
  ∀ (m : (ℓ : Loc Cert.Kernel47.nD Cert.Kernel47.τ Cert.Kernel47.sig) → Buf (Elt Bits) ℓ) (g : Dev Cert.Kernel47.nD → PrngReg), Pre_Kernel47 m →
    θ_run (Cert.Kernel47.defs (F := Bits)) (onTc (τ := Cert.Kernel47.τ) (Cert.Kernel47.main (F := Bits))) ⟨m, fun _ => 0, g⟩ (fun r => (∀ c : Dev Cert.Kernel47.nD,
      r.2.mem ((c.tc : Thread Cert.Kernel47.nD Cert.Kernel47.τ).loc Cert.Kernel47.main_arg0) = m ((c.tc : Thread Cert.Kernel47.nD Cert.Kernel47.τ).loc Cert.Kernel47.main_arg0)
      ∧ r.2.mem ((c.tc : Thread Cert.Kernel47.nD Cert.Kernel47.τ).loc Cert.Kernel47.main_arg1) = m ((c.tc : Thread Cert.Kernel47.nD Cert.Kernel47.τ).loc Cert.Kernel47.main_arg1)
      ∧ r.2.mem ((c.tc : Thread Cert.Kernel47.nD Cert.Kernel47.τ).loc Cert.Kernel47.main_arg2) = m ((c.tc : Thread Cert.Kernel47.nD Cert.Kernel47.τ).loc Cert.Kernel47.main_arg2)
      ∧ r.2.mem ((c.tc : Thread Cert.Kernel47.nD Cert.Kernel47.τ).loc Cert.Kernel47.main_arg3) = m ((c.tc : Thread Cert.Kernel47.nD Cert.Kernel47.τ).loc Cert.Kernel47.main_arg3)
      ∧ r.2.mem ((c.tc : Thread Cert.Kernel47.nD Cert.Kernel47.τ).loc Cert.Kernel47.main_arg4) = m ((c.tc : Thread Cert.Kernel47.nD Cert.Kernel47.τ).loc Cert.Kernel47.main_arg4))
      ∧ r.2.sem = fun _ => 0)

def quiescent_Kernel47Ideal [hKernel47Ideal : Cert.Kernel47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg), Pre_Kernel47Ideal m →
    θ_run (Cert.Kernel47Ideal.defs (F := Ideal)) (onTc (τ := Cert.Kernel47Ideal.τ) (Cert.Kernel47Ideal.main (F := Ideal))) ⟨m, fun _ => 0, g⟩ (fun r => (∀ c : Dev Cert.Kernel47Ideal.nD,
      r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
      ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1)
      ∧ r.2.mem ((c.tc : Thread Cert.Kernel47Ideal.nD Cert.Kernel47Ideal.τ).loc Cert.Kernel47Ideal.main_arg2) = m ((c.tc : Thread Cert.Kernel47Ideal.nD Cert.Kernel47Ideal.τ).loc Cert.Kernel47Ideal.main_arg2)
      ∧ r.2.mem ((c.tc : Thread Cert.Kernel47Ideal.nD Cert.Kernel47Ideal.τ).loc Cert.Kernel47Ideal.main_arg3) = m ((c.tc : Thread Cert.Kernel47Ideal.nD Cert.Kernel47Ideal.τ).loc Cert.Kernel47Ideal.main_arg3)
      ∧ r.2.mem ((c.tc : Thread Cert.Kernel47Ideal.nD Cert.Kernel47Ideal.τ).loc Cert.Kernel47Ideal.main_arg4) = m ((c.tc : Thread Cert.Kernel47Ideal.nD Cert.Kernel47Ideal.τ).loc Cert.Kernel47Ideal.main_arg4))
      ∧ r.2.sem = fun _ => 0)

def quiescent_Reference47Ideal [hReference47Ideal : Cert.Reference47Ideal.Facts] : Prop :=
  ∀ (m : (ℓ : Loc Cert.Reference47Ideal.nD Cert.Reference47Ideal.τ Cert.Reference47Ideal.sig) → Buf (Elt Ideal) ℓ) (g : Dev Cert.Reference47Ideal.nD → PrngReg), Pre_Reference47Ideal m →
    θ_run (Cert.Reference47Ideal.defs (F := Ideal)) (onTc (τ := Cert.Reference47Ideal.τ) (Cert.Reference47Ideal.main (F := Ideal))) ⟨m, fun _ => 0, g⟩ (fun r => (∀ c : Dev Cert.Reference47Ideal.nD,
      r.2.mem ((c.tc : Thread Cert.Reference47Ideal.nD Cert.Reference47Ideal.τ).loc Cert.Reference47Ideal.main_arg0) = m ((c.tc : Thread Cert.Reference47Ideal.nD Cert.Reference47Ideal.τ).loc Cert.Reference47Ideal.main_arg0)
      ∧ r.2.mem ((c.tc : Thread Cert.Reference47Ideal.nD Cert.Reference47Ideal.τ).loc Cert.Reference47Ideal.main_arg1) = m ((c.tc : Thread Cert.Reference47Ideal.nD Cert.Reference47Ideal.τ).loc Cert.Reference47Ideal.main_arg1)
      ∧ r.2.mem ((c.tc : Thread Cert.Reference47Ideal.nD Cert.Reference47Ideal.τ).loc Cert.Reference47Ideal.main_arg2) = m ((c.tc : Thread Cert.Reference47Ideal.nD Cert.Reference47Ideal.τ).loc Cert.Reference47Ideal.main_arg2)
      ∧ r.2.mem ((c.tc : Thread Cert.Reference47Ideal.nD Cert.Reference47Ideal.τ).loc Cert.Reference47Ideal.main_arg3) = m ((c.tc : Thread Cert.Reference47Ideal.nD Cert.Reference47Ideal.τ).loc Cert.Reference47Ideal.main_arg3)
      ∧ r.2.mem ((c.tc : Thread Cert.Reference47Ideal.nD Cert.Reference47Ideal.τ).loc Cert.Reference47Ideal.main_arg4) = m ((c.tc : Thread Cert.Reference47Ideal.nD Cert.Reference47Ideal.τ).loc Cert.Reference47Ideal.main_arg4))
      ∧ r.2.sem = fun _ => 0)

def quiescent_Kernel48 [hKernel48 : Cert.Kernel48.Facts] : Prop :=
  ∀ (m : (ℓ : Loc Cert.Kernel48.nD Cert.Kernel48.τ Cert.Kernel48.sig) → Buf (Elt Bits) ℓ) (g : Dev Cert.Kernel48.nD → PrngReg), Pre_Kernel48 m →
    θ_run (Cert.Kernel48.defs (F := Bits)) (onTc (τ := Cert.Kernel48.τ) (Cert.Kernel48.main (F := Bits))) ⟨m, fun _ => 0, g⟩ (fun r => (∀ c : Dev Cert.Kernel48.nD,
      r.2.mem ((c.tc : Thread Cert.Kernel48.nD Cert.Kernel48.τ).loc Cert.Kernel48.main_arg0) = m ((c.tc : Thread Cert.Kernel48.nD Cert.Kernel48.τ).loc Cert.Kernel48.main_arg0)
      ∧ r.2.mem ((c.tc : Thread Cert.Kernel48.nD Cert.Kernel48.τ).loc Cert.Kernel48.main_arg1) = m ((c.tc : Thread Cert.Kernel48.nD Cert.Kernel48.τ).loc Cert.Kernel48.main_arg1)
      ∧ r.2.mem ((c.tc : Thread Cert.Kernel48.nD Cert.Kernel48.τ).loc Cert.Kernel48.main_arg2) = m ((c.tc : Thread Cert.Kernel48.nD Cert.Kernel48.τ).loc Cert.Kernel48.main_arg2)
      ∧ r.2.mem ((c.tc : Thread Cert.Kernel48.nD Cert.Kernel48.τ).loc Cert.Kernel48.main_arg3) = m ((c.tc : Thread Cert.Kernel48.nD Cert.Kernel48.τ).loc Cert.Kernel48.main_arg3)
      ∧ r.2.mem ((c.tc : Thread Cert.Kernel48.nD Cert.Kernel48.τ).loc Cert.Kernel48.main_arg4) = m ((c.tc : Thread Cert.Kernel48.nD Cert.Kernel48.τ).loc Cert.Kernel48.main_arg4))
      ∧ r.2.sem = fun _ => 0)

def quiescent_Kernel48Ideal [hKernel48Ideal : Cert.Kernel48Ideal.Facts] : Prop :=
  ∀ (m : (ℓ : Loc Cert.Kernel48Ideal.nD Cert.Kernel48Ideal.τ Cert.Kernel48Ideal.sig) → Buf (Elt Ideal) ℓ) (g : Dev Cert.Kernel48Ideal.nD → PrngReg), Pre_Kernel48Ideal m →
    θ_run (Cert.Kernel48Ideal.defs (F := Ideal)) (onTc (τ := Cert.Kernel48Ideal.τ) (Cert.Kernel48Ideal.main (F := Ideal))) ⟨m, fun _ => 0, g⟩ (fun r => (∀ c : Dev Cert.Kernel48Ideal.nD,
      r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0)
      ∧ r.2.mem ((c.tc : Thread Cert.Kernel48Ideal.nD Cert.Kernel48Ideal.τ).loc Cert.Kernel48Ideal.main_arg1) = m ((c.tc : Thread Cert.Kernel48Ideal.nD Cert.Kernel48Ideal.τ).loc Cert.Kernel48Ideal.main_arg1)
      ∧ r.2.mem ((c.tc : Thread Cert.Kernel48Ideal.nD Cert.Kernel48Ideal.τ).loc Cert.Kernel48Ideal.main_arg2) = m ((c.tc : Thread Cert.Kernel48Ideal.nD Cert.Kernel48Ideal.τ).loc Cert.Kernel48Ideal.main_arg2)
      ∧ r.2.mem ((c.tc : Thread Cert.Kernel48Ideal.nD Cert.Kernel48Ideal.τ).loc Cert.Kernel48Ideal.main_arg3) = m ((c.tc : Thread Cert.Kernel48Ideal.nD Cert.Kernel48Ideal.τ).loc Cert.Kernel48Ideal.main_arg3)
      ∧ r.2.mem ((c.tc : Thread Cert.Kernel48Ideal.nD Cert.Kernel48Ideal.τ).loc Cert.Kernel48Ideal.main_arg4) = m ((c.tc : Thread Cert.Kernel48Ideal.nD Cert.Kernel48Ideal.τ).loc Cert.Kernel48Ideal.main_arg4))
      ∧ r.2.sem = fun _ => 0)

def quiescent_Reference48Ideal [hReference48Ideal : Cert.Reference48Ideal.Facts] : Prop :=
  ∀ (m : (ℓ : Loc Cert.Reference48Ideal.nD Cert.Reference48Ideal.τ Cert.Reference48Ideal.sig) → Buf (Elt Ideal) ℓ) (g : Dev Cert.Reference48Ideal.nD → PrngReg), Pre_Reference48Ideal m →
    θ_run (Cert.Reference48Ideal.defs (F := Ideal)) (onTc (τ := Cert.Reference48Ideal.τ) (Cert.Reference48Ideal.main (F := Ideal))) ⟨m, fun _ => 0, g⟩ (fun r => (∀ c : Dev Cert.Reference48Ideal.nD,
      r.2.mem ((c.tc : Thread Cert.Reference48Ideal.nD Cert.Reference48Ideal.τ).loc Cert.Reference48Ideal.main_arg0) = m ((c.tc : Thread Cert.Reference48Ideal.nD Cert.Reference48Ideal.τ).loc Cert.Reference48Ideal.main_arg0)
      ∧ r.2.mem ((c.tc : Thread Cert.Reference48Ideal.nD Cert.Reference48Ideal.τ).loc Cert.Reference48Ideal.main_arg1) = m ((c.tc : Thread Cert.Reference48Ideal.nD Cert.Reference48Ideal.τ).loc Cert.Reference48Ideal.main_arg1)
      ∧ r.2.mem ((c.tc : Thread Cert.Reference48Ideal.nD Cert.Reference48Ideal.τ).loc Cert.Reference48Ideal.main_arg2) = m ((c.tc : Thread Cert.Reference48Ideal.nD Cert.Reference48Ideal.τ).loc Cert.Reference48Ideal.main_arg2)
      ∧ r.2.mem ((c.tc : Thread Cert.Reference48Ideal.nD Cert.Reference48Ideal.τ).loc Cert.Reference48Ideal.main_arg3) = m ((c.tc : Thread Cert.Reference48Ideal.nD Cert.Reference48Ideal.τ).loc Cert.Reference48Ideal.main_arg3)
      ∧ r.2.mem ((c.tc : Thread Cert.Reference48Ideal.nD Cert.Reference48Ideal.τ).loc Cert.Reference48Ideal.main_arg4) = m ((c.tc : Thread Cert.Reference48Ideal.nD Cert.Reference48Ideal.τ).loc Cert.Reference48Ideal.main_arg4))
      ∧ r.2.sem = fun _ => 0)

def quiescent_Kernel49 [hKernel49 : Cert.Kernel49.Facts] : Prop :=
  ∀ (m : (ℓ : Loc Cert.Kernel49.nD Cert.Kernel49.τ Cert.Kernel49.sig) → Buf (Elt Bits) ℓ) (g : Dev Cert.Kernel49.nD → PrngReg), Pre_Kernel49 m →
    θ_run (Cert.Kernel49.defs (F := Bits)) (onTc (τ := Cert.Kernel49.τ) (Cert.Kernel49.main (F := Bits))) ⟨m, fun _ => 0, g⟩ (fun r => (∀ c : Dev Cert.Kernel49.nD,
      r.2.mem ((c.tc : Thread Cert.Kernel49.nD Cert.Kernel49.τ).loc Cert.Kernel49.main_arg0) = m ((c.tc : Thread Cert.Kernel49.nD Cert.Kernel49.τ).loc Cert.Kernel49.main_arg0)
      ∧ r.2.mem ((c.tc : Thread Cert.Kernel49.nD Cert.Kernel49.τ).loc Cert.Kernel49.main_arg1) = m ((c.tc : Thread Cert.Kernel49.nD Cert.Kernel49.τ).loc Cert.Kernel49.main_arg1)
      ∧ r.2.mem ((c.tc : Thread Cert.Kernel49.nD Cert.Kernel49.τ).loc Cert.Kernel49.main_arg2) = m ((c.tc : Thread Cert.Kernel49.nD Cert.Kernel49.τ).loc Cert.Kernel49.main_arg2)
      ∧ r.2.mem ((c.tc : Thread Cert.Kernel49.nD Cert.Kernel49.τ).loc Cert.Kernel49.main_arg3) = m ((c.tc : Thread Cert.Kernel49.nD Cert.Kernel49.τ).loc Cert.Kernel49.main_arg3)
      ∧ r.2.mem ((c.tc : Thread Cert.Kernel49.nD Cert.Kernel49.τ).loc Cert.Kernel49.main_arg4) = m ((c.tc : Thread Cert.Kernel49.nD Cert.Kernel49.τ).loc Cert.Kernel49.main_arg4))
      ∧ r.2.sem = fun _ => 0)

def quiescent_Kernel49Ideal [hKernel49Ideal : Cert.Kernel49Ideal.Facts] : Prop :=
  ∀ (m : (ℓ : Loc Cert.Kernel49Ideal.nD Cert.Kernel49Ideal.τ Cert.Kernel49Ideal.sig) → Buf (Elt Ideal) ℓ) (g : Dev Cert.Kernel49Ideal.nD → PrngReg), Pre_Kernel49Ideal m →
    θ_run (Cert.Kernel49Ideal.defs (F := Ideal)) (onTc (τ := Cert.Kernel49Ideal.τ) (Cert.Kernel49Ideal.main (F := Ideal))) ⟨m, fun _ => 0, g⟩ (fun r => (∀ c : Dev Cert.Kernel49Ideal.nD,
      r.2.mem ((c.tc : Thread Cert.Kernel49Ideal.nD Cert.Kernel49Ideal.τ).loc Cert.Kernel49Ideal.main_arg0) = m ((c.tc : Thread Cert.Kernel49Ideal.nD Cert.Kernel49Ideal.τ).loc Cert.Kernel49Ideal.main_arg0)
      ∧ r.2.mem ((c.tc : Thread Cert.Kernel49Ideal.nD Cert.Kernel49Ideal.τ).loc Cert.Kernel49Ideal.main_arg1) = m ((c.tc : Thread Cert.Kernel49Ideal.nD Cert.Kernel49Ideal.τ).loc Cert.Kernel49Ideal.main_arg1)
      ∧ r.2.mem ((c.tc : Thread Cert.Kernel49Ideal.nD Cert.Kernel49Ideal.τ).loc Cert.Kernel49Ideal.main_arg2) = m ((c.tc : Thread Cert.Kernel49Ideal.nD Cert.Kernel49Ideal.τ).loc Cert.Kernel49Ideal.main_arg2)
      ∧ r.2.mem ((c.tc : Thread Cert.Kernel49Ideal.nD Cert.Kernel49Ideal.τ).loc Cert.Kernel49Ideal.main_arg3) = m ((c.tc : Thread Cert.Kernel49Ideal.nD Cert.Kernel49Ideal.τ).loc Cert.Kernel49Ideal.main_arg3)
      ∧ r.2.mem ((c.tc : Thread Cert.Kernel49Ideal.nD Cert.Kernel49Ideal.τ).loc Cert.Kernel49Ideal.main_arg4) = m ((c.tc : Thread Cert.Kernel49Ideal.nD Cert.Kernel49Ideal.τ).loc Cert.Kernel49Ideal.main_arg4))
      ∧ r.2.sem = fun _ => 0)

def quiescent_Reference49Ideal [hReference49Ideal : Cert.Reference49Ideal.Facts] : Prop :=
  ∀ (m : (ℓ : Loc Cert.Reference49Ideal.nD Cert.Reference49Ideal.τ Cert.Reference49Ideal.sig) → Buf (Elt Ideal) ℓ) (g : Dev Cert.Reference49Ideal.nD → PrngReg), Pre_Reference49Ideal m →
    θ_run (Cert.Reference49Ideal.defs (F := Ideal)) (onTc (τ := Cert.Reference49Ideal.τ) (Cert.Reference49Ideal.main (F := Ideal))) ⟨m, fun _ => 0, g⟩ (fun r => (∀ c : Dev Cert.Reference49Ideal.nD,
      r.2.mem ((c.tc : Thread Cert.Reference49Ideal.nD Cert.Reference49Ideal.τ).loc Cert.Reference49Ideal.main_arg0) = m ((c.tc : Thread Cert.Reference49Ideal.nD Cert.Reference49Ideal.τ).loc Cert.Reference49Ideal.main_arg0)
      ∧ r.2.mem ((c.tc : Thread Cert.Reference49Ideal.nD Cert.Reference49Ideal.τ).loc Cert.Reference49Ideal.main_arg1) = m ((c.tc : Thread Cert.Reference49Ideal.nD Cert.Reference49Ideal.τ).loc Cert.Reference49Ideal.main_arg1)
      ∧ r.2.mem ((c.tc : Thread Cert.Reference49Ideal.nD Cert.Reference49Ideal.τ).loc Cert.Reference49Ideal.main_arg2) = m ((c.tc : Thread Cert.Reference49Ideal.nD Cert.Reference49Ideal.τ).loc Cert.Reference49Ideal.main_arg2)
      ∧ r.2.mem ((c.tc : Thread Cert.Reference49Ideal.nD Cert.Reference49Ideal.τ).loc Cert.Reference49Ideal.main_arg3) = m ((c.tc : Thread Cert.Reference49Ideal.nD Cert.Reference49Ideal.τ).loc Cert.Reference49Ideal.main_arg3)
      ∧ r.2.mem ((c.tc : Thread Cert.Reference49Ideal.nD Cert.Reference49Ideal.τ).loc Cert.Reference49Ideal.main_arg4) = m ((c.tc : Thread Cert.Reference49Ideal.nD Cert.Reference49Ideal.τ).loc Cert.Reference49Ideal.main_arg4))
      ∧ r.2.sem = fun _ => 0)

def quiescent_Kernel50 [hKernel50 : Cert.Kernel50.Facts] : Prop :=
  ∀ (m : (ℓ : Loc Cert.Kernel50.nD Cert.Kernel50.τ Cert.Kernel50.sig) → Buf (Elt Bits) ℓ) (g : Dev Cert.Kernel50.nD → PrngReg), Pre_Kernel50 m →
    θ_run (Cert.Kernel50.defs (F := Bits)) (onTc (τ := Cert.Kernel50.τ) (Cert.Kernel50.main (F := Bits))) ⟨m, fun _ => 0, g⟩ (fun r => (∀ c : Dev Cert.Kernel50.nD,
      r.2.mem ((c.tc : Thread Cert.Kernel50.nD Cert.Kernel50.τ).loc Cert.Kernel50.main_arg0) = m ((c.tc : Thread Cert.Kernel50.nD Cert.Kernel50.τ).loc Cert.Kernel50.main_arg0)
      ∧ r.2.mem ((c.tc : Thread Cert.Kernel50.nD Cert.Kernel50.τ).loc Cert.Kernel50.main_arg1) = m ((c.tc : Thread Cert.Kernel50.nD Cert.Kernel50.τ).loc Cert.Kernel50.main_arg1)
      ∧ r.2.mem ((c.tc : Thread Cert.Kernel50.nD Cert.Kernel50.τ).loc Cert.Kernel50.main_arg2) = m ((c.tc : Thread Cert.Kernel50.nD Cert.Kernel50.τ).loc Cert.Kernel50.main_arg2)
      ∧ r.2.mem ((c.tc : Thread Cert.Kernel50.nD Cert.Kernel50.τ).loc Cert.Kernel50.main_arg3) = m ((c.tc : Thread Cert.Kernel50.nD Cert.Kernel50.τ).loc Cert.Kernel50.main_arg3))
      ∧ r.2.sem = fun _ => 0)

def quiescent_Kernel50Ideal [hKernel50Ideal : Cert.Kernel50Ideal.Facts] : Prop :=
  ∀ (m : (ℓ : Loc Cert.Kernel50Ideal.nD Cert.Kernel50Ideal.τ Cert.Kernel50Ideal.sig) → Buf (Elt Ideal) ℓ) (g : Dev Cert.Kernel50Ideal.nD → PrngReg), Pre_Kernel50Ideal m →
    θ_run (Cert.Kernel50Ideal.defs (F := Ideal)) (onTc (τ := Cert.Kernel50Ideal.τ) (Cert.Kernel50Ideal.main (F := Ideal))) ⟨m, fun _ => 0, g⟩ (fun r => (∀ c : Dev Cert.Kernel50Ideal.nD,
      r.2.mem ((c.tc : Thread Cert.Kernel50Ideal.nD Cert.Kernel50Ideal.τ).loc Cert.Kernel50Ideal.main_arg0) = m ((c.tc : Thread Cert.Kernel50Ideal.nD Cert.Kernel50Ideal.τ).loc Cert.Kernel50Ideal.main_arg0)
      ∧ r.2.mem ((c.tc : Thread Cert.Kernel50Ideal.nD Cert.Kernel50Ideal.τ).loc Cert.Kernel50Ideal.main_arg1) = m ((c.tc : Thread Cert.Kernel50Ideal.nD Cert.Kernel50Ideal.τ).loc Cert.Kernel50Ideal.main_arg1)
      ∧ r.2.mem ((c.tc : Thread Cert.Kernel50Ideal.nD Cert.Kernel50Ideal.τ).loc Cert.Kernel50Ideal.main_arg2) = m ((c.tc : Thread Cert.Kernel50Ideal.nD Cert.Kernel50Ideal.τ).loc Cert.Kernel50Ideal.main_arg2)
      ∧ r.2.mem ((c.tc : Thread Cert.Kernel50Ideal.nD Cert.Kernel50Ideal.τ).loc Cert.Kernel50Ideal.main_arg3) = m ((c.tc : Thread Cert.Kernel50Ideal.nD Cert.Kernel50Ideal.τ).loc Cert.Kernel50Ideal.main_arg3))
      ∧ r.2.sem = fun _ => 0)

def quiescent_Reference50Ideal [hReference50Ideal : Cert.Reference50Ideal.Facts] : Prop :=
  ∀ (m : (ℓ : Loc Cert.Reference50Ideal.nD Cert.Reference50Ideal.τ Cert.Reference50Ideal.sig) → Buf (Elt Ideal) ℓ) (g : Dev Cert.Reference50Ideal.nD → PrngReg), Pre_Reference50Ideal m →
    θ_run (Cert.Reference50Ideal.defs (F := Ideal)) (onTc (τ := Cert.Reference50Ideal.τ) (Cert.Reference50Ideal.main (F := Ideal))) ⟨m, fun _ => 0, g⟩ (fun r => (∀ c : Dev Cert.Reference50Ideal.nD,
      r.2.mem ((c.tc : Thread Cert.Reference50Ideal.nD Cert.Reference50Ideal.τ).loc Cert.Reference50Ideal.main_arg0) = m ((c.tc : Thread Cert.Reference50Ideal.nD Cert.Reference50Ideal.τ).loc Cert.Reference50Ideal.main_arg0)
      ∧ r.2.mem ((c.tc : Thread Cert.Reference50Ideal.nD Cert.Reference50Ideal.τ).loc Cert.Reference50Ideal.main_arg1) = m ((c.tc : Thread Cert.Reference50Ideal.nD Cert.Reference50Ideal.τ).loc Cert.Reference50Ideal.main_arg1)
      ∧ r.2.mem ((c.tc : Thread Cert.Reference50Ideal.nD Cert.Reference50Ideal.τ).loc Cert.Reference50Ideal.main_arg2) = m ((c.tc : Thread Cert.Reference50Ideal.nD Cert.Reference50Ideal.τ).loc Cert.Reference50Ideal.main_arg2)
      ∧ r.2.mem ((c.tc : Thread Cert.Reference50Ideal.nD Cert.Reference50Ideal.τ).loc Cert.Reference50Ideal.main_arg3) = m ((c.tc : Thread Cert.Reference50Ideal.nD Cert.Reference50Ideal.τ).loc Cert.Reference50Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v11) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v34) = v0 c
          ∧ r.2.mem ((c.tc : Thread Cert.Reference6Ideal.nD Cert.Reference6Ideal.τ).loc Cert.Reference6Ideal.main_v17) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_v20) = v1 c
          ∧ r.2.mem ((c.tc : Thread Cert.Reference7Ideal.nD Cert.Reference7Ideal.τ).loc Cert.Reference7Ideal.main_v18) = v2 c
          ∧ r.2.mem ((c.tc : Thread Cert.Reference7Ideal.nD Cert.Reference7Ideal.τ).loc Cert.Reference7Ideal.main_v25) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v37) = v0 c
          ∧ r.2.mem ((c.tc : Thread Cert.Reference8Ideal.nD Cert.Reference8Ideal.τ).loc Cert.Reference8Ideal.main_v38) = v1 c
          ∧ r.2.mem ((c.tc : Thread Cert.Reference8Ideal.nD Cert.Reference8Ideal.τ).loc Cert.Reference8Ideal.main_v19) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_v14) = v1 c
          ∧ r.2.mem ((c.tc : Thread Cert.Reference9Ideal.nD Cert.Reference9Ideal.τ).loc Cert.Reference9Ideal.main_v16) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v35) = v0 c
          ∧ r.2.mem ((c.tc : Thread Cert.Reference10Ideal.nD Cert.Reference10Ideal.τ).loc Cert.Reference10Ideal.main_v37) = v1 c
          ∧ r.2.mem ((c.tc : Thread Cert.Reference10Ideal.nD Cert.Reference10Ideal.τ).loc Cert.Reference10Ideal.main_v40) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v15) = v0 c
          ∧ r.2.mem ((c.tc : Thread Cert.Reference11Ideal.nD Cert.Reference11Ideal.τ).loc Cert.Reference11Ideal.main_v17) = v1 c
          ∧ r.2.mem ((c.tc : Thread Cert.Reference11Ideal.nD Cert.Reference11Ideal.τ).loc Cert.Reference11Ideal.main_v14) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v24) = v0 c
          ∧ r.2.mem ((c.tc : Thread Cert.Reference12Ideal.nD Cert.Reference12Ideal.τ).loc Cert.Reference12Ideal.main_v49) = v1 c
          ∧ r.2.mem ((c.tc : Thread Cert.Reference12Ideal.nD Cert.Reference12Ideal.τ).loc Cert.Reference12Ideal.main_v33) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v7) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v7) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v6) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v2) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v5) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v3) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v2) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v6) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v1)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v1) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v10) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v1) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v10) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v4) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v4) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v5) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v1)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v1) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v5) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v1) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v2) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)) →
    ∃ (v0 : (c : Dev Cert.Kernel36Ideal.nD) → Buf (Elt Ideal) ((c.tc : Thread Cert.Kernel36Ideal.nD Cert.Kernel36Ideal.τ).loc Cert.Kernel36Ideal.main_v0)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v32) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)) →
    ∃ (v0 : (c : Dev Cert.Kernel37Ideal.nD) → Buf (Elt Ideal) ((c.tc : Thread Cert.Kernel37Ideal.nD Cert.Kernel37Ideal.τ).loc Cert.Kernel37Ideal.main_v0)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v12) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)) →
    ∃ (v0 : (c : Dev Cert.Kernel38Ideal.nD) → Buf (Elt Ideal) ((c.tc : Thread Cert.Kernel38Ideal.nD Cert.Kernel38Ideal.τ).loc Cert.Kernel38Ideal.main_v0)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v4) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)) →
    ∃ (v0 : (c : Dev Cert.Kernel39Ideal.nD) → Buf (Elt Ideal) ((c.tc : Thread Cert.Kernel39Ideal.nD Cert.Kernel39Ideal.τ).loc Cert.Kernel39Ideal.main_v0)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0) = v0 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v15) = v0 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)) →
    ∃ (v0 : (c : Dev Cert.Kernel40Ideal.nD) → Buf (Elt Ideal) ((c.tc : Thread Cert.Kernel40Ideal.nD Cert.Kernel40Ideal.τ).loc Cert.Kernel40Ideal.main_v0)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0) = v0 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v9) = v0 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)
      ∧ m' ((c.tc : Thread Cert.Reference41Ideal.nD Cert.Reference41Ideal.τ).loc Cert.Reference41Ideal.main_arg2) = m ((c.tc : Thread Cert.Kernel41Ideal.nD Cert.Kernel41Ideal.τ).loc Cert.Kernel41Ideal.main_arg2)
      ∧ m' ((c.tc : Thread Cert.Reference41Ideal.nD Cert.Reference41Ideal.τ).loc Cert.Reference41Ideal.main_arg3) = m ((c.tc : Thread Cert.Kernel41Ideal.nD Cert.Kernel41Ideal.τ).loc Cert.Kernel41Ideal.main_arg3)) →
    ∃ (v0 : (c : Dev Cert.Kernel41Ideal.nD) → Buf (Elt Ideal) ((c.tc : Thread Cert.Kernel41Ideal.nD Cert.Kernel41Ideal.τ).loc Cert.Kernel41Ideal.main_v0)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0) = v0 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
          ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
          ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v13) = v0 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1)
          ∧ r.2.mem ((c.tc : Thread Cert.Reference41Ideal.nD Cert.Reference41Ideal.τ).loc Cert.Reference41Ideal.main_arg2) = m' ((c.tc : Thread Cert.Reference41Ideal.nD Cert.Reference41Ideal.τ).loc Cert.Reference41Ideal.main_arg2)
          ∧ r.2.mem ((c.tc : Thread Cert.Reference41Ideal.nD Cert.Reference41Ideal.τ).loc Cert.Reference41Ideal.main_arg3) = m' ((c.tc : Thread Cert.Reference41Ideal.nD Cert.Reference41Ideal.τ).loc Cert.Reference41Ideal.main_arg3))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)
      ∧ m' ((c.tc : Thread Cert.Reference42Ideal.nD Cert.Reference42Ideal.τ).loc Cert.Reference42Ideal.main_arg2) = m ((c.tc : Thread Cert.Kernel42Ideal.nD Cert.Kernel42Ideal.τ).loc Cert.Kernel42Ideal.main_arg2)) →
    ∃ (v0 : (c : Dev Cert.Kernel42Ideal.nD) → Buf (Elt Ideal) ((c.tc : Thread Cert.Kernel42Ideal.nD Cert.Kernel42Ideal.τ).loc Cert.Kernel42Ideal.main_v0)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v0) = v0 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
          ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v14) = v0 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1)
          ∧ r.2.mem ((c.tc : Thread Cert.Reference42Ideal.nD Cert.Reference42Ideal.τ).loc Cert.Reference42Ideal.main_arg2) = m' ((c.tc : Thread Cert.Reference42Ideal.nD Cert.Reference42Ideal.τ).loc Cert.Reference42Ideal.main_arg2))

def preserves_Kernel43_Kernel43Ideal : Prop :=
  True

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)) →
    ∃ (v0 : (c : Dev Cert.Kernel43Ideal.nD) → Buf (Elt Ideal) ((c.tc : Thread Cert.Kernel43Ideal.nD Cert.Kernel43Ideal.τ).loc Cert.Kernel43Ideal.main_v0)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v0) = v0 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v0) = v0 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0))

def preserves_Kernel44_Kernel44Ideal : Prop :=
  IdealRules.named_const.Statement Cert.Kernel44Ideal.κ "c1" .f32 0x3FC48605#32 (((5463681 / 8388608)⁻¹ : ℝ) : EReal)
  ∧ IdealRules.named_const.Statement Cert.Kernel44Ideal.κ "c2" .f32 0x42C8E6D3#32 (((2672307 / 268435456)⁻¹ : ℝ) : EReal)

def algebraic_Kernel44Ideal_Reference44Ideal [hKernel44Ideal : Cert.Kernel44Ideal.Facts] [hReference44Ideal : Cert.Reference44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg)
    (m' : (ℓ : Loc Cert.Reference44Ideal.nD Cert.Reference44Ideal.τ Cert.Reference44Ideal.sig) → Buf (Elt Ideal) ℓ) (g' : Dev Cert.Reference44Ideal.nD → PrngReg), Pre_Kernel44Ideal m →
    (∀ c : Dev Cert.Kernel44Ideal.nD,
      m' ((c.tc : Thread Cert.Reference44Ideal.nD Cert.Reference44Ideal.τ).loc Cert.Reference44Ideal.main_arg0) = m ((c.tc : Thread Cert.Kernel44Ideal.nD Cert.Kernel44Ideal.τ).loc Cert.Kernel44Ideal.main_arg0)
      ∧ m' ((c.tc : Thread Cert.Reference44Ideal.nD Cert.Reference44Ideal.τ).loc Cert.Reference44Ideal.main_arg1) = m ((c.tc : Thread Cert.Kernel44Ideal.nD Cert.Kernel44Ideal.τ).loc Cert.Kernel44Ideal.main_arg1)
      ∧ m' ((c.tc : Thread Cert.Reference44Ideal.nD Cert.Reference44Ideal.τ).loc Cert.Reference44Ideal.main_arg2) = m ((c.tc : Thread Cert.Kernel44Ideal.nD Cert.Kernel44Ideal.τ).loc Cert.Kernel44Ideal.main_arg2)
      ∧ m' ((c.tc : Thread Cert.Reference44Ideal.nD Cert.Reference44Ideal.τ).loc Cert.Reference44Ideal.main_arg3) = m ((c.tc : Thread Cert.Kernel44Ideal.nD Cert.Kernel44Ideal.τ).loc Cert.Kernel44Ideal.main_arg3)
      ∧ m' ((c.tc : Thread Cert.Reference44Ideal.nD Cert.Reference44Ideal.τ).loc Cert.Reference44Ideal.main_arg4) = m ((c.tc : Thread Cert.Kernel44Ideal.nD Cert.Kernel44Ideal.τ).loc Cert.Kernel44Ideal.main_arg4)) →
    ∃ (v0 : (c : Dev Cert.Kernel44Ideal.nD) → Buf (Elt Ideal) ((c.tc : Thread Cert.Kernel44Ideal.nD Cert.Kernel44Ideal.τ).loc Cert.Kernel44Ideal.main_v0_0)) (v1 : (c : Dev Cert.Kernel44Ideal.nD) → Buf (Elt Ideal) ((c.tc : Thread Cert.Kernel44Ideal.nD Cert.Kernel44Ideal.τ).loc Cert.Kernel44Ideal.main_v0_1)) (v2 : (c : Dev Cert.Kernel44Ideal.nD) → Buf (Elt Ideal) ((c.tc : Thread Cert.Kernel44Ideal.nD Cert.Kernel44Ideal.τ).loc Cert.Kernel44Ideal.main_v0_2)) (v3 : (c : Dev Cert.Kernel44Ideal.nD) → Buf (Elt Ideal) ((c.tc : Thread Cert.Kernel44Ideal.nD Cert.Kernel44Ideal.τ).loc Cert.Kernel44Ideal.main_v0_3)),
      θ_run (Cert.Kernel44Ideal.defs (F := Ideal)) (onTc (τ := Cert.Kernel44Ideal.τ) (Cert.Kernel44Ideal.main (F := Ideal))) ⟨m, fun _ => 0, g⟩ (fun r => ∀ c : Dev Cert.Kernel44Ideal.nD,
          r.2.mem ((c.tc : Thread Cert.Kernel44Ideal.nD Cert.Kernel44Ideal.τ).loc Cert.Kernel44Ideal.main_v0_0) = v0 c
          ∧ r.2.mem ((c.tc : Thread Cert.Kernel44Ideal.nD Cert.Kernel44Ideal.τ).loc Cert.Kernel44Ideal.main_v0_1) = v1 c
          ∧ r.2.mem ((c.tc : Thread Cert.Kernel44Ideal.nD Cert.Kernel44Ideal.τ).loc Cert.Kernel44Ideal.main_v0_2) = v2 c
          ∧ r.2.mem ((c.tc : Thread Cert.Kernel44Ideal.nD Cert.Kernel44Ideal.τ).loc Cert.Kernel44Ideal.main_v0_3) = v3 c
          ∧ r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
          ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
          ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2)
          ∧ r.2.mem ((c.tc : Thread Cert.Kernel44Ideal.nD Cert.Kernel44Ideal.τ).loc Cert.Kernel44Ideal.main_arg3) = m ((c.tc : Thread Cert.Kernel44Ideal.nD Cert.Kernel44Ideal.τ).loc Cert.Kernel44Ideal.main_arg3)
          ∧ r.2.mem ((c.tc : Thread Cert.Kernel44Ideal.nD Cert.Kernel44Ideal.τ).loc Cert.Kernel44Ideal.main_arg4) = m ((c.tc : Thread Cert.Kernel44Ideal.nD Cert.Kernel44Ideal.τ).loc Cert.Kernel44Ideal.main_arg4))
      ∧ θ_run (Cert.Reference44Ideal.defs (F := Ideal)) (onTc (τ := Cert.Reference44Ideal.τ) (Cert.Reference44Ideal.main (F := Ideal))) ⟨m', fun _ => 0, g'⟩ (fun r => ∀ c : Dev Cert.Reference44Ideal.nD,
          r.2.mem ((c.tc : Thread Cert.Reference44Ideal.nD Cert.Reference44Ideal.τ).loc Cert.Reference44Ideal.main_v5) = v0 c
          ∧ r.2.mem ((c.tc : Thread Cert.Reference44Ideal.nD Cert.Reference44Ideal.τ).loc Cert.Reference44Ideal.main_v29) = v1 c
          ∧ r.2.mem ((c.tc : Thread Cert.Reference44Ideal.nD Cert.Reference44Ideal.τ).loc Cert.Reference44Ideal.main_v10) = v2 c
          ∧ r.2.mem ((c.tc : Thread Cert.Reference44Ideal.nD Cert.Reference44Ideal.τ).loc Cert.Reference44Ideal.main_v16) = v3 c
          ∧ r.2.mem ((c.tc : Thread Cert.Reference44Ideal.nD Cert.Reference44Ideal.τ).loc Cert.Reference44Ideal.main_arg0) = m' ((c.tc : Thread Cert.Reference44Ideal.nD Cert.Reference44Ideal.τ).loc Cert.Reference44Ideal.main_arg0)
          ∧ r.2.mem ((c.tc : Thread Cert.Reference44Ideal.nD Cert.Reference44Ideal.τ).loc Cert.Reference44Ideal.main_arg1) = m' ((c.tc : Thread Cert.Reference44Ideal.nD Cert.Reference44Ideal.τ).loc Cert.Reference44Ideal.main_arg1)
          ∧ r.2.mem ((c.tc : Thread Cert.Reference44Ideal.nD Cert.Reference44Ideal.τ).loc Cert.Reference44Ideal.main_arg2) = m' ((c.tc : Thread Cert.Reference44Ideal.nD Cert.Reference44Ideal.τ).loc Cert.Reference44Ideal.main_arg2)
          ∧ r.2.mem ((c.tc : Thread Cert.Reference44Ideal.nD Cert.Reference44Ideal.τ).loc Cert.Reference44Ideal.main_arg3) = m' ((c.tc : Thread Cert.Reference44Ideal.nD Cert.Reference44Ideal.τ).loc Cert.Reference44Ideal.main_arg3)
          ∧ r.2.mem ((c.tc : Thread Cert.Reference44Ideal.nD Cert.Reference44Ideal.τ).loc Cert.Reference44Ideal.main_arg4) = m' ((c.tc : Thread Cert.Reference44Ideal.nD Cert.Reference44Ideal.τ).loc Cert.Reference44Ideal.main_arg4))

def preserves_Kernel45_Kernel45Ideal : Prop :=
  IdealRules.named_const.Statement Cert.Kernel45Ideal.κ "c1" .f32 0x3FC48605#32 (((5463681 / 8388608)⁻¹ : ℝ) : EReal)
  ∧ IdealRules.named_const.Statement Cert.Kernel45Ideal.κ "c2" .f32 0x42C8E6D3#32 (((2672307 / 268435456)⁻¹ : ℝ) : EReal)

def algebraic_Kernel45Ideal_Reference45Ideal [hKernel45Ideal : Cert.Kernel45Ideal.Facts] [hReference45Ideal : Cert.Reference45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg)
    (m' : (ℓ : Loc Cert.Reference45Ideal.nD Cert.Reference45Ideal.τ Cert.Reference45Ideal.sig) → Buf (Elt Ideal) ℓ) (g' : Dev Cert.Reference45Ideal.nD → PrngReg), Pre_Kernel45Ideal m →
    (∀ c : Dev Cert.Kernel45Ideal.nD,
      m' ((c.tc : Thread Cert.Reference45Ideal.nD Cert.Reference45Ideal.τ).loc Cert.Reference45Ideal.main_arg0) = m ((c.tc : Thread Cert.Kernel45Ideal.nD Cert.Kernel45Ideal.τ).loc Cert.Kernel45Ideal.main_arg0)
      ∧ m' ((c.tc : Thread Cert.Reference45Ideal.nD Cert.Reference45Ideal.τ).loc Cert.Reference45Ideal.main_arg1) = m ((c.tc : Thread Cert.Kernel45Ideal.nD Cert.Kernel45Ideal.τ).loc Cert.Kernel45Ideal.main_arg1)
      ∧ m' ((c.tc : Thread Cert.Reference45Ideal.nD Cert.Reference45Ideal.τ).loc Cert.Reference45Ideal.main_arg2) = m ((c.tc : Thread Cert.Kernel45Ideal.nD Cert.Kernel45Ideal.τ).loc Cert.Kernel45Ideal.main_arg2)
      ∧ m' ((c.tc : Thread Cert.Reference45Ideal.nD Cert.Reference45Ideal.τ).loc Cert.Reference45Ideal.main_arg3) = m ((c.tc : Thread Cert.Kernel45Ideal.nD Cert.Kernel45Ideal.τ).loc Cert.Kernel45Ideal.main_arg3)
      ∧ m' ((c.tc : Thread Cert.Reference45Ideal.nD Cert.Reference45Ideal.τ).loc Cert.Reference45Ideal.main_arg4) = m ((c.tc : Thread Cert.Kernel45Ideal.nD Cert.Kernel45Ideal.τ).loc Cert.Kernel45Ideal.main_arg4)) →
    ∃ (v0 : (c : Dev Cert.Kernel45Ideal.nD) → Buf (Elt Ideal) ((c.tc : Thread Cert.Kernel45Ideal.nD Cert.Kernel45Ideal.τ).loc Cert.Kernel45Ideal.main_v0_0)) (v1 : (c : Dev Cert.Kernel45Ideal.nD) → Buf (Elt Ideal) ((c.tc : Thread Cert.Kernel45Ideal.nD Cert.Kernel45Ideal.τ).loc Cert.Kernel45Ideal.main_v0_1)) (v2 : (c : Dev Cert.Kernel45Ideal.nD) → Buf (Elt Ideal) ((c.tc : Thread Cert.Kernel45Ideal.nD Cert.Kernel45Ideal.τ).loc Cert.Kernel45Ideal.main_v0_2)) (v3 : (c : Dev Cert.Kernel45Ideal.nD) → Buf (Elt Ideal) ((c.tc : Thread Cert.Kernel45Ideal.nD Cert.Kernel45Ideal.τ).loc Cert.Kernel45Ideal.main_v0_3)),
      θ_run (Cert.Kernel45Ideal.defs (F := Ideal)) (onTc (τ := Cert.Kernel45Ideal.τ) (Cert.Kernel45Ideal.main (F := Ideal))) ⟨m, fun _ => 0, g⟩ (fun r => ∀ c : Dev Cert.Kernel45Ideal.nD,
          r.2.mem ((c.tc : Thread Cert.Kernel45Ideal.nD Cert.Kernel45Ideal.τ).loc Cert.Kernel45Ideal.main_v0_0) = v0 c
          ∧ r.2.mem ((c.tc : Thread Cert.Kernel45Ideal.nD Cert.Kernel45Ideal.τ).loc Cert.Kernel45Ideal.main_v0_1) = v1 c
          ∧ r.2.mem ((c.tc : Thread Cert.Kernel45Ideal.nD Cert.Kernel45Ideal.τ).loc Cert.Kernel45Ideal.main_v0_2) = v2 c
          ∧ r.2.mem ((c.tc : Thread Cert.Kernel45Ideal.nD Cert.Kernel45Ideal.τ).loc Cert.Kernel45Ideal.main_v0_3) = v3 c
          ∧ r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
          ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1)
          ∧ r.2.mem ((c.tc : Thread Cert.Kernel45Ideal.nD Cert.Kernel45Ideal.τ).loc Cert.Kernel45Ideal.main_arg2) = m ((c.tc : Thread Cert.Kernel45Ideal.nD Cert.Kernel45Ideal.τ).loc Cert.Kernel45Ideal.main_arg2)
          ∧ r.2.mem ((c.tc : Thread Cert.Kernel45Ideal.nD Cert.Kernel45Ideal.τ).loc Cert.Kernel45Ideal.main_arg3) = m ((c.tc : Thread Cert.Kernel45Ideal.nD Cert.Kernel45Ideal.τ).loc Cert.Kernel45Ideal.main_arg3)
          ∧ r.2.mem ((c.tc : Thread Cert.Kernel45Ideal.nD Cert.Kernel45Ideal.τ).loc Cert.Kernel45Ideal.main_arg4) = m ((c.tc : Thread Cert.Kernel45Ideal.nD Cert.Kernel45Ideal.τ).loc Cert.Kernel45Ideal.main_arg4))
      ∧ θ_run (Cert.Reference45Ideal.defs (F := Ideal)) (onTc (τ := Cert.Reference45Ideal.τ) (Cert.Reference45Ideal.main (F := Ideal))) ⟨m', fun _ => 0, g'⟩ (fun r => ∀ c : Dev Cert.Reference45Ideal.nD,
          r.2.mem ((c.tc : Thread Cert.Reference45Ideal.nD Cert.Reference45Ideal.τ).loc Cert.Reference45Ideal.main_v5) = v0 c
          ∧ r.2.mem ((c.tc : Thread Cert.Reference45Ideal.nD Cert.Reference45Ideal.τ).loc Cert.Reference45Ideal.main_v29) = v1 c
          ∧ r.2.mem ((c.tc : Thread Cert.Reference45Ideal.nD Cert.Reference45Ideal.τ).loc Cert.Reference45Ideal.main_v10) = v2 c
          ∧ r.2.mem ((c.tc : Thread Cert.Reference45Ideal.nD Cert.Reference45Ideal.τ).loc Cert.Reference45Ideal.main_v16) = v3 c
          ∧ r.2.mem ((c.tc : Thread Cert.Reference45Ideal.nD Cert.Reference45Ideal.τ).loc Cert.Reference45Ideal.main_arg0) = m' ((c.tc : Thread Cert.Reference45Ideal.nD Cert.Reference45Ideal.τ).loc Cert.Reference45Ideal.main_arg0)
          ∧ r.2.mem ((c.tc : Thread Cert.Reference45Ideal.nD Cert.Reference45Ideal.τ).loc Cert.Reference45Ideal.main_arg1) = m' ((c.tc : Thread Cert.Reference45Ideal.nD Cert.Reference45Ideal.τ).loc Cert.Reference45Ideal.main_arg1)
          ∧ r.2.mem ((c.tc : Thread Cert.Reference45Ideal.nD Cert.Reference45Ideal.τ).loc Cert.Reference45Ideal.main_arg2) = m' ((c.tc : Thread Cert.Reference45Ideal.nD Cert.Reference45Ideal.τ).loc Cert.Reference45Ideal.main_arg2)
          ∧ r.2.mem ((c.tc : Thread Cert.Reference45Ideal.nD Cert.Reference45Ideal.τ).loc Cert.Reference45Ideal.main_arg3) = m' ((c.tc : Thread Cert.Reference45Ideal.nD Cert.Reference45Ideal.τ).loc Cert.Reference45Ideal.main_arg3)
          ∧ r.2.mem ((c.tc : Thread Cert.Reference45Ideal.nD Cert.Reference45Ideal.τ).loc Cert.Reference45Ideal.main_arg4) = m' ((c.tc : Thread Cert.Reference45Ideal.nD Cert.Reference45Ideal.τ).loc Cert.Reference45Ideal.main_arg4))

def preserves_Kernel46_Kernel46Ideal : Prop :=
  IdealRules.named_const.Statement Cert.Kernel46Ideal.κ "c1" .f32 0x3FC48605#32 (((5463681 / 8388608)⁻¹ : ℝ) : EReal)
  ∧ IdealRules.named_const.Statement Cert.Kernel46Ideal.κ "c2" .f32 0x42C8E6D3#32 (((2672307 / 268435456)⁻¹ : ℝ) : EReal)

def algebraic_Kernel46Ideal_Reference46Ideal [hKernel46Ideal : Cert.Kernel46Ideal.Facts] [hReference46Ideal : Cert.Reference46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg)
    (m' : (ℓ : Loc Cert.Reference46Ideal.nD Cert.Reference46Ideal.τ Cert.Reference46Ideal.sig) → Buf (Elt Ideal) ℓ) (g' : Dev Cert.Reference46Ideal.nD → PrngReg), Pre_Kernel46Ideal m →
    (∀ c : Dev Cert.Kernel46Ideal.nD,
      m' ((c.tc : Thread Cert.Reference46Ideal.nD Cert.Reference46Ideal.τ).loc Cert.Reference46Ideal.main_arg0) = m ((c.tc : Thread Cert.Kernel46Ideal.nD Cert.Kernel46Ideal.τ).loc Cert.Kernel46Ideal.main_arg0)
      ∧ m' ((c.tc : Thread Cert.Reference46Ideal.nD Cert.Reference46Ideal.τ).loc Cert.Reference46Ideal.main_arg1) = m ((c.tc : Thread Cert.Kernel46Ideal.nD Cert.Kernel46Ideal.τ).loc Cert.Kernel46Ideal.main_arg1)
      ∧ m' ((c.tc : Thread Cert.Reference46Ideal.nD Cert.Reference46Ideal.τ).loc Cert.Reference46Ideal.main_arg2) = m ((c.tc : Thread Cert.Kernel46Ideal.nD Cert.Kernel46Ideal.τ).loc Cert.Kernel46Ideal.main_arg2)
      ∧ m' ((c.tc : Thread Cert.Reference46Ideal.nD Cert.Reference46Ideal.τ).loc Cert.Reference46Ideal.main_arg3) = m ((c.tc : Thread Cert.Kernel46Ideal.nD Cert.Kernel46Ideal.τ).loc Cert.Kernel46Ideal.main_arg3)
      ∧ m' ((c.tc : Thread Cert.Reference46Ideal.nD Cert.Reference46Ideal.τ).loc Cert.Reference46Ideal.main_arg4) = m ((c.tc : Thread Cert.Kernel46Ideal.nD Cert.Kernel46Ideal.τ).loc Cert.Kernel46Ideal.main_arg4)) →
    ∃ (v0 : (c : Dev Cert.Kernel46Ideal.nD) → Buf (Elt Ideal) ((c.tc : Thread Cert.Kernel46Ideal.nD Cert.Kernel46Ideal.τ).loc Cert.Kernel46Ideal.main_v0_0)) (v1 : (c : Dev Cert.Kernel46Ideal.nD) → Buf (Elt Ideal) ((c.tc : Thread Cert.Kernel46Ideal.nD Cert.Kernel46Ideal.τ).loc Cert.Kernel46Ideal.main_v0_1)) (v2 : (c : Dev Cert.Kernel46Ideal.nD) → Buf (Elt Ideal) ((c.tc : Thread Cert.Kernel46Ideal.nD Cert.Kernel46Ideal.τ).loc Cert.Kernel46Ideal.main_v0_2)) (v3 : (c : Dev Cert.Kernel46Ideal.nD) → Buf (Elt Ideal) ((c.tc : Thread Cert.Kernel46Ideal.nD Cert.Kernel46Ideal.τ).loc Cert.Kernel46Ideal.main_v0_3)),
      θ_run (Cert.Kernel46Ideal.defs (F := Ideal)) (onTc (τ := Cert.Kernel46Ideal.τ) (Cert.Kernel46Ideal.main (F := Ideal))) ⟨m, fun _ => 0, g⟩ (fun r => ∀ c : Dev Cert.Kernel46Ideal.nD,
          r.2.mem ((c.tc : Thread Cert.Kernel46Ideal.nD Cert.Kernel46Ideal.τ).loc Cert.Kernel46Ideal.main_v0_0) = v0 c
          ∧ r.2.mem ((c.tc : Thread Cert.Kernel46Ideal.nD Cert.Kernel46Ideal.τ).loc Cert.Kernel46Ideal.main_v0_1) = v1 c
          ∧ r.2.mem ((c.tc : Thread Cert.Kernel46Ideal.nD Cert.Kernel46Ideal.τ).loc Cert.Kernel46Ideal.main_v0_2) = v2 c
          ∧ r.2.mem ((c.tc : Thread Cert.Kernel46Ideal.nD Cert.Kernel46Ideal.τ).loc Cert.Kernel46Ideal.main_v0_3) = v3 c
          ∧ r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
          ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1)
          ∧ r.2.mem ((c.tc : Thread Cert.Kernel46Ideal.nD Cert.Kernel46Ideal.τ).loc Cert.Kernel46Ideal.main_arg2) = m ((c.tc : Thread Cert.Kernel46Ideal.nD Cert.Kernel46Ideal.τ).loc Cert.Kernel46Ideal.main_arg2)
          ∧ r.2.mem ((c.tc : Thread Cert.Kernel46Ideal.nD Cert.Kernel46Ideal.τ).loc Cert.Kernel46Ideal.main_arg3) = m ((c.tc : Thread Cert.Kernel46Ideal.nD Cert.Kernel46Ideal.τ).loc Cert.Kernel46Ideal.main_arg3)
          ∧ r.2.mem ((c.tc : Thread Cert.Kernel46Ideal.nD Cert.Kernel46Ideal.τ).loc Cert.Kernel46Ideal.main_arg4) = m ((c.tc : Thread Cert.Kernel46Ideal.nD Cert.Kernel46Ideal.τ).loc Cert.Kernel46Ideal.main_arg4))
      ∧ θ_run (Cert.Reference46Ideal.defs (F := Ideal)) (onTc (τ := Cert.Reference46Ideal.τ) (Cert.Reference46Ideal.main (F := Ideal))) ⟨m', fun _ => 0, g'⟩ (fun r => ∀ c : Dev Cert.Reference46Ideal.nD,
          r.2.mem ((c.tc : Thread Cert.Reference46Ideal.nD Cert.Reference46Ideal.τ).loc Cert.Reference46Ideal.main_v5) = v0 c
          ∧ r.2.mem ((c.tc : Thread Cert.Reference46Ideal.nD Cert.Reference46Ideal.τ).loc Cert.Reference46Ideal.main_v29) = v1 c
          ∧ r.2.mem ((c.tc : Thread Cert.Reference46Ideal.nD Cert.Reference46Ideal.τ).loc Cert.Reference46Ideal.main_v10) = v2 c
          ∧ r.2.mem ((c.tc : Thread Cert.Reference46Ideal.nD Cert.Reference46Ideal.τ).loc Cert.Reference46Ideal.main_v16) = v3 c
          ∧ r.2.mem ((c.tc : Thread Cert.Reference46Ideal.nD Cert.Reference46Ideal.τ).loc Cert.Reference46Ideal.main_arg0) = m' ((c.tc : Thread Cert.Reference46Ideal.nD Cert.Reference46Ideal.τ).loc Cert.Reference46Ideal.main_arg0)
          ∧ r.2.mem ((c.tc : Thread Cert.Reference46Ideal.nD Cert.Reference46Ideal.τ).loc Cert.Reference46Ideal.main_arg1) = m' ((c.tc : Thread Cert.Reference46Ideal.nD Cert.Reference46Ideal.τ).loc Cert.Reference46Ideal.main_arg1)
          ∧ r.2.mem ((c.tc : Thread Cert.Reference46Ideal.nD Cert.Reference46Ideal.τ).loc Cert.Reference46Ideal.main_arg2) = m' ((c.tc : Thread Cert.Reference46Ideal.nD Cert.Reference46Ideal.τ).loc Cert.Reference46Ideal.main_arg2)
          ∧ r.2.mem ((c.tc : Thread Cert.Reference46Ideal.nD Cert.Reference46Ideal.τ).loc Cert.Reference46Ideal.main_arg3) = m' ((c.tc : Thread Cert.Reference46Ideal.nD Cert.Reference46Ideal.τ).loc Cert.Reference46Ideal.main_arg3)
          ∧ r.2.mem ((c.tc : Thread Cert.Reference46Ideal.nD Cert.Reference46Ideal.τ).loc Cert.Reference46Ideal.main_arg4) = m' ((c.tc : Thread Cert.Reference46Ideal.nD Cert.Reference46Ideal.τ).loc Cert.Reference46Ideal.main_arg4))

def preserves_Kernel47_Kernel47Ideal : Prop :=
  IdealRules.named_const.Statement Cert.Kernel47Ideal.κ "c1" .f32 0x3FC48605#32 (((5463681 / 8388608)⁻¹ : ℝ) : EReal)
  ∧ IdealRules.named_const.Statement Cert.Kernel47Ideal.κ "c2" .f32 0x42C8E6D3#32 (((2672307 / 268435456)⁻¹ : ℝ) : EReal)

def algebraic_Kernel47Ideal_Reference47Ideal [hKernel47Ideal : Cert.Kernel47Ideal.Facts] [hReference47Ideal : Cert.Reference47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg)
    (m' : (ℓ : Loc Cert.Reference47Ideal.nD Cert.Reference47Ideal.τ Cert.Reference47Ideal.sig) → Buf (Elt Ideal) ℓ) (g' : Dev Cert.Reference47Ideal.nD → PrngReg), Pre_Kernel47Ideal m →
    (∀ c : Dev Cert.Kernel47Ideal.nD,
      m' ((c.tc : Thread Cert.Reference47Ideal.nD Cert.Reference47Ideal.τ).loc Cert.Reference47Ideal.main_arg0) = m ((c.tc : Thread Cert.Kernel47Ideal.nD Cert.Kernel47Ideal.τ).loc Cert.Kernel47Ideal.main_arg0)
      ∧ m' ((c.tc : Thread Cert.Reference47Ideal.nD Cert.Reference47Ideal.τ).loc Cert.Reference47Ideal.main_arg1) = m ((c.tc : Thread Cert.Kernel47Ideal.nD Cert.Kernel47Ideal.τ).loc Cert.Kernel47Ideal.main_arg1)
      ∧ m' ((c.tc : Thread Cert.Reference47Ideal.nD Cert.Reference47Ideal.τ).loc Cert.Reference47Ideal.main_arg2) = m ((c.tc : Thread Cert.Kernel47Ideal.nD Cert.Kernel47Ideal.τ).loc Cert.Kernel47Ideal.main_arg2)
      ∧ m' ((c.tc : Thread Cert.Reference47Ideal.nD Cert.Reference47Ideal.τ).loc Cert.Reference47Ideal.main_arg3) = m ((c.tc : Thread Cert.Kernel47Ideal.nD Cert.Kernel47Ideal.τ).loc Cert.Kernel47Ideal.main_arg3)
      ∧ m' ((c.tc : Thread Cert.Reference47Ideal.nD Cert.Reference47Ideal.τ).loc Cert.Reference47Ideal.main_arg4) = m ((c.tc : Thread Cert.Kernel47Ideal.nD Cert.Kernel47Ideal.τ).loc Cert.Kernel47Ideal.main_arg4)) →
    ∃ (v0 : (c : Dev Cert.Kernel47Ideal.nD) → Buf (Elt Ideal) ((c.tc : Thread Cert.Kernel47Ideal.nD Cert.Kernel47Ideal.τ).loc Cert.Kernel47Ideal.main_v0_0)) (v1 : (c : Dev Cert.Kernel47Ideal.nD) → Buf (Elt Ideal) ((c.tc : Thread Cert.Kernel47Ideal.nD Cert.Kernel47Ideal.τ).loc Cert.Kernel47Ideal.main_v0_1)) (v2 : (c : Dev Cert.Kernel47Ideal.nD) → Buf (Elt Ideal) ((c.tc : Thread Cert.Kernel47Ideal.nD Cert.Kernel47Ideal.τ).loc Cert.Kernel47Ideal.main_v0_2)) (v3 : (c : Dev Cert.Kernel47Ideal.nD) → Buf (Elt Ideal) ((c.tc : Thread Cert.Kernel47Ideal.nD Cert.Kernel47Ideal.τ).loc Cert.Kernel47Ideal.main_v0_3)),
      θ_run (Cert.Kernel47Ideal.defs (F := Ideal)) (onTc (τ := Cert.Kernel47Ideal.τ) (Cert.Kernel47Ideal.main (F := Ideal))) ⟨m, fun _ => 0, g⟩ (fun r => ∀ c : Dev Cert.Kernel47Ideal.nD,
          r.2.mem ((c.tc : Thread Cert.Kernel47Ideal.nD Cert.Kernel47Ideal.τ).loc Cert.Kernel47Ideal.main_v0_0) = v0 c
          ∧ r.2.mem ((c.tc : Thread Cert.Kernel47Ideal.nD Cert.Kernel47Ideal.τ).loc Cert.Kernel47Ideal.main_v0_1) = v1 c
          ∧ r.2.mem ((c.tc : Thread Cert.Kernel47Ideal.nD Cert.Kernel47Ideal.τ).loc Cert.Kernel47Ideal.main_v0_2) = v2 c
          ∧ r.2.mem ((c.tc : Thread Cert.Kernel47Ideal.nD Cert.Kernel47Ideal.τ).loc Cert.Kernel47Ideal.main_v0_3) = v3 c
          ∧ r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
          ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1)
          ∧ r.2.mem ((c.tc : Thread Cert.Kernel47Ideal.nD Cert.Kernel47Ideal.τ).loc Cert.Kernel47Ideal.main_arg2) = m ((c.tc : Thread Cert.Kernel47Ideal.nD Cert.Kernel47Ideal.τ).loc Cert.Kernel47Ideal.main_arg2)
          ∧ r.2.mem ((c.tc : Thread Cert.Kernel47Ideal.nD Cert.Kernel47Ideal.τ).loc Cert.Kernel47Ideal.main_arg3) = m ((c.tc : Thread Cert.Kernel47Ideal.nD Cert.Kernel47Ideal.τ).loc Cert.Kernel47Ideal.main_arg3)
          ∧ r.2.mem ((c.tc : Thread Cert.Kernel47Ideal.nD Cert.Kernel47Ideal.τ).loc Cert.Kernel47Ideal.main_arg4) = m ((c.tc : Thread Cert.Kernel47Ideal.nD Cert.Kernel47Ideal.τ).loc Cert.Kernel47Ideal.main_arg4))
      ∧ θ_run (Cert.Reference47Ideal.defs (F := Ideal)) (onTc (τ := Cert.Reference47Ideal.τ) (Cert.Reference47Ideal.main (F := Ideal))) ⟨m', fun _ => 0, g'⟩ (fun r => ∀ c : Dev Cert.Reference47Ideal.nD,
          r.2.mem ((c.tc : Thread Cert.Reference47Ideal.nD Cert.Reference47Ideal.τ).loc Cert.Reference47Ideal.main_v5) = v0 c
          ∧ r.2.mem ((c.tc : Thread Cert.Reference47Ideal.nD Cert.Reference47Ideal.τ).loc Cert.Reference47Ideal.main_v29) = v1 c
          ∧ r.2.mem ((c.tc : Thread Cert.Reference47Ideal.nD Cert.Reference47Ideal.τ).loc Cert.Reference47Ideal.main_v10) = v2 c
          ∧ r.2.mem ((c.tc : Thread Cert.Reference47Ideal.nD Cert.Reference47Ideal.τ).loc Cert.Reference47Ideal.main_v16) = v3 c
          ∧ r.2.mem ((c.tc : Thread Cert.Reference47Ideal.nD Cert.Reference47Ideal.τ).loc Cert.Reference47Ideal.main_arg0) = m' ((c.tc : Thread Cert.Reference47Ideal.nD Cert.Reference47Ideal.τ).loc Cert.Reference47Ideal.main_arg0)
          ∧ r.2.mem ((c.tc : Thread Cert.Reference47Ideal.nD Cert.Reference47Ideal.τ).loc Cert.Reference47Ideal.main_arg1) = m' ((c.tc : Thread Cert.Reference47Ideal.nD Cert.Reference47Ideal.τ).loc Cert.Reference47Ideal.main_arg1)
          ∧ r.2.mem ((c.tc : Thread Cert.Reference47Ideal.nD Cert.Reference47Ideal.τ).loc Cert.Reference47Ideal.main_arg2) = m' ((c.tc : Thread Cert.Reference47Ideal.nD Cert.Reference47Ideal.τ).loc Cert.Reference47Ideal.main_arg2)
          ∧ r.2.mem ((c.tc : Thread Cert.Reference47Ideal.nD Cert.Reference47Ideal.τ).loc Cert.Reference47Ideal.main_arg3) = m' ((c.tc : Thread Cert.Reference47Ideal.nD Cert.Reference47Ideal.τ).loc Cert.Reference47Ideal.main_arg3)
          ∧ r.2.mem ((c.tc : Thread Cert.Reference47Ideal.nD Cert.Reference47Ideal.τ).loc Cert.Reference47Ideal.main_arg4) = m' ((c.tc : Thread Cert.Reference47Ideal.nD Cert.Reference47Ideal.τ).loc Cert.Reference47Ideal.main_arg4))

def preserves_Kernel48_Kernel48Ideal : Prop :=
  IdealRules.named_const.Statement Cert.Kernel48Ideal.κ "c1" .f32 0x3FC48605#32 (((5463681 / 8388608)⁻¹ : ℝ) : EReal)
  ∧ IdealRules.named_const.Statement Cert.Kernel48Ideal.κ "c2" .f32 0x42C8E6D3#32 (((2672307 / 268435456)⁻¹ : ℝ) : EReal)

def algebraic_Kernel48Ideal_Reference48Ideal [hKernel48Ideal : Cert.Kernel48Ideal.Facts] [hReference48Ideal : Cert.Reference48Ideal.Facts] : Prop :=
  ∀ (m : (ℓ : Loc Cert.Kernel48Ideal.nD Cert.Kernel48Ideal.τ Cert.Kernel48Ideal.sig) → Buf (Elt Ideal) ℓ) (g : Dev Cert.Kernel48Ideal.nD → PrngReg)
    (m' : (ℓ : Loc Cert.Reference48Ideal.nD Cert.Reference48Ideal.τ Cert.Reference48Ideal.sig) → Buf (Elt Ideal) ℓ) (g' : Dev Cert.Reference48Ideal.nD → PrngReg), Pre_Kernel48Ideal m →
    (∀ c : Dev Cert.Kernel48Ideal.nD,
      m' ((c.tc : Thread Cert.Reference48Ideal.nD Cert.Reference48Ideal.τ).loc Cert.Reference48Ideal.main_arg0) = m ((c.tc : Thread Cert.Kernel48Ideal.nD Cert.Kernel48Ideal.τ).loc Cert.Kernel48Ideal.main_arg0)
      ∧ m' ((c.tc : Thread Cert.Reference48Ideal.nD Cert.Reference48Ideal.τ).loc Cert.Reference48Ideal.main_arg1) = m ((c.tc : Thread Cert.Kernel48Ideal.nD Cert.Kernel48Ideal.τ).loc Cert.Kernel48Ideal.main_arg1)
      ∧ m' ((c.tc : Thread Cert.Reference48Ideal.nD Cert.Reference48Ideal.τ).loc Cert.Reference48Ideal.main_arg2) = m ((c.tc : Thread Cert.Kernel48Ideal.nD Cert.Kernel48Ideal.τ).loc Cert.Kernel48Ideal.main_arg2)
      ∧ m' ((c.tc : Thread Cert.Reference48Ideal.nD Cert.Reference48Ideal.τ).loc Cert.Reference48Ideal.main_arg3) = m ((c.tc : Thread Cert.Kernel48Ideal.nD Cert.Kernel48Ideal.τ).loc Cert.Kernel48Ideal.main_arg3)
      ∧ m' ((c.tc : Thread Cert.Reference48Ideal.nD Cert.Reference48Ideal.τ).loc Cert.Reference48Ideal.main_arg4) = m ((c.tc : Thread Cert.Kernel48Ideal.nD Cert.Kernel48Ideal.τ).loc Cert.Kernel48Ideal.main_arg4)) →
    ∃ (v0 : (c : Dev Cert.Kernel48Ideal.nD) → Buf (Elt Ideal) ((c.tc : Thread Cert.Kernel48Ideal.nD Cert.Kernel48Ideal.τ).loc Cert.Kernel48Ideal.main_v0_0)) (v1 : (c : Dev Cert.Kernel48Ideal.nD) → Buf (Elt Ideal) ((c.tc : Thread Cert.Kernel48Ideal.nD Cert.Kernel48Ideal.τ).loc Cert.Kernel48Ideal.main_v0_1)) (v2 : (c : Dev Cert.Kernel48Ideal.nD) → Buf (Elt Ideal) ((c.tc : Thread Cert.Kernel48Ideal.nD Cert.Kernel48Ideal.τ).loc Cert.Kernel48Ideal.main_v0_2)) (v3 : (c : Dev Cert.Kernel48Ideal.nD) → Buf (Elt Ideal) ((c.tc : Thread Cert.Kernel48Ideal.nD Cert.Kernel48Ideal.τ).loc Cert.Kernel48Ideal.main_v0_3)),
      θ_run (Cert.Kernel48Ideal.defs (F := Ideal)) (onTc (τ := Cert.Kernel48Ideal.τ) (Cert.Kernel48Ideal.main (F := Ideal))) ⟨m, fun _ => 0, g⟩ (fun r => ∀ c : Dev Cert.Kernel48Ideal.nD,
          r.2.mem ((c.tc : Thread Cert.Kernel48Ideal.nD Cert.Kernel48Ideal.τ).loc Cert.Kernel48Ideal.main_v0_0) = v0 c
          ∧ r.2.mem ((c.tc : Thread Cert.Kernel48Ideal.nD Cert.Kernel48Ideal.τ).loc Cert.Kernel48Ideal.main_v0_1) = v1 c
          ∧ r.2.mem ((c.tc : Thread Cert.Kernel48Ideal.nD Cert.Kernel48Ideal.τ).loc Cert.Kernel48Ideal.main_v0_2) = v2 c
          ∧ r.2.mem ((c.tc : Thread Cert.Kernel48Ideal.nD Cert.Kernel48Ideal.τ).loc Cert.Kernel48Ideal.main_v0_3) = v3 c
          ∧ r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0)
          ∧ r.2.mem ((c.tc : Thread Cert.Kernel48Ideal.nD Cert.Kernel48Ideal.τ).loc Cert.Kernel48Ideal.main_arg1) = m ((c.tc : Thread Cert.Kernel48Ideal.nD Cert.Kernel48Ideal.τ).loc Cert.Kernel48Ideal.main_arg1)
          ∧ r.2.mem ((c.tc : Thread Cert.Kernel48Ideal.nD Cert.Kernel48Ideal.τ).loc Cert.Kernel48Ideal.main_arg2) = m ((c.tc : Thread Cert.Kernel48Ideal.nD Cert.Kernel48Ideal.τ).loc Cert.Kernel48Ideal.main_arg2)
          ∧ r.2.mem ((c.tc : Thread Cert.Kernel48Ideal.nD Cert.Kernel48Ideal.τ).loc Cert.Kernel48Ideal.main_arg3) = m ((c.tc : Thread Cert.Kernel48Ideal.nD Cert.Kernel48Ideal.τ).loc Cert.Kernel48Ideal.main_arg3)
          ∧ r.2.mem ((c.tc : Thread Cert.Kernel48Ideal.nD Cert.Kernel48Ideal.τ).loc Cert.Kernel48Ideal.main_arg4) = m ((c.tc : Thread Cert.Kernel48Ideal.nD Cert.Kernel48Ideal.τ).loc Cert.Kernel48Ideal.main_arg4))
      ∧ θ_run (Cert.Reference48Ideal.defs (F := Ideal)) (onTc (τ := Cert.Reference48Ideal.τ) (Cert.Reference48Ideal.main (F := Ideal))) ⟨m', fun _ => 0, g'⟩ (fun r => ∀ c : Dev Cert.Reference48Ideal.nD,
          r.2.mem ((c.tc : Thread Cert.Reference48Ideal.nD Cert.Reference48Ideal.τ).loc Cert.Reference48Ideal.main_v5) = v0 c
          ∧ r.2.mem ((c.tc : Thread Cert.Reference48Ideal.nD Cert.Reference48Ideal.τ).loc Cert.Reference48Ideal.main_v29) = v1 c
          ∧ r.2.mem ((c.tc : Thread Cert.Reference48Ideal.nD Cert.Reference48Ideal.τ).loc Cert.Reference48Ideal.main_v10) = v2 c
          ∧ r.2.mem ((c.tc : Thread Cert.Reference48Ideal.nD Cert.Reference48Ideal.τ).loc Cert.Reference48Ideal.main_v16) = v3 c
          ∧ r.2.mem ((c.tc : Thread Cert.Reference48Ideal.nD Cert.Reference48Ideal.τ).loc Cert.Reference48Ideal.main_arg0) = m' ((c.tc : Thread Cert.Reference48Ideal.nD Cert.Reference48Ideal.τ).loc Cert.Reference48Ideal.main_arg0)
          ∧ r.2.mem ((c.tc : Thread Cert.Reference48Ideal.nD Cert.Reference48Ideal.τ).loc Cert.Reference48Ideal.main_arg1) = m' ((c.tc : Thread Cert.Reference48Ideal.nD Cert.Reference48Ideal.τ).loc Cert.Reference48Ideal.main_arg1)
          ∧ r.2.mem ((c.tc : Thread Cert.Reference48Ideal.nD Cert.Reference48Ideal.τ).loc Cert.Reference48Ideal.main_arg2) = m' ((c.tc : Thread Cert.Reference48Ideal.nD Cert.Reference48Ideal.τ).loc Cert.Reference48Ideal.main_arg2)
          ∧ r.2.mem ((c.tc : Thread Cert.Reference48Ideal.nD Cert.Reference48Ideal.τ).loc Cert.Reference48Ideal.main_arg3) = m' ((c.tc : Thread Cert.Reference48Ideal.nD Cert.Reference48Ideal.τ).loc Cert.Reference48Ideal.main_arg3)
          ∧ r.2.mem ((c.tc : Thread Cert.Reference48Ideal.nD Cert.Reference48Ideal.τ).loc Cert.Reference48Ideal.main_arg4) = m' ((c.tc : Thread Cert.Reference48Ideal.nD Cert.Reference48Ideal.τ).loc Cert.Reference48Ideal.main_arg4))

def preserves_Kernel49_Kernel49Ideal : Prop :=
  IdealRules.named_const.Statement Cert.Kernel49Ideal.κ "c1" .f32 0x3FC48605#32 (((5463681 / 8388608)⁻¹ : ℝ) : EReal)
  ∧ IdealRules.named_const.Statement Cert.Kernel49Ideal.κ "c2" .f32 0x42C8E6D3#32 (((2672307 / 268435456)⁻¹ : ℝ) : EReal)

def algebraic_Kernel49Ideal_Reference49Ideal [hKernel49Ideal : Cert.Kernel49Ideal.Facts] [hReference49Ideal : Cert.Reference49Ideal.Facts] : Prop :=
  ∀ (m : (ℓ : Loc Cert.Kernel49Ideal.nD Cert.Kernel49Ideal.τ Cert.Kernel49Ideal.sig) → Buf (Elt Ideal) ℓ) (g : Dev Cert.Kernel49Ideal.nD → PrngReg)
    (m' : (ℓ : Loc Cert.Reference49Ideal.nD Cert.Reference49Ideal.τ Cert.Reference49Ideal.sig) → Buf (Elt Ideal) ℓ) (g' : Dev Cert.Reference49Ideal.nD → PrngReg), Pre_Kernel49Ideal m →
    (∀ c : Dev Cert.Kernel49Ideal.nD,
      m' ((c.tc : Thread Cert.Reference49Ideal.nD Cert.Reference49Ideal.τ).loc Cert.Reference49Ideal.main_arg0) = m ((c.tc : Thread Cert.Kernel49Ideal.nD Cert.Kernel49Ideal.τ).loc Cert.Kernel49Ideal.main_arg0)
      ∧ m' ((c.tc : Thread Cert.Reference49Ideal.nD Cert.Reference49Ideal.τ).loc Cert.Reference49Ideal.main_arg1) = m ((c.tc : Thread Cert.Kernel49Ideal.nD Cert.Kernel49Ideal.τ).loc Cert.Kernel49Ideal.main_arg1)
      ∧ m' ((c.tc : Thread Cert.Reference49Ideal.nD Cert.Reference49Ideal.τ).loc Cert.Reference49Ideal.main_arg2) = m ((c.tc : Thread Cert.Kernel49Ideal.nD Cert.Kernel49Ideal.τ).loc Cert.Kernel49Ideal.main_arg2)
      ∧ m' ((c.tc : Thread Cert.Reference49Ideal.nD Cert.Reference49Ideal.τ).loc Cert.Reference49Ideal.main_arg3) = m ((c.tc : Thread Cert.Kernel49Ideal.nD Cert.Kernel49Ideal.τ).loc Cert.Kernel49Ideal.main_arg3)
      ∧ m' ((c.tc : Thread Cert.Reference49Ideal.nD Cert.Reference49Ideal.τ).loc Cert.Reference49Ideal.main_arg4) = m ((c.tc : Thread Cert.Kernel49Ideal.nD Cert.Kernel49Ideal.τ).loc Cert.Kernel49Ideal.main_arg4)) →
    ∃ (v0 : (c : Dev Cert.Kernel49Ideal.nD) → Buf (Elt Ideal) ((c.tc : Thread Cert.Kernel49Ideal.nD Cert.Kernel49Ideal.τ).loc Cert.Kernel49Ideal.main_v0_0)) (v1 : (c : Dev Cert.Kernel49Ideal.nD) → Buf (Elt Ideal) ((c.tc : Thread Cert.Kernel49Ideal.nD Cert.Kernel49Ideal.τ).loc Cert.Kernel49Ideal.main_v0_1)) (v2 : (c : Dev Cert.Kernel49Ideal.nD) → Buf (Elt Ideal) ((c.tc : Thread Cert.Kernel49Ideal.nD Cert.Kernel49Ideal.τ).loc Cert.Kernel49Ideal.main_v0_2)) (v3 : (c : Dev Cert.Kernel49Ideal.nD) → Buf (Elt Ideal) ((c.tc : Thread Cert.Kernel49Ideal.nD Cert.Kernel49Ideal.τ).loc Cert.Kernel49Ideal.main_v0_3)),
      θ_run (Cert.Kernel49Ideal.defs (F := Ideal)) (onTc (τ := Cert.Kernel49Ideal.τ) (Cert.Kernel49Ideal.main (F := Ideal))) ⟨m, fun _ => 0, g⟩ (fun r => ∀ c : Dev Cert.Kernel49Ideal.nD,
          r.2.mem ((c.tc : Thread Cert.Kernel49Ideal.nD Cert.Kernel49Ideal.τ).loc Cert.Kernel49Ideal.main_v0_0) = v0 c
          ∧ r.2.mem ((c.tc : Thread Cert.Kernel49Ideal.nD Cert.Kernel49Ideal.τ).loc Cert.Kernel49Ideal.main_v0_1) = v1 c
          ∧ r.2.mem ((c.tc : Thread Cert.Kernel49Ideal.nD Cert.Kernel49Ideal.τ).loc Cert.Kernel49Ideal.main_v0_2) = v2 c
          ∧ r.2.mem ((c.tc : Thread Cert.Kernel49Ideal.nD Cert.Kernel49Ideal.τ).loc Cert.Kernel49Ideal.main_v0_3) = v3 c
          ∧ r.2.mem ((c.tc : Thread Cert.Kernel49Ideal.nD Cert.Kernel49Ideal.τ).loc Cert.Kernel49Ideal.main_arg0) = m ((c.tc : Thread Cert.Kernel49Ideal.nD Cert.Kernel49Ideal.τ).loc Cert.Kernel49Ideal.main_arg0)
          ∧ r.2.mem ((c.tc : Thread Cert.Kernel49Ideal.nD Cert.Kernel49Ideal.τ).loc Cert.Kernel49Ideal.main_arg1) = m ((c.tc : Thread Cert.Kernel49Ideal.nD Cert.Kernel49Ideal.τ).loc Cert.Kernel49Ideal.main_arg1)
          ∧ r.2.mem ((c.tc : Thread Cert.Kernel49Ideal.nD Cert.Kernel49Ideal.τ).loc Cert.Kernel49Ideal.main_arg2) = m ((c.tc : Thread Cert.Kernel49Ideal.nD Cert.Kernel49Ideal.τ).loc Cert.Kernel49Ideal.main_arg2)
          ∧ r.2.mem ((c.tc : Thread Cert.Kernel49Ideal.nD Cert.Kernel49Ideal.τ).loc Cert.Kernel49Ideal.main_arg3) = m ((c.tc : Thread Cert.Kernel49Ideal.nD Cert.Kernel49Ideal.τ).loc Cert.Kernel49Ideal.main_arg3)
          ∧ r.2.mem ((c.tc : Thread Cert.Kernel49Ideal.nD Cert.Kernel49Ideal.τ).loc Cert.Kernel49Ideal.main_arg4) = m ((c.tc : Thread Cert.Kernel49Ideal.nD Cert.Kernel49Ideal.τ).loc Cert.Kernel49Ideal.main_arg4))
      ∧ θ_run (Cert.Reference49Ideal.defs (F := Ideal)) (onTc (τ := Cert.Reference49Ideal.τ) (Cert.Reference49Ideal.main (F := Ideal))) ⟨m', fun _ => 0, g'⟩ (fun r => ∀ c : Dev Cert.Reference49Ideal.nD,
          r.2.mem ((c.tc : Thread Cert.Reference49Ideal.nD Cert.Reference49Ideal.τ).loc Cert.Reference49Ideal.main_v3) = v0 c
          ∧ r.2.mem ((c.tc : Thread Cert.Reference49Ideal.nD Cert.Reference49Ideal.τ).loc Cert.Reference49Ideal.main_v27) = v1 c
          ∧ r.2.mem ((c.tc : Thread Cert.Reference49Ideal.nD Cert.Reference49Ideal.τ).loc Cert.Reference49Ideal.main_v8) = v2 c
          ∧ r.2.mem ((c.tc : Thread Cert.Reference49Ideal.nD Cert.Reference49Ideal.τ).loc Cert.Reference49Ideal.main_v14) = v3 c
          ∧ r.2.mem ((c.tc : Thread Cert.Reference49Ideal.nD Cert.Reference49Ideal.τ).loc Cert.Reference49Ideal.main_arg0) = m' ((c.tc : Thread Cert.Reference49Ideal.nD Cert.Reference49Ideal.τ).loc Cert.Reference49Ideal.main_arg0)
          ∧ r.2.mem ((c.tc : Thread Cert.Reference49Ideal.nD Cert.Reference49Ideal.τ).loc Cert.Reference49Ideal.main_arg1) = m' ((c.tc : Thread Cert.Reference49Ideal.nD Cert.Reference49Ideal.τ).loc Cert.Reference49Ideal.main_arg1)
          ∧ r.2.mem ((c.tc : Thread Cert.Reference49Ideal.nD Cert.Reference49Ideal.τ).loc Cert.Reference49Ideal.main_arg2) = m' ((c.tc : Thread Cert.Reference49Ideal.nD Cert.Reference49Ideal.τ).loc Cert.Reference49Ideal.main_arg2)
          ∧ r.2.mem ((c.tc : Thread Cert.Reference49Ideal.nD Cert.Reference49Ideal.τ).loc Cert.Reference49Ideal.main_arg3) = m' ((c.tc : Thread Cert.Reference49Ideal.nD Cert.Reference49Ideal.τ).loc Cert.Reference49Ideal.main_arg3)
          ∧ r.2.mem ((c.tc : Thread Cert.Reference49Ideal.nD Cert.Reference49Ideal.τ).loc Cert.Reference49Ideal.main_arg4) = m' ((c.tc : Thread Cert.Reference49Ideal.nD Cert.Reference49Ideal.τ).loc Cert.Reference49Ideal.main_arg4))

def preserves_Kernel50_Kernel50Ideal : Prop :=
  IdealRules.named_const.Statement Cert.Kernel50Ideal.κ "c1" .f32 0x3FC48605#32 (((5463681 / 8388608)⁻¹ : ℝ) : EReal)
  ∧ IdealRules.named_const.Statement Cert.Kernel50Ideal.κ "c2" .f32 0x42C8E6D3#32 (((2672307 / 268435456)⁻¹ : ℝ) : EReal)

def algebraic_Kernel50Ideal_Reference50Ideal [hKernel50Ideal : Cert.Kernel50Ideal.Facts] [hReference50Ideal : Cert.Reference50Ideal.Facts] : Prop :=
  ∀ (m : (ℓ : Loc Cert.Kernel50Ideal.nD Cert.Kernel50Ideal.τ Cert.Kernel50Ideal.sig) → Buf (Elt Ideal) ℓ) (g : Dev Cert.Kernel50Ideal.nD → PrngReg)
    (m' : (ℓ : Loc Cert.Reference50Ideal.nD Cert.Reference50Ideal.τ Cert.Reference50Ideal.sig) → Buf (Elt Ideal) ℓ) (g' : Dev Cert.Reference50Ideal.nD → PrngReg), Pre_Kernel50Ideal m →
    (∀ c : Dev Cert.Kernel50Ideal.nD,
      m' ((c.tc : Thread Cert.Reference50Ideal.nD Cert.Reference50Ideal.τ).loc Cert.Reference50Ideal.main_arg0) = m ((c.tc : Thread Cert.Kernel50Ideal.nD Cert.Kernel50Ideal.τ).loc Cert.Kernel50Ideal.main_arg0)
      ∧ m' ((c.tc : Thread Cert.Reference50Ideal.nD Cert.Reference50Ideal.τ).loc Cert.Reference50Ideal.main_arg1) = m ((c.tc : Thread Cert.Kernel50Ideal.nD Cert.Kernel50Ideal.τ).loc Cert.Kernel50Ideal.main_arg1)
      ∧ m' ((c.tc : Thread Cert.Reference50Ideal.nD Cert.Reference50Ideal.τ).loc Cert.Reference50Ideal.main_arg2) = m ((c.tc : Thread Cert.Kernel50Ideal.nD Cert.Kernel50Ideal.τ).loc Cert.Kernel50Ideal.main_arg2)
      ∧ m' ((c.tc : Thread Cert.Reference50Ideal.nD Cert.Reference50Ideal.τ).loc Cert.Reference50Ideal.main_arg3) = m ((c.tc : Thread Cert.Kernel50Ideal.nD Cert.Kernel50Ideal.τ).loc Cert.Kernel50Ideal.main_arg3)) →
    ∃ (v0 : (c : Dev Cert.Kernel50Ideal.nD) → Buf (Elt Ideal) ((c.tc : Thread Cert.Kernel50Ideal.nD Cert.Kernel50Ideal.τ).loc Cert.Kernel50Ideal.main_v0_0)) (v1 : (c : Dev Cert.Kernel50Ideal.nD) → Buf (Elt Ideal) ((c.tc : Thread Cert.Kernel50Ideal.nD Cert.Kernel50Ideal.τ).loc Cert.Kernel50Ideal.main_v0_1)) (v2 : (c : Dev Cert.Kernel50Ideal.nD) → Buf (Elt Ideal) ((c.tc : Thread Cert.Kernel50Ideal.nD Cert.Kernel50Ideal.τ).loc Cert.Kernel50Ideal.main_v0_2)),
      θ_run (Cert.Kernel50Ideal.defs (F := Ideal)) (onTc (τ := Cert.Kernel50Ideal.τ) (Cert.Kernel50Ideal.main (F := Ideal))) ⟨m, fun _ => 0, g⟩ (fun r => ∀ c : Dev Cert.Kernel50Ideal.nD,
          r.2.mem ((c.tc : Thread Cert.Kernel50Ideal.nD Cert.Kernel50Ideal.τ).loc Cert.Kernel50Ideal.main_v0_0) = v0 c
          ∧ r.2.mem ((c.tc : Thread Cert.Kernel50Ideal.nD Cert.Kernel50Ideal.τ).loc Cert.Kernel50Ideal.main_v0_1) = v1 c
          ∧ r.2.mem ((c.tc : Thread Cert.Kernel50Ideal.nD Cert.Kernel50Ideal.τ).loc Cert.Kernel50Ideal.main_v0_2) = v2 c
          ∧ r.2.mem ((c.tc : Thread Cert.Kernel50Ideal.nD Cert.Kernel50Ideal.τ).loc Cert.Kernel50Ideal.main_arg0) = m ((c.tc : Thread Cert.Kernel50Ideal.nD Cert.Kernel50Ideal.τ).loc Cert.Kernel50Ideal.main_arg0)
          ∧ r.2.mem ((c.tc : Thread Cert.Kernel50Ideal.nD Cert.Kernel50Ideal.τ).loc Cert.Kernel50Ideal.main_arg1) = m ((c.tc : Thread Cert.Kernel50Ideal.nD Cert.Kernel50Ideal.τ).loc Cert.Kernel50Ideal.main_arg1)
          ∧ r.2.mem ((c.tc : Thread Cert.Kernel50Ideal.nD Cert.Kernel50Ideal.τ).loc Cert.Kernel50Ideal.main_arg2) = m ((c.tc : Thread Cert.Kernel50Ideal.nD Cert.Kernel50Ideal.τ).loc Cert.Kernel50Ideal.main_arg2)
          ∧ r.2.mem ((c.tc : Thread Cert.Kernel50Ideal.nD Cert.Kernel50Ideal.τ).loc Cert.Kernel50Ideal.main_arg3) = m ((c.tc : Thread Cert.Kernel50Ideal.nD Cert.Kernel50Ideal.τ).loc Cert.Kernel50Ideal.main_arg3))
      ∧ θ_run (Cert.Reference50Ideal.defs (F := Ideal)) (onTc (τ := Cert.Reference50Ideal.τ) (Cert.Reference50Ideal.main (F := Ideal))) ⟨m', fun _ => 0, g'⟩ (fun r => ∀ c : Dev Cert.Reference50Ideal.nD,
          r.2.mem ((c.tc : Thread Cert.Reference50Ideal.nD Cert.Reference50Ideal.τ).loc Cert.Reference50Ideal.main_v23) = v0 c
          ∧ r.2.mem ((c.tc : Thread Cert.Reference50Ideal.nD Cert.Reference50Ideal.τ).loc Cert.Reference50Ideal.main_v4) = v1 c
          ∧ r.2.mem ((c.tc : Thread Cert.Reference50Ideal.nD Cert.Reference50Ideal.τ).loc Cert.Reference50Ideal.main_v10) = v2 c
          ∧ r.2.mem ((c.tc : Thread Cert.Reference50Ideal.nD Cert.Reference50Ideal.τ).loc Cert.Reference50Ideal.main_arg0) = m' ((c.tc : Thread Cert.Reference50Ideal.nD Cert.Reference50Ideal.τ).loc Cert.Reference50Ideal.main_arg0)
          ∧ r.2.mem ((c.tc : Thread Cert.Reference50Ideal.nD Cert.Reference50Ideal.τ).loc Cert.Reference50Ideal.main_arg1) = m' ((c.tc : Thread Cert.Reference50Ideal.nD Cert.Reference50Ideal.τ).loc Cert.Reference50Ideal.main_arg1)
          ∧ r.2.mem ((c.tc : Thread Cert.Reference50Ideal.nD Cert.Reference50Ideal.τ).loc Cert.Reference50Ideal.main_arg2) = m' ((c.tc : Thread Cert.Reference50Ideal.nD Cert.Reference50Ideal.τ).loc Cert.Reference50Ideal.main_arg2)
          ∧ r.2.mem ((c.tc : Thread Cert.Reference50Ideal.nD Cert.Reference50Ideal.τ).loc Cert.Reference50Ideal.main_arg3) = m' ((c.tc : Thread Cert.Reference50Ideal.nD Cert.Reference50Ideal.τ).loc Cert.Reference50Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hKernel44 : Cert.Kernel44.Facts) (hKernel44Ideal : Cert.Kernel44Ideal.Facts) (hReference44Ideal : Cert.Reference44Ideal.Facts) (hKernel45 : Cert.Kernel45.Facts) (hKernel45Ideal : Cert.Kernel45Ideal.Facts) (hReference45Ideal : Cert.Reference45Ideal.Facts) (hKernel46 : Cert.Kernel46.Facts) (hKernel46Ideal : Cert.Kernel46Ideal.Facts) (hReference46Ideal : Cert.Reference46Ideal.Facts) (hKernel47 : Cert.Kernel47.Facts) (hKernel47Ideal : Cert.Kernel47Ideal.Facts) (hReference47Ideal : Cert.Reference47Ideal.Facts) (hKernel48 : Cert.Kernel48.Facts) (hKernel48Ideal : Cert.Kernel48Ideal.Facts) (hReference48Ideal : Cert.Reference48Ideal.Facts) (hKernel49 : Cert.Kernel49.Facts) (hKernel49Ideal : Cert.Kernel49Ideal.Facts) (hReference49Ideal : Cert.Reference49Ideal.Facts) (hKernel50 : Cert.Kernel50.Facts) (hKernel50Ideal : Cert.Kernel50Ideal.Facts) (hReference50Ideal : Cert.Reference50Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ quiescent_Kernel44 (hKernel44 := hKernel44)
    ∧ quiescent_Kernel44Ideal (hKernel44Ideal := hKernel44Ideal)
    ∧ quiescent_Reference44Ideal (hReference44Ideal := hReference44Ideal)
    ∧ quiescent_Kernel45 (hKernel45 := hKernel45)
    ∧ quiescent_Kernel45Ideal (hKernel45Ideal := hKernel45Ideal)
    ∧ quiescent_Reference45Ideal (hReference45Ideal := hReference45Ideal)
    ∧ quiescent_Kernel46 (hKernel46 := hKernel46)
    ∧ quiescent_Kernel46Ideal (hKernel46Ideal := hKernel46Ideal)
    ∧ quiescent_Reference46Ideal (hReference46Ideal := hReference46Ideal)
    ∧ quiescent_Kernel47 (hKernel47 := hKernel47)
    ∧ quiescent_Kernel47Ideal (hKernel47Ideal := hKernel47Ideal)
    ∧ quiescent_Reference47Ideal (hReference47Ideal := hReference47Ideal)
    ∧ quiescent_Kernel48 (hKernel48 := hKernel48)
    ∧ quiescent_Kernel48Ideal (hKernel48Ideal := hKernel48Ideal)
    ∧ quiescent_Reference48Ideal (hReference48Ideal := hReference48Ideal)
    ∧ quiescent_Kernel49 (hKernel49 := hKernel49)
    ∧ quiescent_Kernel49Ideal (hKernel49Ideal := hKernel49Ideal)
    ∧ quiescent_Reference49Ideal (hReference49Ideal := hReference49Ideal)
    ∧ quiescent_Kernel50 (hKernel50 := hKernel50)
    ∧ quiescent_Kernel50Ideal (hKernel50Ideal := hKernel50Ideal)
    ∧ quiescent_Reference50Ideal (hReference50Ideal := hReference50Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
    ∧ preserves_Kernel43_Kernel43Ideal
    ∧ algebraic_Kernel43Ideal_Reference43Ideal (hKernel43Ideal := hKernel43Ideal) (hReference43Ideal := hReference43Ideal)
    ∧ preserves_Kernel44_Kernel44Ideal
    ∧ algebraic_Kernel44Ideal_Reference44Ideal (hKernel44Ideal := hKernel44Ideal) (hReference44Ideal := hReference44Ideal)
    ∧ preserves_Kernel45_Kernel45Ideal
    ∧ algebraic_Kernel45Ideal_Reference45Ideal (hKernel45Ideal := hKernel45Ideal) (hReference45Ideal := hReference45Ideal)
    ∧ preserves_Kernel46_Kernel46Ideal
    ∧ algebraic_Kernel46Ideal_Reference46Ideal (hKernel46Ideal := hKernel46Ideal) (hReference46Ideal := hReference46Ideal)
    ∧ preserves_Kernel47_Kernel47Ideal
    ∧ algebraic_Kernel47Ideal_Reference47Ideal (hKernel47Ideal := hKernel47Ideal) (hReference47Ideal := hReference47Ideal)
    ∧ preserves_Kernel48_Kernel48Ideal
    ∧ algebraic_Kernel48Ideal_Reference48Ideal (hKernel48Ideal := hKernel48Ideal) (hReference48Ideal := hReference48Ideal)
    ∧ preserves_Kernel49_Kernel49Ideal
    ∧ algebraic_Kernel49Ideal_Reference49Ideal (hKernel49Ideal := hKernel49Ideal) (hReference49Ideal := hReference49Ideal)
    ∧ preserves_Kernel50_Kernel50Ideal
    ∧ algebraic_Kernel50Ideal_Reference50Ideal (hKernel50Ideal := hKernel50Ideal) (hReference50Ideal := hReference50Ideal)
-- ==== Kernel.lean ====
abbrev S4096x1024 : Shape := ⟨2, ![4096, 1024]⟩
abbrev S1x4096 : Shape := ⟨2, ![1, 4096]⟩
abbrev S4x1024x256 : Shape := ⟨3, ![4, 1024, 256]⟩
abbrev S4x256x1024 : Shape := ⟨3, ![4, 256, 1024]⟩
abbrev S4096x4096 : Shape := ⟨2, ![4096, 4096]⟩
abbrev S8x4096 : Shape := ⟨2, ![8, 4096]⟩
abbrev S512x256 : Shape := ⟨2, ![512, 256]⟩
abbrev S1x256x1024 : Shape := ⟨3, ![1, 256, 1024]⟩
abbrev S1x1024 : Shape := ⟨2, ![1, 1024]⟩
abbrev S512x1024 : Shape := ⟨2, ![512, 1024]⟩
abbrev S8x1024 : Shape := ⟨2, ![8, 1024]⟩
abbrev S256x1024 : Shape := ⟨2, ![256, 1024]⟩

abbrev nBuf : Space → Nat
  | .hbm => 13
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S1x4096, .f32⟩
  | .hbm, ⟨2, _⟩ => ⟨S1x4096, .f32⟩
  | .hbm, ⟨3, _⟩ => ⟨S4x1024x256, .bf16⟩
  | .hbm, ⟨4, _⟩ => ⟨S4x1024x256, .bf16⟩
  | .hbm, ⟨5, _⟩ => ⟨S4x256x1024, .bf16⟩
  | .hbm, ⟨6, _⟩ => ⟨S4x256x1024, .bf16⟩
  | .hbm, ⟨7, _⟩ => ⟨S4x256x1024, .bf16⟩
  | .hbm, ⟨8, _⟩ => ⟨S1x4096, .f32⟩
  | .hbm, ⟨9, _⟩ => ⟨S4096x4096, .f32⟩
  | .hbm, ⟨10, _⟩ => ⟨S4096x4096, .f32⟩
  | .hbm, ⟨11, _⟩ => ⟨S8x4096, .f32⟩
  | .hbm, ⟨12, _⟩ => ⟨S8x4096, .f32⟩
  | .local _ .vmem, ⟨0, _⟩ => ⟨S512x256, .f32⟩
  | .local _ .vmem, ⟨1, _⟩ => ⟨S512x256, .f32⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S8x1024, .f32⟩
  | .local _ .vmem, ⟨15, _⟩ => ⟨S8x1024, .f32⟩
  | .local _ .vmem, ⟨16, _⟩ => ⟨S8x1024, .f32⟩
  | .local _ .vmem, ⟨17, _⟩ => ⟨S8x1024, .f32⟩
  | .local _ .vmem, ⟨18, _⟩ => ⟨S8x1024, .f32⟩
  | .local _ .vmem, ⟨19, _⟩ => ⟨S8x1024, .f32⟩
  | .local _ .vmem, ⟨20, _⟩ => ⟨S8x1024, .f32⟩
  | .local _ .vmem, ⟨21, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_25 : BitVec 32 := 0#32
  let c64_i32 : BitVec 32 := 64#32
  let v24 : BitVec 32 := Scalar.addi c0_i32_25 c64_i32
  let c1_i32 : BitVec 32 := 1#32
  ⟨c0_i32_25, v24, c1_i32⟩
def k0_mult1 (k0_t1 : Fin k0_t1_loop.trips) : BitVec 32 :=
  let c63_i32 : BitVec 32 := 63#32
  let c0_i32_25 : BitVec 32 := 0#32
  let c1_i32 : BitVec 32 := 1#32
  let arg15 : BitVec 32 := Scf.iv c0_i32_25 c1_i32 k0_t1
  let v40 : BitVec 32 := Scalar.subi c63_i32 arg15
  let c8_i32 : BitVec 32 := 8#32
  let v41 : BitVec 32 := Scalar.muli v40 c8_i32
  v41
def k0_off1 (k0_t1 : Fin k0_t1_loop.trips) : Fin 2 → Nat :=
  let c63_i32 : BitVec 32 := 63#32
  let c0_i32_25 : BitVec 32 := 0#32
  let c1_i32 : BitVec 32 := 1#32
  let arg15 : BitVec 32 := Scf.iv c0_i32_25 c1_i32 k0_t1
  let v40 : BitVec 32 := Scalar.subi c63_i32 arg15
  let c8_i32 : BitVec 32 := 8#32
  let v41 : BitVec 32 := Scalar.muli v40 c8_i32
  let v42 : BitVec 32 := v41
  let v46 : Index := Scalar.indexCast v42
  let c0_39 : Index := 0#32
  ![v46.toNat, 0]
def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S4096x1024 : Shape := ⟨2, ![4096, 1024]⟩
abbrev S1x4096 : Shape := ⟨2, ![1, 4096]⟩
abbrev S4x1024x256 : Shape := ⟨3, ![4, 1024, 256]⟩
abbrev S_ : Shape := ⟨0, ![]⟩
abbrev S4096x4096 : Shape := ⟨2, ![4096, 4096]⟩
abbrev S8x4096 : Shape := ⟨2, ![8, 4096]⟩
abbrev S4096x4x256 : Shape := ⟨3, ![4096, 4, 256]⟩
abbrev S4x256x4096 : Shape := ⟨3, ![4, 256, 4096]⟩
abbrev S4x4096x1024 : Shape := ⟨3, ![4, 4096, 1024]⟩
abbrev S4096x4x1024 : Shape := ⟨3, ![4096, 4, 1024]⟩
abbrev S512x8x4096 : Shape := ⟨3, ![512, 8, 4096]⟩
abbrev S1x8x4096 : Shape := ⟨3, ![1, 8, 4096]⟩

abbrev nBuf : Space → Nat
  | .hbm => 78
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x4096, .f32⟩
  | .hbm, ⟨2, _⟩ => ⟨S1x4096, .f32⟩
  | .hbm, ⟨3, _⟩ => ⟨S4x1024x256, .bf16⟩
  | .hbm, ⟨4, _⟩ => ⟨S4x1024x256, .bf16⟩
  | .hbm, ⟨5, _⟩ => ⟨S_, .f32⟩
  | .hbm, ⟨6, _⟩ => ⟨S4096x4096, .f32⟩
  | .hbm, ⟨7, _⟩ => ⟨S_, .f32⟩
  | .hbm, ⟨8, _⟩ => ⟨S8x4096, .f32⟩
  | .hbm, ⟨9, _⟩ => ⟨S4x1024x256, .f32⟩
  | .hbm, ⟨10, _⟩ => ⟨S4x1024x256, .f32⟩
  | .hbm, ⟨11, _⟩ => ⟨S4096x4x256, .f32⟩
  | .hbm, ⟨12, _⟩ => ⟨S4096x4x256, .f32⟩
  | .hbm, ⟨13, _⟩ => ⟨S4x256x4096, .f32⟩
  | .hbm, ⟨14, _⟩ => ⟨S4x4096x1024, .f32⟩
  | .hbm, ⟨15, _⟩ => ⟨S4096x4x1024, .f32⟩
  | .hbm, ⟨16, _⟩ => ⟨S4x256x4096, .f32⟩
  | .hbm, ⟨17, _⟩ => ⟨S4x4096x1024, .f32⟩
  | .hbm, ⟨18, _⟩ => ⟨S4096x4x1024, .f32⟩
  | .hbm, ⟨19, _⟩ => ⟨S512x8x4096, .f32⟩
  | .hbm, ⟨20, _⟩ => ⟨S512x8x4096, .f32⟩
  | .hbm, ⟨21, _⟩ => ⟨S_, .f32⟩
  | .hbm, ⟨22, _⟩ => ⟨S8x4096, .f32⟩
  | .hbm, ⟨23, _⟩ => ⟨S_, .f32⟩
  | .hbm, ⟨24, _⟩ => ⟨S8x4096, .f32⟩
  | .hbm, ⟨25, _⟩ => ⟨S_, .f32⟩
  | .hbm, ⟨26, _⟩ => ⟨S512x8x4096, .f32⟩
  | .hbm, ⟨27, _⟩ => ⟨S_, .f32⟩
  | .hbm, ⟨28, _⟩ => ⟨S512x8x4096, .f32⟩
  | .hbm, ⟨29, _⟩ => ⟨S_, .i32⟩
  | .hbm, ⟨30, _⟩ => ⟨S512x8x4096, .f32⟩
  | .hbm, ⟨31, _⟩ => ⟨S512x8x4096, .f32⟩
  | .hbm, ⟨32, _⟩ => ⟨S1x4096, .f32⟩
  | .hbm, ⟨33, _⟩ => ⟨S1x4096, .f32⟩
  | .hbm, ⟨34, _⟩ => ⟨S_, .i32⟩
  | .hbm, ⟨35, _⟩ => ⟨S8x4096, .f32⟩
  | .hbm, ⟨36, _⟩ => ⟨S8x4096, .f32⟩
  | .hbm, ⟨37, _⟩ => ⟨S512x8x4096, .f32⟩
  | .hbm, ⟨38, _⟩ => ⟨S512x8x4096, .f32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S1x8x4096, .f32⟩
  | .hbm, ⟨48, _⟩ => ⟨S8x4096, .f32⟩
  | .hbm, ⟨49, _⟩ => ⟨S_, .i32⟩
  | .hbm, ⟨50, _⟩ => ⟨S_, .i32⟩
  | .hbm, ⟨51, _⟩ => ⟨S1x8x4096, .f32⟩
  | .hbm, ⟨52, _⟩ => ⟨S8x4096, .f32⟩
  | .hbm, ⟨53, _⟩ => ⟨S8x4096, .f32⟩
  | .hbm, ⟨54, _⟩ => ⟨S8x4096, .f32⟩
  | .hbm, ⟨55, _⟩ => ⟨S8x4096, .f32⟩
  | .hbm, ⟨56, _⟩ => ⟨S8x4096, .f32⟩
  | .hbm, ⟨57, _⟩ => ⟨S8x4096, .f32⟩
  | .hbm, ⟨58, _⟩ => ⟨S8x4096, .f32⟩
  | .hbm, ⟨59, _⟩ => ⟨S8x4096, .f32⟩
  | .hbm, ⟨60, _⟩ => ⟨S8x4096, .f32⟩
  | .hbm, ⟨61, _⟩ => ⟨S8x4096, .f32⟩
  | .hbm, ⟨62, _⟩ => ⟨S8x4096, .f32⟩
  | .hbm, ⟨63, _⟩ => ⟨S8x4096, .f32⟩
  | .hbm, ⟨64, _⟩ => ⟨S8x4096, .f32⟩
  | .hbm, ⟨65, _⟩ => ⟨S8x4096, .f32⟩
  | .hbm, ⟨66, _⟩ => ⟨S1x8x4096, .f32⟩
  | .hbm, ⟨67, _⟩ => ⟨S_, .i32⟩
  | .hbm, ⟨68, _⟩ => ⟨S_, .i32⟩
  | .hbm, ⟨69, _⟩ => ⟨S512x8x4096, .f32⟩
  | .hbm, ⟨70, _⟩ => ⟨S1x8x4096, .f32⟩
  | .hbm, ⟨71, _⟩ => ⟨S_, .i32⟩
  | .hbm, ⟨72, _⟩ => ⟨S_, .i32⟩
  | .hbm, ⟨73, _⟩ => ⟨S512x8x4096, .f32⟩
  | .hbm, ⟨74, _⟩ => ⟨S_, .i32⟩
  | .hbm, ⟨75, _⟩ => ⟨S_, .i32⟩
  | .hbm, ⟨76, _⟩ => ⟨S4096x4096, .f32⟩
  | .hbm, ⟨77, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_c : Ref sig .tc := ⟨.hbm, 29, rfl⟩
abbrev main_v18_0 : Ref sig .tc := ⟨.hbm, 30, rfl⟩
abbrev main_v18_1 : Ref sig .tc := ⟨.hbm, 31, rfl⟩
abbrev main_v18_2 : Ref sig .tc := ⟨.hbm, 32, rfl⟩
abbrev main_v18_3 : Ref sig .tc := ⟨.hbm, 33, rfl⟩
abbrev main_v18_4 : Ref sig .tc := ⟨.hbm, 34, rfl⟩
abbrev main_v18_5 : Ref sig .tc := ⟨.hbm, 35, rfl⟩
abbrev main_v18_6 : Ref sig .tc := ⟨.hbm, 36, rfl⟩
abbrev main_v18_7 : Ref sig .tc := ⟨.hbm, 37, rfl⟩
abbrev main_v18_8 : Ref sig .tc := ⟨.hbm, 38, rfl⟩
abbrev main_while0c_c_13 : Ref sig .tc := ⟨.hbm, 39, rfl⟩
abbrev main_while0c_v21 : Ref sig .tc := ⟨.hbm, 40, rfl⟩
abbrev main_while0b_c_13 : Ref sig .tc := ⟨.hbm, 41, rfl⟩
abbrev main_while0b_v21 : Ref sig .tc := ⟨.hbm, 42, rfl⟩
abbrev main_while0b_c_14 : Ref sig .tc := ⟨.hbm, 43, rfl⟩
abbrev main_while0b_v22 : Ref sig .tc := ⟨.hbm, 44, rfl⟩
abbrev main_while0b_call0_c : Ref sig .tc := ⟨.hbm, 45, rfl⟩
abbrev main_while0b_call0_c_0 : Ref sig .tc := ⟨.hbm, 46, rfl⟩
abbrev main_while0b_call0_v0 : Ref sig .tc := ⟨.hbm, 47, rfl⟩
abbrev main_while0b_v23 : Ref sig .tc := ⟨.hbm, 48, rfl⟩
abbrev main_while0b_call1_c : Ref sig .tc := ⟨.hbm, 49, rfl⟩
abbrev main_while0b_call1_c_0 : Ref sig .tc := ⟨.hbm, 50, rfl⟩
abbrev main_while0b_call1_v0 : Ref sig .tc := ⟨.hbm, 51, rfl⟩
abbrev main_while0b_v24 : Ref sig .tc := ⟨.hbm, 52, rfl⟩
abbrev main_while0b_v25 : Ref sig .tc := ⟨.hbm, 53, rfl⟩
abbrev main_while0b_v26 : Ref sig .tc := ⟨.hbm, 54, rfl⟩
abbrev main_while0b_v27 : Ref sig .tc := ⟨.hbm, 55, rfl⟩
abbrev main_while0b_v28 : Ref sig .tc := ⟨.hbm, 56, rfl⟩
abbrev main_while0b_v29 : Ref sig .tc := ⟨.hbm, 57, rfl⟩
abbrev main_while0b_v30 : Ref sig .tc := ⟨.hbm, 58, rfl⟩
abbrev main_while0b_v31 : Ref sig .tc := ⟨.hbm, 59, rfl⟩
abbrev main_while0b_v32 : Ref sig .tc := ⟨.hbm, 60, rfl⟩
abbrev main_while0b_v33 : Ref sig .tc := ⟨.hbm, 61, rfl⟩
abbrev main_while0b_v34 : Ref sig .tc := ⟨.hbm, 62, rfl⟩
abbrev main_while0b_v35 : Ref sig .tc := ⟨.hbm, 63, rfl⟩
abbrev main_while0b_v36 : Ref sig .tc := ⟨.hbm, 64, rfl⟩
abbrev main_while0b_v37 : Ref sig .tc := ⟨.hbm, 65, rfl⟩
abbrev main_while0b_call2_v0 : Ref sig .tc := ⟨.hbm, 66, rfl⟩
abbrev main_while0b_call2_c : Ref sig .tc := ⟨.hbm, 67, rfl⟩
abbrev main_while0b_call2_c_0 : Ref sig .tc := ⟨.hbm, 68, rfl⟩
abbrev main_while0b_v38 : Ref sig .tc := ⟨.hbm, 69, rfl⟩
abbrev main_while0b_call3_v0 : Ref sig .tc := ⟨.hbm, 70, rfl⟩
abbrev main_while0b_call3_c : Ref sig .tc := ⟨.hbm, 71, rfl⟩
abbrev main_while0b_call3_c_0 : Ref sig .tc := ⟨.hbm, 72, rfl⟩
abbrev main_while0b_v39 : Ref sig .tc := ⟨.hbm, 73, rfl⟩
abbrev main_while0b_c_15 : Ref sig .tc := ⟨.hbm, 74, rfl⟩
abbrev main_while0b_v40 : Ref sig .tc := ⟨.hbm, 75, rfl⟩
abbrev main_v19 : Ref sig .tc := ⟨.hbm, 76, rfl⟩
abbrev main_v20 : Ref sig .tc := ⟨.hbm, 77, rfl⟩

abbrev nD : Nat := 1
abbrev τ : Topo := Topo.v7x

variable {F : FTy → Type} [FloatOps F]

abbrev main_while0_count : Scf.Loop 32 := ⟨0#32, 512#32, 1#32⟩
-- ==== Kernel2.lean ====
abbrev S4096x1024 : Shape := ⟨2, ![4096, 1024]⟩
abbrev S2816x1024 : Shape := ⟨2, ![2816, 1024]⟩
abbrev S4096x5632 : Shape := ⟨2, ![4096, 5632]⟩
abbrev S256x1024 : Shape := ⟨2, ![256, 1024]⟩
abbrev S256x5632 : Shape := ⟨2, ![256, 5632]⟩
abbrev S256x2816 : Shape := ⟨2, ![256, 2816]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x5632, .f32⟩
  | .hbm, ⟨3, _⟩ => ⟨S4096x5632, .bf16⟩
  | .local _ .vmem, ⟨0, _⟩ => ⟨S256x1024, .f32⟩
  | .local _ .vmem, ⟨1, _⟩ => ⟨S256x1024, .f32⟩
  | .local _ .vmem, ⟨2, _⟩ => ⟨S2816x1024, .bf16⟩
  | .local _ .vmem, ⟨3, _⟩ => ⟨S256x5632, .f32⟩
  | .local _ .vmem, ⟨4, _⟩ => ⟨S256x5632, .f32⟩
  | .local _ .vmem, ⟨5, _⟩ => ⟨S256x5632, .bf16⟩
  | .local _ .vmem, ⟨6, _⟩ => ⟨S256x5632, .bf16⟩
  | .local _ .vmem, ⟨7, _⟩ => ⟨S256x2816, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== Reference2Ideal.lean ====
abbrev S4096x1024 : Shape := ⟨2, ![4096, 1024]⟩
abbrev S2816x1024 : Shape := ⟨2, ![2816, 1024]⟩
abbrev S4096x5632 : Shape := ⟨2, ![4096, 5632]⟩
abbrev S4096x2816 : Shape := ⟨2, ![4096, 2816]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x5632, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S2816x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x5632, .f32⟩
  | .hbm, ⟨36, _⟩ => ⟨S_, .f32⟩
  | .hbm, ⟨37, _⟩ => ⟨S4096x5632, .f32⟩
  | .hbm, ⟨38, _⟩ => ⟨S4096x5632, .f32⟩
  | .hbm, ⟨39, _⟩ => ⟨S4096x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v13 : Ref sig .tc := ⟨.hbm, 33, rfl⟩
abbrev main_cst_1 : Ref sig .tc := ⟨.hbm, 34, rfl⟩
abbrev main_v14 : Ref sig .tc := ⟨.hbm, 35, rfl⟩
abbrev main_cst_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩

abbrev nD : Nat := 1
abbrev τ : Topo := Topo.v7x

variable {F : FTy → Type} [FloatOps F]
-- ==== Kernel3.lean ====
abbrev S4096x1024 : Shape := ⟨2, ![4096, 1024]⟩
abbrev S4096x5632 : Shape := ⟨2, ![4096, 5632]⟩
abbrev S1024x5632 : Shape := ⟨2, ![1024, 5632]⟩
abbrev S1024x512 : Shape := ⟨2, ![1024, 512]⟩
abbrev S1024x2816 : Shape := ⟨2, ![1024, 2816]⟩
abbrev S512x2816 : Shape := ⟨2, ![512, 2816]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S1024x5632, .f32⟩
  | .local _ .vmem, ⟨0, _⟩ => ⟨S1024x512, .bf16⟩
  | .local _ .vmem, ⟨1, _⟩ => ⟨S1024x512, .bf16⟩
  | .local _ .vmem, ⟨2, _⟩ => ⟨S1024x2816, .bf16⟩
  | .local _ .vmem, ⟨3, _⟩ => ⟨S1024x2816, .bf16⟩
  | .local _ .vmem, ⟨4, _⟩ => ⟨S512x2816, .f32⟩
  | .local _ .vmem, ⟨5, _⟩ => ⟨S512x2816, .f32⟩
  | .local _ .vmem, ⟨6, _⟩ => ⟨S512x2816, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S4096x5632 : Shape := ⟨2, ![4096, 5632]⟩
abbrev S_ : Shape := ⟨0, ![]⟩
abbrev S1024x2816 : Shape := ⟨2, ![1024, 2816]⟩
abbrev S4096x2816 : Shape := ⟨2, ![4096, 2816]⟩
abbrev S2816x1024 : Shape := ⟨2, ![2816, 1024]⟩
abbrev S1024x5632 : Shape := ⟨2, ![1024, 5632]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S1024x2816, .f32⟩
  | .hbm, ⟨4, _⟩ => ⟨S4096x2816, .bf16⟩
  | .hbm, ⟨5, _⟩ => ⟨S4096x2816, .f32⟩
  | .hbm, ⟨6, _⟩ => ⟨S4096x2816, .bf16⟩
  | .hbm, ⟨7, _⟩ => ⟨S4096x2816, .f32⟩
  | .hbm, ⟨8, _⟩ => ⟨S4096x1024, .f32⟩
  | .hbm, ⟨9, _⟩ => ⟨S4096x2816, .f32⟩
  | .hbm, ⟨10, _⟩ => ⟨S4096x1024, .f32⟩
  | .hbm, ⟨11, _⟩ => ⟨S4096x2816, .f32⟩
  | .hbm, ⟨12, _⟩ => ⟨S2816x1024, .f32⟩
  | .hbm, ⟨13, _⟩ => ⟨S1024x2816, .f32⟩
  | .hbm, ⟨14, _⟩ => ⟨S2816x1024, .f32⟩
  | .hbm, ⟨15, _⟩ => ⟨S1024x2816, .f32⟩
  | .hbm, ⟨16, _⟩ => ⟨S1024x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel4.lean ====
abbrev S4096x5632 : Shape := ⟨2, ![4096, 5632]⟩
abbrev S1024x5632 : Shape := ⟨2, ![1024, 5632]⟩
abbrev S4096x1024 : Shape := ⟨2, ![4096, 1024]⟩
abbrev S512x2816 : Shape := ⟨2, ![512, 2816]⟩
abbrev S1024x2816 : Shape := ⟨2, ![1024, 2816]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S1024x2816, .bf16⟩
  | .local _ .vmem, ⟨3, _⟩ => ⟨S1024x2816, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x5632 : Shape := ⟨2, ![4096, 5632]⟩
abbrev S1024x5632 : Shape := ⟨2, ![1024, 5632]⟩
abbrev S4096x2816 : Shape := ⟨2, ![4096, 2816]⟩
abbrev S_ : Shape := ⟨0, ![]⟩
abbrev S4096x1024 : Shape := ⟨2, ![4096, 1024]⟩
abbrev S1024x2816 : Shape := ⟨2, ![1024, 2816]⟩

abbrev nBuf : Space → Nat
  | .hbm => 17
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x2816, .bf16⟩
  | .hbm, ⟨3, _⟩ => ⟨S4096x2816, .f32⟩
  | .hbm, ⟨4, _⟩ => ⟨S4096x2816, .bf16⟩
  | .hbm, ⟨5, _⟩ => ⟨S4096x2816, .f32⟩
  | .hbm, ⟨6, _⟩ => ⟨S_, .f32⟩
  | .hbm, ⟨7, _⟩ => ⟨S4096x1024, .f32⟩
  | .hbm, ⟨8, _⟩ => ⟨S1024x2816, .bf16⟩
  | .hbm, ⟨9, _⟩ => ⟨S1024x2816, .f32⟩
  | .hbm, ⟨10, _⟩ => ⟨S4096x2816, .f32⟩
  | .hbm, ⟨11, _⟩ => ⟨S1024x2816, .bf16⟩
  | .hbm, ⟨12, _⟩ => ⟨S1024x2816, .f32⟩
  | .hbm, ⟨13, _⟩ => ⟨S4096x2816, .f32⟩
  | .hbm, ⟨14, _⟩ => ⟨S4096x1024, .f32⟩
  | .hbm, ⟨15, _⟩ => ⟨S4096x1024, .f32⟩
  | .hbm, ⟨16, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel5.lean ====
abbrev S4096x2816 : Shape := ⟨2, ![4096, 2816]⟩
abbrev S4096x1024 : Shape := ⟨2, ![4096, 1024]⟩
abbrev S2x4x352x1024 : Shape := ⟨4, ![2, 4, 352, 1024]⟩
abbrev S1024x1408 : Shape := ⟨2, ![1024, 1408]⟩
abbrev S1024x1024 : Shape := ⟨2, ![1024, 1024]⟩
abbrev S2x2x352x1024 : Shape := ⟨4, ![2, 2, 352, 1024]⟩
abbrev S1408x1024 : Shape := ⟨2, ![1408, 1024]⟩
abbrev S352x1024 : Shape := ⟨2, ![352, 1024]⟩
abbrev S1x1x352x1024 : Shape := ⟨4, ![1, 1, 352, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2x4x352x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S2x2x352x1024, .bf16⟩
  | .local _ .vmem, ⟨5, _⟩ => ⟨S2x2x352x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x2x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩
abbrev S4x2x352x1024 : Shape := ⟨4, ![4, 2, 352, 1024]⟩
abbrev S2x4x352x1024 : Shape := ⟨4, ![2, 4, 352, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S1024x2816, .f32⟩
  | .hbm, ⟨13, _⟩ => ⟨S2816x1024, .f32⟩
  | .hbm, ⟨14, _⟩ => ⟨S4x2x352x1024, .f32⟩
  | .hbm, ⟨15, _⟩ => ⟨S2x4x352x1024, .f32⟩
  | .hbm, ⟨16, _⟩ => ⟨S2x4x352x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel6.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference6Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel7.lean ====
abbrev S4096x2048 : Shape := ⟨2, ![4096, 2048]⟩
abbrev S4096x1024 : Shape := ⟨2, ![4096, 1024]⟩
abbrev S1x2048 : Shape := ⟨2, ![1, 2048]⟩
abbrev S256x2048 : Shape := ⟨2, ![256, 2048]⟩
abbrev S256x1024 : Shape := ⟨2, ![256, 1024]⟩
abbrev S2048 : Shape := ⟨1, ![2048]⟩

abbrev nBuf : Space → Nat
  | .hbm => 9
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S1x2048, .f32⟩
  | .hbm, ⟨4, _⟩ => ⟨S4096x1024, .f32⟩
  | .hbm, ⟨5, _⟩ => ⟨S4096x2048, .f32⟩
  | .hbm, ⟨6, _⟩ => ⟨S4096x1024, .f32⟩
  | .hbm, ⟨7, _⟩ => ⟨S4096x1024, .f32⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x2048, .f32⟩
  | .local _ .vmem, ⟨7, _⟩ => ⟨S256x1024, .f32⟩
  | .local _ .vmem, ⟨8, _⟩ => ⟨S256x1024, .f32⟩
  | .local _ .vmem, ⟨9, _⟩ => ⟨S256x2048, .f32⟩
  | .local _ .vmem, ⟨10, _⟩ => ⟨S256x2048, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference7Ideal.lean ====
abbrev S4096x2048 : Shape := ⟨2, ![4096, 2048]⟩
abbrev S4096x1024 : Shape := ⟨2, ![4096, 1024]⟩
abbrev S1x2048 : Shape := ⟨2, ![1, 2048]⟩
abbrev S_ : Shape := ⟨0, ![]⟩
abbrev S2048 : Shape := ⟨1, ![2048]⟩

abbrev nBuf : Space → Nat
  | .hbm => 35
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S1x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S2048, .f32⟩
  | .hbm, ⟨34, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel8.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference8Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 66
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x2048, .f32⟩
  | .hbm, ⟨48, _⟩ => ⟨S4096x2048, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_5 : Ref sig .tc := ⟨.hbm, 50, rfl⟩
abbrev main_v28 : Ref sig .tc := ⟨.hbm, 51, rfl⟩
abbrev main_v29 : Ref sig .tc := ⟨.hbm, 52, rfl⟩
abbrev main_cst_6 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v38 : Ref sig .tc := ⟨.hbm, 65, rfl⟩

abbrev nD : Nat := 1
abbrev τ : Topo := Topo.v7x

variable {F : FTy → Type} [FloatOps F]
-- ==== Kernel9.lean ====
abbrev S4096x1024 : Shape := ⟨2, ![4096, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference9Ideal.lean ====
abbrev S4096x1024 : Shape := ⟨2, ![4096, 1024]⟩
abbrev S1x1024 : Shape := ⟨2, ![1, 1024]⟩
abbrev S_ : Shape := ⟨0, ![]⟩
abbrev S1024 : Shape := ⟨1, ![1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S1024, .f32⟩
  | .hbm, ⟨24, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kernel10.lean ====
abbrev S4096x1024 : Shape := ⟨2, ![4096, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference10Ideal.lean ====
abbrev S4096x1024 : Shape := ⟨2, ![4096, 1024]⟩
abbrev S1x1024 : Shape := ⟨2, ![1, 1024]⟩
abbrev S_ : Shape := ⟨0, ![]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Kernel11.lean ====
abbrev S4096x128 : Shape := ⟨2, ![4096, 128]⟩
abbrev S1x128 : Shape := ⟨2, ![1, 128]⟩
abbrev S128 : Shape := ⟨1, ![128]⟩

abbrev nBuf : Space → Nat
  | .hbm => 8
  | .vmem => 8
  | .smem => 0
  | _ => 0

abbrev bufTy : (tb : Table) → Fin (tcTables nBuf tb) → BufTy
  | .hbm, ⟨0, _⟩ => ⟨S4096x128, .f32⟩
  | .hbm, ⟨1, _⟩ => ⟨S1x128, .f32⟩
  | .hbm, ⟨2, _⟩ => ⟨S1x128, .f32⟩
  | .hbm, ⟨3, _⟩ => ⟨S4096x128, .f32⟩
  | .hbm, ⟨4, _⟩ => ⟨S4096x128, .f32⟩
  | .hbm, ⟨5, _⟩ => ⟨S4096x128, .f32⟩
  | .hbm, ⟨6, _⟩ => ⟨S1x128, .f32⟩
  | .hbm, ⟨7, _⟩ => ⟨S1x128, .f32⟩
  | .local _ .vmem, ⟨0, _⟩ => ⟨S4096x128, .f32⟩
  | .local _ .vmem, ⟨1, _⟩ => ⟨S1x128, .f32⟩
  | .local _ .vmem, ⟨2, _⟩ => ⟨S1x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x128, .f32⟩
  | .local _ .vmem, ⟨7, _⟩ => ⟨S1x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4096x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference11Ideal.lean ====
abbrev S4096x128 : Shape := ⟨2, ![4096, 128]⟩
abbrev S1x128 : Shape := ⟨2, ![1, 128]⟩
abbrev S_ : Shape := ⟨0, ![]⟩
abbrev S128 : Shape := ⟨1, ![128]⟩

abbrev nBuf : Space → Nat
  | .hbm => 72
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S1x128, .f32⟩
  | .hbm, ⟨2, _⟩ => ⟨S1x128, .f32⟩
  | .hbm, ⟨3, _⟩ => ⟨S4096x128, .f32⟩
  | .hbm, ⟨4, _⟩ => ⟨S4096x128, .f32⟩
  | .hbm, ⟨5, _⟩ => ⟨S4096x128, .f32⟩
  | .hbm, ⟨6, _⟩ => ⟨S4096x128, .f32⟩
  | .hbm, ⟨7, _⟩ => ⟨S_, .f32⟩
  | .hbm, ⟨8, _⟩ => ⟨S4096x128, .f32⟩
  | .hbm, ⟨9, _⟩ => ⟨S4096x128, .f32⟩
  | .hbm, ⟨10, _⟩ => ⟨S4096x128, .f32⟩
  | .hbm, ⟨11, _⟩ => ⟨S4096x128, .f32⟩
  | .hbm, ⟨12, _⟩ => ⟨S4096x128, .i1⟩
  | .hbm, ⟨13, _⟩ => ⟨S4096x128, .f32⟩
  | .hbm, ⟨14, _⟩ => ⟨S4096x128, .f32⟩
  | .hbm, ⟨15, _⟩ => ⟨S4096x128, .f32⟩
  | .hbm, ⟨16, _⟩ => ⟨S4096x128, .f32⟩
  | .hbm, ⟨17, _⟩ => ⟨S4096x128, .f32⟩
  | .hbm, ⟨18, _⟩ => ⟨S4096x128, .f32⟩
  | .hbm, ⟨19, _⟩ => ⟨S4096x128, .f32⟩
  | .hbm, ⟨20, _⟩ => ⟨S4096x128, .f32⟩
  | .hbm, ⟨21, _⟩ => ⟨S_, .f32⟩
  | .hbm, ⟨22, _⟩ => ⟨S4096x128, .f32⟩
  | .hbm, ⟨23, _⟩ => ⟨S4096x128, .i1⟩
  | .hbm, ⟨24, _⟩ => ⟨S_, .f32⟩
  | .hbm, ⟨25, _⟩ => ⟨S4096x128, .f32⟩
  | .hbm, ⟨26, _⟩ => ⟨S4096x128, .f32⟩
  | .hbm, ⟨27, _⟩ => ⟨S_, .f32⟩
  | .hbm, ⟨28, _⟩ => ⟨S4096x128, .f32⟩
  | .hbm, ⟨29, _⟩ => ⟨S4096x128, .i1⟩
  | .hbm, ⟨30, _⟩ => ⟨S_, .f32⟩
  | .hbm, ⟨31, _⟩ => ⟨S4096x128, .f32⟩
  | .hbm, ⟨32, _⟩ => ⟨S4096x128, .f32⟩
  | .hbm, ⟨33, _⟩ => ⟨S4096x128, .f32⟩
  | .hbm, ⟨34, _⟩ => ⟨S4096x128, .f32⟩
  | .hbm, ⟨35, _⟩ => ⟨S_, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4096x128, .f32⟩
  | .hbm, ⟨43, _⟩ => ⟨S4096x128, .i1⟩
  | .hbm, ⟨44, _⟩ => ⟨S_, .f32⟩
  | .hbm, ⟨45, _⟩ => ⟨S4096x128, .f32⟩
  | .hbm, ⟨46, _⟩ => ⟨S4096x128, .f32⟩
  | .hbm, ⟨47, _⟩ => ⟨S4096x128, .f32⟩
  | .hbm, ⟨48, _⟩ => ⟨S4096x128, .f32⟩
  | .hbm, ⟨49, _⟩ => ⟨S4096x128, .f32⟩
  | .hbm, ⟨50, _⟩ => ⟨S_, .f32⟩
  | .hbm, ⟨51, _⟩ => ⟨S4096x128, .f32⟩
  | .hbm, ⟨52, _⟩ => ⟨S4096x128, .f32⟩
  | .hbm, ⟨53, _⟩ => ⟨S1x128, .f32⟩
  | .hbm, ⟨54, _⟩ => ⟨S1x128, .f32⟩
  | .hbm, ⟨55, _⟩ => ⟨S4096x128, .f32⟩
  | .hbm, ⟨56, _⟩ => ⟨S4096x128, .f32⟩
  | .hbm, ⟨57, _⟩ => ⟨S4096x128, .f32⟩
  | .hbm, ⟨58, _⟩ => ⟨S_, .f32⟩
  | .hbm, ⟨59, _⟩ => ⟨S128, .f32⟩
  | .hbm, ⟨60, _⟩ => ⟨S1x128, .f32⟩
  | .hbm, ⟨61, _⟩ => ⟨S4096x128, .f32⟩
  | .hbm, ⟨62, _⟩ => ⟨S4096x128, .f32⟩
  | .hbm, ⟨63, _⟩ => ⟨S4096x128, .f32⟩
  | .hbm, ⟨64, _⟩ => ⟨S1x128, .f32⟩
  | .hbm, ⟨65, _⟩ => ⟨S1x128, .f32⟩
  | .hbm, ⟨66, _⟩ => ⟨S4096x128, .f32⟩
  | .hbm, ⟨67, _⟩ => ⟨S4096x128, .f32⟩
  | .hbm, ⟨68, _⟩ => ⟨S4096x128, .f32⟩
  | .hbm, ⟨69, _⟩ => ⟨S_, .f32⟩
  | .hbm, ⟨70, _⟩ => ⟨S128, .f32⟩
  | .hbm, ⟨71, _⟩ => ⟨S1x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_v2_0 : Ref sig .tc := ⟨.hbm, 20, rfl⟩
abbrev main_call0_cst_0 : Ref sig .tc := ⟨.hbm, 21, rfl⟩
abbrev main_call0_v13 : Ref sig .tc := ⟨.hbm, 22, rfl⟩
abbrev main_call0_v14 : Ref sig .tc := ⟨.hbm, 23, rfl⟩
abbrev main_call0_cst_1 : Ref sig .tc := ⟨.hbm, 24, rfl⟩
abbrev main_call0_v15 : Ref sig .tc := ⟨.hbm, 25, rfl⟩
abbrev main_call0_v16 : Ref sig .tc := ⟨.hbm, 26, rfl⟩
abbrev main_call0_cst_2 : Ref sig .tc := ⟨.hbm, 27, rfl⟩
abbrev main_call0_v17 : Ref sig .tc := ⟨.hbm, 28, rfl⟩
abbrev main_call0_v18 : Ref sig .tc := ⟨.hbm, 29, rfl⟩
abbrev main_call0_cst_3 : Ref sig .tc := ⟨.hbm, 30, rfl⟩
abbrev main_call0_v19 : Ref sig .tc := ⟨.hbm, 31, rfl⟩
abbrev main_call0_v20 : Ref sig .tc := ⟨.hbm, 32, rfl⟩
abbrev main_call0_v21 : Ref sig .tc := ⟨.hbm, 33, rfl⟩
abbrev main_v2_1 : Ref sig .tc := ⟨.hbm, 34, rfl⟩
abbrev main_call0_cst_4 : Ref sig .tc := ⟨.hbm, 35, rfl⟩
abbrev main_call0_cst_5 : Ref sig .tc := ⟨.hbm, 36, rfl⟩
abbrev main_call0_v23 : Ref sig .tc := ⟨.hbm, 37, rfl⟩
abbrev main_call0_cst_6 : Ref sig .tc := ⟨.hbm, 38, rfl⟩
abbrev main_call0_cst_7 : Ref sig .tc := ⟨.hbm, 39, rfl⟩
abbrev main_call0_v24 : Ref sig .tc := ⟨.hbm, 40, rfl⟩
abbrev main_call0_cst_8 : Ref sig .tc := ⟨.hbm, 41, rfl⟩
abbrev main_call0_v25 : Ref sig .tc := ⟨.hbm, 42, rfl⟩
abbrev main_call0_v26 : Ref sig .tc := ⟨.hbm, 43, rfl⟩
abbrev main_call0_cst_9 : Ref sig .tc := ⟨.hbm, 44, rfl⟩
abbrev main_call0_v27 : Ref sig .tc := ⟨.hbm, 45, rfl⟩
abbrev main_call0_v28 : Ref sig .tc := ⟨.hbm, 46, rfl⟩
abbrev main_call0_v29 : Ref sig .tc := ⟨.hbm, 47, rfl⟩
abbrev main_call0_v30 : Ref sig .tc := ⟨.hbm, 48, rfl⟩
abbrev main_call0_v31 : Ref sig .tc := ⟨.hbm, 49, rfl⟩
abbrev main_call0_cst_10 : Ref sig .tc := ⟨.hbm, 50, rfl⟩
abbrev main_call0_v32 : Ref sig .tc := ⟨.hbm, 51, rfl⟩
abbrev main_v2_2 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_cst : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_call1_v0 : Ref sig .tc := ⟨.hbm, 66, rfl⟩
abbrev main_call1_v1 : Ref sig .tc := ⟨.hbm, 67, rfl⟩
abbrev main_v15 : Ref sig .tc := ⟨.hbm, 68, rfl⟩
abbrev main_cst_0 : Ref sig .tc := ⟨.hbm, 69, rfl⟩
abbrev main_v16 : Ref sig .tc := ⟨.hbm, 70, rfl⟩
abbrev main_v17 : Ref sig .tc := ⟨.hbm, 71, rfl⟩

abbrev nD : Nat := 1
abbrev τ : Topo := Topo.v7x

variable {F : FTy → Type} [FloatOps F]
-- ==== Kernel12.lean ====
abbrev S4096x1024 : Shape := ⟨2, ![4096, 1024]⟩
abbrev S1x1024 : Shape := ⟨2, ![1, 1024]⟩
abbrev S1x128 : Shape := ⟨2, ![1, 128]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S1x1x1 : Shape := ⟨3, ![1, 1, 1]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x128, .f32⟩
  | .hbm, ⟨4, _⟩ => ⟨S4096x1024, .f32⟩
  | .hbm, ⟨5, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x128, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference12Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1x128 : Shape := ⟨2, ![1, 128]⟩
abbrev S1024 : Shape := ⟨1, ![1024]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S1x128, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S4096x1024, .f32⟩
  | .hbm, ⟨57, _⟩ => ⟨S4096x1024, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_13 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel13.lean ====
abbrev S4096x1024 : Shape := ⟨2, ![4096, 1024]⟩
abbrev S4096x2048 : Shape := ⟨2, ![4096, 2048]⟩
abbrev S1024x2048 : Shape := ⟨2, ![1024, 2048]⟩
abbrev S1024x512 : Shape := ⟨2, ![1024, 512]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .f32⟩
  | .hbm, ⟨2, _⟩ => ⟨S1024x2048, .f32⟩
  | .local _ .vmem, ⟨0, _⟩ => ⟨S1024x512, .bf16⟩
  | .local _ .vmem, ⟨1, _⟩ => ⟨S1024x512, .bf16⟩
  | .local _ .vmem, ⟨2, _⟩ => ⟨S1024x2048, .f32⟩
  | .local _ .vmem, ⟨3, _⟩ => ⟨S1024x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .f32⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S2048x1024, .f32⟩
  | .hbm, ⟨7, _⟩ => ⟨S1024x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S4096x1024 : Shape := ⟨2, ![4096, 1024]⟩
abbrev S4096x4096 : Shape := ⟨2, ![4096, 4096]⟩
abbrev S1024x4096 : Shape := ⟨2, ![1024, 4096]⟩
abbrev S1024x512 : Shape := ⟨2, ![1024, 512]⟩
abbrev S1024x2048 : Shape := ⟨2, ![1024, 2048]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .f32⟩
  | .hbm, ⟨2, _⟩ => ⟨S1024x4096, .f32⟩
  | .local _ .vmem, ⟨0, _⟩ => ⟨S1024x512, .bf16⟩
  | .local _ .vmem, ⟨1, _⟩ => ⟨S1024x512, .bf16⟩
  | .local _ .vmem, ⟨2, _⟩ => ⟨S1024x2048, .f32⟩
  | .local _ .vmem, ⟨3, _⟩ => ⟨S1024x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .f32⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x1024, .f32⟩
  | .hbm, ⟨7, _⟩ => ⟨S1024x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S4096x1024 : Shape := ⟨2, ![4096, 1024]⟩
abbrev S2x4x128x1024 : Shape := ⟨4, ![2, 4, 128, 1024]⟩
abbrev S1024x512 : Shape := ⟨2, ![1024, 512]⟩
abbrev S1024x1024 : Shape := ⟨2, ![1024, 1024]⟩
abbrev S2x2x128x1024 : Shape := ⟨4, ![2, 2, 128, 1024]⟩
abbrev S512x1024 : Shape := ⟨2, ![512, 1024]⟩
abbrev S128x1024 : Shape := ⟨2, ![128, 1024]⟩
abbrev S1x1x128x1024 : Shape := ⟨4, ![1, 1, 128, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S2x4x128x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .f32⟩
  | .local _ .vmem, ⟨3, _⟩ => ⟨S1024x1024, .f32⟩
  | .local _ .vmem, ⟨4, _⟩ => ⟨S2x2x128x1024, .bf16⟩
  | .local _ .vmem, ⟨5, _⟩ => ⟨S2x2x128x1024, .bf16⟩
  | .local _ .vmem, ⟨6, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x2x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x1024 : Shape := ⟨2, ![4096, 1024]⟩
abbrev S_ : Shape := ⟨0, ![]⟩
abbrev S1024x1024 : Shape := ⟨2, ![1024, 1024]⟩
abbrev S4x2x128x1024 : Shape := ⟨4, ![4, 2, 128, 1024]⟩
abbrev S2x4x128x1024 : Shape := ⟨4, ![2, 4, 128, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S4x2x128x1024, .f32⟩
  | .hbm, ⟨9, _⟩ => ⟨S2x4x128x1024, .f32⟩
  | .hbm, ⟨10, _⟩ => ⟨S2x4x128x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel17.lean ====
abbrev S4096x1024 : Shape := ⟨2, ![4096, 1024]⟩
abbrev S2048x1024 : Shape := ⟨2, ![2048, 1024]⟩
abbrev S4096x2048 : Shape := ⟨2, ![4096, 2048]⟩
abbrev S512x1024 : Shape := ⟨2, ![512, 1024]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2048x1024, .bf16⟩
  | .hbm, ⟨2, _⟩ => ⟨S4096x2048, .f32⟩
  | .local _ .vmem, ⟨0, _⟩ => ⟨S512x1024, .f32⟩
  | .local _ .vmem, ⟨1, _⟩ => ⟨S512x1024, .f32⟩
  | .local _ .vmem, ⟨2, _⟩ => ⟨S2048x1024, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2048x1024, .bf16⟩
  | .hbm, ⟨2, _⟩ => ⟨S_, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel18.lean ====
abbrev S4096x2048 : Shape := ⟨2, ![4096, 2048]⟩
abbrev S4096x1024 : Shape := ⟨2, ![4096, 1024]⟩
abbrev S2x4x256x1024 : Shape := ⟨4, ![2, 4, 256, 1024]⟩
abbrev S1024x512 : Shape := ⟨2, ![1024, 512]⟩
abbrev S1024x1024 : Shape := ⟨2, ![1024, 1024]⟩
abbrev S2x1x256x1024 : Shape := ⟨4, ![2, 1, 256, 1024]⟩
abbrev S512x1024 : Shape := ⟨2, ![512, 1024]⟩
abbrev S256x1024 : Shape := ⟨2, ![256, 1024]⟩
abbrev S1x1x256x1024 : Shape := ⟨4, ![1, 1, 256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S2x4x256x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .f32⟩
  | .local _ .vmem, ⟨3, _⟩ => ⟨S1024x1024, .f32⟩
  | .local _ .vmem, ⟨4, _⟩ => ⟨S2x1x256x1024, .bf16⟩
  | .local _ .vmem, ⟨5, _⟩ => ⟨S2x1x256x1024, .bf16⟩
  | .local _ .vmem, ⟨6, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩
abbrev S4x2x256x1024 : Shape := ⟨4, ![4, 2, 256, 1024]⟩
abbrev S2x4x256x1024 : Shape := ⟨4, ![2, 4, 256, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S_, .f32⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S1024x2048, .f32⟩
  | .hbm, ⟨7, _⟩ => ⟨S2048x1024, .f32⟩
  | .hbm, ⟨8, _⟩ => ⟨S4x2x256x1024, .f32⟩
  | .hbm, ⟨9, _⟩ => ⟨S2x4x256x1024, .f32⟩
  | .hbm, ⟨10, _⟩ => ⟨S2x4x256x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel19.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference19Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel20.lean ====
abbrev S4096x1024 : Shape := ⟨2, ![4096, 1024]⟩
abbrev S2x4x128x1024 : Shape := ⟨4, ![2, 4, 128, 1024]⟩
abbrev S1024x512 : Shape := ⟨2, ![1024, 512]⟩
abbrev S1024x1024 : Shape := ⟨2, ![1024, 1024]⟩
abbrev S2x2x128x1024 : Shape := ⟨4, ![2, 2, 128, 1024]⟩
abbrev S512x1024 : Shape := ⟨2, ![512, 1024]⟩
abbrev S128x1024 : Shape := ⟨2, ![128, 1024]⟩
abbrev S1x1x128x1024 : Shape := ⟨4, ![1, 1, 128, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2x4x128x1024, .bf16⟩
  | .local _ .vmem, ⟨0, _⟩ => ⟨S1024x512, .f32⟩
  | .local _ .vmem, ⟨1, _⟩ => ⟨S1024x512, .f32⟩
  | .local _ .vmem, ⟨2, _⟩ => ⟨S1024x1024, .f32⟩
  | .local _ .vmem, ⟨3, _⟩ => ⟨S1024x1024, .f32⟩
  | .local _ .vmem, ⟨4, _⟩ => ⟨S2x2x128x1024, .bf16⟩
  | .local _ .vmem, ⟨5, _⟩ => ⟨S2x2x128x1024, .bf16⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x2x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4096x1024 : Shape := ⟨2, ![4096, 1024]⟩
abbrev S_ : Shape := ⟨0, ![]⟩
abbrev S1024x1024 : Shape := ⟨2, ![1024, 1024]⟩
abbrev S4x2x128x1024 : Shape := ⟨4, ![4, 2, 128, 1024]⟩
abbrev S2x4x128x1024 : Shape := ⟨4, ![2, 4, 128, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S4x2x128x1024, .f32⟩
  | .hbm, ⟨8, _⟩ => ⟨S2x4x128x1024, .f32⟩
  | .hbm, ⟨9, _⟩ => ⟨S2x4x128x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel21.lean ====
abbrev S4096x1024 : Shape := ⟨2, ![4096, 1024]⟩
abbrev S1024x2048 : Shape := ⟨2, ![1024, 2048]⟩
abbrev S4096x2048 : Shape := ⟨2, ![4096, 2048]⟩
abbrev S512x1024 : Shape := ⟨2, ![512, 1024]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel22.lean ====
abbrev S4096x1024 : Shape := ⟨2, ![4096, 1024]⟩
abbrev S1024x4096 : Shape := ⟨2, ![1024, 4096]⟩
abbrev S4096x4096 : Shape := ⟨2, ![4096, 4096]⟩
abbrev S512x1024 : Shape := ⟨2, ![512, 1024]⟩
abbrev S1024x2048 : Shape := ⟨2, ![1024, 2048]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x4096, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .f32⟩
  | .hbm, ⟨3, _⟩ => ⟨S1024x4096, .f32⟩
  | .hbm, ⟨4, _⟩ => ⟨S4096x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel23.lean ====
abbrev S4096x1024 : Shape := ⟨2, ![4096, 1024]⟩
abbrev S1024x5632 : Shape := ⟨2, ![1024, 5632]⟩
abbrev S4096x5632 : Shape := ⟨2, ![4096, 5632]⟩
abbrev S512x1024 : Shape := ⟨2, ![512, 1024]⟩
abbrev S1024x2816 : Shape := ⟨2, ![1024, 2816]⟩
abbrev S512x2816 : Shape := ⟨2, ![512, 2816]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .f32⟩
  | .local _ .vmem, ⟨0, _⟩ => ⟨S512x1024, .bf16⟩
  | .local _ .vmem, ⟨1, _⟩ => ⟨S512x1024, .bf16⟩
  | .local _ .vmem, ⟨2, _⟩ => ⟨S1024x2816, .bf16⟩
  | .local _ .vmem, ⟨3, _⟩ => ⟨S1024x2816, .bf16⟩
  | .local _ .vmem, ⟨4, _⟩ => ⟨S512x2816, .f32⟩
  | .local _ .vmem, ⟨5, _⟩ => ⟨S512x2816, .f32⟩
  | .local _ .vmem, ⟨6, _⟩ => ⟨S512x2816, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel24.lean ====
abbrev S4096x2816 : Shape := ⟨2, ![4096, 2816]⟩
abbrev S2816x1024 : Shape := ⟨2, ![2816, 1024]⟩
abbrev S4096x1024 : Shape := ⟨2, ![4096, 1024]⟩
abbrev S512x2816 : Shape := ⟨2, ![512, 2816]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference24Ideal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel25.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference25Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel26.lean ====
abbrev S4096x2048 : Shape := ⟨2, ![4096, 2048]⟩
abbrev S2048x1024 : Shape := ⟨2, ![2048, 1024]⟩
abbrev S4096x1024 : Shape := ⟨2, ![4096, 1024]⟩
abbrev S512x2048 : Shape := ⟨2, ![512, 2048]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x2048, .f32⟩
  | .hbm, ⟨3, _⟩ => ⟨S2048x1024, .f32⟩
  | .hbm, ⟨4, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel27.lean ====
abbrev S4096x1024 : Shape := ⟨2, ![4096, 1024]⟩
abbrev S1024x1024 : Shape := ⟨2, ![1024, 1024]⟩
abbrev S512x8192 : Shape := ⟨2, ![512, 8192]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S512x8192, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S4096x1024 : Shape := ⟨2, ![4096, 1024]⟩
abbrev S1024x1024 : Shape := ⟨2, ![1024, 1024]⟩
abbrev S_ : Shape := ⟨0, ![]⟩
abbrev S8x512x1024 : Shape := ⟨3, ![8, 512, 1024]⟩
abbrev S512x8x1024 : Shape := ⟨3, ![512, 8, 1024]⟩
abbrev S512x8192 : Shape := ⟨2, ![512, 8192]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S8x512x1024, .f32⟩
  | .hbm, ⟨8, _⟩ => ⟨S512x8x1024, .f32⟩
  | .hbm, ⟨9, _⟩ => ⟨S512x8192, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel28.lean ====
abbrev S4096x1024 : Shape := ⟨2, ![4096, 1024]⟩
abbrev S512x8192 : Shape := ⟨2, ![512, 8192]⟩
abbrev S2x4x128x1024 : Shape := ⟨4, ![2, 4, 128, 1024]⟩
abbrev S512x512 : Shape := ⟨2, ![512, 512]⟩
abbrev S512x1024 : Shape := ⟨2, ![512, 1024]⟩
abbrev S2x2x128x1024 : Shape := ⟨4, ![2, 2, 128, 1024]⟩
abbrev S128x1024 : Shape := ⟨2, ![128, 1024]⟩
abbrev S1x1x128x1024 : Shape := ⟨4, ![1, 1, 128, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S512x8192, .bf16⟩
  | .hbm, ⟨3, _⟩ => ⟨S2x4x128x1024, .bf16⟩
  | .local _ .vmem, ⟨0, _⟩ => ⟨S512x512, .bf16⟩
  | .local _ .vmem, ⟨1, _⟩ => ⟨S512x512, .bf16⟩
  | .local _ .vmem, ⟨2, _⟩ => ⟨S512x1024, .f32⟩
  | .local _ .vmem, ⟨3, _⟩ => ⟨S512x1024, .f32⟩
  | .local _ .vmem, ⟨4, _⟩ => ⟨S2x2x128x1024, .bf16⟩
  | .local _ .vmem, ⟨5, _⟩ => ⟨S2x2x128x1024, .bf16⟩
  | .local _ .vmem, ⟨6, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let v1 : BitVec 32 := Scalar.addi v0 arg0
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x2x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference28Ideal.lean ====
abbrev S4096x1024 : Shape := ⟨2, ![4096, 1024]⟩
abbrev S512x8x1024 : Shape := ⟨3, ![512, 8, 1024]⟩
abbrev S8x512x1024 : Shape := ⟨3, ![8, 512, 1024]⟩
abbrev S_ : Shape := ⟨0, ![]⟩
abbrev S1024x1024 : Shape := ⟨2, ![1024, 1024]⟩
abbrev S4x2x128x1024 : Shape := ⟨4, ![4, 2, 128, 1024]⟩
abbrev S2x4x128x1024 : Shape := ⟨4, ![2, 4, 128, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S512x8x1024, .f32⟩
  | .hbm, ⟨4, _⟩ => ⟨S8x512x1024, .f32⟩
  | .hbm, ⟨5, _⟩ => ⟨S4096x1024, .f32⟩
  | .hbm, ⟨6, _⟩ => ⟨S_, .f32⟩
  | .hbm, ⟨7, _⟩ => ⟨S1024x1024, .f32⟩
  | .hbm, ⟨8, _⟩ => ⟨S4096x1024, .f32⟩
  | .hbm, ⟨9, _⟩ => ⟨S1024x1024, .f32⟩
  | .hbm, ⟨10, _⟩ => ⟨S1024x1024, .f32⟩
  | .hbm, ⟨11, _⟩ => ⟨S4x2x128x1024, .f32⟩
  | .hbm, ⟨12, _⟩ => ⟨S2x4x128x1024, .f32⟩
  | .hbm, ⟨13, _⟩ => ⟨S2x4x128x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel29.lean ====
abbrev S4096x1024 : Shape := ⟨2, ![4096, 1024]⟩
abbrev S512x8192 : Shape := ⟨2, ![512, 8192]⟩
abbrev S1024x1024 : Shape := ⟨2, ![1024, 1024]⟩
abbrev S512x512 : Shape := ⟨2, ![512, 512]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S512x8192, .f32⟩
  | .hbm, ⟨3, _⟩ => ⟨S1024x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference29Ideal.lean ====
abbrev S4096x1024 : Shape := ⟨2, ![4096, 1024]⟩
abbrev S_ : Shape := ⟨0, ![]⟩
abbrev S1024x1024 : Shape := ⟨2, ![1024, 1024]⟩
abbrev S8x512x1024 : Shape := ⟨3, ![8, 512, 1024]⟩
abbrev S512x8x1024 : Shape := ⟨3, ![512, 8, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S8x512x1024, .f32⟩
  | .hbm, ⟨7, _⟩ => ⟨S512x8x1024, .f32⟩
  | .hbm, ⟨8, _⟩ => ⟨S4096x1024, .f32⟩
  | .hbm, ⟨9, _⟩ => ⟨S512x8x1024, .f32⟩
  | .hbm, ⟨10, _⟩ => ⟨S8x512x1024, .f32⟩
  | .hbm, ⟨11, _⟩ => ⟨S4096x1024, .f32⟩
  | .hbm, ⟨12, _⟩ => ⟨S1024x1024, .f32⟩
  | .hbm, ⟨13, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel30.lean ====
abbrev S4096x1024 : Shape := ⟨2, ![4096, 1024]⟩
abbrev S4096x128 : Shape := ⟨2, ![4096, 128]⟩
abbrev S1024x128 : Shape := ⟨2, ![1024, 128]⟩
abbrev S1024x512 : Shape := ⟨2, ![1024, 512]⟩
abbrev S512x128 : Shape := ⟨2, ![512, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x128, .f32⟩
  | .hbm, ⟨2, _⟩ => ⟨S1024x128, .f32⟩
  | .local _ .vmem, ⟨0, _⟩ => ⟨S1024x512, .bf16⟩
  | .local _ .vmem, ⟨1, _⟩ => ⟨S1024x512, .bf16⟩
  | .local _ .vmem, ⟨2, _⟩ => ⟨S1024x128, .f32⟩
  | .local _ .vmem, ⟨3, _⟩ => ⟨S1024x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference30Ideal.lean ====
abbrev S4096x1024 : Shape := ⟨2, ![4096, 1024]⟩
abbrev S4096x128 : Shape := ⟨2, ![4096, 128]⟩
abbrev S_ : Shape := ⟨0, ![]⟩
abbrev S1024x128 : Shape := ⟨2, ![1024, 128]⟩
abbrev S128x1024 : Shape := ⟨2, ![128, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x128, .f32⟩
  | .hbm, ⟨2, _⟩ => ⟨S_, .f32⟩
  | .hbm, ⟨3, _⟩ => ⟨S1024x128, .f32⟩
  | .hbm, ⟨4, _⟩ => ⟨S4096x1024, .f32⟩
  | .hbm, ⟨5, _⟩ => ⟨S4096x128, .f32⟩
  | .hbm, ⟨6, _⟩ => ⟨S128x1024, .f32⟩
  | .hbm, ⟨7, _⟩ => ⟨S1024x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel31.lean ====
abbrev S4096x128 : Shape := ⟨2, ![4096, 128]⟩
abbrev S1024x128 : Shape := ⟨2, ![1024, 128]⟩
abbrev S4096x1024 : Shape := ⟨2, ![4096, 1024]⟩
abbrev S512x128 : Shape := ⟨2, ![512, 128]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x128, .f32⟩
  | .hbm, ⟨1, _⟩ => ⟨S1024x128, .bf16⟩
  | .hbm, ⟨2, _⟩ => ⟨S4096x1024, .f32⟩
  | .hbm, ⟨3, _⟩ => ⟨S4096x1024, .f32⟩
  | .local _ .vmem, ⟨0, _⟩ => ⟨S512x128, .f32⟩
  | .local _ .vmem, ⟨1, _⟩ => ⟨S512x128, .f32⟩
  | .local _ .vmem, ⟨2, _⟩ => ⟨S1024x128, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference31Ideal.lean ====
abbrev S4096x128 : Shape := ⟨2, ![4096, 128]⟩
abbrev S1024x128 : Shape := ⟨2, ![1024, 128]⟩
abbrev S4096x1024 : Shape := ⟨2, ![4096, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S1024x128, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S1024x128, .f32⟩
  | .hbm, ⟨6, _⟩ => ⟨S4096x128, .f32⟩
  | .hbm, ⟨7, _⟩ => ⟨S4096x1024, .f32⟩
  | .hbm, ⟨8, _⟩ => ⟨S4096x1024, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel32.lean ====
abbrev S4096x1024 : Shape := ⟨2, ![4096, 1024]⟩
abbrev S1024x1024 : Shape := ⟨2, ![1024, 1024]⟩
abbrev S512x8192 : Shape := ⟨2, ![512, 8192]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S512x8192, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference32Ideal.lean ====
abbrev S4096x1024 : Shape := ⟨2, ![4096, 1024]⟩
abbrev S1024x1024 : Shape := ⟨2, ![1024, 1024]⟩
abbrev S8x512x1024 : Shape := ⟨3, ![8, 512, 1024]⟩
abbrev S512x8x1024 : Shape := ⟨3, ![512, 8, 1024]⟩
abbrev S512x8192 : Shape := ⟨2, ![512, 8192]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S8x512x1024, .f32⟩
  | .hbm, ⟨6, _⟩ => ⟨S512x8x1024, .f32⟩
  | .hbm, ⟨7, _⟩ => ⟨S512x8192, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel33.lean ====
abbrev S4096x1024 : Shape := ⟨2, ![4096, 1024]⟩
abbrev S1024x1024 : Shape := ⟨2, ![1024, 1024]⟩
abbrev S512x8192 : Shape := ⟨2, ![512, 8192]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S512x8192, .bf16⟩
  | .hbm, ⟨3, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference33Ideal.lean ====
abbrev S4096x1024 : Shape := ⟨2, ![4096, 1024]⟩
abbrev S1024x1024 : Shape := ⟨2, ![1024, 1024]⟩
abbrev S512x8x1024 : Shape := ⟨3, ![512, 8, 1024]⟩
abbrev S8x512x1024 : Shape := ⟨3, ![8, 512, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S512x8x1024, .f32⟩
  | .hbm, ⟨4, _⟩ => ⟨S8x512x1024, .f32⟩
  | .hbm, ⟨5, _⟩ => ⟨S4096x1024, .f32⟩
  | .hbm, ⟨6, _⟩ => ⟨S1024x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel34.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference34Ideal.lean ====
abbrev S4096x1024 : Shape := ⟨2, ![4096, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S1024x1024, .f32⟩
  | .hbm, ⟨3, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel35.lean ====
abbrev S4096x1024 : Shape := ⟨2, ![4096, 1024]⟩
abbrev S1024x128 : Shape := ⟨2, ![1024, 128]⟩
abbrev S4096x128 : Shape := ⟨2, ![4096, 128]⟩
abbrev S512x1024 : Shape := ⟨2, ![512, 1024]⟩
abbrev S512x128 : Shape := ⟨2, ![512, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x128, .bf16⟩
  | .hbm, ⟨2, _⟩ => ⟨S4096x128, .f32⟩
  | .local _ .vmem, ⟨0, _⟩ => ⟨S512x1024, .bf16⟩
  | .local _ .vmem, ⟨1, _⟩ => ⟨S512x1024, .bf16⟩
  | .local _ .vmem, ⟨2, _⟩ => ⟨S1024x128, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference35Ideal.lean ====
abbrev S4096x1024 : Shape := ⟨2, ![4096, 1024]⟩
abbrev S1024x128 : Shape := ⟨2, ![1024, 128]⟩
abbrev S4096x128 : Shape := ⟨2, ![4096, 128]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x128, .bf16⟩
  | .hbm, ⟨2, _⟩ => ⟨S4096x1024, .f32⟩
  | .hbm, ⟨3, _⟩ => ⟨S1024x128, .f32⟩
  | .hbm, ⟨4, _⟩ => ⟨S4096x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel36.lean ====
abbrev S4096x4096 : Shape := ⟨2, ![4096, 4096]⟩
abbrev S4x4096 : Shape := ⟨2, ![4, 4096]⟩
abbrev S1x4096 : Shape := ⟨2, ![1, 4096]⟩
abbrev S4096x256 : Shape := ⟨2, ![4096, 256]⟩
abbrev S4x256 : Shape := ⟨2, ![4, 256]⟩
abbrev S1x256 : Shape := ⟨2, ![1, 256]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4x4096, .f32⟩
  | .hbm, ⟨2, _⟩ => ⟨S1x4096, .f32⟩
  | .hbm, ⟨3, _⟩ => ⟨S4096x4096, .f32⟩
  | .local _ .vmem, ⟨0, _⟩ => ⟨S4096x256, .f32⟩
  | .local _ .vmem, ⟨1, _⟩ => ⟨S4096x256, .f32⟩
  | .local _ .vmem, ⟨2, _⟩ => ⟨S4x256, .f32⟩
  | .local _ .vmem, ⟨3, _⟩ => ⟨S4x256, .f32⟩
  | .local _ .vmem, ⟨4, _⟩ => ⟨S1x256, .f32⟩
  | .local _ .vmem, ⟨5, _⟩ => ⟨S1x256, .f32⟩
  | .local _ .vmem, ⟨6, _⟩ => ⟨S4096x256, .f32⟩
  | .local _ .vmem, ⟨7, _⟩ => ⟨S4096x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference36Ideal.lean ====
abbrev S4096x4096 : Shape := ⟨2, ![4096, 4096]⟩
abbrev S4x4096 : Shape := ⟨2, ![4, 4096]⟩
abbrev S1x4096 : Shape := ⟨2, ![1, 4096]⟩
abbrev S_ : Shape := ⟨0, ![]⟩
abbrev S4099x4096 : Shape := ⟨2, ![4099, 4096]⟩
abbrev S4096 : Shape := ⟨1, ![4096]⟩

abbrev nBuf : Space → Nat
  | .hbm => 47
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4x4096, .f32⟩
  | .hbm, ⟨2, _⟩ => ⟨S1x4096, .f32⟩
  | .hbm, ⟨3, _⟩ => ⟨S_, .i32⟩
  | .hbm, ⟨4, _⟩ => ⟨S_, .f32⟩
  | .hbm, ⟨5, _⟩ => ⟨S4099x4096, .f32⟩
  | .hbm, ⟨6, _⟩ => ⟨S1x4096, .f32⟩
  | .hbm, ⟨7, _⟩ => ⟨S4096, .f32⟩
  | .hbm, ⟨8, _⟩ => ⟨S4096x4096, .f32⟩
  | .hbm, ⟨9, _⟩ => ⟨S1x4096, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S1x4096, .f32⟩
  | .hbm, ⟨16, _⟩ => ⟨S4096, .f32⟩
  | .hbm, ⟨17, _⟩ => ⟨S4096x4096, .f32⟩
  | .hbm, ⟨18, _⟩ => ⟨S1x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S1x4096, .f32⟩
  | .hbm, ⟨23, _⟩ => ⟨S4096, .f32⟩
  | .hbm, ⟨24, _⟩ => ⟨S4096x4096, .f32⟩
  | .hbm, ⟨25, _⟩ => ⟨S1x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S1x4096, .f32⟩
  | .hbm, ⟨30, _⟩ => ⟨S4096, .f32⟩
  | .hbm, ⟨31, _⟩ => ⟨S4096x4096, .f32⟩
  | .hbm, ⟨32, _⟩ => ⟨S1x4096, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S_, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Kernel37.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference37Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel38.lean ====
abbrev S4096x5632 : Shape := ⟨2, ![4096, 5632]⟩
abbrev S4096x2816 : Shape := ⟨2, ![4096, 2816]⟩
abbrev S256x5632 : Shape := ⟨2, ![256, 5632]⟩
abbrev S256x2816 : Shape := ⟨2, ![256, 2816]⟩

abbrev nBuf : Space → Nat
  | .hbm => 2
  | .vmem => 4
  | .smem => 0
  | _ => 0

abbrev bufTy : (tb : Table) → Fin (tcTables nBuf tb) → BufTy
  | .hbm, ⟨0, _⟩ => ⟨S4096x5632, .f32⟩
  | .hbm, ⟨1, _⟩ => ⟨S4096x2816, .bf16⟩
  | .local _ .vmem, ⟨0, _⟩ => ⟨S256x5632, .f32⟩
  | .local _ .vmem, ⟨1, _⟩ => ⟨S256x5632, .f32⟩
  | .local _ .vmem, ⟨2, _⟩ => ⟨S256x2816, .bf16⟩
  | .local _ .vmem, ⟨3, _⟩ => ⟨S256x2816, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference38Ideal.lean ====
abbrev S4096x5632 : Shape := ⟨2, ![4096, 5632]⟩
abbrev S4096x2816 : Shape := ⟨2, ![4096, 2816]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2816, .f32⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S_, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S4096x2816, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩

abbrev nD : Nat := 1
abbrev τ : Topo := Topo.v7x

variable {F : FTy → Type} [FloatOps F]
-- ==== Kernel39.lean ====
abbrev S4096x1024 : Shape := ⟨2, ![4096, 1024]⟩
abbrev S1x1024 : Shape := ⟨2, ![1, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference39Ideal.lean ====
abbrev S4096x1024 : Shape := ⟨2, ![4096, 1024]⟩
abbrev S1x1024 : Shape := ⟨2, ![1, 1024]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel40.lean ====
abbrev S4096x1024 : Shape := ⟨2, ![4096, 1024]⟩
abbrev S1x1024 : Shape := ⟨2, ![1, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference40Ideal.lean ====
abbrev S4096x1024 : Shape := ⟨2, ![4096, 1024]⟩
abbrev S1x1024 : Shape := ⟨2, ![1, 1024]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel41.lean ====
abbrev S4096x2048 : Shape := ⟨2, ![4096, 2048]⟩
abbrev S4096x1024 : Shape := ⟨2, ![4096, 1024]⟩
abbrev S1x2048 : Shape := ⟨2, ![1, 2048]⟩
abbrev S512x2048 : Shape := ⟨2, ![512, 2048]⟩
abbrev S512x1024 : Shape := ⟨2, ![512, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S1x2048, .f32⟩
  | .hbm, ⟨4, _⟩ => ⟨S4096x1024, .bf16⟩
  | .local _ .vmem, ⟨0, _⟩ => ⟨S512x2048, .f32⟩
  | .local _ .vmem, ⟨1, _⟩ => ⟨S512x2048, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x2048, .f32⟩
  | .local _ .vmem, ⟨7, _⟩ => ⟨S512x1024, .bf16⟩
  | .local _ .vmem, ⟨8, _⟩ => ⟨S512x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference41Ideal.lean ====
abbrev S4096x2048 : Shape := ⟨2, ![4096, 2048]⟩
abbrev S4096x1024 : Shape := ⟨2, ![4096, 1024]⟩
abbrev S1x2048 : Shape := ⟨2, ![1, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel42.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference42Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 29
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩

abbrev nD : Nat := 1
abbrev τ : Topo := Topo.v7x

variable {F : FTy → Type} [FloatOps F]
-- ==== Kernel43.lean ====
abbrev S8x2256x128 : Shape := ⟨3, ![8, 2256, 128]⟩
abbrev S2256x128 : Shape := ⟨2, ![2256, 128]⟩
abbrev S8x752x128 : Shape := ⟨3, ![8, 752, 128]⟩
abbrev S752x128 : Shape := ⟨2, ![752, 128]⟩
abbrev S1x752x128 : Shape := ⟨3, ![1, 752, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x2256x128, .f32⟩
  | .hbm, ⟨1, _⟩ => ⟨S2256x128, .f32⟩
  | .local _ .vmem, ⟨0, _⟩ => ⟨S8x752x128, .f32⟩
  | .local _ .vmem, ⟨1, _⟩ => ⟨S8x752x128, .f32⟩
  | .local _ .vmem, ⟨2, _⟩ => ⟨S752x128, .f32⟩
  | .local _ .vmem, ⟨3, _⟩ => ⟨S752x128, .f32⟩
  | _, _ => ⟨S8x2256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x752x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S752x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference43Ideal.lean ====
abbrev S8x2256x128 : Shape := ⟨3, ![8, 2256, 128]⟩
abbrev S_ : Shape := ⟨0, ![]⟩
abbrev S2256x128 : Shape := ⟨2, ![2256, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x2256x128, .f32⟩
  | .hbm, ⟨1, _⟩ => ⟨S_, .f32⟩
  | .hbm, ⟨2, _⟩ => ⟨S2256x128, .f32⟩
  | _, _ => ⟨S8x2256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel44.lean ====
abbrev S4x1024x352 : Shape := ⟨3, ![4, 1024, 352]⟩
abbrev S3x1024x352 : Shape := ⟨3, ![3, 1024, 352]⟩
abbrev S1024x352 : Shape := ⟨2, ![1024, 352]⟩
abbrev S1x512x352 : Shape := ⟨3, ![1, 512, 352]⟩
abbrev S3x512x352 : Shape := ⟨3, ![3, 512, 352]⟩
abbrev S512x352 : Shape := ⟨2, ![512, 352]⟩

abbrev nBuf : Space → Nat
  | .hbm => 9
  | .vmem => 18
  | .smem => 0
  | _ => 0

abbrev bufTy : (tb : Table) → Fin (tcTables nBuf tb) → BufTy
  | .hbm, ⟨0, _⟩ => ⟨S4x1024x352, .bf16⟩
  | .hbm, ⟨1, _⟩ => ⟨S3x1024x352, .bf16⟩
  | .hbm, ⟨2, _⟩ => ⟨S1024x352, .f32⟩
  | .hbm, ⟨3, _⟩ => ⟨S1024x352, .f32⟩
  | .hbm, ⟨4, _⟩ => ⟨S1024x352, .f32⟩
  | .hbm, ⟨5, _⟩ => ⟨S1024x352, .f32⟩
  | .hbm, ⟨6, _⟩ => ⟨S1024x352, .f32⟩
  | .hbm, ⟨7, _⟩ => ⟨S1024x352, .f32⟩
  | .hbm, ⟨8, _⟩ => ⟨S1024x352, .f32⟩
  | .local _ .vmem, ⟨0, _⟩ => ⟨S1x512x352, .bf16⟩
  | .local _ .vmem, ⟨1, _⟩ => ⟨S1x512x352, .bf16⟩
  | .local _ .vmem, ⟨2, _⟩ => ⟨S3x512x352, .bf16⟩
  | .local _ .vmem, ⟨3, _⟩ => ⟨S3x512x352, .bf16⟩
  | .local _ .vmem, ⟨4, _⟩ => ⟨S512x352, .f32⟩
  | .local _ .vmem, ⟨5, _⟩ => ⟨S512x352, .f32⟩
  | .local _ .vmem, ⟨6, _⟩ => ⟨S512x352, .f32⟩
  | .local _ .vmem, ⟨7, _⟩ => ⟨S512x352, .f32⟩
  | .local _ .vmem, ⟨8, _⟩ => ⟨S512x352, .f32⟩
  | .local _ .vmem, ⟨9, _⟩ => ⟨S512x352, .f32⟩
  | .local _ .vmem, ⟨10, _⟩ => ⟨S512x352, .f32⟩
  | .local _ .vmem, ⟨11, _⟩ => ⟨S512x352, .f32⟩
  | .local _ .vmem, ⟨12, _⟩ => ⟨S512x352, .f32⟩
  | .local _ .vmem, ⟨13, _⟩ => ⟨S512x352, .f32⟩
  | .local _ .vmem, ⟨14, _⟩ => ⟨S512x352, .f32⟩
  | .local _ .vmem, ⟨15, _⟩ => ⟨S512x352, .f32⟩
  | .local _ .vmem, ⟨16, _⟩ => ⟨S512x352, .f32⟩
  | .local _ .vmem, ⟨17, _⟩ => ⟨S512x352, .f32⟩
  | _, _ => ⟨S4x1024x352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x352 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x512x352 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x352 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x352 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel44Ideal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== Reference44Ideal.lean ====
abbrev S4x1024x352 : Shape := ⟨3, ![4, 1024, 352]⟩
abbrev S3x1024x352 : Shape := ⟨3, ![3, 1024, 352]⟩
abbrev S1024x352 : Shape := ⟨2, ![1024, 352]⟩
abbrev S1x1024x352 : Shape := ⟨3, ![1, 1024, 352]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x1024x352, .bf16⟩
  | .hbm, ⟨1, _⟩ => ⟨S3x1024x352, .bf16⟩
  | .hbm, ⟨2, _⟩ => ⟨S1024x352, .f32⟩
  | .hbm, ⟨3, _⟩ => ⟨S1024x352, .f32⟩
  | .hbm, ⟨4, _⟩ => ⟨S1024x352, .f32⟩
  | .hbm, ⟨5, _⟩ => ⟨S1x1024x352, .bf16⟩
  | .hbm, ⟨6, _⟩ => ⟨S1024x352, .bf16⟩
  | .hbm, ⟨7, _⟩ => ⟨S1024x352, .f32⟩
  | .hbm, ⟨8, _⟩ => ⟨S3x1024x352, .f32⟩
  | .hbm, ⟨9, _⟩ => ⟨S_, .f32⟩
  | .hbm, ⟨10, _⟩ => ⟨S1024x352, .f32⟩
  | .hbm, ⟨11, _⟩ => ⟨S1024x352, .f32⟩
  | .hbm, ⟨12, _⟩ => ⟨S_, .f32⟩
  | .hbm, ⟨13, _⟩ => ⟨S1024x352, .f32⟩
  | .hbm, ⟨14, _⟩ => ⟨S1024x352, .f32⟩
  | .hbm, ⟨15, _⟩ => ⟨S_, .f32⟩
  | .hbm, ⟨16, _⟩ => ⟨S1024x352, .f32⟩
  | .hbm, ⟨17, _⟩ => ⟨S1024x352, .f32⟩
  | .hbm, ⟨18, _⟩ => ⟨S1024x352, .f32⟩
  | .hbm, ⟨19, _⟩ => ⟨S_, .f32⟩
  | .hbm, ⟨20, _⟩ => ⟨S1024x352, .f32⟩
  | .hbm, ⟨21, _⟩ => ⟨S1024x352, .f32⟩
  | .hbm, ⟨22, _⟩ => ⟨S1024x352, .f32⟩
  | .hbm, ⟨23, _⟩ => ⟨S_, .f32⟩
  | .hbm, ⟨24, _⟩ => ⟨S1024x352, .f32⟩
  | .hbm, ⟨25, _⟩ => ⟨S1024x352, .f32⟩
  | .hbm, ⟨26, _⟩ => ⟨S1024x352, .f32⟩
  | .hbm, ⟨27, _⟩ => ⟨S_, .f32⟩
  | .hbm, ⟨28, _⟩ => ⟨S1024x352, .f32⟩
  | .hbm, ⟨29, _⟩ => ⟨S1024x352, .f32⟩
  | .hbm, ⟨30, _⟩ => ⟨S_, .f32⟩
  | .hbm, ⟨31, _⟩ => ⟨S1024x352, .f32⟩
  | .hbm, ⟨32, _⟩ => ⟨S1024x352, .f32⟩
  | .hbm, ⟨33, _⟩ => ⟨S1024x352, .f32⟩
  | .hbm, ⟨34, _⟩ => ⟨S_, .f32⟩
  | .hbm, ⟨35, _⟩ => ⟨S1024x352, .f32⟩
  | .hbm, ⟨36, _⟩ => ⟨S1024x352, .f32⟩
  | .hbm, ⟨37, _⟩ => ⟨S1024x352, .f32⟩
  | .hbm, ⟨38, _⟩ => ⟨S_, .f32⟩
  | .hbm, ⟨39, _⟩ => ⟨S1024x352, .f32⟩
  | .hbm, ⟨40, _⟩ => ⟨S1024x352, .f32⟩
  | .hbm, ⟨41, _⟩ => ⟨S1024x352, .f32⟩
  | .hbm, ⟨42, _⟩ => ⟨S_, .f32⟩
  | .hbm, ⟨43, _⟩ => ⟨S1024x352, .f32⟩
  | .hbm, ⟨44, _⟩ => ⟨S1024x352, .f32⟩
  | _, _ => ⟨S4x1024x352, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Kernel45.lean ====
abbrev S4x352x1024 : Shape := ⟨3, ![4, 352, 1024]⟩
abbrev S3x352x1024 : Shape := ⟨3, ![3, 352, 1024]⟩
abbrev S352x1024 : Shape := ⟨2, ![352, 1024]⟩
abbrev S1x176x1024 : Shape := ⟨3, ![1, 176, 1024]⟩
abbrev S3x176x1024 : Shape := ⟨3, ![3, 176, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4x352x1024, .bf16⟩
  | .hbm, ⟨1, _⟩ => ⟨S3x352x1024, .bf16⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .local _ .vmem, ⟨0, _⟩ => ⟨S1x176x1024, .bf16⟩
  | .local _ .vmem, ⟨1, _⟩ => ⟨S1x176x1024, .bf16⟩
  | .local _ .vmem, ⟨2, _⟩ => ⟨S3x176x1024, .bf16⟩
  | .local _ .vmem, ⟨3, _⟩ => ⟨S3x176x1024, .bf16⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | _, _ => ⟨S4x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel45Ideal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== Reference45Ideal.lean ====
abbrev S4x352x1024 : Shape := ⟨3, ![4, 352, 1024]⟩
abbrev S3x352x1024 : Shape := ⟨3, ![3, 352, 1024]⟩
abbrev S352x1024 : Shape := ⟨2, ![352, 1024]⟩
abbrev S1x352x1024 : Shape := ⟨3, ![1, 352, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x352x1024, .bf16⟩
  | .hbm, ⟨1, _⟩ => ⟨S3x352x1024, .bf16⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S1x352x1024, .bf16⟩
  | .hbm, ⟨6, _⟩ => ⟨S352x1024, .bf16⟩
  | .hbm, ⟨7, _⟩ => ⟨S352x1024, .f32⟩
  | .hbm, ⟨8, _⟩ => ⟨S3x352x1024, .f32⟩
  | .hbm, ⟨9, _⟩ => ⟨S_, .f32⟩
  | .hbm, ⟨10, _⟩ => ⟨S352x1024, .f32⟩
  | .hbm, ⟨11, _⟩ => ⟨S352x1024, .f32⟩
  | .hbm, ⟨12, _⟩ => ⟨S_, .f32⟩
  | .hbm, ⟨13, _⟩ => ⟨S352x1024, .f32⟩
  | .hbm, ⟨14, _⟩ => ⟨S352x1024, .f32⟩
  | .hbm, ⟨15, _⟩ => ⟨S_, .f32⟩
  | .hbm, ⟨16, _⟩ => ⟨S352x1024, .f32⟩
  | .hbm, ⟨17, _⟩ => ⟨S352x1024, .f32⟩
  | .hbm, ⟨18, _⟩ => ⟨S352x1024, .f32⟩
  | .hbm, ⟨19, _⟩ => ⟨S_, .f32⟩
  | .hbm, ⟨20, _⟩ => ⟨S352x1024, .f32⟩
  | .hbm, ⟨21, _⟩ => ⟨S352x1024, .f32⟩
  | .hbm, ⟨22, _⟩ => ⟨S352x1024, .f32⟩
  | .hbm, ⟨23, _⟩ => ⟨S_, .f32⟩
  | .hbm, ⟨24, _⟩ => ⟨S352x1024, .f32⟩
  | .hbm, ⟨25, _⟩ => ⟨S352x1024, .f32⟩
  | .hbm, ⟨26, _⟩ => ⟨S352x1024, .f32⟩
  | .hbm, ⟨27, _⟩ => ⟨S_, .f32⟩
  | .hbm, ⟨28, _⟩ => ⟨S352x1024, .f32⟩
  | .hbm, ⟨29, _⟩ => ⟨S352x1024, .f32⟩
  | .hbm, ⟨30, _⟩ => ⟨S_, .f32⟩
  | .hbm, ⟨31, _⟩ => ⟨S352x1024, .f32⟩
  | .hbm, ⟨32, _⟩ => ⟨S352x1024, .f32⟩
  | .hbm, ⟨33, _⟩ => ⟨S352x1024, .f32⟩
  | .hbm, ⟨34, _⟩ => ⟨S_, .f32⟩
  | .hbm, ⟨35, _⟩ => ⟨S352x1024, .f32⟩
  | .hbm, ⟨36, _⟩ => ⟨S352x1024, .f32⟩
  | .hbm, ⟨37, _⟩ => ⟨S352x1024, .f32⟩
  | .hbm, ⟨38, _⟩ => ⟨S_, .f32⟩
  | .hbm, ⟨39, _⟩ => ⟨S352x1024, .f32⟩
  | .hbm, ⟨40, _⟩ => ⟨S352x1024, .f32⟩
  | .hbm, ⟨41, _⟩ => ⟨S352x1024, .f32⟩
  | .hbm, ⟨42, _⟩ => ⟨S_, .f32⟩
  | .hbm, ⟨43, _⟩ => ⟨S352x1024, .f32⟩
  | .hbm, ⟨44, _⟩ => ⟨S352x1024, .f32⟩
  | _, _ => ⟨S4x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Kernel46.lean ====
abbrev S4x128x1024 : Shape := ⟨3, ![4, 128, 1024]⟩
abbrev S3x128x1024 : Shape := ⟨3, ![3, 128, 1024]⟩
abbrev S128x1024 : Shape := ⟨2, ![128, 1024]⟩
abbrev S1x128x1024 : Shape := ⟨3, ![1, 128, 1024]⟩

abbrev nBuf : Space → Nat
  | .hbm => 9
  | .vmem => 9
  | .smem => 0
  | _ => 0

abbrev bufTy : (tb : Table) → Fin (tcTables nBuf tb) → BufTy
  | .hbm, ⟨0, _⟩ => ⟨S4x128x1024, .bf16⟩
  | .hbm, ⟨1, _⟩ => ⟨S3x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S1x128x1024, .bf16⟩
  | .local _ .vmem, ⟨1, _⟩ => ⟨S3x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Kernel46Ideal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== Reference46Ideal.lean ====
abbrev S4x128x1024 : Shape := ⟨3, ![4, 128, 1024]⟩
abbrev S3x128x1024 : Shape := ⟨3, ![3, 128, 1024]⟩
abbrev S128x1024 : Shape := ⟨2, ![128, 1024]⟩
abbrev S1x128x1024 : Shape := ⟨3, ![1, 128, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S3x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S1x128x1024, .bf16⟩
  | .hbm, ⟨6, _⟩ => ⟨S128x1024, .bf16⟩
  | .hbm, ⟨7, _⟩ => ⟨S128x1024, .f32⟩
  | .hbm, ⟨8, _⟩ => ⟨S3x128x1024, .f32⟩
  | .hbm, ⟨9, _⟩ => ⟨S_, .f32⟩
  | .hbm, ⟨10, _⟩ => ⟨S128x1024, .f32⟩
  | .hbm, ⟨11, _⟩ => ⟨S128x1024, .f32⟩
  | .hbm, ⟨12, _⟩ => ⟨S_, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128x1024, .f32⟩
  | .hbm, ⟨25, _⟩ => ⟨S128x1024, .f32⟩
  | .hbm, ⟨26, _⟩ => ⟨S128x1024, .f32⟩
  | .hbm, ⟨27, _⟩ => ⟨S_, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S_, .f32⟩
  | .hbm, ⟨39, _⟩ => ⟨S128x1024, .f32⟩
  | .hbm, ⟨40, _⟩ => ⟨S128x1024, .f32⟩
  | .hbm, ⟨41, _⟩ => ⟨S128x1024, .f32⟩
  | .hbm, ⟨42, _⟩ => ⟨S_, .f32⟩
  | .hbm, ⟨43, _⟩ => ⟨S128x1024, .f32⟩
  | .hbm, ⟨44, _⟩ => ⟨S128x1024, .f32⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Kernel47.lean ====
abbrev S4x256x1024 : Shape := ⟨3, ![4, 256, 1024]⟩
abbrev S3x256x1024 : Shape := ⟨3, ![3, 256, 1024]⟩
abbrev S256x1024 : Shape := ⟨2, ![256, 1024]⟩
abbrev S1x256x1024 : Shape := ⟨3, ![1, 256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S4x256x1024, .bf16⟩
  | .hbm, ⟨1, _⟩ => ⟨S3x256x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S1x256x1024, .bf16⟩
  | .local _ .vmem, ⟨1, _⟩ => ⟨S3x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S4x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Kernel47Ideal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== Reference47Ideal.lean ====
abbrev S4x256x1024 : Shape := ⟨3, ![4, 256, 1024]⟩
abbrev S3x256x1024 : Shape := ⟨3, ![3, 256, 1024]⟩
abbrev S256x1024 : Shape := ⟨2, ![256, 1024]⟩
abbrev S1x256x1024 : Shape := ⟨3, ![1, 256, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x256x1024, .bf16⟩
  | .hbm, ⟨1, _⟩ => ⟨S3x256x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S1x256x1024, .bf16⟩
  | .hbm, ⟨6, _⟩ => ⟨S256x1024, .bf16⟩
  | .hbm, ⟨7, _⟩ => ⟨S256x1024, .f32⟩
  | .hbm, ⟨8, _⟩ => ⟨S3x256x1024, .f32⟩
  | .hbm, ⟨9, _⟩ => ⟨S_, .f32⟩
  | .hbm, ⟨10, _⟩ => ⟨S256x1024, .f32⟩
  | .hbm, ⟨11, _⟩ => ⟨S256x1024, .f32⟩
  | .hbm, ⟨12, _⟩ => ⟨S_, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S256x1024, .f32⟩
  | .hbm, ⟨40, _⟩ => ⟨S256x1024, .f32⟩
  | .hbm, ⟨41, _⟩ => ⟨S256x1024, .f32⟩
  | .hbm, ⟨42, _⟩ => ⟨S_, .f32⟩
  | .hbm, ⟨43, _⟩ => ⟨S256x1024, .f32⟩
  | .hbm, ⟨44, _⟩ => ⟨S256x1024, .f32⟩
  | _, _ => ⟨S4x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Kernel48.lean ====
abbrev S4x1024x1156 : Shape := ⟨3, ![4, 1024, 1156]⟩
abbrev S3x1024x1156 : Shape := ⟨3, ![3, 1024, 1156]⟩
abbrev S1024x1156 : Shape := ⟨2, ![1024, 1156]⟩
abbrev S1x128x1156 : Shape := ⟨3, ![1, 128, 1156]⟩
abbrev S3x128x1156 : Shape := ⟨3, ![3, 128, 1156]⟩
abbrev S128x1156 : Shape := ⟨2, ![128, 1156]⟩

abbrev nBuf : Space → Nat
  | .hbm => 9
  | .vmem => 18
  | .smem => 0
  | _ => 0

abbrev bufTy : (tb : Table) → Fin (tcTables nBuf tb) → BufTy
  | .hbm, ⟨0, _⟩ => ⟨S4x1024x1156, .bf16⟩
  | .hbm, ⟨1, _⟩ => ⟨S3x1024x1156, .bf16⟩
  | .hbm, ⟨2, _⟩ => ⟨S1024x1156, .f32⟩
  | .hbm, ⟨3, _⟩ => ⟨S1024x1156, .f32⟩
  | .hbm, ⟨4, _⟩ => ⟨S1024x1156, .f32⟩
  | .hbm, ⟨5, _⟩ => ⟨S1024x1156, .f32⟩
  | .hbm, ⟨6, _⟩ => ⟨S1024x1156, .f32⟩
  | .hbm, ⟨7, _⟩ => ⟨S1024x1156, .f32⟩
  | .hbm, ⟨8, _⟩ => ⟨S1024x1156, .f32⟩
  | .local _ .vmem, ⟨0, _⟩ => ⟨S1x128x1156, .bf16⟩
  | .local _ .vmem, ⟨1, _⟩ => ⟨S1x128x1156, .bf16⟩
  | .local _ .vmem, ⟨2, _⟩ => ⟨S3x128x1156, .bf16⟩
  | .local _ .vmem, ⟨3, _⟩ => ⟨S3x128x1156, .bf16⟩
  | .local _ .vmem, ⟨4, _⟩ => ⟨S128x1156, .f32⟩
  | .local _ .vmem, ⟨5, _⟩ => ⟨S128x1156, .f32⟩
  | .local _ .vmem, ⟨6, _⟩ => ⟨S128x1156, .f32⟩
  | .local _ .vmem, ⟨7, _⟩ => ⟨S128x1156, .f32⟩
  | .local _ .vmem, ⟨8, _⟩ => ⟨S128x1156, .f32⟩
  | .local _ .vmem, ⟨9, _⟩ => ⟨S128x1156, .f32⟩
  | .local _ .vmem, ⟨10, _⟩ => ⟨S128x1156, .f32⟩
  | .local _ .vmem, ⟨11, _⟩ => ⟨S128x1156, .f32⟩
  | .local _ .vmem, ⟨12, _⟩ => ⟨S128x1156, .f32⟩
  | .local _ .vmem, ⟨13, _⟩ => ⟨S128x1156, .f32⟩
  | .local _ .vmem, ⟨14, _⟩ => ⟨S128x1156, .f32⟩
  | .local _ .vmem, ⟨15, _⟩ => ⟨S128x1156, .f32⟩
  | .local _ .vmem, ⟨16, _⟩ => ⟨S128x1156, .f32⟩
  | .local _ .vmem, ⟨17, _⟩ => ⟨S128x1156, .f32⟩
  | _, _ => ⟨S4x1024x1156, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x1156 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x128x1156 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1156 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1156 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1156 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1156 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1156 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1156 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1156 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel48Ideal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== Reference48Ideal.lean ====
abbrev S4x1024x1156 : Shape := ⟨3, ![4, 1024, 1156]⟩
abbrev S3x1024x1156 : Shape := ⟨3, ![3, 1024, 1156]⟩
abbrev S1024x1156 : Shape := ⟨2, ![1024, 1156]⟩
abbrev S1x1024x1156 : Shape := ⟨3, ![1, 1024, 1156]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x1024x1156, .bf16⟩
  | .hbm, ⟨1, _⟩ => ⟨S3x1024x1156, .bf16⟩
  | .hbm, ⟨2, _⟩ => ⟨S1024x1156, .f32⟩
  | .hbm, ⟨3, _⟩ => ⟨S1024x1156, .f32⟩
  | .hbm, ⟨4, _⟩ => ⟨S1024x1156, .f32⟩
  | .hbm, ⟨5, _⟩ => ⟨S1x1024x1156, .bf16⟩
  | .hbm, ⟨6, _⟩ => ⟨S1024x1156, .bf16⟩
  | .hbm, ⟨7, _⟩ => ⟨S1024x1156, .f32⟩
  | .hbm, ⟨8, _⟩ => ⟨S3x1024x1156, .f32⟩
  | .hbm, ⟨9, _⟩ => ⟨S_, .f32⟩
  | .hbm, ⟨10, _⟩ => ⟨S1024x1156, .f32⟩
  | .hbm, ⟨11, _⟩ => ⟨S1024x1156, .f32⟩
  | .hbm, ⟨12, _⟩ => ⟨S_, .f32⟩
  | .hbm, ⟨13, _⟩ => ⟨S1024x1156, .f32⟩
  | .hbm, ⟨14, _⟩ => ⟨S1024x1156, .f32⟩
  | .hbm, ⟨15, _⟩ => ⟨S_, .f32⟩
  | .hbm, ⟨16, _⟩ => ⟨S1024x1156, .f32⟩
  | .hbm, ⟨17, _⟩ => ⟨S1024x1156, .f32⟩
  | .hbm, ⟨18, _⟩ => ⟨S1024x1156, .f32⟩
  | .hbm, ⟨19, _⟩ => ⟨S_, .f32⟩
  | .hbm, ⟨20, _⟩ => ⟨S1024x1156, .f32⟩
  | .hbm, ⟨21, _⟩ => ⟨S1024x1156, .f32⟩
  | .hbm, ⟨22, _⟩ => ⟨S1024x1156, .f32⟩
  | .hbm, ⟨23, _⟩ => ⟨S_, .f32⟩
  | .hbm, ⟨24, _⟩ => ⟨S1024x1156, .f32⟩
  | .hbm, ⟨25, _⟩ => ⟨S1024x1156, .f32⟩
  | .hbm, ⟨26, _⟩ => ⟨S1024x1156, .f32⟩
  | .hbm, ⟨27, _⟩ => ⟨S_, .f32⟩
  | .hbm, ⟨28, _⟩ => ⟨S1024x1156, .f32⟩
  | .hbm, ⟨29, _⟩ => ⟨S1024x1156, .f32⟩
  | .hbm, ⟨30, _⟩ => ⟨S_, .f32⟩
  | .hbm, ⟨31, _⟩ => ⟨S1024x1156, .f32⟩
  | .hbm, ⟨32, _⟩ => ⟨S1024x1156, .f32⟩
  | .hbm, ⟨33, _⟩ => ⟨S1024x1156, .f32⟩
  | .hbm, ⟨34, _⟩ => ⟨S_, .f32⟩
  | .hbm, ⟨35, _⟩ => ⟨S1024x1156, .f32⟩
  | .hbm, ⟨36, _⟩ => ⟨S1024x1156, .f32⟩
  | .hbm, ⟨37, _⟩ => ⟨S1024x1156, .f32⟩
  | .hbm, ⟨38, _⟩ => ⟨S_, .f32⟩
  | .hbm, ⟨39, _⟩ => ⟨S1024x1156, .f32⟩
  | .hbm, ⟨40, _⟩ => ⟨S1024x1156, .f32⟩
  | .hbm, ⟨41, _⟩ => ⟨S1024x1156, .f32⟩
  | .hbm, ⟨42, _⟩ => ⟨S_, .f32⟩
  | .hbm, ⟨43, _⟩ => ⟨S1024x1156, .f32⟩
  | .hbm, ⟨44, _⟩ => ⟨S1024x1156, .f32⟩
  | _, _ => ⟨S4x1024x1156, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Kernel49.lean ====
abbrev S4x4x512 : Shape := ⟨3, ![4, 4, 512]⟩
abbrev S3x4x512 : Shape := ⟨3, ![3, 4, 512]⟩
abbrev S4x512 : Shape := ⟨2, ![4, 512]⟩
abbrev S1x4x512 : Shape := ⟨3, ![1, 4, 512]⟩

abbrev nBuf : Space → Nat
  | .hbm => 9
  | .vmem => 9
  | .smem => 0
  | _ => 0

abbrev bufTy : (tb : Table) → Fin (tcTables nBuf tb) → BufTy
  | .hbm, ⟨0, _⟩ => ⟨S4x4x512, .f32⟩
  | .hbm, ⟨1, _⟩ => ⟨S3x4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S4x512, .f32⟩
  | .hbm, ⟨7, _⟩ => ⟨S4x512, .f32⟩
  | .hbm, ⟨8, _⟩ => ⟨S4x512, .f32⟩
  | .local _ .vmem, ⟨0, _⟩ => ⟨S1x4x512, .f32⟩
  | .local _ .vmem, ⟨1, _⟩ => ⟨S3x4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | .local _ .vmem, ⟨7, _⟩ => ⟨S4x512, .f32⟩
  | .local _ .vmem, ⟨8, _⟩ => ⟨S4x512, .f32⟩
  | _, _ => ⟨S4x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S4x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Kernel49Ideal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== Reference49Ideal.lean ====
abbrev S4x4x512 : Shape := ⟨3, ![4, 4, 512]⟩
abbrev S3x4x512 : Shape := ⟨3, ![3, 4, 512]⟩
abbrev S4x512 : Shape := ⟨2, ![4, 512]⟩
abbrev S1x4x512 : Shape := ⟨3, ![1, 4, 512]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S4x4x512, .f32⟩
  | .hbm, ⟨1, _⟩ => ⟨S3x4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S1x4x512, .f32⟩
  | .hbm, ⟨6, _⟩ => ⟨S4x512, .f32⟩
  | .hbm, ⟨7, _⟩ => ⟨S_, .f32⟩
  | .hbm, ⟨8, _⟩ => ⟨S4x512, .f32⟩
  | .hbm, ⟨9, _⟩ => ⟨S4x512, .f32⟩
  | .hbm, ⟨10, _⟩ => ⟨S_, .f32⟩
  | .hbm, ⟨11, _⟩ => ⟨S4x512, .f32⟩
  | .hbm, ⟨12, _⟩ => ⟨S4x512, .f32⟩
  | .hbm, ⟨13, _⟩ => ⟨S_, .f32⟩
  | .hbm, ⟨14, _⟩ => ⟨S4x512, .f32⟩
  | .hbm, ⟨15, _⟩ => ⟨S4x512, .f32⟩
  | .hbm, ⟨16, _⟩ => ⟨S4x512, .f32⟩
  | .hbm, ⟨17, _⟩ => ⟨S_, .f32⟩
  | .hbm, ⟨18, _⟩ => ⟨S4x512, .f32⟩
  | .hbm, ⟨19, _⟩ => ⟨S4x512, .f32⟩
  | .hbm, ⟨20, _⟩ => ⟨S4x512, .f32⟩
  | .hbm, ⟨21, _⟩ => ⟨S_, .f32⟩
  | .hbm, ⟨22, _⟩ => ⟨S4x512, .f32⟩
  | .hbm, ⟨23, _⟩ => ⟨S4x512, .f32⟩
  | .hbm, ⟨24, _⟩ => ⟨S4x512, .f32⟩
  | .hbm, ⟨25, _⟩ => ⟨S_, .f32⟩
  | .hbm, ⟨26, _⟩ => ⟨S4x512, .f32⟩
  | .hbm, ⟨27, _⟩ => ⟨S4x512, .f32⟩
  | .hbm, ⟨28, _⟩ => ⟨S_, .f32⟩
  | .hbm, ⟨29, _⟩ => ⟨S4x512, .f32⟩
  | .hbm, ⟨30, _⟩ => ⟨S4x512, .f32⟩
  | .hbm, ⟨31, _⟩ => ⟨S4x512, .f32⟩
  | .hbm, ⟨32, _⟩ => ⟨S_, .f32⟩
  | .hbm, ⟨33, _⟩ => ⟨S4x512, .f32⟩
  | .hbm, ⟨34, _⟩ => ⟨S4x512, .f32⟩
  | .hbm, ⟨35, _⟩ => ⟨S4x512, .f32⟩
  | .hbm, ⟨36, _⟩ => ⟨S_, .f32⟩
  | .hbm, ⟨37, _⟩ => ⟨S4x512, .f32⟩
  | .hbm, ⟨38, _⟩ => ⟨S4x512, .f32⟩
  | .hbm, ⟨39, _⟩ => ⟨S4x512, .f32⟩
  | .hbm, ⟨40, _⟩ => ⟨S_, .f32⟩
  | .hbm, ⟨41, _⟩ => ⟨S4x512, .f32⟩
  | .hbm, ⟨42, _⟩ => ⟨S4x512, .f32⟩
  | _, _ => ⟨S4x4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Kernel50.lean ====
abbrev S2256x128 : Shape := ⟨2, ![2256, 128]⟩
abbrev S1128x128 : Shape := ⟨2, ![1128, 128]⟩

abbrev nBuf : Space → Nat
  | .hbm => 7
  | .vmem => 14
  | .smem => 0
  | _ => 0

abbrev bufTy : (tb : Table) → Fin (tcTables nBuf tb) → BufTy
  | .hbm, ⟨0, _⟩ => ⟨S2256x128, .f32⟩
  | .hbm, ⟨1, _⟩ => ⟨S2256x128, .f32⟩
  | .hbm, ⟨2, _⟩ => ⟨S2256x128, .f32⟩
  | .hbm, ⟨3, _⟩ => ⟨S2256x128, .f32⟩
  | .hbm, ⟨4, _⟩ => ⟨S2256x128, .f32⟩
  | .hbm, ⟨5, _⟩ => ⟨S2256x128, .f32⟩
  | .hbm, ⟨6, _⟩ => ⟨S2256x128, .f32⟩
  | .local _ .vmem, ⟨0, _⟩ => ⟨S1128x128, .f32⟩
  | .local _ .vmem, ⟨1, _⟩ => ⟨S1128x128, .f32⟩
  | .local _ .vmem, ⟨2, _⟩ => ⟨S1128x128, .f32⟩
  | .local _ .vmem, ⟨3, _⟩ => ⟨S1128x128, .f32⟩
  | .local _ .vmem, ⟨4, _⟩ => ⟨S1128x128, .f32⟩
  | .local _ .vmem, ⟨5, _⟩ => ⟨S1128x128, .f32⟩
  | .local _ .vmem, ⟨6, _⟩ => ⟨S1128x128, .f32⟩
  | .local _ .vmem, ⟨7, _⟩ => ⟨S1128x128, .f32⟩
  | .local _ .vmem, ⟨8, _⟩ => ⟨S1128x128, .f32⟩
  | .local _ .vmem, ⟨9, _⟩ => ⟨S1128x128, .f32⟩
  | .local _ .vmem, ⟨10, _⟩ => ⟨S1128x128, .f32⟩
  | .local _ .vmem, ⟨11, _⟩ => ⟨S1128x128, .f32⟩
  | .local _ .vmem, ⟨12, _⟩ => ⟨S1128x128, .f32⟩
  | .local _ .vmem, ⟨13, _⟩ => ⟨S1128x128, .f32⟩
  | _, _ => ⟨S2256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel50Ideal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== Reference50Ideal.lean ====
abbrev S2256x128 : Shape := ⟨2, ![2256, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2256x128, .f32⟩
  | .hbm, ⟨1, _⟩ => ⟨S2256x128, .f32⟩
  | .hbm, ⟨2, _⟩ => ⟨S2256x128, .f32⟩
  | .hbm, ⟨3, _⟩ => ⟨S2256x128, .f32⟩
  | .hbm, ⟨4, _⟩ => ⟨S_, .f32⟩
  | .hbm, ⟨5, _⟩ => ⟨S2256x128, .f32⟩
  | .hbm, ⟨6, _⟩ => ⟨S2256x128, .f32⟩
  | .hbm, ⟨7, _⟩ => ⟨S_, .f32⟩
  | .hbm, ⟨8, _⟩ => ⟨S2256x128, .f32⟩
  | .hbm, ⟨9, _⟩ => ⟨S2256x128, .f32⟩
  | .hbm, ⟨10, _⟩ => ⟨S2256x128, .f32⟩
  | .hbm, ⟨11, _⟩ => ⟨S_, .f32⟩
  | .hbm, ⟨12, _⟩ => ⟨S2256x128, .f32⟩
  | .hbm, ⟨13, _⟩ => ⟨S2256x128, .f32⟩
  | .hbm, ⟨14, _⟩ => ⟨S2256x128, .f32⟩
  | .hbm, ⟨15, _⟩ => ⟨S_, .f32⟩
  | .hbm, ⟨16, _⟩ => ⟨S2256x128, .f32⟩
  | .hbm, ⟨17, _⟩ => ⟨S2256x128, .f32⟩
  | .hbm, ⟨18, _⟩ => ⟨S2256x128, .f32⟩
  | .hbm, ⟨19, _⟩ => ⟨S_, .f32⟩
  | .hbm, ⟨20, _⟩ => ⟨S2256x128, .f32⟩
  | .hbm, ⟨21, _⟩ => ⟨S2256x128, .f32⟩
  | .hbm, ⟨22, _⟩ => ⟨S_, .f32⟩
  | .hbm, ⟨23, _⟩ => ⟨S2256x128, .f32⟩
  | .hbm, ⟨24, _⟩ => ⟨S2256x128, .f32⟩
  | .hbm, ⟨25, _⟩ => ⟨S2256x128, .f32⟩
  | .hbm, ⟨26, _⟩ => ⟨S_, .f32⟩
  | .hbm, ⟨27, _⟩ => ⟨S2256x128, .f32⟩
  | .hbm, ⟨28, _⟩ => ⟨S2256x128, .f32⟩
  | .hbm, ⟨29, _⟩ => ⟨S2256x128, .f32⟩
  | .hbm, ⟨30, _⟩ => ⟨S_, .f32⟩
  | .hbm, ⟨31, _⟩ => ⟨S2256x128, .f32⟩
  | .hbm, ⟨32, _⟩ => ⟨S2256x128, .f32⟩
  | .hbm, ⟨33, _⟩ => ⟨S2256x128, .f32⟩
  | .hbm, ⟨34, _⟩ => ⟨S_, .f32⟩
  | .hbm, ⟨35, _⟩ => ⟨S2256x128, .f32⟩
  | .hbm, ⟨36, _⟩ => ⟨S2256x128, .f32⟩
  | _, _ => ⟨S2256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Scan.lean ====
/- The counted loop of the scan's kernel body: what its carried pair and its two written blocks hold after each trip,
   as one recursion over the rows of the block, from the last row to the first. -/
module

public import proofs.«01_k».proof.Proof.Gen.KernelIdeal.Loops
public import Idealize.ShloMosaic.Lib.WritesUnit
public import Idealize.ShloMosaic.Lib.VecWindow
public import Idealize.ShloMosaic.Lib.Pipeline.Value

@[expose] public section

set_option maxRecDepth 8192

noncomputable section

namespace Cert.KernelIdeal.Scan

open Idealize.ShloMosaic Idealize.ShloMosaic.TcCoe Idealize.SL.Sem

variable {F : FTy → Type} [FloatOps F]

/-- Eight rows of 1024 lanes: one step of the eight scans that run side by side. -/
abbrev V8 (F : FTy → Type) := FVec F S8x1024 .f32

/-- A position of the eight rows. -/
def at8 (r q : ℕ) (hr : r < 8) (hq : q < 1024) : S8x1024.Idx := fun a => match a with
  | ⟨0, _⟩ => ⟨r, hr⟩
  | ⟨1, _⟩ => ⟨q, hq⟩

/-- A position of the block. -/
def at512 (r q : ℕ) (hr : r < 512) (hq : q < 1024) : S512x1024.Idx := fun a => match a with
  | ⟨0, _⟩ => ⟨r, hr⟩
  | ⟨1, _⟩ => ⟨q, hq⟩

/-- The position of a block's index inside its own group of eight rows. -/
def low (y : S512x1024.Idx) : S8x1024.Idx :=
  at8 ((y 0).val % 8) (y 1).val (Nat.mod_lt _ (by decide)) (y 1).isLt

/-- Group `k` of eight rows of a block. -/
def grp (X : FVec F S512x1024 .f32) (k : ℕ) : V8 F := fun y =>
  X (at512 ((8 * k + (y 0).val) % 512) (y 1).val (Nat.mod_lt _ (by decide)) (y 1).isLt)

/-- One step of the scan: the state turned by the decay, and the next input added. -/
def step (ar ai : V8 F) (s : V8 F × V8 F) (xr xi : V8 F) : V8 F × V8 F :=
  (addf (subf (mulf ar s.1) (mulf ai s.2)) xr, addf (addf (mulf ar s.2) (mulf ai s.1)) xi)

/-- The state after the first `k` steps over the groups of a block, taken from the last group. -/
def iter (ar ai : V8 F) (Xr Xi : FVec F S512x1024 .f32) (s : V8 F × V8 F) : ℕ → V8 F × V8 F
  | 0 => s
  | k + 1 => step ar ai (iter ar ai Xr Xi s k) (grp Xr (63 - k)) (grp Xi (63 - k))

/-- The state that the step of a block's index leaves, real part. -/
def outR (ar ai : V8 F) (Xr Xi : FVec F S512x1024 .f32) (s : V8 F × V8 F) : FVec F S512x1024 .f32 := fun y =>
  (iter ar ai Xr Xi s (64 - (y 0).val / 8)).1 (low y)

/-- The state that the step of a block's index leaves, imaginary part. -/
def outI (ar ai : V8 F) (Xr Xi : FVec F S512x1024 .f32) (s : V8 F × V8 F) : FVec F S512x1024 .f32 := fun y =>
  (iter ar ai Xr Xi s (64 - (y 0).val / 8)).2 (low y)

theorem pay1_eq (ar ai cr ci x : V8 F) : Gen.k0_pay1 ar ai cr ci x = addf (subf (mulf ar cr) (mulf ai ci)) x := by
  unfold Gen.k0_pay1; simp only [shapeCast_self]

theorem pay2_eq (ar ai cr ci x : V8 F) : Gen.k0_pay2 ar ai cr ci x = addf (addf (mulf ar ci) (mulf ai cr)) x := by
  unfold Gen.k0_pay2; simp only [shapeCast_self]

section Loop

variable (𝒱 : Variants) (c : Dev nD) (bd : Option 𝒱.V) (i : grid0.Coords) (arg2 : Memref sig .tc .vmem S512x256 .f32) (harg2 : arg2.IsWhole)
  (arg3 : Memref sig .tc .vmem S1x256x1024 .bf16) (harg3 : arg3.IsWhole) (arg4 : Memref sig .tc .vmem S1x256x1024 .bf16) (harg4 : arg4.IsWhole)
  (arg5 : Memref sig .tc .vmem S1x1024 .f32) (harg5 : arg5.IsWhole) (arg6 : Memref sig .tc .vmem S1x1024 .f32) (harg6 : arg6.IsWhole)
  (arg7 : Memref sig .tc .vmem S512x1024 .f32) (harg7 : arg7.IsWhole) (arg8 : Memref sig .tc .vmem S512x1024 .f32) (harg8 : arg8.IsWhole)
  (arg9 : Memref sig .tc .vmem S8x1024 .f32) (harg9 : arg9.IsWhole) (arg10 : Memref sig .tc .vmem S8x1024 .f32) (harg10 : arg10.IsWhole)
  (arg11 : Memref sig .tc .vmem S8x1024 .f32) (harg11 : arg11.IsWhole) (arg12 : Memref sig .tc .vmem S8x1024 .f32) (harg12 : arg12.IsWhole)
  (arg13 : Memref sig .tc .vmem S8x1024 .f32) (harg13 : arg13.IsWhole) (arg14 : Memref sig .tc .vmem S8x1024 .f32) (harg14 : arg14.IsWhole)

/-- A load of group `j` of rows, of contents that read as a block agreeing with `X` there. -/
theorem load_grp (m : Memref sig .tc .vmem S512x1024 .f32) (f : BufTy.Contents (Elt F) m.view.ty) (X : FVec F S512x1024 .f32)
    (k : Fin k0_t1_loop.trips) (h : ∀ y : S512x1024.Idx, (y 0).val / 8 = 63 - k.val → m.view.read (Elt F) f y = X y) :
    m.view.readAt (Elt F) (Rect.unit (s := S512x1024) (k0_off1 k) S8x1024.size (Gen.k0_off1_inb k)).toLoadRect f
      = grp X (63 - k.val) := by
  have hk : k.val < 64 := Nat.lt_of_lt_of_le k.isLt Gen.k0_t1_abs.2.1
  funext y
  have hy0 : (y 0).val < 8 := (y 0).isLt
  have e : (Rect.unit (s := S512x1024) (k0_off1 k) S8x1024.size (Gen.k0_off1_inb k)).emb y
      = at512 ((8 * (63 - k.val) + (y 0).val) % 512) (y 1).val (Nat.mod_lt _ (by decide)) (y 1).isLt := by
    funext a
    refine Fin.ext ?_
    match a with
    | ⟨0, _⟩ =>
      show k0_off1 k 0 + 1 * (y 0).val = (8 * (63 - k.val) + (y 0).val) % 512
      have e0 : k0_off1 k 0 = 504 - 8 * k.val := congrFun (Gen.k0_off1_eq k) 0
      rw [show k0_off1 k 0 + 1 * (y 0).val = (504 - 8 * k.val) + 1 * (y 0).val from congrArg (· + 1 * (y 0).val) e0]
      omega
    | ⟨1, _⟩ =>
      show k0_off1 k 1 + 1 * (y 1).val = (y 1).val
      have e1 : k0_off1 k 1 = 0 := congrFun (Gen.k0_off1_eq k) 1
      rw [show k0_off1 k 1 + 1 * (y 1).val = 0 + 1 * (y 1).val from congrArg (· + 1 * (y 1).val) e1]
      omega
  show m.view.read (Elt F) f ((Rect.unit (s := S512x1024) (k0_off1 k) S8x1024.size (Gen.k0_off1_inb k)).emb y) = _
  rw [e]
  refine h _ ?_
  show (8 * (63 - k.val) + (y 0).val) % 512 / 8 = 63 - k.val
  omega

/-- A store of group `j` of rows over contents already right above it. -/
theorem store_grp (m : Memref sig .tc .vmem S512x1024 .f32) (f : BufTy.Contents (Elt F) m.view.ty) (L : List (View.Piece (Elt F) S512x1024 .f32))
    (k : Fin k0_t1_loop.trips) (w : V8 F) (X : FVec F S512x1024 .f32) (T : ℕ → V8 F)
    (h : ∀ y : S512x1024.Idx, m.view.read (Elt F) (m.view.writes (Elt F) f L) y
      = if 64 - k.val ≤ (y 0).val / 8 then T (64 - (y 0).val / 8) (low y) else X y)
    (hw : w = T (k.val + 1)) (y : S512x1024.Idx) :
    m.view.read (Elt F) (m.view.writes (Elt F) f
      ((⟨Rect.unit (s := S512x1024) (k0_off1 k) S8x1024.size (Gen.k0_off1_inb k), w⟩ : View.Piece (Elt F) S512x1024 .f32) :: L)) y
      = if 64 - (k.val + 1) ≤ (y 0).val / 8 then T (64 - (y 0).val / 8) (low y) else X y := by
  have hk : k.val < 64 := Nat.lt_of_lt_of_le k.isLt Gen.k0_t1_abs.2.1
  have hy : (y 0).val < 512 := (y 0).isLt
  have ho : k0_off1 k = ![504 - 8 * k.val, 0] := Gen.k0_off1_eq k
  by_cases hin : (y 0).val / 8 = 63 - k.val
  · rw [if_pos (by omega)]
    refine (View.read_writes_cons_unit_of_mem m.view f (size := S8x1024.size) (Gen.k0_off1_inb k) w L y (low y) ho (by
      intro a
      match a with
      | ⟨0, _⟩ =>
        show (y 0).val = 504 - 8 * k.val + (y 0).val % 8
        omega
      | ⟨1, _⟩ =>
        show (y 1).val = 0 + (y 1).val
        omega)).trans ?_
    rw [hw, hin, show 64 - (63 - k.val) = k.val + 1 by omega]
  · refine (View.read_writes_cons_unit_of_not_mem m.view f (size := S8x1024.size) (Gen.k0_off1_inb k) w L y ho (0 : Fin 2) (by
      show (y 0).val < 504 - 8 * k.val ∨ 504 - 8 * k.val + 8 ≤ (y 0).val
      omega)).trans ?_
    rw [h y]
    by_cases hge : 64 - k.val ≤ (y 0).val / 8
    · rw [if_pos hge, if_pos (by omega)]
    · rw [if_neg hge, if_neg (by omega)]

/-- What a trip reads of a block. -/
abbrev ld (m : Memref sig .tc .vmem S512x1024 .f32) (f : BufTy.Contents (Elt F) m.view.ty) (k : Fin k0_t1_loop.trips) : V8 F :=
  m.view.readAt (Elt F) (Rect.unit (s := S512x1024) (k0_off1 k) S8x1024.size (Gen.k0_off1_inb k)).toLoadRect f

theorem tripR_eq (ar ai : V8 F) (k : Fin k0_t1_loop.trips) (acc : V8 F × V8 F) (fr : BufTy.Contents (Elt F) arg7.view.ty)
    (fi : BufTy.Contents (Elt F) arg8.view.ty) :
    Gen.tripR_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 ar ai k acc fr fi
      = (Gen.k0_pay1 ar ai acc.1 acc.2 (ld arg7 fr k), Gen.k0_pay2 ar ai acc.1 acc.2 (ld arg8 fi k)) := by
  unfold Gen.tripR_k0_t1 Gen.trip_k0_t1
  rfl

theorem tripL_eq (ar ai : V8 F) (k : Fin k0_t1_loop.trips) (acc : V8 F × V8 F) (fr : BufTy.Contents (Elt F) arg7.view.ty)
    (fi : BufTy.Contents (Elt F) arg8.view.ty) :
    Gen.tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 ar ai k acc fr fi
      = ([⟨Rect.unit (s := S512x1024) (k0_off1 k) S8x1024.size (Gen.k0_off1_inb k), Gen.k0_pay1 ar ai acc.1 acc.2 (ld arg7 fr k)⟩],
         [⟨Rect.unit (s := S512x1024) (k0_off1 k) S8x1024.size (Gen.k0_off1_inb k), Gen.k0_pay2 ar ai acc.1 acc.2 (ld arg8 fi k)⟩]) := by
  unfold Gen.tripL_k0_t1 Gen.trip_k0_t1
  rfl

/-- After `k` trips the carried pair is the state after `k` steps, and of each block the last `k` groups hold the states. -/
theorem loop_value (ar ai : V8 F) (Gr : BufTy.Contents (Elt F) arg7.view.ty) (Gi : BufTy.Contents (Elt F) arg8.view.ty)
    (Xr Xi : FVec F S512x1024 .f32) (hXr : arg7.view.read (Elt F) Gr = Xr) (hXi : arg8.view.read (Elt F) Gi = Xi) (s : V8 F × V8 F) :
    ∀ k : ℕ, k ≤ 64 →
      (Gen.st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 ar ai Gr Gi s k).1 = iter ar ai Xr Xi s k
      ∧ (∀ y : S512x1024.Idx, arg7.view.read (Elt F) (arg7.view.writes (Elt F) Gr (Gen.st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 ar ai Gr Gi s k).2.1) y
          = if 64 - k ≤ (y 0).val / 8 then (iter ar ai Xr Xi s (64 - (y 0).val / 8)).1 (low y) else Xr y)
      ∧ (∀ y : S512x1024.Idx, arg8.view.read (Elt F) (arg8.view.writes (Elt F) Gi (Gen.st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 ar ai Gr Gi s k).2.2) y
          = if 64 - k ≤ (y 0).val / 8 then (iter ar ai Xr Xi s (64 - (y 0).val / 8)).2 (low y) else Xi y)
  | 0, _ => by
    have hlt : ∀ y : S512x1024.Idx, ¬ (64 - 0 ≤ (y 0).val / 8) := fun y => by
      have : (y 0).val < 512 := (y 0).isLt
      omega
    refine ⟨rfl, fun y => ?_, fun y => ?_⟩
    · rw [if_neg (hlt y)]; exact congrFun hXr y
    · rw [if_neg (hlt y)]; exact congrFun hXi y
  | k + 1, hk1 => by
    have hk : k < k0_t1_loop.trips := by
      have : k0_t1_loop.trips = 64 := by decide +kernel
      omega
    obtain ⟨h1, h2, h3⟩ := loop_value ar ai Gr Gi Xr Xi hXr hXi s k (by omega)
    have hs := Gen.st_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 ar ai Gr Gi s ⟨k, hk⟩
    rw [show k + 1 = (⟨k, hk⟩ : Fin k0_t1_loop.trips).val + 1 from rfl, hs]
    generalize Gen.st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 ar ai Gr Gi s (⟨k, hk⟩ : Fin k0_t1_loop.trips).val = S at h1 h2 h3 ⊢
    have e7 := load_grp arg7 (arg7.view.writes (Elt F) Gr S.2.1) Xr ⟨k, hk⟩ fun y hy => by
      have hy : (y 0).val / 8 = 63 - k := hy
      rw [h2 y, if_neg (by omega)]
    have e8 := load_grp arg8 (arg8.view.writes (Elt F) Gi S.2.2) Xi ⟨k, hk⟩ fun y hy => by
      have hy : (y 0).val / 8 = 63 - k := hy
      rw [h3 y, if_neg (by omega)]
    have p1 : Gen.k0_pay1 ar ai S.1.1 S.1.2 (ld arg7 (arg7.view.writes (Elt F) Gr S.2.1) ⟨k, hk⟩)
        = (iter ar ai Xr Xi s (k + 1)).1 := by
      rw [pay1_eq, ld, e7, h1]; rfl
    have p2 : Gen.k0_pay2 ar ai S.1.1 S.1.2 (ld arg8 (arg8.view.writes (Elt F) Gi S.2.2) ⟨k, hk⟩)
        = (iter ar ai Xr Xi s (k + 1)).2 := by
      rw [pay2_eq, ld, e8, h1]; rfl
    rw [tripR_eq, tripL_eq, p1, p2]
    refine ⟨rfl, fun y => ?_, fun y => ?_⟩
    · exact store_grp arg7 Gr S.2.1 ⟨k, hk⟩ _ Xr (fun n => (iter ar ai Xr Xi s n).1) h2 rfl y
    · exact store_grp arg8 Gi S.2.2 ⟨k, hk⟩ _ Xi (fun n => (iter ar ai Xr Xi s n).2) h3 rfl y

/-- What the whole loop leaves: the carried pair at the state after all steps, each block at the states of its steps. -/
theorem loop_final (ar ai : V8 F) (Gr : BufTy.Contents (Elt F) arg7.view.ty) (Gi : BufTy.Contents (Elt F) arg8.view.ty)
    (Xr Xi : FVec F S512x1024 .f32) (hXr : arg7.view.read (Elt F) Gr = Xr) (hXi : arg8.view.read (Elt F) Gi = Xi) (s : V8 F × V8 F) :
    (Gen.st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 ar ai Gr Gi s (Scf.trips k0_t1_loop.lb k0_t1_loop.ub k0_t1_loop.st)).1 = iter ar ai Xr Xi s 64
      ∧ arg7.view.read (Elt F) (arg7.view.writes (Elt F) Gr (Gen.st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 ar ai Gr Gi s
          (Scf.trips k0_t1_loop.lb k0_t1_loop.ub k0_t1_loop.st)).2.1) = outR ar ai Xr Xi s
      ∧ arg8.view.read (Elt F) (arg8.view.writes (Elt F) Gi (Gen.st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 ar ai Gr Gi s
          (Scf.trips k0_t1_loop.lb k0_t1_loop.ub k0_t1_loop.st)).2.2) = outI ar ai Xr Xi s := by
  have e : Scf.trips k0_t1_loop.lb k0_t1_loop.ub k0_t1_loop.st = 64 := by decide +kernel
  rw [e]
  obtain ⟨h1, h2, h3⟩ := loop_value 𝒱 c bd i arg2 harg2 arg3 harg3 arg4 harg4 arg5 harg5 arg6 harg6 arg7 harg7 arg8 harg8 arg9 harg9 arg10 harg10 arg11 harg11 arg12 harg12 arg13 harg13 arg14 harg14 ar ai Gr Gi Xr Xi hXr hXi s 64 (le_refl _)
  refine ⟨h1, funext fun y => ?_, funext fun y => ?_⟩
  · rw [h2 y, if_pos (by omega)]; rfl
  · rw [h3 y, if_pos (by omega)]; rfl

end Loop

end Cert.KernelIdeal.Scan

end
-- ==== Proof.Body.lean ====
/- The scan's kernel body, run once at a tile: what it leaves in each block and in the carried buffers, as the recursion of the scan. -/
module

public import proofs.«01_k».proof.Proof.Scan
public import Idealize.ShloMosaic.Lib.Pipeline.Frame

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body's condition: the tile is the first of its block of channels. -/
abbrev cond (i : grid0.Coords) : Prop := (Scalar.cmpi .ne (Scalar.extui (Scalar.cmpi .eq (BitVec.ofNat 32 (i 1).val) 0#32)) 0#32) = 1#1

section Tile

variable (x0 : Vec F S512x256 .f32) (x1 x2 : Vec F S1x256x1024 .bf16) (x3 x4 : Vec F S1x1024 .f32) (s : V8 F × V8 F)

/-- The block of real parts a tile leaves, from the state it starts with. -/
def tileR : FVec F S512x1024 .f32 := outR (Gen.k0_pay14 x3) (Gen.k0_pay15 x4) (Gen.k0_pay12 x0 x1) (Gen.k0_pay13 x0 x2) s

/-- The block of imaginary parts a tile leaves. -/
def tileI : FVec F S512x1024 .f32 := outI (Gen.k0_pay14 x3) (Gen.k0_pay15 x4) (Gen.k0_pay12 x0 x1) (Gen.k0_pay13 x0 x2) s

/-- The state a tile hands to the next. -/
def next : V8 F × V8 F := iter (Gen.k0_pay14 x3) (Gen.k0_pay15 x4) (Gen.k0_pay12 x0 x1) (Gen.k0_pay13 x0 x2) s 64

end Tile

set_option maxHeartbeats 4000000 in
/-- The body at a first tile: the state starts anew at zero. -/
theorem bodyA (c : Dev nD) (i : grid0.Coords) (arg2 : Memref sig .tc .vmem S512x256 .f32) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S8x1024 .f32) (harg9 : arg9.IsWhole) (arg10 : Memref sig .tc .vmem S8x1024 .f32) (harg10 : arg10.IsWhole) (arg11 : Memref sig .tc .vmem S8x1024 .f32) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (hc0 : cond i)
    (x0 : Vec F S512x256 .f32) (x1 x2 : Vec F S1x256x1024 .bf16) (x3 x4 : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (tileR x0 x1 x2 x3 x4 (Gen.k0_pay7, Gen.k0_pay8)) ∗ owns (c : Thread nD τ) arg8 fullShare (tileI x0 x1 x2 x3 x4 (Gen.k0_pay7, Gen.k0_pay8)) ∗ owns (c : Thread nD τ) arg9 fullShare Gen.k0_pay9 ∗ owns (c : Thread nD τ) arg10 fullShare Gen.k0_pay10
              ∗ owns (c : Thread nD τ) arg11 fullShare (next x0 x1 x2 x3 x4 (Gen.k0_pay7, Gen.k0_pay8)).1 ∗ owns (c : Thread nD τ) arg12 fullShare (next x0 x1 x2 x3 x4 (Gen.k0_pay7, Gen.k0_pay8)).2 ∗ owns (c : Thread nD τ) arg13 fullShare Gen.k0_pay9 ∗ owns (c : Thread nD τ) arg14 fullShare Gen.k0_pay10) -∗ K ⟨⟩))
      ⊢ wp frame (wpE (defs₀ (F := F)) Variants.none c none) E (cc0_s5_scan_bwd i arg2 harg2 arg3 harg3 arg4 harg4 arg5 harg5 arg6 harg6 arg7 harg7 arg8 harg8 arg9 harg9 arg10 harg10 arg11 harg11 arg12 harg12 arg13 harg13 arg14 harg14) K := by
  simp only [Gen.cc0_s5_scan_bwd_eq_skeleton]; unfold Gen.cc0_s5_scan_bwd_skel
  simp only [Gen.k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc0)
  have a1 : bodyA.sl.r c arg5 harg5 x3 = Gen.k0_pay14 x3 := by
    delta bodyA.sl.r
    exact congrArg Gen.k0_pay14 ((View.readAt_full _ _ _).trans (harg5.read_unread _))
  have a2 : bodyA.sl.r_1 c arg6 harg6 x4 = Gen.k0_pay15 x4 := by
    delta bodyA.sl.r_1
    exact congrArg Gen.k0_pay15 ((View.readAt_full _ _ _).trans (harg6.read_unread _))
  have z : (bodyA.sl.v20 c arg11, bodyA.sl.v21 c arg12) = ((Gen.k0_pay7, Gen.k0_pay8) : V8 F × V8 F) := by
    delta bodyA.sl.v20 bodyA.sl.v21
    first | rfl | exact Prod.ext (View.readCov_full _ _ _ _ _) (View.readCov_full _ _ _ _ _)
  have u5 : arg7.view.read (Elt F) (arg7.view.writes (Elt F) arg7.view.junk (bodyA.sl.H5_1 c arg2 harg2 arg3 harg3 x0 x1)) = Gen.k0_pay12 x0 x1 := by
    delta bodyA.sl.H5_1
    exact (View.read_writes_full _ _ _ _ _).trans (congrArg₂ Gen.k0_pay12 ((View.readAt_full _ _ _).trans (harg2.read_unread _)) ((View.readAt_full _ _ _).trans (harg3.read_unread _)))
  have u6 : arg8.view.read (Elt F) (arg8.view.writes (Elt F) arg8.view.junk (bodyA.sl.H6_1 c arg2 harg2 arg4 harg4 x0 x2)) = Gen.k0_pay13 x0 x2 := by
    delta bodyA.sl.H6_1
    exact (View.read_writes_full _ _ _ _ _).trans (congrArg₂ Gen.k0_pay13 ((View.readAt_full _ _ _).trans (harg2.read_unread _)) ((View.readAt_full _ _ _).trans (harg4.read_unread _)))
  obtain ⟨l1, l2, l3⟩ := loop_final Variants.none c none i arg2 harg2 arg3 harg3 arg4 harg4 arg5 harg5 arg6 harg6 arg7 harg7 arg8 harg8 arg9 harg9 arg10 harg10 arg11 harg11 arg12 harg12 arg13 harg13 arg14 harg14 (Gen.k0_pay14 x3) (Gen.k0_pay15 x4) _ _ _ _ u5 u6 (Gen.k0_pay7, Gen.k0_pay8)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    rw [a1, a2, z, View.writes_append]
    exact l2
  isplitl [H6]
  · iexists _; isplitr; swap; · iexact H6
    ipureintro
    rw [a1, a2, z, View.writes_append]
    exact l3
  isplitl [H7]
  · iexists _; isplitr; swap; · iexact H7
    ipureintro
    exact (View.read_writes_full _ _ _ _ _).trans (by first | rfl | exact View.readCov_full _ _ _ _ _)
  isplitl [H8]
  · iexists _; isplitr; swap; · iexact H8
    ipureintro
    exact (View.read_writes_full _ _ _ _ _).trans (by first | rfl | exact View.readCov_full _ _ _ _ _)
  isplitl [HS0]
  · iexists _; isplitr; swap; · iexact HS0
    ipureintro
    rw [a1, a2, z]
    refine (View.read_writes_full _ _ _ _ _).trans ?_
    rw [l1]; unfold Gen.k0_pay3; exact shapeCast_self _ _
  isplitl [HS1]
  · iexists _; isplitr; swap; · iexact HS1
    ipureintro
    rw [a1, a2, z]
    refine (View.read_writes_full _ _ _ _ _).trans ?_
    rw [l1]; unfold Gen.k0_pay4; exact shapeCast_self _ _
  isplitl [HS2]
  · iexists _; isplitr; swap; · iexact HS2
    ipureintro
    exact (View.read_writes_full _ _ _ _ _).trans (by unfold Gen.k0_pay5; exact (shapeCast_self _ _).trans (by first | rfl | exact View.readCov_full _ _ _ _ _))
  iexists _; isplitr; swap; · iexact HS3
  ipureintro
  exact (View.read_writes_full _ _ _ _ _).trans (by unfold Gen.k0_pay6; exact (shapeCast_self _ _).trans (by first | rfl | exact View.readCov_full _ _ _ _ _))

set_option maxHeartbeats 4000000 in
/-- The body at a later tile: the state goes on from what the tile before left. -/
theorem bodyB (c : Dev nD) (i : grid0.Coords) (arg2 : Memref sig .tc .vmem S512x256 .f32) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S8x1024 .f32) (harg9 : arg9.IsWhole) (arg10 : Memref sig .tc .vmem S8x1024 .f32) (harg10 : arg10.IsWhole) (arg11 : Memref sig .tc .vmem S8x1024 .f32) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (hc0 : ¬cond i)
    (x0 : Vec F S512x256 .f32) (x1 x2 : Vec F S1x256x1024 .bf16) (x3 x4 : Vec F S1x1024 .f32) (s : V8 F × V8 F) (p q : V8 F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare s.1 ∗ owns (c : Thread nD τ) arg12 fullShare s.2 ∗ owns (c : Thread nD τ) arg13 fullShare p ∗ owns (c : Thread nD τ) arg14 fullShare q
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (tileR x0 x1 x2 x3 x4 s) ∗ owns (c : Thread nD τ) arg8 fullShare (tileI x0 x1 x2 x3 x4 s) ∗ owns (c : Thread nD τ) arg9 fullShare p ∗ owns (c : Thread nD τ) arg10 fullShare q
              ∗ owns (c : Thread nD τ) arg11 fullShare (next x0 x1 x2 x3 x4 s).1 ∗ owns (c : Thread nD τ) arg12 fullShare (next x0 x1 x2 x3 x4 s).2 ∗ owns (c : Thread nD τ) arg13 fullShare p ∗ owns (c : Thread nD τ) arg14 fullShare q) -∗ K ⟨⟩))
      ⊢ wp frame (wpE (defs₀ (F := F)) Variants.none c none) E (cc0_s5_scan_bwd i arg2 harg2 arg3 harg3 arg4 harg4 arg5 harg5 arg6 harg6 arg7 harg7 arg8 harg8 arg9 harg9 arg10 harg10 arg11 harg11 arg12 harg12 arg13 harg13 arg14 harg14) K := by
  simp only [Gen.cc0_s5_scan_bwd_eq_skeleton]; unfold Gen.cc0_s5_scan_bwd_skel
  simp only [Gen.k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%fs0, %hs0, HS0⟩, ⟨%fs1, %hs1, HS1⟩, ⟨%fs2, %hs2, HS2⟩, ⟨%fs3, %hs3, HS3⟩, Hk⟩
  obtain rfl := harg2.eq_unread hf0; obtain rfl := harg3.eq_unread hf1; obtain rfl := harg4.eq_unread hf2; obtain rfl := harg5.eq_unread hf3; obtain rfl := harg6.eq_unread hf4
  obtain rfl := harg11.eq_unread hs0; obtain rfl := harg12.eq_unread hs1; obtain rfl := harg13.eq_unread hs2; obtain rfl := harg14.eq_unread hs3
  sl_exec (disch := first | sl_exact hc0)
  have a1 : bodyB.sl.r c arg5 harg5 x3 = Gen.k0_pay14 x3 := by
    delta bodyB.sl.r
    exact congrArg Gen.k0_pay14 ((View.readAt_full _ _ _).trans (harg5.read_unread _))
  have a2 : bodyB.sl.r_1 c arg6 harg6 x4 = Gen.k0_pay15 x4 := by
    delta bodyB.sl.r_1
    exact congrArg Gen.k0_pay15 ((View.readAt_full _ _ _).trans (harg6.read_unread _))
  have z : (bodyB.sl.r_2 c arg11 harg11 s, bodyB.sl.r_3 c arg12 harg12 s) = (s : V8 F × V8 F) := by
    delta bodyB.sl.r_2 bodyB.sl.r_3
    exact Prod.ext ((View.readAt_full _ _ _).trans (harg11.read_unread _)) ((View.readAt_full _ _ _).trans (harg12.read_unread _))
  have u5 : arg7.view.read (Elt F) (arg7.view.writes (Elt F) arg7.view.junk (bodyB.sl.H5_1 c arg2 harg2 arg3 harg3 x0 x1)) = Gen.k0_pay12 x0 x1 := by
    delta bodyB.sl.H5_1
    exact (View.read_writes_full _ _ _ _ _).trans (congrArg₂ Gen.k0_pay12 ((View.readAt_full _ _ _).trans (harg2.read_unread _)) ((View.readAt_full _ _ _).trans (harg3.read_unread _)))
  have u6 : arg8.view.read (Elt F) (arg8.view.writes (Elt F) arg8.view.junk (bodyB.sl.H6_1 c arg2 harg2 arg4 harg4 x0 x2)) = Gen.k0_pay13 x0 x2 := by
    delta bodyB.sl.H6_1
    exact (View.read_writes_full _ _ _ _ _).trans (congrArg₂ Gen.k0_pay13 ((View.readAt_full _ _ _).trans (harg2.read_unread _)) ((View.readAt_full _ _ _).trans (harg4.read_unread _)))
  obtain ⟨l1, l2, l3⟩ := loop_final Variants.none c none i arg2 harg2 arg3 harg3 arg4 harg4 arg5 harg5 arg6 harg6 arg7 harg7 arg8 harg8 arg9 harg9 arg10 harg10 arg11 harg11 arg12 harg12 arg13 harg13 arg14 harg14 (Gen.k0_pay14 x3) (Gen.k0_pay15 x4) _ _ _ _ u5 u6 s
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    rw [a1, a2, z, View.writes_append]
    exact l2
  isplitl [H6]
  · iexists _; isplitr; swap; · iexact H6
    ipureintro
    rw [a1, a2, z, View.writes_append]
    exact l3
  isplitl [H7]
  · iexists _; isplitr; swap; · iexact H7
    ipureintro
    exact (View.read_writes_full _ _ _ _ _).trans ((View.readAt_full _ _ _).trans (harg13.read_unread _))
  isplitl [H8]
  · iexists _; isplitr; swap; · iexact H8
    ipureintro
    exact (View.read_writes_full _ _ _ _ _).trans ((View.readAt_full _ _ _).trans (harg14.read_unread _))
  isplitl [HS0]
  · iexists _; isplitr; swap; · iexact HS0
    ipureintro
    rw [a1, a2, z]
    refine (View.read_writes_full _ _ _ _ _).trans ?_
    rw [l1]; unfold Gen.k0_pay3; exact shapeCast_self _ _
  isplitl [HS1]
  · iexists _; isplitr; swap; · iexact HS1
    ipureintro
    rw [a1, a2, z]
    refine (View.read_writes_full _ _ _ _ _).trans ?_
    rw [l1]; unfold Gen.k0_pay4; exact shapeCast_self _ _
  isplitl [HS2]
  · iexists _; isplitr; swap; · iexact HS2
    ipureintro
    exact (View.read_writes_full _ _ _ _ _).trans (by unfold Gen.k0_pay5; exact (shapeCast_self _ _).trans ((View.readAt_full _ _ _).trans (harg13.read_unread _)))
  iexists _; isplitr; swap; · iexact HS3
  ipureintro
  exact (View.read_writes_full _ _ _ _ _).trans (by unfold Gen.k0_pay6; exact (shapeCast_self _ _).trans ((View.readAt_full _ _ _).trans (harg14.read_unread _)))

end Cert.KernelIdeal.Scan

end
-- ==== Proof.Run.lean ====
/- The run of the scan's pipeline: what the blocks and the carried buffers hold after each of the 32 tiles. -/
module

public import proofs.«01_k».proof.Proof.Body
public import proofs.«01_k».proof.Proof.Gen.KernelIdeal.Frame
public import Idealize.ShloMosaic.Lib.Claim
public import Idealize.ShloMosaic.Lib.Pipeline.ValueKit.Geometry

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition holds at the first of the eight tiles of each block of channels. -/
theorem hcond (t : Fin cfg0.N) : cond (grid0.coords t) ↔ t.val % 8 = 0 := by
  have ht : t.val < 32 := Nat.lt_of_lt_of_eq t.isLt Gen.N_0
  have e1 : (grid0.coords t 1).val = t.val / 1 % 8 := Pipeline.Grid.coords_val t 1 (by decide) rfl
  simp only [cond, e1]
  word_cmp

abbrev ms0 (t : Fin cfg0.N) : Memref sig .tc .vmem S512x256 .f32 := win0_0.stage (cfg0.slots t 0)
abbrev hs0 (t : Fin cfg0.N) : (ms0 t).IsWhole := Gen.hstage0_0 ((cfg0.slots t 0).cast Gen.nbuf0_0)
abbrev ms1 (t : Fin cfg0.N) : Memref sig .tc .vmem S1x256x1024 .bf16 := win0_1.stage (cfg0.slots t 1)
abbrev hs1 (t : Fin cfg0.N) : (ms1 t).IsWhole := Gen.hstage0_1 ((cfg0.slots t 1).cast Gen.nbuf0_1)
abbrev ms2 (t : Fin cfg0.N) : Memref sig .tc .vmem S1x256x1024 .bf16 := win0_2.stage (cfg0.slots t 2)
abbrev hs2 (t : Fin cfg0.N) : (ms2 t).IsWhole := Gen.hstage0_2 ((cfg0.slots t 2).cast Gen.nbuf0_2)
abbrev ms3 (t : Fin cfg0.N) : Memref sig .tc .vmem S1x1024 .f32 := win0_3.stage (cfg0.slots t 3)
abbrev hs3 (t : Fin cfg0.N) : (ms3 t).IsWhole := Gen.hstage0_3 ((cfg0.slots t 3).cast Gen.nbuf0_3)
abbrev ms4 (t : Fin cfg0.N) : Memref sig .tc .vmem S1x1024 .f32 := win0_4.stage (cfg0.slots t 4)
abbrev hs4 (t : Fin cfg0.N) : (ms4 t).IsWhole := Gen.hstage0_4 ((cfg0.slots t 4).cast Gen.nbuf0_4)
abbrev ms5 (t : Fin cfg0.N) : Memref sig .tc .vmem S512x1024 .f32 := win0_5.stage (cfg0.slots t 5)
abbrev hs5 (t : Fin cfg0.N) : (ms5 t).IsWhole := Gen.hstage0_5 ((cfg0.slots t 5).cast Gen.nbuf0_5)
abbrev ms6 (t : Fin cfg0.N) : Memref sig .tc .vmem S512x1024 .f32 := win0_6.stage (cfg0.slots t 6)
abbrev hs6 (t : Fin cfg0.N) : (ms6 t).IsWhole := Gen.hstage0_6 ((cfg0.slots t 6).cast Gen.nbuf0_6)
abbrev ms7 (t : Fin cfg0.N) : Memref sig .tc .vmem S8x1024 .f32 := win0_7.stage (cfg0.slots t 7)
abbrev hs7 (t : Fin cfg0.N) : (ms7 t).IsWhole := Gen.hstage0_7 ((cfg0.slots t 7).cast Gen.nbuf0_7)
abbrev ms8 (t : Fin cfg0.N) : Memref sig .tc .vmem S8x1024 .f32 := win0_8.stage (cfg0.slots t 8)
abbrev hs8 (t : Fin cfg0.N) : (ms8 t).IsWhole := Gen.hstage0_8 ((cfg0.slots t 8).cast Gen.nbuf0_8)
abbrev sc0 : Memref sig .tc .vmem S8x1024 .f32 := Memref.whole cc0_scratch0
abbrev sc1 : Memref sig .tc .vmem S8x1024 .f32 := Memref.whole cc0_scratch1
abbrev sc2 : Memref sig .tc .vmem S8x1024 .f32 := Memref.whole cc0_scratch2
abbrev sc3 : Memref sig .tc .vmem S8x1024 .f32 := Memref.whole cc0_scratch3

/-- What the launch hands over: every carried buffer at something. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [Gen.scopedRest0_eq]; simp only [sc0, sc1, sc2, sc3, owns_whole]; try rfl

/-- The state at zero. -/
def zero8 : V8 F × V8 F := (Gen.k0_pay7, Gen.k0_pay8)

/-- The state after tile `n`. -/
def stAt (c : Dev nD) : (n : ℕ) → n < cfg0.N → V8 F × V8 F
  | 0, h => next (Gen.iblk m c 0 ⟨0, h⟩) (Gen.iblk m c 1 ⟨0, h⟩) (Gen.iblk m c 2 ⟨0, h⟩) (Gen.iblk m c 3 ⟨0, h⟩) (Gen.iblk m c 4 ⟨0, h⟩) zero8
  | n + 1, h => next (Gen.iblk m c 0 ⟨n + 1, h⟩) (Gen.iblk m c 1 ⟨n + 1, h⟩) (Gen.iblk m c 2 ⟨n + 1, h⟩) (Gen.iblk m c 3 ⟨n + 1, h⟩) (Gen.iblk m c 4 ⟨n + 1, h⟩)
      (if (n + 1) % 8 = 0 then zero8 else stAt c n (Nat.lt_of_succ_lt h))

/-- The state a tile starts with. -/
def start (c : Dev nD) (t : Fin cfg0.N) : V8 F × V8 F :=
  if t.val % 8 = 0 then zero8 else stAt m c (t.val - 1) (Nat.lt_of_le_of_lt (Nat.sub_le _ _) t.isLt)

theorem stAt_eq (c : Dev nD) (t : Fin cfg0.N) : stAt m c t.val t.isLt = next (Gen.iblk m c 0 t) (Gen.iblk m c 1 t) (Gen.iblk m c 2 t) (Gen.iblk m c 3 t) (Gen.iblk m c 4 t) (start m c t) := by
  obtain ⟨n, hn⟩ := t
  cases n with
  | zero => rfl
  | succ n => rfl

/-- The invariant before tile `n`. -/
def Phi (c : Dev nD) : (n : ℕ) → n ≤ cfg0.N → sProp 𝕄
  | 0, _ => Pipeline.ΦA spec0 c
  | n + 1, hn => iprop(iprop(owns (c : Thread nD τ) sc0 fullShare (stAt m c n hn).1 ∗ owns (c : Thread nD τ) sc1 fullShare (stAt m c n hn).2 ∗ owns (c : Thread nD τ) sc2 fullShare Gen.k0_pay9 ∗ owns (c : Thread nD τ) sc3 fullShare Gen.k0_pay10) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n < cfg0.N) : Phi m c (n + 1) hn = iprop(iprop(owns (c : Thread nD τ) sc0 fullShare (stAt m c n hn).1 ∗ owns (c : Thread nD τ) sc1 fullShare (stAt m c n hn).2 ∗ owns (c : Thread nD τ) sc2 fullShare Gen.k0_pay9 ∗ owns (c : Thread nD τ) sc3 fullShare Gen.k0_pay10) ∗ (∃ r, prngReg c r)) := rfl

theorem Phi_pos (c : Dev nD) (n : ℕ) (h : n ≤ cfg0.N) (hz : n ≠ 0) :
    Phi m c n h = iprop(iprop(owns (c : Thread nD τ) sc0 fullShare (stAt m c (n - 1) (by omega)).1 ∗ owns (c : Thread nD τ) sc1 fullShare (stAt m c (n - 1) (by omega)).2 ∗ owns (c : Thread nD τ) sc2 fullShare Gen.k0_pay9 ∗ owns (c : Thread nD τ) sc3 fullShare Gen.k0_pay10) ∗ (∃ r, prngReg c r)) := by
  cases n with
  | zero => exact absurd rfl hz
  | succ n => rfl

/-- The pipeline's proof data: the inputs' blocks as they came, the two results' blocks at the tile's states, the two
    powers' blocks at one and zero. -/
def dats (_ : Fin 1) (c : Dev nD) : Dat τ (Elt F) Unit ℕ (UR sig nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => Gen.iblk m c 2 t
    | ⟨3, _⟩ => Gen.iblk m c 3 t
    | ⟨4, _⟩ => Gen.iblk m c 4 t
    | ⟨5, _⟩ => tileR (Gen.iblk m c 0 t) (Gen.iblk m c 1 t) (Gen.iblk m c 2 t) (Gen.iblk m c 3 t) (Gen.iblk m c 4 t) (start m c t)
    | ⟨6, _⟩ => tileI (Gen.iblk m c 0 t) (Gen.iblk m c 1 t) (Gen.iblk m c 2 t) (Gen.iblk m c 3 t) (Gen.iblk m c 4 t) (start m c t)
    | ⟨7, _⟩ => Gen.k0_pay9
    | ⟨8, _⟩ => Gen.k0_pay10
  Φ t := Phi m c t.val (Nat.le_of_lt_succ t.isLt)
  q _ := fullShare
  owed _ := 0

theorem A_eq (c : Dev nD) (w : Fin cfg0.W) : (dats m 0 c).A w = Gen.V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; exact Pipeline.Dat.Φ_castSucc (Phi m c) t

theorem after0 (c : Dev nD) (t : Fin cfg0.N) : (dats m 0 c).after 0 t = Gen.iblk m c 0 t := by dsimp only [dats]
theorem after1 (c : Dev nD) (t : Fin cfg0.N) : (dats m 0 c).after 1 t = Gen.iblk m c 1 t := by dsimp only [dats]
theorem after2 (c : Dev nD) (t : Fin cfg0.N) : (dats m 0 c).after 2 t = Gen.iblk m c 2 t := by dsimp only [dats]
theorem after3 (c : Dev nD) (t : Fin cfg0.N) : (dats m 0 c).after 3 t = Gen.iblk m c 3 t := by dsimp only [dats]
theorem after4 (c : Dev nD) (t : Fin cfg0.N) : (dats m 0 c).after 4 t = Gen.iblk m c 4 t := by dsimp only [dats]
theorem after5 (c : Dev nD) (t : Fin cfg0.N) : (dats m 0 c).after 5 t = tileR (Gen.iblk m c 0 t) (Gen.iblk m c 1 t) (Gen.iblk m c 2 t) (Gen.iblk m c 3 t) (Gen.iblk m c 4 t) (start m c t) := by dsimp only [dats]
theorem after6 (c : Dev nD) (t : Fin cfg0.N) : (dats m 0 c).after 6 t = tileI (Gen.iblk m c 0 t) (Gen.iblk m c 1 t) (Gen.iblk m c 2 t) (Gen.iblk m c 3 t) (Gen.iblk m c 4 t) (start m c t) := by dsimp only [dats]
theorem after7 (c : Dev nD) (t : Fin cfg0.N) : (dats m 0 c).after 7 t = (Gen.k0_pay9 : V8 F) := by dsimp only [dats]
theorem after8 (c : Dev nD) (t : Fin cfg0.N) : (dats m 0 c).after 8 t = (Gen.k0_pay10 : V8 F) := by dsimp only [dats]

theorem before0 (c : Dev nD) (t : Fin cfg0.N) (d) : (dats m 0 c).before 0 t d = Gen.iblk m c 0 t :=
  Gen.before0_0_of m (dats m 0 c) (A_eq m c 0) (after0 m c) t d
theorem before1 (c : Dev nD) (t : Fin cfg0.N) (d) : (dats m 0 c).before 1 t d = Gen.iblk m c 1 t :=
  Gen.before0_1_of m (dats m 0 c) (A_eq m c 1) (after1 m c) t d
theorem before2 (c : Dev nD) (t : Fin cfg0.N) (d) : (dats m 0 c).before 2 t d = Gen.iblk m c 2 t :=
  Gen.before0_2_of m (dats m 0 c) (A_eq m c 2) (after2 m c) t d
theorem before3 (c : Dev nD) (t : Fin cfg0.N) (d) : (dats m 0 c).before 3 t d = Gen.iblk m c 3 t :=
  Gen.before0_3_of m (dats m 0 c) (A_eq m c 3) (after3 m c) t d
theorem before4 (c : Dev nD) (t : Fin cfg0.N) (d) : (dats m 0 c).before 4 t d = Gen.iblk m c 4 t :=
  Gen.before0_4_of m (dats m 0 c) (A_eq m c 4) (after4 m c) t d

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t))

set_option maxHeartbeats 9600000 in
/-- The body at any tile. -/
theorem sound_body (c : Dev nD) (t : Fin cfg0.N) :
    bodyPre m c t ⊢ wp frame (wpE (defs₀ (F := F)) Variants.none c none) Set.univ (Gen.bodyAt0 t) (fun _ => bodyPost m c t) := by
  unfold bodyPre bodyPost Gen.bodyAt0
  simp only [before0, before1, before2, before3, before4]
  rw [show (dats m 0 c).owesAt () t.succ = (dats m 0 c).owesAt () t.castSucc from rfl,
    after0, after1, after2, after3, after4, after5, after6, after7, after8]
  rw [show (dats m 0 c).Φ t.succ = Phi m c (t.val + 1) t.isLt from rfl, Phi_succ, stAt_eq]
  by_cases h0 : t.val % 8 = 0
  · rw [show start m c t = zero8 from if_pos h0]
    by_cases hz : t.val = 0
    · rw [Phi_castSucc m c t, Phi_zero m c _ _ hz, PhiA_eq]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (bodyA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) ((hcond t).mpr h0) (Gen.iblk m c 0 t) (Gen.iblk m c 1 t) (Gen.iblk m c 2 t) (Gen.iblk m c 3 t) (Gen.iblk m c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      isplitl [HS3]; · iexact HS3
      iintro ⟨H0, H1, H2, H3, H4, H5, H6, H7, H8, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [Phi_castSucc m c t, Phi_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (bodyA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) ((hcond t).mpr h0) (Gen.iblk m c 0 t) (Gen.iblk m c 1 t) (Gen.iblk m c 2 t) (Gen.iblk m c 3 t) (Gen.iblk m c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, H7, H8, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
  · have hz : t.val ≠ 0 := fun h => h0 (by rw [h])
    rw [show start m c t = stAt m c (t.val - 1) (Nat.lt_of_le_of_lt (Nat.sub_le _ _) t.isLt) from if_neg h0]
    · rw [Phi_castSucc m c t, Phi_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (bodyB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) (fun h => h0 ((hcond t).mp h)) (Gen.iblk m c 0 t) (Gen.iblk m c 1 t) (Gen.iblk m c 2 t) (Gen.iblk m c 3 t) (Gen.iblk m c 4 t) (stAt m c (t.val - 1) (Nat.lt_of_le_of_lt (Nat.sub_le _ _) t.isLt)) Gen.k0_pay9 Gen.k0_pay10 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      isplitl [HS3]; · iexact HS3
      iintro ⟨H0, H1, H2, H3, H4, H5, H6, H7, H8, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

theorem defs₀_row (t : Fin cfg0.N) :
    defs₀ (F := F) .tc cfg0.body (cfg0.bodyArgs t (cfg0.slots t)) = Gen.bodyAt0 t := by
  unfold defs₀; rw [Defs.onTc_tc]

theorem body_obligation (c : Dev nD) : BodyObligation (dats (F := F) m 0 c) (defs₀ (F := F)) Variants.none () Set.univ := fun t => by
  rw [Gen.bigSep_W0, Gen.bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 32 := Gen.N_0; omega
  rw [show (dats m 0 c).Φ (Fin.last cfg0.N) = Phi m c (Fin.last cfg0.N).val (Nat.le_of_lt_succ (Fin.last cfg0.N).isLt) from rfl,
    Phi_pos m c _ _ ht, PhiA_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

set_option backward.isDefEq.respectTransparency.types false in
/-- The run: every array ends at what the pipeline wrote into it, every other buffer at its contents before the launch,
    and every counter at zero. -/
theorem run_main : θ_run defs (onTc (τ := τ) (main (F := F))) (s₀ m ρ) (fun r => Pipeline.FramePost cfgs (dats m) 0 (Gen.V m) r ∧ r.2.sem = fun _ => 0) :=
  Pipeline.θ_run_frame_track (Q' := _) cfgs (dats m) (0 : Fin 1) Gen.launch0 defs₀ Variants.none m ρ main
    (hbody := fun c => (body_obligation m c).loose) (hshare := fun c => (dats m 0 c).share_full fun _ => rfl)
    (howed := fun _ _ => rfl) (V := Gen.V m) (hmain := Gen.hmain m Variants.none) (hA := A_eq m) (hin := hin m) (hout := hout m)

/-- The frame: the arguments end unchanged and every counter is zero, over any float values. -/
theorem run_frame : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run defs _ _).mono (fun _ h => ⟨fun c =>
    ⟨((h.1.in_eq c 0 rfl).trans (A_eq m c 0)).trans (Gen.V_main_arg0 m c),
      ((h.1.in_eq c 3 rfl).trans (A_eq m c 3)).trans (Gen.V_main_arg1 m c),
      (h.1.rest_eq c main_arg2 (by decide)).trans (Gen.V_main_arg2 m c),
      (h.1.rest_eq c main_arg3 (by decide)).trans (Gen.V_main_arg3 m c),
      (h.1.rest_eq c main_arg4 (by decide)).trans (Gen.V_main_arg4 m c)⟩, h.2⟩) (run_main m ρ)

end Cert.KernelIdeal.Scan

end
-- ==== Proof.Rec.lean ====
/-
  The adjoint of a linear recurrence with a complex coefficient, at one lane, as a plain sequence.
-/
module

public import Idealize.ShloMosaic.Lib.Pointwise

@[expose] public section

noncomputable section

namespace Cert.Adjoint

open Idealize.ShloMosaic

/-- The adjoint states at one lane, counted from the last time step: state `n + 1` is the conjugate coefficient times
    state `n` plus the cotangent that is `n` steps before the last. -/
def seq (ar ai : EReal) (xr xi : ℕ → EReal) : ℕ → EReal × EReal
  | 0 => (0, 0)
  | n + 1 =>
    (ar * (seq ar ai xr xi n).1 + ai * (seq ar ai xr xi n).2 + xr n,
      ar * (seq ar ai xr xi n).2 - ai * (seq ar ai xr xi n).1 + xi n)

theorem seq_succ (ar ai : EReal) (xr xi : ℕ → EReal) (n : ℕ) :
    seq ar ai xr xi (n + 1) = (ar * (seq ar ai xr xi n).1 + ai * (seq ar ai xr xi n).2 + xr n,
      ar * (seq ar ai xr xi n).2 - ai * (seq ar ai xr xi n).1 + xi n) := rfl

/-- One step with the coefficient's imaginary part negated beforehand. -/
theorem seq_succ_neg (ar ai : EReal) (xr xi : ℕ → EReal) (n : ℕ) :
    (ar * (seq ar ai xr xi n).1 - -ai * (seq ar ai xr xi n).2 + xr n,
      ar * (seq ar ai xr xi n).2 + -ai * (seq ar ai xr xi n).1 + xi n) = seq ar ai xr xi (n + 1) := by
  rw [seq_succ, EReal.neg_mul, EReal.neg_mul, sub_eq_add_neg, neg_neg, sub_eq_add_neg]

/-- The cotangent of the states' real part at time row `t` and state `q`: the row of `dy` against the state's weights. -/
def cotR (dy : FVec Ideal ⟨2, ![4096, 1024]⟩ .f32) (w : FVec Ideal ⟨3, ![4, 1024, 256]⟩ .bf16) (t q : Fin 4096) : EReal :=
  ∑ k : Fin 256, (dy (ix2 t ⟨q.val / 1024 * 256 + k.val, by omega⟩) : EReal)
    * w (ix3 ⟨q.val / 1024, by omega⟩ ⟨q.val % 1024, by omega⟩ k)

/-- The cotangent of the states' imaginary part: the same with `dy` negated. -/
def cotI (dy : FVec Ideal ⟨2, ![4096, 1024]⟩ .f32) (w : FVec Ideal ⟨3, ![4, 1024, 256]⟩ .bf16) (t q : Fin 4096) : EReal :=
  ∑ k : Fin 256, -(dy (ix2 t ⟨q.val / 1024 * 256 + k.val, by omega⟩) : EReal)
    * w (ix3 ⟨q.val / 1024, by omega⟩ ⟨q.val % 1024, by omega⟩ k)

/-- The row of segment `g` that is `n` steps before the last. -/
def row (g : Fin 8) (n : ℕ) : Fin 4096 := ⟨(511 - n) * 8 + g.val, by omega⟩

/-- The adjoint states of segment `g` and state `q`, from the last time step back. -/
def adj (dy : FVec Ideal ⟨2, ![4096, 1024]⟩ .f32) (ar ai : FVec Ideal ⟨2, ![1, 4096]⟩ .f32)
    (wr wi : FVec Ideal ⟨3, ![4, 1024, 256]⟩ .bf16) (g : Fin 8) (q : Fin 4096) : ℕ → EReal × EReal :=
  seq (ar (ix2 0 q)) (ai (ix2 0 q)) (fun n => cotR dy wr (row g n) q) (fun n => cotI dy wi (row g n) q)

end Cert.Adjoint

end
-- ==== Proof.Value.lean ====
/- What the scan's two result arrays hold: the adjoint states, at the extended reals. -/
module

public import proofs.«01_k».proof.Proof.Run
public import proofs.«01_k».proof.Proof.Rec
public import Idealize.ShloMosaic.Lib.Pipeline.ValueKit
public import Idealize.ShloMosaic.Lib.Pointwise
public import Idealize.ShloMosaic.Lib.StableHlo.RunRead

@[expose] public section

set_option maxRecDepth 16384

noncomputable section

namespace Cert.KernelIdeal.Scan

open Idealize.ShloMosaic Idealize.ShloMosaic.TcCoe Idealize.ShloMosaic.Tactic Idealize.SL.Sem
open Cert.Adjoint

/-! ## One tile -/

theorem at8_eq (g : Fin 8) (q : Fin 1024) (hr : g.val < 8) (hq : q.val < 1024) : at8 g.val q.val hr hq = ix2 g q := by
  funext a; match a with
  | ⟨0, _⟩ => rfl
  | ⟨1, _⟩ => rfl

theorem low_ix2 (r : Fin 512) (q : Fin 1024) : low (ix2 r q) = ix2 ⟨r.val % 8, by omega⟩ q := by
  funext a; match a with
  | ⟨0, _⟩ => rfl
  | ⟨1, _⟩ => rfl

theorem grp_apply (X : FVec Ideal S512x1024 .f32) (k : ℕ) (hk : k < 64) (g : Fin 8) (q : Fin 1024) :
    grp X k (ix2 g q) = X (ix2 ⟨8 * k + g.val, by omega⟩ q) := by
  refine congrArg X (funext fun a => Fin.ext ?_)
  match a with
  | ⟨0, _⟩ => exact Nat.mod_eq_of_lt (by omega : 8 * k + g.val < 512)
  | ⟨1, _⟩ => rfl

/-- The tile's steps at one lane go on with the adjoint sequence from where the tile starts. -/
theorem iter_apply (ar ai : EReal) (xr xi : ℕ → EReal) (n : ℕ) (Ar Ai : V8 Ideal) (Xr Xi : FVec Ideal S512x1024 .f32)
    (s : V8 Ideal × V8 Ideal) (g : Fin 8) (q : Fin 1024) (hr : Ar (ix2 g q) = ar) (hi : Ai (ix2 g q) = -ai)
    (hxr : ∀ k (hk : k < 64), Xr (ix2 ⟨8 * (63 - k) + g.val, by omega⟩ q) = xr (n + k))
    (hxi : ∀ k (hk : k < 64), Xi (ix2 ⟨8 * (63 - k) + g.val, by omega⟩ q) = xi (n + k))
    (h1 : s.1 (ix2 g q) = (seq ar ai xr xi n).1) (h2 : s.2 (ix2 g q) = (seq ar ai xr xi n).2) :
    ∀ k, k ≤ 64 → (iter Ar Ai Xr Xi s k).1 (ix2 g q) = (seq ar ai xr xi (n + k)).1
      ∧ (iter Ar Ai Xr Xi s k).2 (ix2 g q) = (seq ar ai xr xi (n + k)).2
  | 0, _ => ⟨h1, h2⟩
  | k + 1, hk => by
    obtain ⟨e1, e2⟩ := iter_apply ar ai xr xi n Ar Ai Xr Xi s g q hr hi hxr hxi h1 h2 k (by omega)
    have hs := seq_succ_neg ar ai xr xi (n + k)
    have g1 := (grp_apply Xr (63 - k) (by omega) g q).trans (hxr k (by omega))
    have g2 := (grp_apply Xi (63 - k) (by omega) g q).trans (hxi k (by omega))
    refine ⟨Eq.trans ?_ (congrArg Prod.fst hs), Eq.trans ?_ (congrArg Prod.snd hs)⟩
    · show addf (subf (mulf Ar (iter Ar Ai Xr Xi s k).1) (mulf Ai (iter Ar Ai Xr Xi s k).2)) (grp Xr (63 - k)) (ix2 g q) = _
      pointwise
      rw [e1, e2, hr, hi, g1]
    · show addf (addf (mulf Ar (iter Ar Ai Xr Xi s k).2) (mulf Ai (iter Ar Ai Xr Xi s k).1)) (grp Xi (63 - k)) (ix2 g q) = _
      pointwise
      rw [e1, e2, hr, hi, g2]

/-! ## The blocks -/

variable (m : (ℓ : Loc nD τ sig) → Buf (Elt Ideal) ℓ) (ρ : Dev nD → PrngReg) (c : Dev nD)

abbrev dy : FVec Ideal S4096x1024 .f32 := m ((c : Thread nD τ).loc main_arg0)
abbrev cr : FVec Ideal S1x4096 .f32 := m ((c : Thread nD τ).loc main_arg1)
abbrev ci : FVec Ideal S1x4096 .f32 := m ((c : Thread nD τ).loc main_arg2)
abbrev wr : FVec Ideal S4x1024x256 .bf16 := m ((c : Thread nD τ).loc main_arg3)
abbrev wi : FVec Ideal S4x1024x256 .bf16 := m ((c : Thread nD τ).loc main_arg4)

theorem V_wr : Gen.V m c main_v0 = (transpose S4x256x1024 [0, 2, 1] (wr m c) Gen.transposes_S4x1024x256_S4x256x1024_0_2_1 : FVec Ideal S4x256x1024 .bf16) := by
  unfold Gen.V
  (simp only [Gen.hostOps0]; after_reads_simp) <;> rfl

theorem V_wi : Gen.V m c main_v2 = (Host.negf (transpose S4x256x1024 [0, 2, 1] (wi m c) Gen.transposes_S4x1024x256_S4x256x1024_0_2_1) : FVec Ideal S4x256x1024 .bf16) := by
  unfold Gen.V
  (simp only [Gen.hostOps0]; after_reads_simp) <;> rfl

theorem V_ci : Gen.V m c main_v3 = (Host.negf (ci m c) : FVec Ideal S1x4096 .f32) := by
  unfold Gen.V
  (simp only [Gen.hostOps0]; after_reads_simp) <;> rfl

theorem idx0 : ∀ t : Fin cfg0.N, win0_0.index t = ![7 - t.val % 8, t.val / 8] := (by decide +kernel : ∀ t : Fin grid0.N, _)
theorem idx1 : ∀ t : Fin cfg0.N, win0_1.index t = ![t.val / 8, 0, 0] := (by decide +kernel : ∀ t : Fin grid0.N, _)
theorem idx2 : ∀ t : Fin cfg0.N, win0_2.index t = ![t.val / 8, 0, 0] := (by decide +kernel : ∀ t : Fin grid0.N, _)
theorem idx3 : ∀ t : Fin cfg0.N, win0_3.index t = ![0, t.val / 8] := (by decide +kernel : ∀ t : Fin grid0.N, _)
theorem idx4 : ∀ t : Fin cfg0.N, win0_4.index t = ![0, t.val / 8] := (by decide +kernel : ∀ t : Fin grid0.N, _)
theorem idx5 : ∀ t : Fin cfg0.N, win0_5.index t = ![7 - t.val % 8, t.val / 8] := (by decide +kernel : ∀ t : Fin grid0.N, _)
theorem idx6 : ∀ t : Fin cfg0.N, win0_6.index t = ![7 - t.val % 8, t.val / 8] := (by decide +kernel : ∀ t : Fin grid0.N, _)

theorem lt32 (t : Fin cfg0.N) : t.val < 32 := Nat.lt_of_lt_of_eq t.isLt Gen.N_0

theorem blk0 (t : Fin cfg0.N) (r : Fin 512) (k : Fin 256) : Gen.iblk m c 0 t (ix2 r k)
    = dy m c (ix2 ⟨(7 - t.val % 8) * 512 + r.val, by omega⟩ ⟨t.val / 8 * 256 + k.val, by have := lt32 t; omega⟩) := by
  unfold Gen.iblk
  rw [View.read_apply]
  refine (congrFun (Gen.V_main_arg0 m c) _).trans ?_
  blk_ext [idx0 t]

theorem blk1 (t : Fin cfg0.N) (k : Fin 256) (q : Fin 1024) : Gen.iblk m c 1 t (ix3 0 k q)
    = wr m c (ix3 ⟨t.val / 8, by have := lt32 t; omega⟩ q k) := by
  unfold Gen.iblk
  rw [View.read_apply]
  refine (congrFun (V_wr m c) _).trans ?_
  pointwise
  blk_ext [idx1 t]

theorem blk2 (t : Fin cfg0.N) (k : Fin 256) (q : Fin 1024) : Gen.iblk m c 2 t (ix3 0 k q)
    = -(wi m c (ix3 ⟨t.val / 8, by have := lt32 t; omega⟩ q k) : EReal) := by
  unfold Gen.iblk
  rw [View.read_apply]
  refine (congrFun (V_wi m c) _).trans ?_
  pointwise
  refine congrArg (fun e : EReal => -e) ?_
  blk_ext [idx2 t]

theorem blk3 (t : Fin cfg0.N) (q : Fin 1024) : Gen.iblk m c 3 t (ix2 0 q)
    = cr m c (ix2 0 ⟨t.val / 8 * 1024 + q.val, by have := lt32 t; omega⟩) := by
  unfold Gen.iblk
  rw [View.read_apply]
  refine (congrFun (Gen.V_main_arg1 m c) _).trans ?_
  blk_ext [idx3 t]

theorem blk4 (t : Fin cfg0.N) (q : Fin 1024) : Gen.iblk m c 4 t (ix2 0 q)
    = -(ci m c (ix2 0 ⟨t.val / 8 * 1024 + q.val, by have := lt32 t; omega⟩) : EReal) := by
  unfold Gen.iblk
  rw [View.read_apply]
  refine (congrFun (V_ci m c) _).trans ?_
  pointwise
  refine congrArg (fun e : EReal => -e) ?_
  blk_ext [idx4 t]

/-- The adjoint states of a block's lane. -/
abbrev lane (t : ℕ) (ht : t < 32) (g : Fin 8) (q : Fin 1024) : ℕ → EReal × EReal :=
  adj (dy m c) (cr m c) (ci m c) (wr m c) (wi m c) g ⟨t / 8 * 1024 + q.val, by omega⟩

theorem in_re (t : Fin cfg0.N) (k : ℕ) (hk : k < 64) (g : Fin 8) (q : Fin 1024) :
    Gen.k0_pay12 (Gen.iblk m c 0 t) (Gen.iblk m c 1 t) (ix2 ⟨8 * (63 - k) + g.val, by omega⟩ q)
      = cotR (dy m c) (wr m c) (row g (t.val % 8 * 64 + k)) ⟨t.val / 8 * 1024 + q.val, by have := lt32 t; omega⟩ := by
  have ht := lt32 t
  unfold cotR row
  pointwise [Gen.k0_pay12, Gen.k0_pay11]
  refine Finset.sum_congr rfl fun x _ => ?_
  rw [blk0, blk1]
  have e : (t.val / 8 * 1024 + q.val) / 1024 = t.val / 8 := by omega
  have e' : (t.val / 8 * 1024 + q.val) % 1024 = q.val := by omega
  have e'' : (7 - t.val % 8) * 512 + (8 * (63 - k) + g.val) = (511 - (t.val % 8 * 64 + k)) * 8 + g.val := by omega
  simp only [e, e', e'']

theorem in_im (t : Fin cfg0.N) (k : ℕ) (hk : k < 64) (g : Fin 8) (q : Fin 1024) :
    Gen.k0_pay13 (Gen.iblk m c 0 t) (Gen.iblk m c 2 t) (ix2 ⟨8 * (63 - k) + g.val, by omega⟩ q)
      = cotI (dy m c) (wi m c) (row g (t.val % 8 * 64 + k)) ⟨t.val / 8 * 1024 + q.val, by have := lt32 t; omega⟩ := by
  have ht := lt32 t
  unfold cotI row
  pointwise [Gen.k0_pay13, Gen.k0_pay11]
  refine Finset.sum_congr rfl fun x _ => ?_
  rw [blk0, blk2]
  have e : (t.val / 8 * 1024 + q.val) / 1024 = t.val / 8 := by omega
  have e' : (t.val / 8 * 1024 + q.val) % 1024 = q.val := by omega
  have e'' : (7 - t.val % 8) * 512 + (8 * (63 - k) + g.val) = (511 - (t.val % 8 * 64 + k)) * 8 + g.val := by omega
  simp only [e, e', e'']
  exact (mul_neg _ _).trans (EReal.neg_mul _ _).symm

/-- A tile's steps at one lane, from a start that holds the adjoint state reached so far. -/
theorem tile_apply (t : Fin cfg0.N) (s : V8 Ideal × V8 Ideal) (g : Fin 8) (q : Fin 1024)
    (h1 : s.1 (ix2 g q) = (lane m c t.val (lt32 t) g q (t.val % 8 * 64)).1)
    (h2 : s.2 (ix2 g q) = (lane m c t.val (lt32 t) g q (t.val % 8 * 64)).2) (k : ℕ) (hk : k ≤ 64) :
    (iter (Gen.k0_pay14 (Gen.iblk m c 3 t)) (Gen.k0_pay15 (Gen.iblk m c 4 t)) (Gen.k0_pay12 (Gen.iblk m c 0 t) (Gen.iblk m c 1 t))
      (Gen.k0_pay13 (Gen.iblk m c 0 t) (Gen.iblk m c 2 t)) s k).1 (ix2 g q) = (lane m c t.val (lt32 t) g q (t.val % 8 * 64 + k)).1
    ∧ (iter (Gen.k0_pay14 (Gen.iblk m c 3 t)) (Gen.k0_pay15 (Gen.iblk m c 4 t)) (Gen.k0_pay12 (Gen.iblk m c 0 t) (Gen.iblk m c 1 t))
      (Gen.k0_pay13 (Gen.iblk m c 0 t) (Gen.iblk m c 2 t)) s k).2 (ix2 g q) = (lane m c t.val (lt32 t) g q (t.val % 8 * 64 + k)).2 := by
  refine iter_apply _ _ _ _ (t.val % 8 * 64) _ _ _ _ s g q ?_ ?_ (fun k hk => in_re m c t k hk g q) (fun k hk => in_im m c t k hk g q) h1 h2 k hk
  · pointwise [Gen.k0_pay14]
    exact blk3 m c t q
  · pointwise [Gen.k0_pay15]
    exact blk4 m c t q

/-! ## From tile to tile -/

theorem zero8_apply (g : Fin 8) (q : Fin 1024) : (zero8 (F := Ideal)).1 (ix2 g q) = (0 : EReal) ∧ (zero8 (F := Ideal)).2 (ix2 g q) = (0 : EReal) := by
  constructor
  · show Gen.k0_pay7 (F := Ideal) (ix2 g q) = _
    pointwise [Gen.k0_pay7]
  · show Gen.k0_pay8 (F := Ideal) (ix2 g q) = _
    pointwise [Gen.k0_pay8]

/-- Tile `n` starts with the adjoint state its block has reached. -/
theorem start_apply (g : Fin 8) (q : Fin 1024) : ∀ n (hn : n < cfg0.N),
    (start m c ⟨n, hn⟩).1 (ix2 g q) = (lane m c n (lt32 ⟨n, hn⟩) g q (n % 8 * 64)).1
    ∧ (start m c ⟨n, hn⟩).2 (ix2 g q) = (lane m c n (lt32 ⟨n, hn⟩) g q (n % 8 * 64)).2
  | 0, hn => zero8_apply g q
  | n + 1, hn => by
    unfold start
    by_cases e : (n + 1) % 8 = 0
    · rw [if_pos e]
      simp only [e, Nat.zero_mul]
      exact zero8_apply g q
    · rw [if_neg e]
      have hp : n < cfg0.N := Nat.lt_of_succ_lt hn
      obtain ⟨h1, h2⟩ := start_apply g q n hp
      have ht := tile_apply m c ⟨n, hp⟩ (start m c ⟨n, hp⟩) g q h1 h2 64 (le_refl _)
      have es := stAt_eq m c ⟨n, hp⟩
      unfold next at es
      simp only [Nat.add_sub_cancel]
      rw [es]
      have hd : (n + 1) / 8 = n / 8 := by omega
      have hm : (n + 1) % 8 * 64 = n % 8 * 64 + 64 := by omega
      simp only [lane, hd, hm]
      exact ht

/-! ## The result arrays -/

/-- The real parts: each row at its segment's adjoint state. -/
def resR : FVec Ideal S4096x4096 .f32 := fun y =>
  (adj (dy m c) (cr m c) (ci m c) (wr m c) (wi m c) ⟨(y 0).val % 8, by omega⟩ (y 1) (512 - (y 0).val / 8)).1

/-- The imaginary parts. -/
def resI : FVec Ideal S4096x4096 .f32 := fun y =>
  (adj (dy m c) (cr m c) (ci m c) (wr m c) (wi m c) ⟨(y 0).val % 8, by omega⟩ (y 1) (512 - (y 0).val / 8)).2

theorem lane_of_emb (t : Fin cfg0.N) (r : Fin 512) (q : Fin 1024) (i : S4096x4096.Idx)
    (h0 : (i 0).val = (7 - t.val % 8) * 512 + r.val) (h1 : (i 1).val = t.val / 8 * 1024 + q.val) :
    lane m c t.val (lt32 t) ⟨r.val % 8, by omega⟩ q (t.val % 8 * 64 + (64 - r.val / 8))
      = adj (dy m c) (cr m c) (ci m c) (wr m c) (wi m c) ⟨(i 0).val % 8, by omega⟩ (i 1) (512 - (i 0).val / 8) := by
  have hq : (⟨t.val / 8 * 1024 + q.val, by have := lt32 t; omega⟩ : Fin 4096) = i 1 := Fin.ext h1.symm
  have hg : (⟨r.val % 8, by omega⟩ : Fin 8) = ⟨(i 0).val % 8, by omega⟩ := Fin.ext (by show r.val % 8 = (i 0).val % 8; omega)
  have hn : t.val % 8 * 64 + (64 - r.val / 8) = 512 - (i 0).val / 8 := by omega
  unfold lane
  rw [hq, hg, hn]

theorem out5 : (dats m 0 c).arrAt 5 cfg0.N = resR m c := by
  refine (dats m 0 c).arrAt_eq_of_covers 5 _ (by decide +kernel) fun t hf y => ?_
  obtain ⟨r, q, rfl⟩ : ∃ (r : Fin 512) (q : Fin 1024), y = ix2 r q := ⟨y 0, y 1, eq_ix2 y⟩
  blk_simp
  rw [after5]
  unfold tileR outR
  rw [low_ix2]
  have h := start_apply m c ⟨r.val % 8, by omega⟩ q t.val t.isLt
  refine ((tile_apply m c t (start m c t) ⟨r.val % 8, by omega⟩ q h.1 h.2 (64 - r.val / 8) (by omega)).1).trans ?_
  exact congrArg Prod.fst (lane_of_emb m c t r q _ (by blk_simp [idx5 t]) (by blk_simp [idx5 t]))

theorem out6 : (dats m 0 c).arrAt 6 cfg0.N = resI m c := by
  refine (dats m 0 c).arrAt_eq_of_covers 6 _ (by decide +kernel) fun t hf y => ?_
  obtain ⟨r, q, rfl⟩ : ∃ (r : Fin 512) (q : Fin 1024), y = ix2 r q := ⟨y 0, y 1, eq_ix2 y⟩
  blk_simp
  rw [after6]
  unfold tileI outI
  rw [low_ix2]
  have h := start_apply m c ⟨r.val % 8, by omega⟩ q t.val t.isLt
  refine ((tile_apply m c t (start m c t) ⟨r.val % 8, by omega⟩ q h.1 h.2 (64 - r.val / 8) (by omega)).2).trans ?_
  exact congrArg Prod.snd (lane_of_emb m c t r q _ (by blk_simp [idx6 t]) (by blk_simp [idx6 t]))

/-- The run: the results hold the adjoint states, the arguments are unchanged. -/
theorem run : θ_run defs (onTc (τ := τ) (main (F := Ideal))) ⟨m, fun _ => 0, ρ⟩ fun r => ∀ c : Dev nD,
      r.2.mem ((c.tc : Thread nD τ).loc main_v4_0) = resR m c
      ∧ r.2.mem ((c.tc : Thread nD τ).loc main_v4_1) = resI m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(h.1.out_eq c 5).trans (out5 m c), (h.1.out_eq c 6).trans (out6 m c),
      ((h.1.in_eq c 0 rfl).trans (A_eq m c 0)).trans (Gen.V_main_arg0 m c),
      ((h.1.in_eq c 3 rfl).trans (A_eq m c 3)).trans (Gen.V_main_arg1 m c),
      (h.1.rest_eq c main_arg2 (by decide)).trans (Gen.V_main_arg2 m c),
      (h.1.rest_eq c main_arg3 (by decide)).trans (Gen.V_main_arg3 m c),
      (h.1.rest_eq c main_arg4 (by decide)).trans (Gen.V_main_arg4 m c)⟩) (run_main m ρ)

end Cert.KernelIdeal.Scan

end
-- ==== Proof.RefRun.lean ====
/-
  The reference's run as its loop's step iterated: what the loop's buffers hold before every trip.
-/
module

public import proofs.«01_k».proof.Proof.Gen.ReferenceIdeal.Run
public import proofs.«01_k».proof.Proof.Gen.ReferenceIdeal.Step

@[expose] public section

set_option maxRecDepth 16384

noncomputable section

namespace Cert.ReferenceIdeal.Scan

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

variable {F : FTy → Type} [FloatOps F]

/-- Before trip `j` the buffers hold the state `s` and the trip's number. -/
structure At (V : Valuation τ sig (Elt F)) (s : State F) (j : ℕ) : Prop where
  carryR : V (Proc.devRef .tc main_v18_5) = s.main_v18_5
  carryI : V (Proc.devRef .tc main_v18_6) = s.main_v18_6
  doneR : V (Proc.devRef .tc main_v18_7) = s.main_v18_7
  doneI : V (Proc.devRef .tc main_v18_8) = s.main_v18_8
  inR : V (Proc.devRef .tc main_v18_0) = s.main_v18_0
  inI : V (Proc.devRef .tc main_v18_1) = s.main_v18_1
  coefR : V (Proc.devRef .tc main_v18_2) = s.main_v18_2
  coefI : V (Proc.devRef .tc main_v18_3) = s.main_v18_3
  count : V (Proc.devRef .tc main_v18_4) = (constantI S_ 32 (BitVec.ofNat 32 j) : (⟨S_, .i32⟩ : BufTy).Contents (Elt F))

set_option maxHeartbeats 800000 in
theorem at_zero (m : (ℓ : Loc nD τ sig) → Buf (Elt F) ℓ) (c : Dev nD) :
    At (entryContents preI m c) (init (m ((c.tc : Thread nD τ).loc main_arg1)) (m ((c.tc : Thread nD τ).loc main_arg2))
      (m ((c.tc : Thread nD τ).loc main_arg0)) (m ((c.tc : Thread nD τ).loc main_arg3)) (m ((c.tc : Thread nD τ).loc main_arg4))) 0 := by
  constructor <;> (simp only [entryContents, afterL_cons, afterL_nil]; after_reads_simp) <;> rfl

variable {V : Valuation τ sig (Elt F)} {s : State F} {j : ℕ}

theorem slot_eq (h : At V s j) : res_main_while0b_v22 V = b3 j s := by
  unfold res_main_while0b_v22
  rw [h.count]; rfl

theorem sumR_eq (h : At V s j) : res_main_while0b_v25 V = b12 j s := by
  unfold res_main_while0b_v25
  rw [slot_eq h, h.carryR, h.inR]; rfl

theorem sumI_eq (h : At V s j) : res_main_while0b_v26 V = b13 j s := by
  unfold res_main_while0b_v26
  rw [slot_eq h, h.carryI, h.inI]; rfl

theorem carryR_step (h : At V s j) : Value.step_main_v18_5 V = b24 j s := by
  unfold Value.step_main_v18_5
  rw [sumR_eq h, sumI_eq h, h.coefR, h.coefI]; rfl

theorem carryI_step (h : At V s j) : Value.step_main_v18_6 V = b21 j s := by
  unfold Value.step_main_v18_6
  rw [sumR_eq h, sumI_eq h, h.coefR, h.coefI]; rfl

theorem doneR_step (h : At V s j) : Value.step_main_v18_7 V = b28 j s := by
  unfold Value.step_main_v18_7
  rw [sumR_eq h, slot_eq h, h.doneR]; rfl

theorem doneI_step (h : At V s j) : Value.step_main_v18_8 V = b32 j s := by
  unfold Value.step_main_v18_8
  rw [sumI_eq h, slot_eq h, h.doneI]; rfl

theorem count_step (h : At V s j) :
    step_main_v18_4 V = (constantI S_ 32 (BitVec.ofNat 32 (j + 1)) : (⟨S_, .i32⟩ : BufTy).Contents (Elt F)) := by
  unfold Value.step_main_v18_4
  rw [h.count]
  funext i
  show BitVec.ofNat 32 j + 1#32 = BitVec.ofNat 32 (j + 1)
  simp only [BitVec.ofNat_add]

theorem at_succ (h : At V s j) : At (STEP V) (step j s) (j + 1) where
  carryR := ((STEP_main_v18_5 V).trans (carryR_step h)).trans (Step.step_main_v18_5 j s).symm
  carryI := ((STEP_main_v18_6 V).trans (carryI_step h)).trans (Step.step_main_v18_6 j s).symm
  doneR := ((STEP_main_v18_7 V).trans (doneR_step h)).trans (Step.step_main_v18_7 j s).symm
  doneI := ((STEP_main_v18_8 V).trans (doneI_step h)).trans (Step.step_main_v18_8 j s).symm
  inR := (STEP_main_v18_0 V).trans h.inR
  inI := (STEP_main_v18_1 V).trans h.inI
  coefR := (STEP_main_v18_2 V).trans h.coefR
  coefI := (STEP_main_v18_3 V).trans h.coefI
  count := (STEP_main_v18_4 V).trans (count_step h)

theorem outR (h : At V s j) : out_main_v20 V = R_main_v20 s := by
  unfold out_main_v20
  rw [h.doneR]; rfl

theorem outI (h : At V s j) : out_main_v19 V = R_main_v19 s := by
  unfold out_main_v19
  rw [h.doneI]; rfl

/-- The states of the loop: `init` of the arguments, then one step per trip. -/
def states (a0 : FVec F S4096x1024 .f32) (a1 a2 : FVec F S1x4096 .f32) (a3 a4 : FVec F S4x1024x256 .bf16) : ℕ → State F
  | 0 => init a1 a2 a0 a3 a4
  | n + 1 => step n (states a0 a1 a2 a3 a4 n)

theorem at_states (m : (ℓ : Loc nD τ sig) → Buf (Elt F) ℓ) (c : Dev nD) :
    ∀ k, At (STEP^[k] (entryContents preI m c)) (states (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4)) k) k
  | 0 => at_zero m c
  | k + 1 => by
    rw [Function.iterate_succ_apply']
    exact at_succ (at_states m c k)

/-- The results are read off the last state; the arguments are unchanged. -/
theorem run_states (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v20) = R_main_v20 (states (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4)) 512)
      ∧ r.2.mem ((c.tc : Thread nD τ).loc main_v19) = R_main_v19 (states (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4)) 512)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => by
    have e := at_states m c 512
    exact ⟨(h c).1.trans (outR e), (h c).2.1.trans (outI e), (h c).2.2⟩) (Value.run m ρ)

end Cert.ReferenceIdeal.Scan

end
-- ==== Proof.RefValue.lean ====
/-
  The reference's loop, state by state, at the extended reals.
-/
module

public import proofs.«01_k».proof.Proof.Rec
public import proofs.«01_k».proof.Proof.RefRun
public import Idealize.ShloMosaic.Lib.Pointwise

@[expose] public section

set_option maxRecDepth 16384

noncomputable section

open Idealize.ShloMosaic Idealize.ShloMosaic.TcCoe Idealize.SL.Sem

namespace Cert.ReferenceIdeal.Scan

open Cert.ReferenceIdeal Cert.ReferenceIdeal.Gen Cert.ReferenceIdeal.Step Cert.Adjoint

/-- The time step trip `j` works on, as the slices clamp it. -/
theorem clamp_eq : ∀ j : Fin 512, (min (max (BitVec.toInt (512#32 - BitVec.ofNat 32 j.val - 1#32)) 0) ((511 : ℕ) : ℤ)).toNat = 511 - j.val := by
  decide

/-- Where trip `j` reads and writes. -/
def slot (j : ℕ) : Fin 3 → ℤ := fun k =>
  ((![subi (subi (constantI S_ 32 512#32) (constantI S_ 32 (BitVec.ofNat 32 j))) (constantI S_ 32 1#32), constantI S_ 32 0#32,
    constantI S_ 32 0#32] : Fin 3 → IVec S_ 32) k (Shape.Idx.first h_S_)).toInt

theorem slot_0 (j : ℕ) (hj : j < 512) (h : S1x8x4096.rank = S512x8x4096.rank) :
    Host.clampedStart S512x8x4096 S1x8x4096 h (slot j) 0 = 511 - j := clamp_eq ⟨j, hj⟩

theorem slot_1 (j : ℕ) (h : S1x8x4096.rank = S512x8x4096.rank) :
    Host.clampedStart S512x8x4096 S1x8x4096 h (slot j) 1 = 0 := rfl

theorem slot_2 (j : ℕ) (h : S1x8x4096.rank = S512x8x4096.rank) :
    Host.clampedStart S512x8x4096 S1x8x4096 h (slot j) 2 = 0 := rfl

theorem read_apply (j : ℕ) (hj : j < 512) (x : FVec Ideal S512x8x4096 .f32) (h : S512x8x4096.Slices (fun _ => 0) S1x8x4096)
    (h' : S1x8x4096.ShapeCasts S8x4096) (g : Fin 8) (q : Fin 4096) :
    shapeCast S8x4096 (Host.dynamicSlice S1x8x4096 x (slot j) h) h' (ix2 g q) = x (ix3 ⟨511 - j, by omega⟩ g q) := by
  pointwise
  simp only [slot_0 j hj, slot_1 j, slot_2 j, Nat.zero_add]

theorem write_apply (j : ℕ) (hj : j < 512) (x : FVec Ideal S512x8x4096 .f32) (u : FVec Ideal S8x4096 .f32)
    (h : S512x8x4096.Slices (fun _ => 0) S1x8x4096) (h' : S8x4096.BroadcastsInDim S1x8x4096 ![1, 2])
    (r : Fin 512) (g : Fin 8) (q : Fin 4096) :
    Host.dynamicUpdateSlice x (broadcastInDim S1x8x4096 ![1, 2] h' u) (slot j) h (ix3 r g q)
      = if r.val = 511 - j then u (ix2 g q) else x (ix3 r g q) := by
  pointwise
  have c0 := slot_0 j hj rfl
  by_cases e : r.val = 511 - j
  · rw [dif_pos ⟨⟨by omega, by omega⟩, by rw [slot_1 j]; omega, by rw [slot_2 j]; omega⟩, if_pos e]
    simp only [slot_1 j, slot_2 j, Nat.sub_zero]
  · rw [dif_neg (fun hc => by omega), if_neg e]

variable (s : State Ideal) (r : Fin 512) (g : Fin 8) (q : Fin 4096)

theorem b12_apply (j : ℕ) (hj : j < 512) :
    b12 j s (ix2 g q) = (s.main_v18_5 (ix2 g q) : EReal) + s.main_v18_0 (ix3 ⟨511 - j, by omega⟩ g q) :=
  congrArg (fun e : EReal => (s.main_v18_5 (ix2 g q) : EReal) + e) (read_apply j hj s.main_v18_0 _ _ g q)

theorem b13_apply (j : ℕ) (hj : j < 512) :
    b13 j s (ix2 g q) = (s.main_v18_6 (ix2 g q) : EReal) + s.main_v18_1 (ix3 ⟨511 - j, by omega⟩ g q) :=
  congrArg (fun e : EReal => (s.main_v18_6 (ix2 g q) : EReal) + e) (read_apply j hj s.main_v18_1 _ _ g q)

theorem b28_apply (j : ℕ) (hj : j < 512) :
    b28 j s (ix3 r g q) = if r.val = 511 - j then b12 j s (ix2 g q) else s.main_v18_7 (ix3 r g q) :=
  write_apply j hj s.main_v18_7 (b12 j s) _ _ r g q

theorem b32_apply (j : ℕ) (hj : j < 512) :
    b32 j s (ix3 r g q) = if r.val = 511 - j then b13 j s (ix2 g q) else s.main_v18_8 (ix3 r g q) :=
  write_apply j hj s.main_v18_8 (b13 j s) _ _ r g q

theorem b24_apply (j : ℕ) :
    b24 j s (ix2 g q) = (s.main_v18_2 (ix2 0 q) : EReal) * b12 j s (ix2 g q) + s.main_v18_3 (ix2 0 q) * b13 j s (ix2 g q) := by
  pointwise [b24, b23, b22, b15, b14]
  exact add_comm _ _

theorem b21_apply (j : ℕ) :
    b21 j s (ix2 g q) = (s.main_v18_2 (ix2 0 q) : EReal) * b13 j s (ix2 g q) - s.main_v18_3 (ix2 0 q) * b12 j s (ix2 g q) := by
  pointwise [b21, b20, b19, b18, b17, b16]
  rw [mul_neg, sub_eq_add_neg]

theorem inR_apply (a0 : FVec Ideal S4096x1024 .f32) (a3 a4 : FVec Ideal S4x1024x256 .bf16) :
    A_main_v13 (F := Ideal) a0 a3 a4 (ix3 r g q) = cotR a0 a3 ⟨r.val * 8 + g.val, by omega⟩ q := by
  unfold cotR
  pointwise [A_main_v13, A_main_v11, A_main_v10, A_main_v9, A_main_v4, A_main_v2]

theorem inI_apply (a0 : FVec Ideal S4096x1024 .f32) (a3 a4 : FVec Ideal S4x1024x256 .bf16) :
    A_main_v12 (F := Ideal) a0 a3 a4 (ix3 r g q) = cotI a0 a4 ⟨r.val * 8 + g.val, by omega⟩ q := by
  unfold cotI
  pointwise [A_main_v12, A_main_v8, A_main_v7, A_main_v6, A_main_v5, A_main_v4, A_main_v3]

variable (a0 : FVec Ideal S4096x1024 .f32) (a1 a2 : FVec Ideal S1x4096 .f32) (a3 a4 : FVec Ideal S4x1024x256 .bf16)

theorem states_fixed : ∀ n, (states a0 a1 a2 a3 a4 n).main_v18_0 = A_main_v13 a0 a3 a4
    ∧ (states a0 a1 a2 a3 a4 n).main_v18_1 = A_main_v12 a0 a3 a4
    ∧ (states a0 a1 a2 a3 a4 n).main_v18_2 = a1 ∧ (states a0 a1 a2 a3 a4 n).main_v18_3 = a2
  | 0 => ⟨rfl, rfl, rfl, rfl⟩
  | n + 1 => states_fixed n

/-- After trip `n` the carried pair is the coefficient times the adjoint state `n`, and the slots already written hold
    the adjoint states. -/
theorem states_apply : ∀ n, n ≤ 512 →
    (states a0 a1 a2 a3 a4 n).main_v18_5 (ix2 g q)
        = (a1 (ix2 0 q) : EReal) * (adj a0 a1 a2 a3 a4 g q n).1 + a2 (ix2 0 q) * (adj a0 a1 a2 a3 a4 g q n).2
    ∧ (states a0 a1 a2 a3 a4 n).main_v18_6 (ix2 g q)
        = (a1 (ix2 0 q) : EReal) * (adj a0 a1 a2 a3 a4 g q n).2 - a2 (ix2 0 q) * (adj a0 a1 a2 a3 a4 g q n).1
    ∧ ∀ r : Fin 512, 512 ≤ r.val + n →
      (states a0 a1 a2 a3 a4 n).main_v18_7 (ix3 r g q) = (adj a0 a1 a2 a3 a4 g q (512 - r.val)).1
      ∧ (states a0 a1 a2 a3 a4 n).main_v18_8 (ix3 r g q) = (adj a0 a1 a2 a3 a4 g q (512 - r.val)).2
  | 0, _ => by
    refine ⟨?_, ?_, fun r hr => by omega⟩
    · show K_main_v14 (ix2 g q) = _
      unfold adj
      pointwise [K_main_v14, K_main_cst_1, seq]
      simp only [mul_zero, add_zero]
    · show K_main_v15 (ix2 g q) = _
      unfold adj
      pointwise [K_main_v15, K_main_cst_2, seq]
      simp only [mul_zero, sub_zero]
  | n + 1, hn => by
    obtain ⟨hr, hi, hd⟩ := states_apply n (by omega)
    obtain ⟨f0, f1, f2, f3⟩ := states_fixed a0 a1 a2 a3 a4 n
    have e12 : b12 n (states a0 a1 a2 a3 a4 n) (ix2 g q) = (adj a0 a1 a2 a3 a4 g q (n + 1)).1 := by
      rw [b12_apply _ g q n (by omega), hr, f0, inR_apply]; rfl
    have e13 : b13 n (states a0 a1 a2 a3 a4 n) (ix2 g q) = (adj a0 a1 a2 a3 a4 g q (n + 1)).2 := by
      rw [b13_apply _ g q n (by omega), hi, f1, inI_apply]; rfl
    rw [show states a0 a1 a2 a3 a4 (n + 1) = step n (states a0 a1 a2 a3 a4 n) from rfl, step_main_v18_5, step_main_v18_6,
      step_main_v18_7, step_main_v18_8]
    refine ⟨?_, ?_, fun r hr => ?_⟩
    · rw [b24_apply, e12, e13, f2, f3]
    · rw [b21_apply, e12, e13, f2, f3]
    · rw [b28_apply _ r g q n (by omega), b32_apply _ r g q n (by omega)]
      by_cases e : r.val = 511 - n
      · rw [if_pos e, if_pos e, e12, e13, show 512 - r.val = n + 1 by omega]; exact ⟨rfl, rfl⟩
      · rw [if_neg e, if_neg e]; exact hd r (by omega)

/-- The results at a time row and a state: the adjoint state of the row's segment at the row's time step. -/
theorem result_apply (t q : Fin 4096) :
    R_main_v20 (states a0 a1 a2 a3 a4 512) (ix2 t q)
        = (adj a0 a1 a2 a3 a4 ⟨t.val % 8, by omega⟩ q (512 - t.val / 8)).1
    ∧ R_main_v19 (states a0 a1 a2 a3 a4 512) (ix2 t q)
        = (adj a0 a1 a2 a3 a4 ⟨t.val % 8, by omega⟩ q (512 - t.val / 8)).2 := by
  have h := (states_apply ⟨t.val % 8, by omega⟩ q a0 a1 a2 a3 a4 512 (le_refl _)).2.2 ⟨t.val / 8, by omega⟩ (by omega)
  refine ⟨Eq.trans ?_ h.1, Eq.trans ?_ h.2⟩
  · pointwise [R_main_v20]
  · pointwise [R_main_v19]

end Cert.ReferenceIdeal.Scan

end
-- ==== Proof.Sums.lean ====
/-
  Sums taken a block at a time: an accumulator that starts at one block's sum and adds the next block's sum at each
  step ends at the sum over all the blocks.
-/
module

public import Idealize.ShloMosaic.Lib.Pointwise
public import Idealize.ShloMosaic.Lib.IdealHost

@[expose] public section

noncomputable section

open Idealize.ShloMosaic

namespace Cert.Sums

variable {M : Type} [AddCommMonoid M]

/-- The sum over `n` blocks of `b` terms each is the sum over all of them. -/
theorem blocks_sum (b : ℕ) (f : ℕ → M) : ∀ n : ℕ,
    ∑ s ∈ Finset.range n, ∑ k : Fin b, f (b * s + k.val) = ∑ k : Fin (b * n), f k.val := by
  intro n
  rw [← Finset.sum_range f]
  induction n with
  | zero => simp
  | succ n ih =>
    rw [Finset.sum_range_succ, ih, Nat.mul_succ, Finset.sum_range_add]
    congr 1
    rw [Finset.sum_range (fun k => f (b * n + k))]

/-- An accumulator over the points `n·q, …, n·q + j`: it starts at the first block's sum and each point adds its own. -/
theorem acc_sum {N : ℕ} (S : (t : ℕ) → t < N → M) (b n q : ℕ) (f : ℕ → M)
    (h0 : ∀ h : n * q < N, S (n * q) h = ∑ k : Fin b, f k.val)
    (hs : ∀ j (_ : j + 1 < n) (h : n * q + j < N) (h' : n * q + j + 1 < N),
      S (n * q + j + 1) h' = S (n * q + j) h + ∑ k : Fin b, f (b * (j + 1) + k.val)) :
    ∀ j (_ : j < n) (h : n * q + j < N), S (n * q + j) h = ∑ k : Fin (b * (j + 1)), f k.val := by
  intro j
  induction j with
  | zero =>
    intro _ h
    refine (h0 h).trans ?_
    rw [← blocks_sum]; simp
  | succ j ih =>
    intro hj h
    refine (hs j hj (by omega) h).trans ?_
    rw [ih (by omega) (by omega), ← blocks_sum, ← blocks_sum, Finset.sum_range_succ _ (j + 1)]

/-- A nonnegative finite factor times a sum is the sum of the products. -/
theorem mul_sum_of_nonneg (c : EReal) (hc : 0 ≤ c) (hc' : c ≠ ⊤) {ι : Type} (s : Finset ι) (f : ι → EReal) :
    c * ∑ k ∈ s, f k = ∑ k ∈ s, c * f k := by
  classical
  induction s using Finset.induction_on with
  | empty => simp
  | insert a s ha ih =>
    rw [Finset.sum_insert ha, Finset.sum_insert ha, EReal.left_distrib_of_nonneg_of_ne_top hc hc', ih]

/-- The constant one half. -/
theorem half_eq : Ideal.ofBits .f32 0x3F000000#32 = ((1 / 2 : ℝ) : EReal) := by
  simp [Ideal.ofBits, Ideal.ieee, -EReal.coe_mul]
  norm_num

theorem half_nonneg : 0 ≤ Ideal.ofBits .f32 0x3F000000#32 := by
  rw [half_eq]; exact EReal.coe_nonneg.2 (by norm_num)

theorem half_ne_top : Ideal.ofBits .f32 0x3F000000#32 ≠ ⊤ := by
  rw [half_eq]; exact EReal.coe_ne_top _

/-- Half of a sum of products is the sum of the products with the right factors halved, -/
theorem half_sum {ι : Type} (s : Finset ι) (f g : ι → EReal) :
    (∑ k ∈ s, f k * g k) * Ideal.ofBits .f32 0x3F000000#32 = ∑ k ∈ s, f k * (Ideal.ofBits .f32 0x3F000000#32 * g k) := by
  rw [mul_comm, mul_sum_of_nonneg _ half_nonneg half_ne_top]
  exact Finset.sum_congr rfl fun k _ => mul_left_comm _ _ _

/-- and with the left factors halved. -/
theorem half_sum' {ι : Type} (s : Finset ι) (f g : ι → EReal) :
    (∑ k ∈ s, f k * g k) * Ideal.ofBits .f32 0x3F000000#32 = ∑ k ∈ s, Ideal.ofBits .f32 0x3F000000#32 * f k * g k := by
  rw [mul_comm, mul_sum_of_nonneg _ half_nonneg half_ne_top]
  exact Finset.sum_congr rfl fun k _ => (mul_assoc _ _ _).symm

end Cert.Sums
-- ==== Proof.Act.lean ====
/-
  The feed-forward block's activation gradient: each point's block of the product, through the gate's derivative, is the
  block of the reference's result.
-/
module

public import proofs.«01_k».proof.Defs
public import proofs.«01_k».proof.Proof.Sums
public import proofs.«01_k».proof.Proof.Gen.Kernel2Ideal.Value
public import proofs.«01_k».proof.Proof.Gen.Reference2Ideal.Run
public import Idealize.ShloMosaic.Lib.Pipeline.ValueKit

@[expose] public section

set_option maxRecDepth 16384

noncomputable section

open Idealize.ShloMosaic Idealize.ShloMosaic.TcCoe Idealize.SL.Sem

namespace Cert.Kernel2Ideal.Gate

open Cert.Kernel2Ideal Cert.Kernel2Ideal.Gen

variable (m : (ℓ : Loc nD τ sig) → Buf (Elt Ideal) ℓ) (c : Dev nD)

abbrev dy : FVec Ideal S4096x1024 .f32 := m ((c : Thread nD τ).loc main_arg0)
abbrev wd : FVec Ideal S2816x1024 .bf16 := m ((c : Thread nD τ).loc main_arg1)
abbrev ab : FVec Ideal S4096x5632 .f32 := m ((c : Thread nD τ).loc main_arg2)

/-- The logistic function, -/
def sigma (g : EReal) : EReal := Ideal.logistic g

/-- and the gradient with respect to the gate of gate times logistic of gate times `u`, at the incoming gradient `d`. -/
def gateGrad (g u d : EReal) : EReal := d * u * sigma g + g * (d * u) * (sigma g * (1 - sigma g))

section Payloads

variable (x0 : Vec Ideal S256x1024 .f32) (x1 : Vec Ideal S2816x1024 .bf16) (x2 : Vec Ideal S256x5632 .f32) (xs : Vec Ideal S256x2816 .f32)

/-- The block of the product, from a cleared accumulator. -/
theorem step_apply (r : Fin 256) (q : Fin 2816) : (k0_pay2 (k0_pay1 (F := Ideal)) x0 x1 : FVec Ideal S256x2816 .f32) (ix2 r q)
    = ∑ k : Fin 1024, (x0 (ix2 r k) : EReal) * x1 (ix2 q k) := by
  pointwise [k0_pay2, k0_pay1]

/-- What a point writes in the gate's half, -/
theorem gate_apply (r : Fin 256) (q : Fin 2816) : (k0_pay3 xs x2 : FVec Ideal S256x5632 .bf16) (ix2 r ⟨q.val, by omega⟩)
    = gateGrad (x2 (ix2 r ⟨q.val, by omega⟩)) (x2 (ix2 r ⟨2816 + q.val, by omega⟩)) (xs (ix2 r q) * Ideal.ofBits .f32 0x3F000000#32) := by
  unfold gateGrad sigma
  pointwise [k0_pay3]

/-- and in the other. -/
theorem up_apply (r : Fin 256) (q : Fin 2816) : (k0_pay3 xs x2 : FVec Ideal S256x5632 .bf16) (ix2 r ⟨2816 + q.val, by omega⟩)
    = x2 (ix2 r ⟨q.val, by omega⟩) * sigma (x2 (ix2 r ⟨q.val, by omega⟩)) * (xs (ix2 r q) * Ideal.ofBits .f32 0x3F000000#32) := by
  unfold sigma
  pointwise [k0_pay3]

end Payloads

omit c in
theorem idx0 : ∀ t : Fin cfg0.N, win0_0.index t = ![t.val, 0] :=
  (by decide +kernel : ∀ t : Fin grid0.N, _)

omit c in
theorem idx1 : ∀ t : Fin cfg0.N, win0_1.index t = ![0, 0] :=
  (by decide +kernel : ∀ t : Fin grid0.N, _)

omit c in
theorem idx2 : ∀ t : Fin cfg0.N, win0_2.index t = ![t.val, 0] :=
  (by decide +kernel : ∀ t : Fin grid0.N, _)

omit c in
theorem idx3 : ∀ t : Fin cfg0.N, win0_3.index t = ![t.val, 0] :=
  (by decide +kernel : ∀ t : Fin grid0.N, _)

theorem blk0 (t : Fin cfg0.N) (r : Fin 256) (k : Fin 1024) : iblk m c 0 t (ix2 r k)
    = dy m c (ix2 ⟨256 * t.val + r.val, by have := lt_of_lt_of_eq t.isLt (show cfg0.N = 16 from N_0); omega⟩ k) := by
  unfold iblk
  rw [View.read_apply]
  refine (congrFun (V_main_arg0 m c) _).trans ?_
  blk_ext [idx0 t]

theorem blk1 (t : Fin cfg0.N) (q : Fin 2816) (k : Fin 1024) : iblk m c 1 t (ix2 q k) = wd m c (ix2 q k) := by
  unfold iblk
  rw [View.read_apply]
  refine (congrFun (V_main_arg1 m c) _).trans ?_
  blk_ext [idx1 t]

theorem blk2 (t : Fin cfg0.N) (r : Fin 256) (q : Fin 5632) : iblk m c 2 t (ix2 r q)
    = ab m c (ix2 ⟨256 * t.val + r.val, by have := lt_of_lt_of_eq t.isLt (show cfg0.N = 16 from N_0); omega⟩ q) := by
  unfold iblk
  rw [View.read_apply]
  refine (congrFun (V_main_arg2 m c) _).trans ?_
  blk_ext [idx2 t]

end Cert.Kernel2Ideal.Gate

namespace Cert.Proof

open Cert.Kernel2Ideal.Gate in
/-- The kernel's result is the reference's. -/
theorem algebraic2 : Cert.algebraic_Kernel2Ideal_Reference2Ideal := by
  intro m ρ m' ρ' _ hagree
  refine ⟨fun c => (Cert.Kernel2Ideal.Gen.dats m 0 c).arrAt 3 Cert.Kernel2Ideal.cfg0.N, Cert.Kernel2Ideal.Value.run_blocks m ρ, ?_⟩
  refine (θ_run _ _ _).mono (fun _ h c => ⟨(h c).1.trans ?_, (h c).2⟩) (Cert.Reference2Ideal.Value.run m' ρ')
  obtain ⟨e0, e1, e2⟩ := hagree c
  rw [e0, e1, e2]
  symm
  refine (Cert.Kernel2Ideal.Gen.dats m 0 c).arrAt_eq_of_covers 3 _ (by decide +kernel) fun t hf y => ?_
  blk_simp
  rw [Cert.Kernel2Ideal.Gen.after0_3]
  unfold Cert.Kernel2Ideal.Gen.outsAt0
  frame_out
  obtain ⟨r, q, rfl⟩ : ∃ (r : Fin 256) (q : Fin 5632), y = ix2 r q := ⟨y 0, y 1, eq_ix2 y⟩
  have hN := lt_of_lt_of_eq t.isLt (show Cert.Kernel2Ideal.cfg0.N = 16 from Cert.Kernel2Ideal.Gen.N_0)
  rw [show ((View.whole Cert.Kernel2Ideal.main_v0).slice (Cert.Kernel2Ideal.win0_3.rect t)).emb (ix2 r q) = ix2 ⟨256 * t.val + r.val, by omega⟩ q from by blk_ext [idx3 t]]
  have hR : 256 * t.val + r.val < 4096 := by omega
  rcases Nat.lt_or_ge q.val 2816 with h | h
  · obtain ⟨q', hq⟩ : ∃ q' : Fin 2816, q = ⟨q'.val, by omega⟩ := ⟨⟨q.val, h⟩, rfl⟩
    rw [hq]
    refine (gate_apply _ _ _ _).trans ?_
    rw [step_apply, Cert.Sums.half_sum']
    simp only [blk0, blk1, blk2]
    unfold gateGrad sigma
    pointwise []
    simp only [Ideal.logistic]
    simp only [hR, false_and, and_false, dite_false, dite_true, add_zero, zero_add]
  · obtain ⟨q', hq⟩ : ∃ q' : Fin 2816, q = ⟨2816 + q'.val, by omega⟩ := ⟨⟨q.val - 2816, by omega⟩, Fin.ext (by dsimp only; omega)⟩
    rw [hq]
    refine (up_apply _ _ _ _).trans ?_
    rw [step_apply, Cert.Sums.half_sum']
    simp only [blk0, blk1, blk2]
    unfold sigma
    pointwise []
    simp only [Ideal.logistic]
    simp only [hR, false_and, and_false, dite_false, dite_true, add_zero, zero_add]

end Cert.Proof
-- ==== Proof.Wgu.lean ====
/-
  The gate and up weights' gradient: the blocked product accumulates, over the row blocks of its operands, the sum over
  all rows, which is the two transposed products of the reference side by side.
-/
module

public import proofs.«01_k».proof.Defs
public import proofs.«01_k».proof.Proof.Sums
public import proofs.«01_k».proof.Proof.Gen.Kernel3Ideal.Value
public import proofs.«01_k».proof.Proof.Gen.Reference3Ideal.Run
public import Idealize.ShloMosaic.Lib.Pipeline.ValueKit.Geometry

@[expose] public section

set_option maxRecDepth 16384

noncomputable section

open Idealize.ShloMosaic Idealize.ShloMosaic.TcCoe Idealize.SL.Sem

namespace Cert.Kernel3Ideal.Product

open Cert.Kernel3Ideal Cert.Kernel3Ideal.Gen

variable (m : (ℓ : Loc nD τ sig) → Buf (Elt Ideal) ℓ) (ρ : Dev nD → PrngReg)

abbrev lhs (c : Dev nD) : FVec Ideal S4096x1024 .bf16 := m ((c : Thread nD τ).loc main_arg0)
abbrev rhs (c : Dev nD) : FVec Ideal S4096x5632 .bf16 := m ((c : Thread nD τ).loc main_arg1)

theorem hz : (![0, 0] : Fin 2 → Nat) = fun _ => 0 := funext fun a => by fin_cases a <;> rfl

variable (c : Dev nD) (i : grid0.Coords) (a3 : Memref sig .tc .vmem S1024x512 .bf16) (h3 : a3.IsWhole)
  (a4 : Memref sig .tc .vmem S1024x2816 .bf16) (h4 : a4.IsWhole) (a5 : Memref sig .tc .vmem S512x2816 .f32) (h5 : a5.IsWhole)
  (a6 : Memref sig .tc .vmem S512x2816 .f32) (h6 : a6.IsWhole)
  (x0 : Vec Ideal S1024x512 .bf16) (x1 : Vec Ideal S1024x2816 .bf16) (xs : Vec Ideal S512x2816 .f32)

/-- The first point of a run leaves the product of its blocks. -/
theorem first (hc0 : cond0_0 i) (hc1 : ¬cond0_1 i) : sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S512x2816) hz, View.readCov_unit_zero (S := S512x2816) _ hz]
  simp only [View.readAt_eq_ld, h3.read_unread, h4.read_unread, View.ld_unit_zero (S := S512x2816) hz, View.ld_unit_zero (S := S1024x512) hz, View.ld_unit_zero (S := S1024x2816) hz]

/-- A later point adds the product of its blocks to what the one before left. -/
theorem next (hc0 : ¬cond0_0 i) (hc1 : ¬cond0_1 i) : sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero (S := S512x2816) hz]
  simp only [View.readAt_eq_ld, h3.read_unread, h4.read_unread, h6.read_unread, View.ld_unit_zero (S := S512x2816) hz, View.ld_unit_zero (S := S1024x512) hz, View.ld_unit_zero (S := S1024x2816) hz]

/-- So does the last point of a run, -/
theorem next' (hc0 : ¬cond0_0 i) (hc1 : cond0_1 i) : sout0_C_0 c i a3 h3 a4 h4 a5 h5 a6 h6 hc0 hc1 x0 x1 xs = k0_pay2 xs x0 x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero (S := S512x2816) hz]
  simp only [View.readAt_eq_ld, h3.read_unread, h4.read_unread, h6.read_unread, View.ld_unit_zero (S := S512x2816) hz,
    View.ld_unit_zero (S := S1024x512) hz, View.ld_unit_zero (S := S1024x2816) hz]

/-- which writes back the scaled sum. -/
theorem last (hc0 : ¬cond0_0 i) (hc1 : cond0_1 i) : out0_C_2 c i a3 h3 a4 h4 a5 h5 a6 h6 hc0 hc1 x0 x1 xs
    = k0_pay3 (sout0_C_0 c i a3 h3 a4 h4 a5 h5 a6 h6 hc0 hc1 x0 x1 xs) := by
  rw [next']
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero (S := S512x2816) hz, View.readCov_unit_zero (S := S512x2816) _ hz]
  simp only [View.readAt_eq_ld, h3.read_unread, h4.read_unread, h6.read_unread, View.ld_unit_zero (S := S512x2816) hz,
    View.ld_unit_zero (S := S1024x512) hz, View.ld_unit_zero (S := S1024x2816) hz]

/-- The two blocks' product at an index, added to what was there. -/
theorem step_apply (r : Fin 512) (q : Fin 2816) : (k0_pay2 xs x0 x1 : FVec Ideal S512x2816 .f32) (ix2 r q)
    = xs (ix2 r q) + ∑ k : Fin 1024, (x0 (ix2 k r) : EReal) * x1 (ix2 k q) := by
  pointwise [k0_pay2]

theorem zero_apply (r : Fin 512) (q : Fin 2816) : (k0_pay1 : FVec Ideal S512x2816 .f32) (ix2 r q) = (0 : EReal) := by
  pointwise [k0_pay1]

theorem scale_apply (r : Fin 512) (q : Fin 2816) : (k0_pay3 xs : FVec Ideal S512x2816 .f32) (ix2 r q) = xs (ix2 r q) := by
  pointwise [k0_pay3]

omit c i in
theorem idx0 : ∀ t : Fin cfg0.N, win0_0.index t = ![t.val % 4, t.val / 8] :=
  (by decide +kernel : ∀ t : Fin grid0.N, _)

omit c i in
theorem idx1 : ∀ t : Fin cfg0.N, win0_1.index t = ![t.val % 4, t.val / 4 % 2] :=
  (by decide +kernel : ∀ t : Fin grid0.N, _)

theorem blk0 (t : Fin cfg0.N) (k : Fin 1024) (r : Fin 512) : iblk m c 0 t (ix2 k r)
    = lhs m c (ix2 ⟨1024 * (t.val % 4) + k.val, by omega⟩ ⟨512 * (t.val / 8) + r.val, by have := lt_of_lt_of_eq t.isLt (show cfg0.N = 16 from N_0); omega⟩) := by
  unfold iblk
  rw [View.read_apply]
  refine (congrFun (V_main_arg0 m c) _).trans ?_
  blk_ext [idx0 t]

theorem blk1 (t : Fin cfg0.N) (k : Fin 1024) (q : Fin 2816) : iblk m c 1 t (ix2 k q)
    = rhs m c (ix2 ⟨1024 * (t.val % 4) + k.val, by omega⟩ ⟨2816 * (t.val / 4 % 2) + q.val, by omega⟩) := by
  unfold iblk
  rw [View.read_apply]
  refine (congrFun (V_main_arg1 m c) _).trans ?_
  blk_ext [idx1 t]

/-- The product's term at row `k` of the operands, zero past the last. -/
def term (R : Fin 1024) (C : Fin 5632) (k : ℕ) : EReal :=
  if h : k < 4096 then (lhs m c (ix2 ⟨k, h⟩ R) : EReal) * rhs m c (ix2 ⟨k, h⟩ C) else 0

/-- The result's index in its block. -/
abbrev loc (R : Fin 1024) (C : Fin 5632) : S512x2816.Idx := ix2 ⟨R.val % 512, by omega⟩ ⟨C.val % 2816, by omega⟩

/-- What a point adds to the sum at an index of the block it works on. -/
theorem point_sum (R : Fin 1024) (C : Fin 5632) (t : Fin cfg0.N) (ht : t.val / 4 = 2 * (R.val / 512) + C.val / 2816) (a : FVec Ideal S512x2816 .f32) :
    (k0_pay2 a (iblk m c 0 t) (iblk m c 1 t) : FVec Ideal S512x2816 .f32) (loc R C)
      = a (loc R C) + ∑ k : Fin 1024, term m c R C (1024 * (t.val % 4) + k.val) := by
  refine (step_apply _ _ _ _ _).trans (congrArg _ (Finset.sum_congr rfl fun k _ => ?_))
  rw [blk0, blk1, term, dif_pos (by omega)]
  have e0 : 512 * (t.val / 8) + R.val % 512 = R.val := by omega
  have e1 : 2816 * (t.val / 4 % 2) + C.val % 2816 = C.val := by omega
  simp only [e0, e1]

/-- What the accumulator holds after each point of a run. -/
theorem acc_apply (R : Fin 1024) (C : Fin 5632) (j : ℕ) (hj : j < 4) (h : 4 * (2 * (R.val / 512) + C.val / 2816) + j < cfg0.N) :
    ((outsAt0 m c _ h).2 (loc R C) : EReal) = ∑ k : Fin (1024 * (j + 1)), term m c R C k.val := by
  have hN : cfg0.N = 16 := N_0
  refine Cert.Sums.acc_sum (fun t ht => ((outsAt0 m c t ht).2 (loc R C) : EReal))
    1024 4 _ (term m c R C) (fun h => ?_) (fun j hj h h' => ?_) j hj h
  · rw [outsAt0_A m c ⟨_, h⟩ (by dsimp only; omega) (by dsimp only; omega)]
    dsimp only
    rw [first, point_sum m c R C _ (by dsimp only; omega), zero_apply, zero_add]
    simp only [Nat.mul_mod_right, Nat.mul_zero, Nat.zero_add]
  · have e : (4 * (2 * (R.val / 512) + C.val / 2816) + j + 1) % 4 = j + 1 := by omega
    by_cases h3 : j + 1 = 3
    · rw [outsAt0_C m c ⟨_, h'⟩ (by dsimp only; omega) (by dsimp only; omega)]
      dsimp only
      rw [next', point_sum m c R C _ (by dsimp only; omega)]
      simp only [e, Nat.add_sub_cancel]
    · rw [outsAt0_B m c ⟨_, h'⟩ (by dsimp only; omega) (by dsimp only; omega)]
      dsimp only
      rw [next, point_sum m c R C _ (by dsimp only; omega)]
      simp only [e, Nat.add_sub_cancel]

/-- The result at an index: the sum over all the operands' rows. -/
theorem result_apply (R : Fin 1024) (C : Fin 5632) :
    Value.G2 m c (ix2 R C) = ∑ k : Fin 4096, (lhs m c (ix2 k R) : EReal) * rhs m c (ix2 k C) := by
  have hN : cfg0.N = 16 := N_0
  have hp : Value.pt2Of (ix2 R C) = 4 * (2 * (R.val / 512) + C.val / 2816) + 3 := by
    show 4 * (2 * (R.val / 512 - 0) + 1 * (C.val / 2816 - 0)) + 3 = _; omega
  have hl : Value.loc2Of (ix2 R C) = loc R C := by
    funext a; match a with | ⟨0, _⟩ => rfl | ⟨1, _⟩ => rfl
  have hb : 4 * (2 * (R.val / 512) + C.val / 2816) + 3 < cfg0.N := by omega
  unfold Value.G2
  rw [dif_pos (by rw [hp]; exact hb), hl, Value.fold0_congr m c _ _ _ (by rw [Nat.zero_add]; exact hb) hp, ← Value.outsAt0_sweep m c _ hb]
  have h3 := acc_apply m c R C 3 (by decide) hb
  rw [outsAt0_C m c ⟨_, hb⟩ (by dsimp only; omega) (by dsimp only; omega)] at h3 ⊢
  dsimp only at h3 ⊢
  rw [last]
  refine (scale_apply _ _ _).trans (h3.trans (Finset.sum_congr rfl fun k _ => ?_))
  rw [term, dif_pos k.isLt]

end Cert.Kernel3Ideal.Product

namespace Cert.Reference3Ideal.Product

open Cert.Reference3Ideal Cert.Reference3Ideal.Gen

/-- The reference's term at an index. -/
theorem value_apply (x : FVec Ideal S4096x1024 .bf16) (y : FVec Ideal S4096x5632 .bf16) (R : Fin 1024) (C : Fin 5632) :
    (concatenate S1024x5632 1 [⟨S1024x2816, (transpose S1024x2816 [1, 0] (Host.dotGeneral dot_S4096x2816_S4096x1024_S2816x1024_0_0_1_1_n_n none (extf .f32 (extractStridedSlice S4096x2816 ![0, 0] y slices_S4096x5632_S4096x2816_0_0) bitsLt_bf16_f32) (extf .f32 x bitsLt_bf16_f32)) transposes_S2816x1024_S1024x2816_1_0)⟩, ⟨S1024x2816, (transpose S1024x2816 [1, 0] (Host.dotGeneral dot_S4096x2816_S4096x1024_S2816x1024_0_0_1_1_n_n none (extf .f32 (extractStridedSlice S4096x2816 ![0, 2816] y slices_S4096x5632_S4096x2816_0_2816) bitsLt_bf16_f32) (extf .f32 x bitsLt_bf16_f32)) transposes_S2816x1024_S1024x2816_1_0)⟩] concatenates_S1024x2816_S1024x2816_S1024x5632_d1 : FVec Ideal S1024x5632 .f32) (ix2 R C)
      = ∑ k : Fin 4096, (x (ix2 k R) : EReal) * y (ix2 k C) := by
  pointwise []
  split
  · exact Finset.sum_congr rfl fun k _ => mul_comm _ _
  · next h =>
    have e : 2816 + (C.val - 2816) = C.val := by omega
    simp only [e]
    exact Finset.sum_congr rfl fun k _ => mul_comm _ _

end Cert.Reference3Ideal.Product

namespace Cert.Proof

/-- The kernel's result is the reference's. -/
theorem algebraic3 : Cert.algebraic_Kernel3Ideal_Reference3Ideal := by
  intro m ρ m' ρ' _ hagree
  refine ⟨fun c => Cert.Kernel3Ideal.Value.G2 m c, Cert.Kernel3Ideal.Value.run m ρ, ?_⟩
  refine (θ_run _ _ _).mono (fun _ h c => ⟨(h c).1.trans ?_, (h c).2⟩) (Cert.Reference3Ideal.Value.run m' ρ')
  obtain ⟨e0, e1⟩ := hagree c
  rw [e0, e1]
  funext y
  obtain ⟨R, C, rfl⟩ : ∃ (R : Fin 1024) (C : Fin 5632), y = ix2 R C := ⟨y 0, y 1, eq_ix2 y⟩
  exact (Cert.Reference3Ideal.Product.value_apply _ _ R C).trans (Cert.Kernel3Ideal.Product.result_apply m c R C).symm

end Cert.Proof
-- ==== Proof.DH.lean ====
/-
  The input's gradient of the gate and up products: the blocked product adds the gate half's sum and the up half's, which
  are the reference's two products.
-/
module

public import proofs.«01_k».proof.Defs
public import proofs.«01_k».proof.Proof.Sums
public import proofs.«01_k».proof.Proof.Gen.Kernel4Ideal.Value
public import proofs.«01_k».proof.Proof.Gen.Reference4Ideal.Run
public import Idealize.ShloMosaic.Lib.Pipeline.ValueKit.Geometry

@[expose] public section

set_option maxRecDepth 16384

noncomputable section

open Idealize.ShloMosaic Idealize.ShloMosaic.TcCoe Idealize.SL.Sem

namespace Cert.Kernel4Ideal.Product

open Cert.Kernel4Ideal Cert.Kernel4Ideal.Gen

variable (m : (ℓ : Loc nD τ sig) → Buf (Elt Ideal) ℓ) (ρ : Dev nD → PrngReg)

abbrev lhs (c : Dev nD) : FVec Ideal S4096x5632 .bf16 := m ((c : Thread nD τ).loc main_arg0)
abbrev rhs (c : Dev nD) : FVec Ideal S1024x5632 .bf16 := m ((c : Thread nD τ).loc main_arg1)

theorem hz : (![0, 0] : Fin 2 → Nat) = fun _ => 0 := funext fun a => by fin_cases a <;> rfl

variable (c : Dev nD) (i : grid0.Coords) (a3 : Memref sig .tc .vmem S512x2816 .bf16) (h3 : a3.IsWhole)
  (a4 : Memref sig .tc .vmem S1024x2816 .bf16) (h4 : a4.IsWhole) (a5 : Memref sig .tc .vmem S512x1024 .f32) (h5 : a5.IsWhole)
  (a6 : Memref sig .tc .vmem S512x1024 .f32) (h6 : a6.IsWhole)
  (x0 : Vec Ideal S512x2816 .bf16) (x1 : Vec Ideal S1024x2816 .bf16) (xs : Vec Ideal S512x1024 .f32)

/-- The first of a block's two points leaves the product of its operands' blocks, -/
theorem first (hc0 : cond0_0 i) (hc1 : ¬cond0_1 i) : sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S512x1024) hz, View.readCov_unit_zero (S := S512x1024) _ hz]
  simp only [View.readAt_eq_ld, h3.read_unread, h4.read_unread, View.ld_unit_zero (S := S512x2816) hz, View.ld_unit_zero (S := S1024x2816) hz]

/-- and the second writes back the scaled sum of both. -/
theorem last (hc0 : ¬cond0_0 i) (hc1 : cond0_1 i) : out0_B_2 c i a3 h3 a4 h4 a5 h5 a6 h6 hc0 hc1 x0 x1 xs = k0_pay3 (k0_pay2 xs x0 x1) := by
  unfold out0_B_2
  rw [View.read_writes_eq_canon _ _ _ (cover0_B_2 c i a3 h3 a4 h4 a5 h5 a6 h6 hc0 hc1 x0 x1 xs)]
  unfold kernelRun0_B
  dsimp only
  sl_unfold_words
  rw [View.canon_unit_zero (S := S512x1024) hz, View.readCov_unit_zero (S := S512x1024) _ hz]
  simp only [View.readAt_eq_ld, h3.read_unread, h4.read_unread, h6.read_unread, View.ld_unit_zero (S := S512x1024) hz,
    View.ld_unit_zero (S := S512x2816) hz, View.ld_unit_zero (S := S1024x2816) hz]

/-- The two blocks' product at an index, added to what was there. -/
theorem step_apply (r : Fin 512) (q : Fin 1024) : (k0_pay2 xs x0 x1 : FVec Ideal S512x1024 .f32) (ix2 r q)
    = xs (ix2 r q) + ∑ k : Fin 2816, (x0 (ix2 r k) : EReal) * x1 (ix2 q k) := by
  pointwise [k0_pay2]

theorem zero_apply (r : Fin 512) (q : Fin 1024) : (k0_pay1 : FVec Ideal S512x1024 .f32) (ix2 r q) = (0 : EReal) := by
  pointwise [k0_pay1]

theorem scale_apply (r : Fin 512) (q : Fin 1024) : (k0_pay3 xs : FVec Ideal S512x1024 .f32) (ix2 r q) = xs (ix2 r q) := by
  pointwise [k0_pay3]

omit c i in
theorem idx0 : ∀ t : Fin cfg0.N, win0_0.index t = ![t.val / 2, t.val % 2] :=
  (by decide +kernel : ∀ t : Fin grid0.N, _)

omit c i in
theorem idx1 : ∀ t : Fin cfg0.N, win0_1.index t = ![0, t.val % 2] :=
  (by decide +kernel : ∀ t : Fin grid0.N, _)

theorem blk0 (t : Fin cfg0.N) (r : Fin 512) (k : Fin 2816) : iblk m c 0 t (ix2 r k)
    = lhs m c (ix2 ⟨512 * (t.val / 2) + r.val, by have := lt_of_lt_of_eq t.isLt (show cfg0.N = 16 from N_0); omega⟩ ⟨2816 * (t.val % 2) + k.val, by omega⟩) := by
  unfold iblk
  rw [View.read_apply]
  refine (congrFun (V_main_arg0 m c) _).trans ?_
  blk_ext [idx0 t]

theorem blk1 (t : Fin cfg0.N) (q : Fin 1024) (k : Fin 2816) : iblk m c 1 t (ix2 q k)
    = rhs m c (ix2 q ⟨2816 * (t.val % 2) + k.val, by omega⟩) := by
  unfold iblk
  rw [View.read_apply]
  refine (congrFun (V_main_arg1 m c) _).trans ?_
  blk_ext [idx1 t]

/-- The sum over one half of the columns. -/
abbrev half (R : Fin 4096) (C : Fin 1024) (b : ℕ) (hb : b < 2) : EReal :=
  ∑ k : Fin 2816, (lhs m c (ix2 R ⟨2816 * b + k.val, by omega⟩) : EReal) * rhs m c (ix2 C ⟨2816 * b + k.val, by omega⟩)

/-- What a point adds to the sum at an index of the block it works on. -/
theorem point_sum (R : Fin 4096) (C : Fin 1024) (t : Fin cfg0.N) (ht : t.val / 2 = R.val / 512) (b : ℕ) (hb : b < 2) (htb : t.val % 2 = b)
    (a : FVec Ideal S512x1024 .f32) :
    (k0_pay2 a (iblk m c 0 t) (iblk m c 1 t) : FVec Ideal S512x1024 .f32) (ix2 ⟨R.val % 512, by omega⟩ C)
      = a (ix2 ⟨R.val % 512, by omega⟩ C) + half m c R C b hb := by
  refine (step_apply _ _ _ _ _).trans (congrArg _ (Finset.sum_congr rfl fun k _ => ?_))
  rw [blk0, blk1]
  have e0 : 512 * (t.val / 2) + R.val % 512 = R.val := by omega
  simp only [e0, htb]

/-- The result at an index: the sum over the gate's columns and the sum over the up's. -/
theorem result_apply (R : Fin 4096) (C : Fin 1024) :
    Value.G2 m c (ix2 R C) = half m c R C 0 (by decide) + half m c R C 1 (by decide) := by
  have hN : cfg0.N = 16 := N_0
  have hp : Value.pt2Of (ix2 R C) = 2 * (R.val / 512) + 1 := by
    show 2 * (1 * (R.val / 512 - 0) + 1 * (C.val / 1024 - 0)) + 1 = _; omega
  have hl : Value.loc2Of (ix2 R C) = ix2 ⟨R.val % 512, by omega⟩ C := by
    funext a; match a with | ⟨0, _⟩ => rfl | ⟨1, _⟩ => exact Fin.ext (Nat.mod_eq_of_lt C.isLt)
  have hb : 2 * (R.val / 512) + 1 < cfg0.N := by omega
  have hb' : 2 * (R.val / 512) < cfg0.N := by omega
  unfold Value.G2
  rw [dif_pos (by rw [hp]; exact hb), hl, Value.fold0_congr m c _ _ _ (by rw [Nat.zero_add]; exact hb) hp, ← Value.outsAt0_sweep m c _ hb]
  rw [outsAt0_B m c ⟨_, hb⟩ (by dsimp only; omega) (by dsimp only; omega)]
  dsimp only
  rw [last]
  refine (scale_apply _ _ _).trans ((point_sum m c R C ⟨_, hb⟩ (by dsimp only; omega) 1 (by decide) (by dsimp only; omega) _).trans (congrArg (· + _) ?_))
  simp only [Nat.add_sub_cancel]
  rw [outsAt0_A m c ⟨_, hb'⟩ (by dsimp only; omega) (by dsimp only; omega)]
  dsimp only
  rw [first]
  refine (point_sum m c R C ⟨_, hb'⟩ (by dsimp only; omega) 0 (by decide) (by dsimp only; omega) _).trans ?_
  rw [zero_apply, zero_add]

end Cert.Kernel4Ideal.Product

namespace Cert.Proof

/-- The kernel's result is the reference's. -/
theorem algebraic4 : Cert.algebraic_Kernel4Ideal_Reference4Ideal := by
  intro m ρ m' ρ' _ hagree
  refine ⟨fun c => Cert.Kernel4Ideal.Value.G2 m c, Cert.Kernel4Ideal.Value.run m ρ, ?_⟩
  refine (θ_run _ _ _).mono (fun _ h c => ⟨(h c).1.trans ?_, (h c).2⟩) (Cert.Reference4Ideal.Value.run m' ρ')
  obtain ⟨e0, e1⟩ := hagree c
  rw [e0, e1]
  funext y
  obtain ⟨R, C, rfl⟩ : ∃ (R : Fin 4096) (C : Fin 1024), y = ix2 R C := ⟨y 0, y 1, eq_ix2 y⟩
  refine Eq.trans ?_ (Cert.Kernel4Ideal.Product.result_apply m c R C).symm
  rw [add_comm]
  pointwise []
  simp only [Cert.Kernel4Ideal.Product.half, Nat.mul_zero, Nat.zero_add, Nat.mul_one]

end Cert.Proof
-- ==== Proof.Wdown.lean ====
/-
  The down weight's gradient: the blocked product accumulates over the row blocks of its operands the sum over all rows;
  half of it is written in the order of the devices' pieces.
-/
module

public import proofs.«01_k».proof.Defs
public import proofs.«01_k».proof.Proof.Sums
public import proofs.«01_k».proof.Proof.Gen.Kernel5Ideal.Value
public import proofs.«01_k».proof.Proof.Gen.Reference5Ideal.Run
public import Idealize.ShloMosaic.Lib.Pipeline.ValueKit

@[expose] public section

set_option maxRecDepth 16384

noncomputable section

open Idealize.ShloMosaic Idealize.ShloMosaic.TcCoe Idealize.SL.Sem

namespace Cert.Kernel5Ideal.Product

open Cert.Kernel5Ideal Cert.Kernel5Ideal.Gen

variable (m : (ℓ : Loc nD τ sig) → Buf (Elt Ideal) ℓ) (c : Dev nD)

abbrev lhs : FVec Ideal S4096x2816 .bf16 := m ((c : Thread nD τ).loc main_arg0)
abbrev rhs : FVec Ideal S4096x1024 .f32 := m ((c : Thread nD τ).loc main_arg1)

section Payloads

variable (x0 : Vec Ideal S1024x1408 .bf16) (x1 : Vec Ideal S1024x1024 .f32) (xs : Vec Ideal S1408x1024 .f32)

/-- The two blocks' product at an index, added to what was there. -/
theorem step_apply (r : Fin 1408) (q : Fin 1024) : (k0_pay2 xs x0 x1 : FVec Ideal S1408x1024 .f32) (ix2 r q)
    = xs (ix2 r q) + ∑ k : Fin 1024, (x0 (ix2 k r) : EReal) * x1 (ix2 k q) := by
  pointwise [k0_pay2]

theorem zero_apply (r : Fin 1408) (q : Fin 1024) : (k0_pay1 : FVec Ideal S1408x1024 .f32) (ix2 r q) = (0 : EReal) := by
  pointwise [k0_pay1]

/-- The four pieces a point writes: rows `352 i, …` of the scaled sum, as bf16. -/
theorem piece_apply (z : Fin 1) (w : Fin 1) (r : Fin 352) (q : Fin 1024) :
    (k0_pay4 xs : FVec Ideal S1x1x352x1024 .bf16) (ix4 z w r q) = xs (ix2 ⟨352 * 0 + r.val, by omega⟩ q) * Ideal.ofBits .f32 0x3F000000#32
    ∧ (k0_pay5 xs : FVec Ideal S1x1x352x1024 .bf16) (ix4 z w r q) = xs (ix2 ⟨352 * 1 + r.val, by omega⟩ q) * Ideal.ofBits .f32 0x3F000000#32
    ∧ (k0_pay6 xs : FVec Ideal S1x1x352x1024 .bf16) (ix4 z w r q) = xs (ix2 ⟨352 * 2 + r.val, by omega⟩ q) * Ideal.ofBits .f32 0x3F000000#32
    ∧ (k0_pay7 xs : FVec Ideal S1x1x352x1024 .bf16) (ix4 z w r q) = xs (ix2 ⟨352 * 3 + r.val, by omega⟩ q) * Ideal.ofBits .f32 0x3F000000#32 := by
  refine ⟨?_, ?_, ?_, ?_⟩
  · pointwise [k0_pay4, k0_pay3]
  · pointwise [k0_pay5, k0_pay3]
  · pointwise [k0_pay6, k0_pay3]
  · pointwise [k0_pay7, k0_pay3]

theorem scratch_read : View.read (Elt Ideal) (View.whole cc0_scratch0) ((Memref.isWhole_whole cc0_scratch0).unread xs) = xs :=
  (Memref.isWhole_whole cc0_scratch0).read_unread xs

end Payloads

/-- What the last point of a run writes back at an index: half the sum at its row. -/
theorem out_apply (t : Fin cfg0.N) (h0 : ¬t.val % 4 = 0) (h1 : t.val % 4 = 3) (a b : Fin 2) (r : Fin 352) (q : Fin 1024) :
    (outsAt0 m c t.val t.isLt).1 (ix4 a b r q)
      = (outsAt0 m c t.val t.isLt).2 (ix2 ⟨352 * (2 * b.val + a.val) + r.val, by omega⟩ q) * Ideal.ofBits .f32 0x3F000000#32 := by
  rw [outsAt0_C m c t h0 h1]
  frame_out
  rw [scratch_read]
  generalize k0_pay2 (outsAt0 m c (t.val - 1) _).2 (iblk m c 0 t) (iblk m c 1 t) = xs
  refine View.canon_eq_of_allAt _ _ _ ?_ (View.allAt_cons_unit _ _ _ _ _ ?_ (View.allAt_cons_unit _ _ _ _ _ ?_
    (View.allAt_cons_unit _ _ _ _ _ ?_ (View.allAt_cons_unit _ _ _ _ _ ?_ (View.allAt_nil _ _)))))
  · exact View.cover_of_tiled_head _ _ _ rfl _
  all_goals
    intro x hx
    obtain ⟨z, w, r', q', rfl⟩ : ∃ (z w : Fin 1) (r' : Fin 352) (q' : Fin 1024), x = ix4 z w r' q' := ⟨x 0, x 1, x 2, x 3, eq_ix4 x⟩
    have e0 : a.val = _ + z.val := hx 0
    have e1 : b.val = _ + w.val := hx 1
    have e2 : r.val = 0 + r'.val := hx 2
    have e3 : q.val = 0 + q'.val := hx 3
    obtain rfl : q = q' := Fin.ext (by omega)
    obtain rfl : r = r' := Fin.ext (by omega)
    simp only [Matrix.cons_val_zero, Matrix.cons_val_one] at e0 e1
    have hz : z.val = 0 := by omega
    have hw : w.val = 0 := by omega
    simp only [e0, e1, hz, hw]
  · exact (piece_apply xs z w r q).2.2.2
  · exact (piece_apply xs z w r q).2.2.1
  · exact (piece_apply xs z w r q).2.1
  · exact (piece_apply xs z w r q).1

omit c in
theorem idx0 : ∀ t : Fin cfg0.N, win0_0.index t = ![t.val % 4, t.val / 4] :=
  (by decide +kernel : ∀ t : Fin grid0.N, _)

omit c in
theorem idx1 : ∀ t : Fin cfg0.N, win0_1.index t = ![t.val % 4, 0] :=
  (by decide +kernel : ∀ t : Fin grid0.N, _)

theorem blk0 (t : Fin cfg0.N) (k : Fin 1024) (r : Fin 1408) : iblk m c 0 t (ix2 k r)
    = lhs m c (ix2 ⟨1024 * (t.val % 4) + k.val, by omega⟩ ⟨1408 * (t.val / 4) + r.val, by have := lt_of_lt_of_eq t.isLt (show cfg0.N = 8 from N_0); omega⟩) := by
  unfold iblk
  rw [View.read_apply]
  refine (congrFun (V_main_arg0 m c) _).trans ?_
  blk_ext [idx0 t]

theorem blk1 (t : Fin cfg0.N) (k : Fin 1024) (q : Fin 1024) : iblk m c 1 t (ix2 k q)
    = rhs m c (ix2 ⟨1024 * (t.val % 4) + k.val, by omega⟩ q) := by
  unfold iblk
  rw [View.read_apply]
  refine (congrFun (V_main_arg1 m c) _).trans ?_
  blk_ext [idx1 t]

/-- The product's term at row `k` of the operands, zero past the last. -/
def term (R : Fin 2816) (C : Fin 1024) (k : ℕ) : EReal :=
  if h : k < 4096 then (lhs m c (ix2 ⟨k, h⟩ R) : EReal) * rhs m c (ix2 ⟨k, h⟩ C) else 0

/-- What a point adds to the sum at an index of the block it works on. -/
theorem point_sum (R : Fin 2816) (C : Fin 1024) (t : Fin cfg0.N) (ht : t.val / 4 = R.val / 1408) (a : FVec Ideal S1408x1024 .f32) :
    (k0_pay2 a (iblk m c 0 t) (iblk m c 1 t) : FVec Ideal S1408x1024 .f32) (ix2 ⟨R.val % 1408, by omega⟩ C)
      = a (ix2 ⟨R.val % 1408, by omega⟩ C) + ∑ k : Fin 1024, term m c R C (1024 * (t.val % 4) + k.val) := by
  refine (step_apply _ _ _ _ _).trans (congrArg _ (Finset.sum_congr rfl fun k _ => ?_))
  rw [blk0, blk1, term, dif_pos (by omega)]
  have e0 : 1408 * (t.val / 4) + R.val % 1408 = R.val := by omega
  simp only [e0]

/-- What the accumulator holds after each point of a run. -/
theorem acc_apply (R : Fin 2816) (C : Fin 1024) (j : ℕ) (hj : j < 4) (h : 4 * (R.val / 1408) + j < cfg0.N) :
    ((outsAt0 m c _ h).2 (ix2 ⟨R.val % 1408, by omega⟩ C) : EReal) = ∑ k : Fin (1024 * (j + 1)), term m c R C k.val := by
  have hN : cfg0.N = 8 := N_0
  refine Cert.Sums.acc_sum (fun t ht => ((outsAt0 m c t ht).2 (ix2 ⟨R.val % 1408, by omega⟩ C) : EReal))
    1024 4 _ (term m c R C) (fun h => ?_) (fun j hj h h' => ?_) j hj h
  · rw [outsAt0_A m c ⟨_, h⟩ (by dsimp only; omega) (by dsimp only; omega)]
    frame_out
    rw [point_sum m c R C _ (by dsimp only; omega), zero_apply, zero_add]
    simp only [Nat.mul_mod_right, Nat.mul_zero, Nat.zero_add]
  · have e : (4 * (R.val / 1408) + j + 1) % 4 = j + 1 := by omega
    by_cases h3 : j + 1 = 3
    · rw [outsAt0_C m c ⟨_, h'⟩ (by dsimp only; omega) (by dsimp only; omega)]
      frame_out
      rw [scratch_read, point_sum m c R C _ (by dsimp only; omega)]
      simp only [e, Nat.add_sub_cancel]
    · rw [outsAt0_B m c ⟨_, h'⟩ (by dsimp only; omega) (by dsimp only; omega)]
      frame_out
      rw [scratch_read, point_sum m c R C _ (by dsimp only; omega)]
      simp only [e, Nat.add_sub_cancel]

/-- The result at an index: half the sum over all the operands' rows. -/
theorem result_apply (a : Fin 2) (b : Fin 4) (r : Fin 352) (q : Fin 1024) :
    Value.G2 m c (ix4 a b r q)
      = ∑ k : Fin 4096, (lhs m c (ix2 k ⟨352 * (2 * b.val + a.val) + r.val, by omega⟩) : EReal) * (Ideal.ofBits .f32 0x3F000000#32 * rhs m c (ix2 k q)) := by
  have hN : cfg0.N = 8 := N_0
  have hR : 352 * (2 * b.val + a.val) + r.val < 2816 := by omega
  have hp : Value.pt2Of (ix4 a b r q) = 4 * (b.val / 2) + 3 := by
    show 4 * (2 * (a.val / 2 - 0) + 1 * (b.val / 2 - 0) + 1 * (r.val / 352 - 0) + 1 * (q.val / 1024 - 0)) + 3 = _; omega
  have hl : Value.loc2Of (ix4 a b r q) = ix4 a ⟨b.val % 2, by omega⟩ r q := by
    funext i
    match i with
    | ⟨0, _⟩ => exact Fin.ext (Nat.mod_eq_of_lt a.isLt)
    | ⟨1, _⟩ => rfl
    | ⟨2, _⟩ => exact Fin.ext (Nat.mod_eq_of_lt r.isLt)
    | ⟨3, _⟩ => exact Fin.ext (Nat.mod_eq_of_lt q.isLt)
  have e1 : (352 * (2 * b.val + a.val) + r.val) / 1408 = b.val / 2 := by omega
  have e2 : (352 * (2 * b.val + a.val) + r.val) % 1408 = 352 * (2 * (b.val % 2) + a.val) + r.val := by omega
  have hb : 4 * (b.val / 2) + 3 < cfg0.N := by omega
  unfold Value.G2
  rw [dif_pos (by rw [hp]; exact hb), hl, Value.fold0_congr m c _ _ _ (by rw [Nat.zero_add]; exact hb) hp, ← Value.outsAt0_sweep m c _ hb]
  rw [← Cert.Sums.half_sum]
  refine (out_apply m c ⟨_, hb⟩ (by dsimp only; omega) (by dsimp only; omega) _ _ _ _).trans (congrArg (· * _) ?_)
  have h3 := acc_apply m c ⟨_, hR⟩ q 3 (by decide) (by dsimp only; omega)
  simp only [e1, e2] at h3
  refine h3.trans (Finset.sum_congr rfl fun k _ => ?_)
  rw [term, dif_pos k.isLt]

end Cert.Kernel5Ideal.Product

namespace Cert.Proof

/-- The kernel's result is the reference's. -/
theorem algebraic5 : Cert.algebraic_Kernel5Ideal_Reference5Ideal := by
  intro m ρ m' ρ' _ hagree
  refine ⟨fun c => Cert.Kernel5Ideal.Value.G2 m c, Cert.Kernel5Ideal.Value.run m ρ, ?_⟩
  refine (θ_run _ _ _).mono (fun _ h c => ⟨(h c).1.trans ?_, (h c).2⟩) (Cert.Reference5Ideal.Value.run m' ρ')
  obtain ⟨e0, e1⟩ := hagree c
  rw [e0, e1]
  funext y
  obtain ⟨a, b, r, q, rfl⟩ : ∃ (a : Fin 2) (b : Fin 4) (r : Fin 352) (q : Fin 1024), y = ix4 a b r q := ⟨y 0, y 1, y 2, y 3, eq_ix4 y⟩
  refine Eq.trans ?_ (Cert.Kernel5Ideal.Product.result_apply m c a b r q).symm
  pointwise []
  refine Finset.sum_congr rfl fun k _ => (mul_comm _ _).trans ?_
  have e : b.val * 704 + a.val * 352 + r.val = 352 * (2 * b.val + a.val) + r.val := by omega
  simp only [e]

end Cert.Proof
-- ==== Proof.Norm.lean ====
/-
  The root mean square norm's backward pass: each point writes its rows' gradient, and adds to the scale's gradient the sum
  over its rows.
-/
module

public import proofs.«01_k».proof.Defs
public import proofs.«01_k».proof.Proof.Sums
public import proofs.«01_k».proof.Proof.Gen.Kernel6Ideal.Value
public import proofs.«01_k».proof.Proof.Gen.Reference6Ideal.Run
public import Idealize.ShloMosaic.Lib.Pipeline.ValueKit

@[expose] public section

set_option maxRecDepth 16384

noncomputable section

open Idealize.ShloMosaic Idealize.ShloMosaic.TcCoe Idealize.SL.Sem

namespace Cert.Kernel6Ideal.Norm

open Cert.Kernel6Ideal Cert.Kernel6Ideal.Gen

variable (m : (ℓ : Loc nD τ sig) → Buf (Elt Ideal) ℓ) (c : Dev nD)

abbrev x : FVec Ideal S4096x1024 .f32 := m ((c : Thread nD τ).loc main_arg0)
abbrev n : FVec Ideal S1x1024 .f32 := m ((c : Thread nD τ).loc main_arg1)
abbrev dh : FVec Ideal S4096x1024 .f32 := m ((c : Thread nD τ).loc main_arg2)
abbrev dy : FVec Ideal S4096x1024 .f32 := m ((c : Thread nD τ).loc main_arg3)

/-- A row's mean square, shifted. -/
def meanSq (x : Fin 1024 → EReal) : EReal :=
  Ideal.div (∑ j, x j * x j) (Ideal.ofBits .f32 0x44800000#32) + Ideal.ofBits .f32 0x358637BD#32

/-- What the row's gradient takes from the mean square's. -/
def corr (x g : Fin 1024 → EReal) : EReal :=
  Ideal.div ((∑ j, x j * g j) * (Ideal.ofBits .f32 0xBF000000#32 * Ideal.div (Ideal.rsqrt (meanSq x)) (meanSq x))) (Ideal.ofBits .f32 0x44800000#32)

section Payloads

variable (x0 : Vec Ideal S1024x1024 .f32) (x1 : Vec Ideal S1x1024 .f32) (x2 x3 : Vec Ideal S1024x1024 .f32) (xs : Vec Ideal S1x1024 .f32)

theorem step_apply (z : Fin 1) (q : Fin 1024) : (k0_pay2 (k0_pay5 x0 x2) xs : FVec Ideal S1x1024 .f32) (ix2 z q)
    = xs (ix2 z q) + ∑ k : Fin 1024, (x0 (ix2 k q) : EReal) * Ideal.rsqrt (meanSq fun j => x0 (ix2 k j)) * x2 (ix2 k q) := by
  unfold meanSq
  pointwise [k0_pay2, k0_pay5, k0_pay4, k0_pay3]

theorem zero_apply (z : Fin 1) (q : Fin 1024) : (k0_pay1 : FVec Ideal S1x1024 .f32) (ix2 z q) = (0 : EReal) := by
  pointwise [k0_pay1]

theorem rows_apply (r q : Fin 1024) : (k0_pay6 x0 x1 x2 x3 : FVec Ideal S1024x1024 .f32) (ix2 r q)
    = (x2 (ix2 r q) * x1 (ix2 0 q)) * Ideal.rsqrt (meanSq fun j => x0 (ix2 r j))
      + x0 (ix2 r q) * corr (fun j => x0 (ix2 r j)) (fun j => x2 (ix2 r j) * x1 (ix2 0 j))
      + corr (fun j => x0 (ix2 r j)) (fun j => x2 (ix2 r j) * x1 (ix2 0 j)) * x0 (ix2 r q) + x3 (ix2 r q) := by
  unfold corr meanSq
  pointwise [k0_pay6, k0_pay4, k0_pay3]
  simp only [Fin.sum_univ_one]

end Payloads

omit c in
theorem idx0 : ∀ t : Fin cfg0.N, win0_0.index t = ![t.val, 0] :=
  (by decide +kernel : ∀ t : Fin grid0.N, _)

omit c in
theorem idx1 : ∀ t : Fin cfg0.N, win0_1.index t = ![0, 0] :=
  (by decide +kernel : ∀ t : Fin grid0.N, _)

omit c in
theorem idx2 : ∀ t : Fin cfg0.N, win0_2.index t = ![t.val, 0] :=
  (by decide +kernel : ∀ t : Fin grid0.N, _)

omit c in
theorem idx3 : ∀ t : Fin cfg0.N, win0_3.index t = ![t.val, 0] :=
  (by decide +kernel : ∀ t : Fin grid0.N, _)

omit c in
theorem idx4 : ∀ t : Fin cfg0.N, win0_4.index t = ![t.val, 0] :=
  (by decide +kernel : ∀ t : Fin grid0.N, _)

omit c in
theorem idx5 : ∀ t : Fin cfg0.N, win0_5.index t = ![0, 0] :=
  (by decide +kernel : ∀ t : Fin grid0.N, _)

omit c in
theorem last5 : ∀ t : Fin cfg0.N, (cfg0.win 5).flush t = true → t.val = 3 :=
  (by decide +kernel : ∀ t : Fin grid0.N, _)

theorem row_lt (t : Fin cfg0.N) (r : Fin 1024) : 1024 * t.val + r.val < 4096 := by
  have := lt_of_lt_of_eq t.isLt (show cfg0.N = 4 from N_0); omega

theorem blk0 (t : Fin cfg0.N) (r k : Fin 1024) : iblk m c 0 t (ix2 r k) = x m c (ix2 ⟨1024 * t.val + r.val, row_lt t r⟩ k) := by
  unfold iblk
  rw [View.read_apply]
  refine (congrFun (V_main_arg0 m c) _).trans ?_
  blk_ext [idx0 t]

theorem blk1 (t : Fin cfg0.N) (z : Fin 1) (k : Fin 1024) : iblk m c 1 t (ix2 z k) = n m c (ix2 z k) := by
  unfold iblk
  rw [View.read_apply]
  refine (congrFun (V_main_arg1 m c) _).trans ?_
  blk_ext [idx1 t]

theorem blk2 (t : Fin cfg0.N) (r k : Fin 1024) : iblk m c 2 t (ix2 r k) = dh m c (ix2 ⟨1024 * t.val + r.val, row_lt t r⟩ k) := by
  unfold iblk
  rw [View.read_apply]
  refine (congrFun (V_main_arg2 m c) _).trans ?_
  blk_ext [idx2 t]

theorem blk3 (t : Fin cfg0.N) (r k : Fin 1024) : iblk m c 3 t (ix2 r k) = dy m c (ix2 ⟨1024 * t.val + r.val, row_lt t r⟩ k) := by
  unfold iblk
  rw [View.read_apply]
  refine (congrFun (V_main_arg3 m c) _).trans ?_
  blk_ext [idx3 t]

/-- What a point writes of the rows' gradient. -/
theorem out4 (t : Fin cfg0.N) : (outsAt0 m c t.val t.isLt).1 = k0_pay6 (iblk m c 0 t) (iblk m c 1 t) (iblk m c 2 t) (iblk m c 3 t) := by
  by_cases h0 : t.val % 4 = 0
  · rw [outsAt0_A m c t h0]
    frame_out
  · rw [outsAt0_B m c t h0]
    frame_out

/-- The scale's gradient's term of row `k`, zero past the last. -/
def term (q : Fin 1024) (k : ℕ) : EReal :=
  if h : k < 4096 then
    (x m c (ix2 ⟨k, h⟩ q) : EReal) * Ideal.rsqrt (meanSq fun j => x m c (ix2 ⟨k, h⟩ j)) * dh m c (ix2 ⟨k, h⟩ q)
  else 0

/-- What a point adds to the scale's gradient. -/
theorem point_sum (z : Fin 1) (q : Fin 1024) (t : Fin cfg0.N) (a : FVec Ideal S1x1024 .f32) :
    (k0_pay2 (k0_pay5 (iblk m c 0 t) (iblk m c 2 t)) a : FVec Ideal S1x1024 .f32) (ix2 z q)
      = a (ix2 z q) + ∑ k : Fin 1024, term m c q (1024 * t.val + k.val) := by
  refine (step_apply _ _ _ _ _).trans (congrArg _ (Finset.sum_congr rfl fun k _ => ?_))
  rw [blk0, blk2, term, dif_pos (row_lt t k)]
  simp only [blk0]

/-- What the scale's gradient holds after each point. -/
theorem acc_apply (z : Fin 1) (q : Fin 1024) (j : ℕ) (hj : j < 4) (h : 4 * 0 + j < cfg0.N) :
    ((outsAt0 m c _ h).2 (ix2 z q) : EReal) = ∑ k : Fin (1024 * (j + 1)), term m c q k.val := by
  refine Cert.Sums.acc_sum (fun t ht => ((outsAt0 m c t ht).2 (ix2 z q) : EReal)) 1024 4 0 (term m c q) (fun h => ?_) (fun j hj h h' => ?_) j hj h
  · rw [outsAt0_A m c ⟨_, h⟩ rfl]
    frame_out
    rw [point_sum, zero_apply, zero_add]
    simp only [Nat.mul_zero, Nat.zero_add]
  · rw [outsAt0_B m c ⟨_, h'⟩ (by dsimp only; omega)]
    frame_out
    rw [point_sum]
    simp only [Nat.mul_zero, Nat.zero_add, Nat.add_sub_cancel]

end Cert.Kernel6Ideal.Norm

namespace Cert.Proof

open Cert.Kernel6Ideal.Norm in
/-- The kernel's results are the reference's. -/
theorem algebraic6 : Cert.algebraic_Kernel6Ideal_Reference6Ideal := by
  intro m ρ m' ρ' _ hagree
  refine ⟨fun c => (Cert.Kernel6Ideal.Gen.dats m 0 c).arrAt 4 Cert.Kernel6Ideal.cfg0.N,
    fun c => (Cert.Kernel6Ideal.Gen.dats m 0 c).arrAt 5 Cert.Kernel6Ideal.cfg0.N, Cert.Kernel6Ideal.Value.run_blocks m ρ, ?_⟩
  refine (θ_run _ _ _).mono (fun _ h c => ⟨(h c).1.trans ?_, (h c).2.1.trans ?_, (h c).2.2⟩) (Cert.Reference6Ideal.Value.run m' ρ')
  all_goals
    clear h
    obtain ⟨e0, e1, e2, e3⟩ := hagree c
  · rw [e0, e1, e2, e3]
    symm
    refine (Cert.Kernel6Ideal.Gen.dats m 0 c).arrAt_eq_of_covers 4 _ (by decide +kernel) fun t hf y => ?_
    blk_simp
    rw [Cert.Kernel6Ideal.Gen.after0_4, out4]
    obtain ⟨r, q, rfl⟩ : ∃ (r : Fin 1024) (q : Fin 1024), y = ix2 r q := ⟨y 0, y 1, eq_ix2 y⟩
    rw [show ((View.whole Cert.Kernel6Ideal.main_v0_0).slice (Cert.Kernel6Ideal.win0_4.rect t)).emb (ix2 r q) = ix2 ⟨1024 * t.val + r.val, row_lt t r⟩ q from by blk_ext [idx4 t]]
    refine (rows_apply _ _ _ _ _ _).trans ?_
    simp only [blk0, blk1, blk2, blk3]
    rw [add_comm, ← add_assoc, ← add_assoc]
    unfold corr meanSq
    pointwise []
    simp only [Fin.sum_univ_one]
  · rw [e0, e2]
    symm
    refine (Cert.Kernel6Ideal.Gen.dats m 0 c).arrAt_eq_of_covers 5 _ (by decide +kernel) fun t hf y => ?_
    have ht := last5 t hf
    blk_simp
    rw [Cert.Kernel6Ideal.Gen.after0_5]
    obtain ⟨z, q, rfl⟩ : ∃ (z : Fin 1) (q : Fin 1024), y = ix2 z q := ⟨y 0, y 1, eq_ix2 y⟩
    rw [show ((View.whole Cert.Kernel6Ideal.main_v0_1).slice (Cert.Kernel6Ideal.win0_5.rect t)).emb (ix2 z q) = ix2 z q from by blk_ext [idx5 t]]
    obtain rfl : t = ⟨4 * 0 + 3, by decide⟩ := Fin.ext ht
    refine (acc_apply m c z q 3 (by decide) _).trans ?_
    unfold term meanSq
    pointwise []

end Cert.Proof
-- ==== Proof.Merge.lean ====
/-
  The merge of the two branches, backwards: each point writes its rows of the gate's and of the two branches' gradients, and
  adds to the gate's bias gradient the sum over its rows.
-/
module

public import proofs.«01_k».proof.Defs
public import proofs.«01_k».proof.Proof.Sums
public import proofs.«01_k».proof.Proof.Gen.Kernel7Ideal.Value
public import proofs.«01_k».proof.Proof.Gen.Reference7Ideal.Run
public import Idealize.ShloMosaic.Lib.Pipeline.ValueKit

@[expose] public section

set_option maxRecDepth 16384

noncomputable section

open Idealize.ShloMosaic Idealize.ShloMosaic.TcCoe Idealize.SL.Sem

namespace Cert.Kernel7Ideal.Merge

open Cert.Kernel7Ideal Cert.Kernel7Ideal.Gen

variable (m : (ℓ : Loc nD τ sig) → Buf (Elt Ideal) ℓ) (c : Dev nD)

abbrev gl : FVec Ideal S4096x2048 .f32 := m ((c : Thread nD τ).loc main_arg0)
abbrev p5 : FVec Ideal S4096x1024 .f32 := m ((c : Thread nD τ).loc main_arg1)
abbrev pssd : FVec Ideal S4096x1024 .f32 := m ((c : Thread nD τ).loc main_arg2)
abbrev b : FVec Ideal S1x2048 .f32 := m ((c : Thread nD τ).loc main_arg3)
abbrev d : FVec Ideal S4096x1024 .f32 := m ((c : Thread nD τ).loc main_arg4)

/-- The sigSlope of the logistic function. -/
def sigSlope (s : EReal) : EReal := Ideal.logistic s * (Ideal.ofBits .f32 0x3F800000#32 - Ideal.logistic s)

section Payloads

variable (x0 : Vec Ideal S256x2048 .f32) (x1 x2 : Vec Ideal S256x1024 .f32) (x3 : Vec Ideal S1x2048 .f32) (x4 : Vec Ideal S256x1024 .f32) (xs : Vec Ideal S1x2048 .f32)

/-- The S5 branch's gradient takes the gate's left half, -/
theorem s5_apply (r : Fin 256) (q : Fin 1024) : (k0_pay6 x0 x3 x4 : FVec Ideal S256x1024 .f32) (ix2 r q)
    = Ideal.logistic (x0 (ix2 r ⟨q.val, by omega⟩) + x3 (ix2 0 ⟨q.val, by omega⟩)) * x4 (ix2 r q) := by
  pointwise [k0_pay6, k0_pay2, k0_pay3]

/-- the state-space branch's the right one. -/
theorem ssd_apply (r : Fin 256) (q : Fin 1024) : (k0_pay5 x0 x3 x4 : FVec Ideal S256x1024 .f32) (ix2 r q)
    = Ideal.logistic (x0 (ix2 r ⟨1024 + q.val, by omega⟩) + x3 (ix2 0 ⟨1024 + q.val, by omega⟩)) * x4 (ix2 r q) := by
  pointwise [k0_pay5, k0_pay2, k0_pay4]

/-- The gate's gradient: each half of it comes from its branch. -/
theorem gate_apply (r : Fin 256) (q : Fin 2048) : (k0_pay7 x0 x1 x2 x3 x4 : FVec Ideal S256x2048 .f32) (ix2 r q)
    = (if h : q.val < 1024 then x4 (ix2 r ⟨q.val, h⟩) * x1 (ix2 r ⟨q.val, h⟩)
        else x4 (ix2 r ⟨q.val - 1024, by omega⟩) * x2 (ix2 r ⟨q.val - 1024, by omega⟩)) * sigSlope (x0 (ix2 r q) + x3 (ix2 0 q)) := by
  unfold sigSlope
  pointwise [k0_pay7, k0_pay2, k0_pay3, k0_pay4]
  split <;> simp only [zero_add, add_zero]

theorem zero_apply (z : Fin 1) (q : Fin 2048) : (k0_pay9 : FVec Ideal S1x2048 .f32) (ix2 z q) = (0 : EReal) := by
  pointwise [k0_pay9]

theorem step_apply (z : Fin 1) (q : Fin 2048) : (k0_pay1 (k0_pay8 x0 x1 x2 x3 x4) xs : FVec Ideal S1x2048 .f32) (ix2 z q)
    = xs (ix2 z q) + ∑ k : Fin 256, (k0_pay7 x0 x1 x2 x3 x4 : FVec Ideal S256x2048 .f32) (ix2 k q) := by
  pointwise [k0_pay1, k0_pay8]

end Payloads

omit c in
/-- The blocks a point reads and writes, -/
theorem idx : ∀ t : Fin cfg0.N, win0_0.index t = ![t.val, 0] ∧ win0_1.index t = ![t.val, 0] ∧ win0_2.index t = ![t.val, 0] ∧ win0_3.index t = ![0, 0]
    ∧ win0_4.index t = ![t.val, 0] :=
  (by decide +kernel : ∀ t : Fin grid0.N, _)

omit c in
theorem oidx : ∀ t : Fin cfg0.N, win0_5.index t = ![t.val, 0] ∧ win0_6.index t = ![t.val, 0] ∧ win0_7.index t = ![t.val, 0] ∧ win0_8.index t = ![0, 0] :=
  (by decide +kernel : ∀ t : Fin grid0.N, _)

omit c in
/-- and the point that writes the bias's gradient. -/
theorem last8 : ∀ t : Fin cfg0.N, (cfg0.win 8).flush t = true → t.val = 15 :=
  (by decide +kernel : ∀ t : Fin grid0.N, _)

theorem row_lt (t : Fin cfg0.N) (r : Fin 256) : 256 * t.val + r.val < 4096 := by
  have := lt_of_lt_of_eq t.isLt (show cfg0.N = 16 from N_0); omega

theorem blk0 (t : Fin cfg0.N) (r : Fin 256) (q : Fin 2048) : iblk m c 0 t (ix2 r q) = gl m c (ix2 ⟨256 * t.val + r.val, row_lt t r⟩ q) := by
  unfold iblk
  rw [View.read_apply]
  refine (congrFun (V_main_arg0 m c) _).trans ?_
  blk_ext [(idx t).1]

theorem blk1 (t : Fin cfg0.N) (r : Fin 256) (q : Fin 1024) : iblk m c 1 t (ix2 r q) = p5 m c (ix2 ⟨256 * t.val + r.val, row_lt t r⟩ q) := by
  unfold iblk
  rw [View.read_apply]
  refine (congrFun (V_main_arg1 m c) _).trans ?_
  blk_ext [(idx t).2.1]

theorem blk2 (t : Fin cfg0.N) (r : Fin 256) (q : Fin 1024) : iblk m c 2 t (ix2 r q) = pssd m c (ix2 ⟨256 * t.val + r.val, row_lt t r⟩ q) := by
  unfold iblk
  rw [View.read_apply]
  refine (congrFun (V_main_arg2 m c) _).trans ?_
  blk_ext [(idx t).2.2.1]

theorem blk3 (t : Fin cfg0.N) (z : Fin 1) (q : Fin 2048) : iblk m c 3 t (ix2 z q) = b m c (ix2 z q) := by
  unfold iblk
  rw [View.read_apply]
  refine (congrFun (V_main_arg3 m c) _).trans ?_
  blk_ext [(idx t).2.2.2.1]

theorem blk4 (t : Fin cfg0.N) (r : Fin 256) (q : Fin 1024) : iblk m c 4 t (ix2 r q) = d m c (ix2 ⟨256 * t.val + r.val, row_lt t r⟩ q) := by
  unfold iblk
  rw [View.read_apply]
  refine (congrFun (V_main_arg4 m c) _).trans ?_
  blk_ext [(idx t).2.2.2.2]

/-- What a point writes of the rows' gradients. -/
theorem out_rows (t : Fin cfg0.N) :
    (outsAt0 m c t.val t.isLt).1 = k0_pay7 (iblk m c 0 t) (iblk m c 1 t) (iblk m c 2 t) (iblk m c 3 t) (iblk m c 4 t)
    ∧ (outsAt0 m c t.val t.isLt).2.1 = k0_pay6 (iblk m c 0 t) (iblk m c 3 t) (iblk m c 4 t)
    ∧ (outsAt0 m c t.val t.isLt).2.2.1 = k0_pay5 (iblk m c 0 t) (iblk m c 3 t) (iblk m c 4 t) := by
  by_cases h0 : t.val % 16 = 0
  · rw [outsAt0_A m c t h0]
    refine ⟨?_, ?_, ?_⟩ <;> frame_out
  · rw [outsAt0_B m c t h0]
    refine ⟨?_, ?_, ?_⟩ <;> frame_out

/-- The gate's gradient at an index. -/
def gateGrad (R : Fin 4096) (q : Fin 2048) : EReal :=
  (if h : q.val < 1024 then d m c (ix2 R ⟨q.val, h⟩) * p5 m c (ix2 R ⟨q.val, h⟩)
    else d m c (ix2 R ⟨q.val - 1024, by omega⟩) * pssd m c (ix2 R ⟨q.val - 1024, by omega⟩)) * sigSlope (gl m c (ix2 R q) + b m c (ix2 0 q))

theorem gate_row (t : Fin cfg0.N) (r : Fin 256) (q : Fin 2048) :
    (k0_pay7 (iblk m c 0 t) (iblk m c 1 t) (iblk m c 2 t) (iblk m c 3 t) (iblk m c 4 t) : FVec Ideal S256x2048 .f32) (ix2 r q)
      = gateGrad m c ⟨256 * t.val + r.val, row_lt t r⟩ q := by
  rw [gate_apply, gateGrad]
  simp only [blk0, blk1, blk2, blk3, blk4]

/-- The bias's gradient's term of row `k`, zero past the last. -/
def term (q : Fin 2048) (k : ℕ) : EReal := if h : k < 4096 then gateGrad m c ⟨k, h⟩ q else 0

/-- What a point adds to the bias's gradient. -/
theorem point_sum (z : Fin 1) (q : Fin 2048) (t : Fin cfg0.N) (a : FVec Ideal S1x2048 .f32) :
    (k0_pay1 (k0_pay8 (iblk m c 0 t) (iblk m c 1 t) (iblk m c 2 t) (iblk m c 3 t) (iblk m c 4 t)) a : FVec Ideal S1x2048 .f32) (ix2 z q)
      = a (ix2 z q) + ∑ k : Fin 256, term m c q (256 * t.val + k.val) := by
  refine (step_apply _ _ _ _ _ _ _ _).trans (congrArg _ (Finset.sum_congr rfl fun k _ => ?_))
  rw [gate_row, term, dif_pos (row_lt t k)]

/-- What the bias's gradient holds after each point. -/
theorem acc_apply (z : Fin 1) (q : Fin 2048) (j : ℕ) (hj : j < 16) (h : 16 * 0 + j < cfg0.N) :
    ((outsAt0 m c _ h).2.2.2 (ix2 z q) : EReal) = ∑ k : Fin (256 * (j + 1)), term m c q k.val := by
  refine Cert.Sums.acc_sum (fun t ht => ((outsAt0 m c t ht).2.2.2 (ix2 z q) : EReal)) 256 16 0 (term m c q) (fun h => ?_) (fun j hj h h' => ?_) j hj h
  · rw [outsAt0_A m c ⟨_, h⟩ rfl]
    frame_out
    rw [point_sum, zero_apply, zero_add]
    simp only [Nat.mul_zero, Nat.zero_add]
  · rw [outsAt0_B m c ⟨_, h'⟩ (by dsimp only; omega)]
    frame_out
    rw [point_sum]
    simp only [Nat.mul_zero, Nat.zero_add, Nat.add_sub_cancel]

end Cert.Kernel7Ideal.Merge

namespace Cert.Proof

open Cert.Kernel7Ideal.Merge in
/-- The kernel's results are the reference's. -/
theorem algebraic7 : Cert.algebraic_Kernel7Ideal_Reference7Ideal := by
  intro m ρ m' ρ' _ hagree
  refine ⟨fun c => (Cert.Kernel7Ideal.Gen.dats m 0 c).arrAt 5 Cert.Kernel7Ideal.cfg0.N,
    fun c => (Cert.Kernel7Ideal.Gen.dats m 0 c).arrAt 6 Cert.Kernel7Ideal.cfg0.N,
    fun c => (Cert.Kernel7Ideal.Gen.dats m 0 c).arrAt 7 Cert.Kernel7Ideal.cfg0.N,
    fun c => (Cert.Kernel7Ideal.Gen.dats m 0 c).arrAt 8 Cert.Kernel7Ideal.cfg0.N, Cert.Kernel7Ideal.Value.run_blocks m ρ, ?_⟩
  refine (θ_run _ _ _).mono (fun _ h c => ⟨(h c).1.trans ?_, (h c).2.1.trans ?_, (h c).2.2.1.trans ?_, (h c).2.2.2.1.trans ?_, (h c).2.2.2.2⟩)
    (Cert.Reference7Ideal.Value.run m' ρ')
  all_goals
    clear h
    obtain ⟨e0, e1, e2, e3, e4⟩ := hagree c
  · rw [e0, e1, e2, e3, e4]
    symm
    refine (Cert.Kernel7Ideal.Gen.dats m 0 c).arrAt_eq_of_covers 5 _ (by decide +kernel) fun t hf y => ?_
    blk_simp
    rw [Cert.Kernel7Ideal.Gen.after0_5, (out_rows m c t).1]
    obtain ⟨r, q, rfl⟩ : ∃ (r : Fin 256) (q : Fin 2048), y = ix2 r q := ⟨y 0, y 1, eq_ix2 y⟩
    rw [show ((View.whole Cert.Kernel7Ideal.main_v0_0).slice (Cert.Kernel7Ideal.win0_5.rect t)).emb (ix2 r q) = ix2 ⟨256 * t.val + r.val, row_lt t r⟩ q from
      by blk_ext [(oidx t).1]]
    refine (gate_row m c t r q).trans ?_
    unfold gateGrad sigSlope
    pointwise []
    simp only [Ideal.logistic]
  · rw [e0, e3, e4]
    symm
    refine (Cert.Kernel7Ideal.Gen.dats m 0 c).arrAt_eq_of_covers 6 _ (by decide +kernel) fun t hf y => ?_
    blk_simp
    rw [Cert.Kernel7Ideal.Gen.after0_6, (out_rows m c t).2.1]
    obtain ⟨r, q, rfl⟩ : ∃ (r : Fin 256) (q : Fin 1024), y = ix2 r q := ⟨y 0, y 1, eq_ix2 y⟩
    rw [show ((View.whole Cert.Kernel7Ideal.main_v0_1).slice (Cert.Kernel7Ideal.win0_6.rect t)).emb (ix2 r q) = ix2 ⟨256 * t.val + r.val, row_lt t r⟩ q from
      by blk_ext [(oidx t).2.1]]
    refine (s5_apply _ _ _ r q).trans ?_
    simp only [blk0, blk3, blk4]
    pointwise []
    simp only [Ideal.logistic]
  · rw [e0, e3, e4]
    symm
    refine (Cert.Kernel7Ideal.Gen.dats m 0 c).arrAt_eq_of_covers 7 _ (by decide +kernel) fun t hf y => ?_
    blk_simp
    rw [Cert.Kernel7Ideal.Gen.after0_7, (out_rows m c t).2.2]
    obtain ⟨r, q, rfl⟩ : ∃ (r : Fin 256) (q : Fin 1024), y = ix2 r q := ⟨y 0, y 1, eq_ix2 y⟩
    rw [show ((View.whole Cert.Kernel7Ideal.main_v0_2).slice (Cert.Kernel7Ideal.win0_7.rect t)).emb (ix2 r q) = ix2 ⟨256 * t.val + r.val, row_lt t r⟩ q from
      by blk_ext [(oidx t).2.2.1]]
    refine (ssd_apply _ _ _ r q).trans ?_
    simp only [blk0, blk3, blk4]
    pointwise []
    simp only [Ideal.logistic]
  · rw [e0, e1, e2, e3, e4]
    symm
    refine (Cert.Kernel7Ideal.Gen.dats m 0 c).arrAt_eq_of_covers 8 _ (by decide +kernel) fun t hf y => ?_
    have ht := last8 t hf
    blk_simp
    rw [Cert.Kernel7Ideal.Gen.after0_8]
    obtain ⟨z, q, rfl⟩ : ∃ (z : Fin 1) (q : Fin 2048), y = ix2 z q := ⟨y 0, y 1, eq_ix2 y⟩
    rw [show ((View.whole Cert.Kernel7Ideal.main_v0_3).slice (Cert.Kernel7Ideal.win0_8.rect t)).emb (ix2 z q) = ix2 z q from by blk_ext [(oidx t).2.2.2]]
    obtain rfl : t = ⟨16 * 0 + 15, by decide⟩ := Fin.ext ht
    refine (acc_apply m c z q 15 (by decide) _).trans ?_
    unfold term gateGrad sigSlope
    pointwise []
    simp only [Ideal.logistic]

end Cert.Proof
-- ==== Proof.GatedNorm.lean ====
/-
  The state-space branch's gated norm, backwards: each point writes its rows' two gradients, and adds to the scale's gradient
  the sum over its rows.
-/
module

public import proofs.«01_k».proof.Defs
public import proofs.«01_k».proof.Proof.Sums
public import proofs.«01_k».proof.Proof.Gen.Kernel8Ideal.Value
public import proofs.«01_k».proof.Proof.Gen.Reference8Ideal.Run
public import Idealize.ShloMosaic.Lib.Pipeline.ValueKit

@[expose] public section

set_option maxRecDepth 16384

noncomputable section

open Idealize.ShloMosaic Idealize.ShloMosaic.TcCoe Idealize.SL.Sem

namespace Cert.Kernel8Ideal.GatedNorm

open Cert.Kernel8Ideal Cert.Kernel8Ideal.Gen

variable (m : (ℓ : Loc nD τ sig) → Buf (Elt Ideal) ℓ) (c : Dev nD)

abbrev y : FVec Ideal S4096x2048 .f32 := m ((c : Thread nD τ).loc main_arg0)
abbrev z : FVec Ideal S4096x2048 .f32 := m ((c : Thread nD τ).loc main_arg1)
abbrev w : FVec Ideal S1x2048 .f32 := m ((c : Thread nD τ).loc main_arg2)
abbrev dn : FVec Ideal S4096x2048 .f32 := m ((c : Thread nD τ).loc main_arg3)

/-- A row of the gated input. -/
def gated (y z : Fin 2048 → EReal) (j : Fin 2048) : EReal := y j * (z j * Ideal.logistic (z j))

/-- A row's mean square, shifted. -/
def meanSq (x : Fin 2048 → EReal) : EReal :=
  Ideal.div (∑ j, x j * x j) (Ideal.ofBits .f32 0x45000000#32) + Ideal.ofBits .f32 0x358637BD#32

/-- What the row's gradient takes from the mean square's. -/
def corr (x g : Fin 2048 → EReal) : EReal :=
  Ideal.div ((∑ j, x j * g j) * (Ideal.ofBits .f32 0xBF000000#32 * Ideal.div (Ideal.rsqrt (meanSq x)) (meanSq x))) (Ideal.ofBits .f32 0x45000000#32)

/-- The gradient of the row `x` of a norm whose scaled output's is `g`. -/
def normGrad (x g : Fin 2048 → EReal) (q : Fin 2048) : EReal := g q * Ideal.rsqrt (meanSq x) + x q * corr x g + corr x g * x q

/-- The gradient of the first factor, -/
def firstGrad (y z g : Fin 2048 → EReal) (q : Fin 2048) : EReal := normGrad (gated y z) g q * (z q * Ideal.logistic (z q))

/-- and of the gate. -/
def gateGrad (y z g : Fin 2048 → EReal) (q : Fin 2048) : EReal :=
  y q * normGrad (gated y z) g q * Ideal.logistic (z q)
    + z q * (y q * normGrad (gated y z) g q) * (Ideal.logistic (z q) * (Ideal.ofBits .f32 0x3F800000#32 - Ideal.logistic (z q)))

/-- A row's part of the scale's gradient. -/
def scaleGrad (y z n : Fin 2048 → EReal) (q : Fin 2048) : EReal := gated y z q * Ideal.rsqrt (meanSq (gated y z)) * n q

section Payloads

variable (x0 x1 : Vec Ideal S256x2048 .f32) (x2 : Vec Ideal S1x2048 .f32) (x3 : Vec Ideal S256x2048 .f32) (xs : Vec Ideal S1x2048 .f32)

theorem step_apply (i : Fin 1) (q : Fin 2048) : (k0_pay5 (k0_pay12 x0 x1 x3) xs : FVec Ideal S1x2048 .f32) (ix2 i q)
    = xs (ix2 i q) + ∑ k : Fin 256, scaleGrad (fun j => x0 (ix2 k j)) (fun j => x1 (ix2 k j)) (fun j => x3 (ix2 k j)) q := by
  unfold scaleGrad meanSq gated
  pointwise [k0_pay5, k0_pay12, k0_pay11, k0_pay10, k0_pay9, k0_pay8, k0_pay6]

theorem zero_apply (i : Fin 1) (q : Fin 2048) : (k0_pay4 : FVec Ideal S1x2048 .f32) (ix2 i q) = (0 : EReal) := by
  pointwise [k0_pay4]

theorem norm_apply (r : Fin 256) (q : Fin 2048) :
    (k0_pay1 (k0_pay15 x0 x1 x2 x3) (k0_pay16 x0 x1 x2 x3) : FVec Ideal S256x2048 .f32) (ix2 r q)
      = normGrad (gated (fun j => x0 (ix2 r j)) fun j => x1 (ix2 r j)) (fun j => x3 (ix2 r j) * x2 (ix2 0 j)) q := by
  unfold normGrad corr meanSq gated
  pointwise [k0_pay1, k0_pay16, k0_pay15, k0_pay14, k0_pay13, k0_pay11, k0_pay10, k0_pay9, k0_pay8, k0_pay6]
  simp only [Fin.sum_univ_one]

theorem first_apply (r : Fin 256) (q : Fin 2048) :
    (k0_pay2 (k0_pay8 x1) (k0_pay15 x0 x1 x2 x3) (k0_pay16 x0 x1 x2 x3) : FVec Ideal S256x2048 .f32) (ix2 r q)
      = firstGrad (fun j => x0 (ix2 r j)) (fun j => x1 (ix2 r j)) (fun j => x3 (ix2 r j) * x2 (ix2 0 j)) q := by
  unfold firstGrad
  rw [← norm_apply]
  pointwise [k0_pay2, k0_pay8, k0_pay6]

theorem second_apply (r : Fin 256) (q : Fin 2048) :
    (k0_pay3 x0 x1 (k0_pay6 x1) (k0_pay7 x1) (k0_pay15 x0 x1 x2 x3) (k0_pay16 x0 x1 x2 x3) : FVec Ideal S256x2048 .f32) (ix2 r q)
      = gateGrad (fun j => x0 (ix2 r j)) (fun j => x1 (ix2 r j)) (fun j => x3 (ix2 r j) * x2 (ix2 0 j)) q := by
  unfold gateGrad
  rw [← norm_apply]
  pointwise [k0_pay3, k0_pay7, k0_pay6]

end Payloads

omit c in
/-- The blocks a point reads and writes, -/
theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

omit c in
theorem oidx : ∀ t : Fin cfg0.N, win0_4.index t = ![t.val, 0] ∧ win0_5.index t = ![t.val, 0] ∧ win0_6.index t = ![0, 0] :=
  (by decide +kernel : ∀ t : Fin grid0.N, _)

omit c in
/-- and the point that writes the scale's gradient. -/
theorem last6 : ∀ t : Fin cfg0.N, (cfg0.win 6).flush t = true → t.val = 15 :=
  (by decide +kernel : ∀ t : Fin grid0.N, _)

theorem row_lt (t : Fin cfg0.N) (r : Fin 256) : 256 * t.val + r.val < 4096 := by
  have := lt_of_lt_of_eq t.isLt (show cfg0.N = 16 from N_0); omega

theorem blk0 (t : Fin cfg0.N) (r : Fin 256) (q : Fin 2048) : iblk m c 0 t (ix2 r q) = y m c (ix2 ⟨256 * t.val + r.val, row_lt t r⟩ q) := by
  unfold iblk
  rw [View.read_apply]
  refine (congrFun (V_main_arg0 m c) _).trans ?_
  blk_ext [(idx t).1]

theorem blk1 (t : Fin cfg0.N) (r : Fin 256) (q : Fin 2048) : iblk m c 1 t (ix2 r q) = z m c (ix2 ⟨256 * t.val + r.val, row_lt t r⟩ q) := by
  unfold iblk
  rw [View.read_apply]
  refine (congrFun (V_main_arg1 m c) _).trans ?_
  blk_ext [(idx t).2.1]

theorem blk2 (t : Fin cfg0.N) (i : Fin 1) (q : Fin 2048) : iblk m c 2 t (ix2 i q) = w m c (ix2 i q) := by
  unfold iblk
  rw [View.read_apply]
  refine (congrFun (V_main_arg2 m c) _).trans ?_
  blk_ext [(idx t).2.2.1]

theorem blk3 (t : Fin cfg0.N) (r : Fin 256) (q : Fin 2048) : iblk m c 3 t (ix2 r q) = dn m c (ix2 ⟨256 * t.val + r.val, row_lt t r⟩ q) := by
  unfold iblk
  rw [View.read_apply]
  refine (congrFun (V_main_arg3 m c) _).trans ?_
  blk_ext [(idx t).2.2.2]

/-- What a point writes of the rows' gradients. -/
theorem out_rows (t : Fin cfg0.N) :
    (outsAt0 m c t.val t.isLt).1 = k0_pay2 (k0_pay8 (iblk m c 1 t)) (k0_pay15 (iblk m c 0 t) (iblk m c 1 t) (iblk m c 2 t) (iblk m c 3 t))
        (k0_pay16 (iblk m c 0 t) (iblk m c 1 t) (iblk m c 2 t) (iblk m c 3 t))
    ∧ (outsAt0 m c t.val t.isLt).2.1 = k0_pay3 (iblk m c 0 t) (iblk m c 1 t) (k0_pay6 (iblk m c 1 t)) (k0_pay7 (iblk m c 1 t))
        (k0_pay15 (iblk m c 0 t) (iblk m c 1 t) (iblk m c 2 t) (iblk m c 3 t)) (k0_pay16 (iblk m c 0 t) (iblk m c 1 t) (iblk m c 2 t) (iblk m c 3 t)) := by
  by_cases h0 : t.val % 16 = 0
  · rw [outsAt0_A m c t h0]
    constructor <;> frame_out
  · rw [outsAt0_B m c t h0]
    constructor <;> frame_out

/-- The scale's gradient's term of row `k`, zero past the last. -/
def term (q : Fin 2048) (k : ℕ) : EReal :=
  if h : k < 4096 then scaleGrad (fun j => y m c (ix2 ⟨k, h⟩ j)) (fun j => z m c (ix2 ⟨k, h⟩ j)) (fun j => dn m c (ix2 ⟨k, h⟩ j)) q else 0

/-- What a point adds to the scale's gradient. -/
theorem point_sum (i : Fin 1) (q : Fin 2048) (t : Fin cfg0.N) (a : FVec Ideal S1x2048 .f32) :
    (k0_pay5 (k0_pay12 (iblk m c 0 t) (iblk m c 1 t) (iblk m c 3 t)) a : FVec Ideal S1x2048 .f32) (ix2 i q)
      = a (ix2 i q) + ∑ k : Fin 256, term m c q (256 * t.val + k.val) := by
  refine (step_apply _ _ _ _ _ _).trans (congrArg _ (Finset.sum_congr rfl fun k _ => ?_))
  rw [term, dif_pos (row_lt t k)]
  simp only [blk0, blk1, blk3]

/-- What the scale's gradient holds after each point. -/
theorem acc_apply (i : Fin 1) (q : Fin 2048) (j : ℕ) (hj : j < 16) (h : 16 * 0 + j < cfg0.N) :
    ((outsAt0 m c _ h).2.2 (ix2 i q) : EReal) = ∑ k : Fin (256 * (j + 1)), term m c q k.val := by
  refine Cert.Sums.acc_sum (fun t ht => ((outsAt0 m c t ht).2.2 (ix2 i q) : EReal)) 256 16 0 (term m c q) (fun h => ?_) (fun j hj h h' => ?_) j hj h
  · rw [outsAt0_A m c ⟨_, h⟩ rfl]
    frame_out
    rw [point_sum, zero_apply, zero_add]
    simp only [Nat.mul_zero, Nat.zero_add]
  · rw [outsAt0_B m c ⟨_, h'⟩ (by dsimp only; omega)]
    frame_out
    rw [point_sum]
    simp only [Nat.mul_zero, Nat.zero_add, Nat.add_sub_cancel]

end Cert.Kernel8Ideal.GatedNorm

namespace Cert.Proof

open Cert.Kernel8Ideal.GatedNorm in
/-- The kernel's results are the reference's. -/
theorem algebraic8 : Cert.algebraic_Kernel8Ideal_Reference8Ideal := by
  intro m ρ m' ρ' _ hagree
  refine ⟨fun c => (Cert.Kernel8Ideal.Gen.dats m 0 c).arrAt 4 Cert.Kernel8Ideal.cfg0.N,
    fun c => (Cert.Kernel8Ideal.Gen.dats m 0 c).arrAt 5 Cert.Kernel8Ideal.cfg0.N,
    fun c => (Cert.Kernel8Ideal.Gen.dats m 0 c).arrAt 6 Cert.Kernel8Ideal.cfg0.N, Cert.Kernel8Ideal.Value.run_blocks m ρ, ?_⟩
  refine (θ_run _ _ _).mono (fun _ h c => ⟨(h c).1.trans ?_, (h c).2.1.trans ?_, (h c).2.2.1.trans ?_, (h c).2.2.2⟩) (Cert.Reference8Ideal.Value.run m' ρ')
  all_goals
    clear h
    obtain ⟨e0, e1, e2, e3⟩ := hagree c
    symm
  · refine (Cert.Kernel8Ideal.Gen.dats m 0 c).arrAt_eq_of_covers 4 _ (by decide +kernel) fun t hf i => ?_
    blk_simp
    rw [Cert.Kernel8Ideal.Gen.after0_4, (out_rows m c t).1]
    obtain ⟨r, q, rfl⟩ : ∃ (r : Fin 256) (q : Fin 2048), i = ix2 r q := ⟨i 0, i 1, eq_ix2 i⟩
    rw [show ((View.whole Cert.Kernel8Ideal.main_v0_0).slice (Cert.Kernel8Ideal.win0_4.rect t)).emb (ix2 r q) = ix2 ⟨256 * t.val + r.val, row_lt t r⟩ q from
      by blk_ext [(oidx t).1]]
    refine (first_apply _ _ _ _ r q).trans ?_
    simp only [blk0, blk1, blk2, blk3]
    unfold Cert.Reference8Ideal.Value.res_main_v37 firstGrad normGrad corr meanSq gated
    rw [e0, e1, e2, e3]
    pointwise []
    simp only [Ideal.logistic, Fin.sum_univ_one]
  · refine (Cert.Kernel8Ideal.Gen.dats m 0 c).arrAt_eq_of_covers 5 _ (by decide +kernel) fun t hf i => ?_
    blk_simp
    rw [Cert.Kernel8Ideal.Gen.after0_5, (out_rows m c t).2]
    obtain ⟨r, q, rfl⟩ : ∃ (r : Fin 256) (q : Fin 2048), i = ix2 r q := ⟨i 0, i 1, eq_ix2 i⟩
    rw [show ((View.whole Cert.Kernel8Ideal.main_v0_1).slice (Cert.Kernel8Ideal.win0_5.rect t)).emb (ix2 r q) = ix2 ⟨256 * t.val + r.val, row_lt t r⟩ q from
      by blk_ext [(oidx t).2.1]]
    refine (second_apply _ _ _ _ r q).trans ?_
    simp only [blk0, blk1, blk2, blk3]
    unfold Cert.Reference8Ideal.Value.res_main_v38 gateGrad normGrad corr meanSq gated
    rw [e0, e1, e2, e3]
    pointwise []
    simp only [Ideal.logistic, Fin.sum_univ_one]
  · rw [e0, e1, e3]
    refine (Cert.Kernel8Ideal.Gen.dats m 0 c).arrAt_eq_of_covers 6 _ (by decide +kernel) fun t hf i => ?_
    have ht := last6 t hf
    blk_simp
    rw [Cert.Kernel8Ideal.Gen.after0_6]
    obtain ⟨i, q, rfl⟩ : ∃ (r : Fin 1) (q : Fin 2048), i = ix2 r q := ⟨i 0, i 1, eq_ix2 i⟩
    rw [show ((View.whole Cert.Kernel8Ideal.main_v0_2).slice (Cert.Kernel8Ideal.win0_6.rect t)).emb (ix2 i q) = ix2 i q from by blk_ext [(oidx t).2.2]]
    obtain rfl : t = ⟨16 * 0 + 15, by decide⟩ := Fin.ext ht
    refine (acc_apply m c i q 15 (by decide) _).trans ?_
    unfold term scaleGrad meanSq gated
    pointwise []
    simp only [Ideal.logistic]

end Cert.Proof
-- ==== Proof.Glu.lean ====
/-
  The S5 branch's gated linear unit, backwards: each point writes its rows of the two operands' gradients, and adds to the
  bias's gradient the sum over its rows.
-/
module

public import proofs.«01_k».proof.Defs
public import proofs.«01_k».proof.Proof.Sums
public import proofs.«01_k».proof.Proof.Gen.Kernel9Ideal.Value
public import proofs.«01_k».proof.Proof.Gen.Reference9Ideal.Run
public import Idealize.ShloMosaic.Lib.Pipeline.ValueKit

@[expose] public section

set_option maxRecDepth 16384

noncomputable section

open Idealize.ShloMosaic Idealize.ShloMosaic.TcCoe Idealize.SL.Sem

namespace Cert.Kernel9Ideal.Glu

open Cert.Kernel9Ideal Cert.Kernel9Ideal.Gen

variable (m : (ℓ : Loc nD τ sig) → Buf (Elt Ideal) ℓ) (c : Dev nD)

abbrev g : FVec Ideal S4096x1024 .f32 := m ((c : Thread nD τ).loc main_arg0)
abbrev v : FVec Ideal S4096x1024 .f32 := m ((c : Thread nD τ).loc main_arg1)
abbrev b : FVec Ideal S1x1024 .f32 := m ((c : Thread nD τ).loc main_arg2)
abbrev dOut : FVec Ideal S4096x1024 .f32 := m ((c : Thread nD τ).loc main_arg3)

/-- The gradient of `g` times the logistic function of `s`, with respect to `s`. -/
def gateGrad (g s d : EReal) : EReal := g * d * (Ideal.logistic s * (Ideal.ofBits .f32 0x3F800000#32 - Ideal.logistic s))

section Payloads

variable (x0 x1 : Vec Ideal S512x1024 .f32) (x2 : Vec Ideal S1x1024 .f32) (x3 : Vec Ideal S512x1024 .f32) (xs : Vec Ideal S1x1024 .f32)

theorem g_apply (r : Fin 512) (q : Fin 1024) : (k0_pay2 x1 x2 x3 : FVec Ideal S512x1024 .f32) (ix2 r q)
    = x3 (ix2 r q) * Ideal.logistic (x1 (ix2 r q) + x2 (ix2 0 q)) := by
  pointwise [k0_pay2, k0_pay1]

theorem v_apply (r : Fin 512) (q : Fin 1024) : (k0_pay3 x0 x1 x2 x3 : FVec Ideal S512x1024 .f32) (ix2 r q)
    = gateGrad (x0 (ix2 r q)) (x1 (ix2 r q) + x2 (ix2 0 q)) (x3 (ix2 r q)) := by
  unfold gateGrad
  pointwise [k0_pay3, k0_pay1]

theorem zero_apply (z : Fin 1) (q : Fin 1024) : (k0_pay4 : FVec Ideal S1x1024 .f32) (ix2 z q) = (0 : EReal) := by
  pointwise [k0_pay4]

theorem step_apply (z : Fin 1) (q : Fin 1024) : (k0_pay5 x0 x1 x2 x3 xs : FVec Ideal S1x1024 .f32) (ix2 z q)
    = xs (ix2 z q) + ∑ k : Fin 512, gateGrad (x0 (ix2 k q)) (x1 (ix2 k q) + x2 (ix2 0 q)) (x3 (ix2 k q)) := by
  unfold gateGrad
  pointwise [k0_pay5, k0_pay3, k0_pay1]

end Payloads

omit c in
theorem idx0 : ∀ t : Fin cfg0.N, win0_0.index t = ![t.val, 0] :=
  (by decide +kernel : ∀ t : Fin grid0.N, _)

omit c in
theorem idx1 : ∀ t : Fin cfg0.N, win0_1.index t = ![t.val, 0] :=
  (by decide +kernel : ∀ t : Fin grid0.N, _)

omit c in
theorem idx2 : ∀ t : Fin cfg0.N, win0_2.index t = ![0, 0] :=
  (by decide +kernel : ∀ t : Fin grid0.N, _)

omit c in
theorem idx3 : ∀ t : Fin cfg0.N, win0_3.index t = ![t.val, 0] :=
  (by decide +kernel : ∀ t : Fin grid0.N, _)

omit c in
theorem idx4 : ∀ t : Fin cfg0.N, win0_4.index t = ![t.val, 0] :=
  (by decide +kernel : ∀ t : Fin grid0.N, _)

omit c in
theorem idx5 : ∀ t : Fin cfg0.N, win0_5.index t = ![t.val, 0] :=
  (by decide +kernel : ∀ t : Fin grid0.N, _)

omit c in
theorem idx6 : ∀ t : Fin cfg0.N, win0_6.index t = ![0, 0] :=
  (by decide +kernel : ∀ t : Fin grid0.N, _)

omit c in
theorem last6 : ∀ t : Fin cfg0.N, (cfg0.win 6).flush t = true → t.val = 7 :=
  (by decide +kernel : ∀ t : Fin grid0.N, _)

theorem row_lt (t : Fin cfg0.N) (r : Fin 512) : 512 * t.val + r.val < 4096 := by
  have := lt_of_lt_of_eq t.isLt (show cfg0.N = 8 from N_0); omega

theorem blk0 (t : Fin cfg0.N) (r : Fin 512) (q : Fin 1024) : iblk m c 0 t (ix2 r q) = g m c (ix2 ⟨512 * t.val + r.val, row_lt t r⟩ q) := by
  unfold iblk
  rw [View.read_apply]
  refine (congrFun (V_main_arg0 m c) _).trans ?_
  blk_ext [idx0 t]

theorem blk1 (t : Fin cfg0.N) (r : Fin 512) (q : Fin 1024) : iblk m c 1 t (ix2 r q) = v m c (ix2 ⟨512 * t.val + r.val, row_lt t r⟩ q) := by
  unfold iblk
  rw [View.read_apply]
  refine (congrFun (V_main_arg1 m c) _).trans ?_
  blk_ext [idx1 t]

theorem blk2 (t : Fin cfg0.N) (z : Fin 1) (q : Fin 1024) : iblk m c 2 t (ix2 z q) = b m c (ix2 z q) := by
  unfold iblk
  rw [View.read_apply]
  refine (congrFun (V_main_arg2 m c) _).trans ?_
  blk_ext [idx2 t]

theorem blk3 (t : Fin cfg0.N) (r : Fin 512) (q : Fin 1024) : iblk m c 3 t (ix2 r q) = dOut m c (ix2 ⟨512 * t.val + r.val, row_lt t r⟩ q) := by
  unfold iblk
  rw [View.read_apply]
  refine (congrFun (V_main_arg3 m c) _).trans ?_
  blk_ext [idx3 t]

/-- What a point writes of the operands' gradients. -/
theorem out_rows (t : Fin cfg0.N) : (outsAt0 m c t.val t.isLt).1 = k0_pay2 (iblk m c 1 t) (iblk m c 2 t) (iblk m c 3 t)
    ∧ (outsAt0 m c t.val t.isLt).2.1 = k0_pay3 (iblk m c 0 t) (iblk m c 1 t) (iblk m c 2 t) (iblk m c 3 t) := by
  by_cases h0 : t.val % 8 = 0
  · rw [outsAt0_A m c t h0]
    constructor <;> frame_out
  · rw [outsAt0_B m c t h0]
    constructor <;> frame_out

/-- The bias's gradient's term of row `k`, zero past the last. -/
def term (q : Fin 1024) (k : ℕ) : EReal :=
  if h : k < 4096 then gateGrad (g m c (ix2 ⟨k, h⟩ q)) (v m c (ix2 ⟨k, h⟩ q) + b m c (ix2 0 q)) (dOut m c (ix2 ⟨k, h⟩ q)) else 0

/-- What a point adds to the bias's gradient. -/
theorem point_sum (z : Fin 1) (q : Fin 1024) (t : Fin cfg0.N) (a : FVec Ideal S1x1024 .f32) :
    (k0_pay5 (iblk m c 0 t) (iblk m c 1 t) (iblk m c 2 t) (iblk m c 3 t) a : FVec Ideal S1x1024 .f32) (ix2 z q)
      = a (ix2 z q) + ∑ k : Fin 512, term m c q (512 * t.val + k.val) := by
  refine (step_apply _ _ _ _ _ _ _).trans (congrArg _ (Finset.sum_congr rfl fun k _ => ?_))
  rw [blk0, blk1, blk2, blk3, term, dif_pos (row_lt t k)]

/-- What the bias's gradient holds after each point. -/
theorem acc_apply (z : Fin 1) (q : Fin 1024) (j : ℕ) (hj : j < 8) (h : 8 * 0 + j < cfg0.N) :
    ((outsAt0 m c _ h).2.2 (ix2 z q) : EReal) = ∑ k : Fin (512 * (j + 1)), term m c q k.val := by
  refine Cert.Sums.acc_sum (fun t ht => ((outsAt0 m c t ht).2.2 (ix2 z q) : EReal)) 512 8 0 (term m c q) (fun h => ?_) (fun j hj h h' => ?_) j hj h
  · rw [outsAt0_A m c ⟨_, h⟩ rfl]
    frame_out
    rw [point_sum, zero_apply, zero_add]
    simp only [Nat.mul_zero, Nat.zero_add]
  · rw [outsAt0_B m c ⟨_, h'⟩ (by dsimp only; omega)]
    frame_out
    rw [point_sum]
    simp only [Nat.mul_zero, Nat.zero_add, Nat.add_sub_cancel]

end Cert.Kernel9Ideal.Glu

namespace Cert.Proof

open Cert.Kernel9Ideal.Glu in
/-- The kernel's results are the reference's. -/
theorem algebraic9 : Cert.algebraic_Kernel9Ideal_Reference9Ideal := by
  intro m ρ m' ρ' _ hagree
  refine ⟨fun c => (Cert.Kernel9Ideal.Gen.dats m 0 c).arrAt 4 Cert.Kernel9Ideal.cfg0.N,
    fun c => (Cert.Kernel9Ideal.Gen.dats m 0 c).arrAt 5 Cert.Kernel9Ideal.cfg0.N,
    fun c => (Cert.Kernel9Ideal.Gen.dats m 0 c).arrAt 6 Cert.Kernel9Ideal.cfg0.N, Cert.Kernel9Ideal.Value.run_blocks m ρ, ?_⟩
  refine (θ_run _ _ _).mono (fun _ h c => ⟨(h c).1.trans ?_, (h c).2.1.trans ?_, (h c).2.2.1.trans ?_, (h c).2.2.2⟩) (Cert.Reference9Ideal.Value.run m' ρ')
  all_goals
    clear h
    obtain ⟨e0, e1, e2, e3⟩ := hagree c
  · rw [e1, e2, e3]
    symm
    refine (Cert.Kernel9Ideal.Gen.dats m 0 c).arrAt_eq_of_covers 4 _ (by decide +kernel) fun t hf y => ?_
    blk_simp
    rw [Cert.Kernel9Ideal.Gen.after0_4, (out_rows m c t).1]
    obtain ⟨r, q, rfl⟩ : ∃ (r : Fin 512) (q : Fin 1024), y = ix2 r q := ⟨y 0, y 1, eq_ix2 y⟩
    rw [show ((View.whole Cert.Kernel9Ideal.main_v0_0).slice (Cert.Kernel9Ideal.win0_4.rect t)).emb (ix2 r q) = ix2 ⟨512 * t.val + r.val, row_lt t r⟩ q from by blk_ext [idx4 t]]
    refine (g_apply _ _ _ _ _).trans ?_
    simp only [blk1, blk2, blk3]
    pointwise []
    simp only [Ideal.logistic]
  · rw [e0, e1, e2, e3]
    symm
    refine (Cert.Kernel9Ideal.Gen.dats m 0 c).arrAt_eq_of_covers 5 _ (by decide +kernel) fun t hf y => ?_
    blk_simp
    rw [Cert.Kernel9Ideal.Gen.after0_5, (out_rows m c t).2]
    obtain ⟨r, q, rfl⟩ : ∃ (r : Fin 512) (q : Fin 1024), y = ix2 r q := ⟨y 0, y 1, eq_ix2 y⟩
    rw [show ((View.whole Cert.Kernel9Ideal.main_v0_1).slice (Cert.Kernel9Ideal.win0_5.rect t)).emb (ix2 r q) = ix2 ⟨512 * t.val + r.val, row_lt t r⟩ q from by blk_ext [idx5 t]]
    refine (v_apply _ _ _ _ _ _).trans ?_
    simp only [blk0, blk1, blk2, blk3]
    unfold gateGrad
    pointwise []
    simp only [Ideal.logistic]
  · rw [e0, e1, e2, e3]
    symm
    refine (Cert.Kernel9Ideal.Gen.dats m 0 c).arrAt_eq_of_covers 6 _ (by decide +kernel) fun t hf y => ?_
    have ht := last6 t hf
    blk_simp
    rw [Cert.Kernel9Ideal.Gen.after0_6]
    obtain ⟨z, q, rfl⟩ : ∃ (z : Fin 1) (q : Fin 1024), y = ix2 z q := ⟨y 0, y 1, eq_ix2 y⟩
    rw [show ((View.whole Cert.Kernel9Ideal.main_v0_2).slice (Cert.Kernel9Ideal.win0_6.rect t)).emb (ix2 z q) = ix2 z q from by blk_ext [idx6 t]]
    obtain rfl : t = ⟨8 * 0 + 7, by decide⟩ := Fin.ext ht
    refine (acc_apply m c z q 7 (by decide) _).trans ?_
    unfold term gateGrad
    pointwise []
    simp only [Ideal.logistic]

end Cert.Proof
-- ==== Proof.Gelu.lean ====
/-
  The S5 branch's activation, backwards: each point writes its rows of the recurrence's output's and of the branch's input's
  gradients, and adds to the skip weight's gradient the sum over its rows.
-/
module

public import proofs.«01_k».proof.Defs
public import proofs.«01_k».proof.Proof.Sums
public import proofs.«01_k».proof.Proof.Gen.Kernel10Ideal.Value
public import proofs.«01_k».proof.Proof.Gen.Reference10Ideal.Run
public import Idealize.ShloMosaic.Lib.Pipeline.ValueKit

@[expose] public section

set_option maxRecDepth 16384

noncomputable section

open Idealize.ShloMosaic Idealize.ShloMosaic.TcCoe Idealize.SL.Sem

namespace Cert.Kernel10Ideal.Gelu

open Cert.Kernel10Ideal Cert.Kernel10Ideal.Gen

variable (m : (ℓ : Loc nD τ sig) → Buf (Elt Ideal) ℓ) (c : Dev nD)

abbrev yl : FVec Ideal S4096x1024 .f32 := m ((c : Thread nD τ).loc main_arg0)
abbrev u : FVec Ideal S4096x1024 .f32 := m ((c : Thread nD τ).loc main_arg1)
abbrev d : FVec Ideal S1x1024 .f32 := m ((c : Thread nD τ).loc main_arg2)
abbrev dg : FVec Ideal S4096x1024 .f32 := m ((c : Thread nD τ).loc main_arg3)

/-- The hyperbolic tangent in the activation at `s`, -/
def th (s : EReal) : EReal :=
  Ideal.tanh (Ideal.ofBits .f32 0x3F4C422A#32 * (s + Ideal.ofBits .f32 0x3D372713#32 * (s * s * s)))

/-- what the gradient `e` becomes before the argument of the tangent, -/
def geluInner (s e : EReal) : EReal :=
  Ideal.ofBits .f32 0x3F4C422A#32 * (Ideal.ofBits .f32 0x3F000000#32 * (s * e)
    * ((Ideal.ofBits .f32 0x3F800000#32 + th s) * (Ideal.ofBits .f32 0x3F800000#32 - th s)))

/-- and before the activation: its direct part, the linear term's and the cube's. -/
def grad (s e : EReal) : EReal :=
  e * (Ideal.ofBits .f32 0x3F000000#32 * (Ideal.ofBits .f32 0x3F800000#32 + th s)) + geluInner s e
    + Ideal.ofBits .f32 0x3D372713#32 * geluInner s e * (Ideal.ofBits .f32 0x40400000#32 * (s * s))

section Payloads

variable (x0 x1 : Vec Ideal S512x1024 .f32) (x2 : Vec Ideal S1x1024 .f32) (x3 : Vec Ideal S512x1024 .f32) (xs : Vec Ideal S1x1024 .f32)

theorem y_apply (r : Fin 512) (q : Fin 1024) : (k0_pay3 x0 x1 x2 x3 : FVec Ideal S512x1024 .f32) (ix2 r q)
    = grad (x0 (ix2 r q) + x2 (ix2 0 q) * x1 (ix2 r q)) (x3 (ix2 r q)) := by
  unfold grad geluInner th
  rw [mul_comm (_ * _) (x0 (ix2 r q) + x2 (ix2 0 q) * x1 (ix2 r q))]
  pointwise [k0_pay3]

theorem u_apply (r : Fin 512) (q : Fin 1024) : (k0_pay4 x0 x1 x2 x3 : FVec Ideal S512x1024 .f32) (ix2 r q)
    = x2 (ix2 0 q) * (k0_pay3 x0 x1 x2 x3 : FVec Ideal S512x1024 .f32) (ix2 r q) := by
  pointwise [k0_pay4]

theorem zero_apply (z : Fin 1) (q : Fin 1024) : (k0_pay1 : FVec Ideal S1x1024 .f32) (ix2 z q) = (0 : EReal) := by
  pointwise [k0_pay1]

theorem step_apply (y : FVec Ideal S512x1024 .f32) (z : Fin 1) (q : Fin 1024) : (k0_pay2 x1 y xs : FVec Ideal S1x1024 .f32) (ix2 z q)
    = xs (ix2 z q) + ∑ k : Fin 512, y (ix2 k q) * x1 (ix2 k q) := by
  pointwise [k0_pay2]

end Payloads

omit c in
/-- The blocks a point reads and writes, -/
theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

omit c in
theorem oidx : ∀ t : Fin cfg0.N, win0_4.index t = ![t.val, 0] ∧ win0_5.index t = ![t.val, 0] ∧ win0_6.index t = ![0, 0] :=
  (by decide +kernel : ∀ t : Fin grid0.N, _)

omit c in
/-- and the point that writes the weight's gradient. -/
theorem last6 : ∀ t : Fin cfg0.N, (cfg0.win 6).flush t = true → t.val = 7 :=
  (by decide +kernel : ∀ t : Fin grid0.N, _)

theorem row_lt (t : Fin cfg0.N) (r : Fin 512) : 512 * t.val + r.val < 4096 := by
  have := lt_of_lt_of_eq t.isLt (show cfg0.N = 8 from N_0); omega

theorem blk0 (t : Fin cfg0.N) (r : Fin 512) (q : Fin 1024) : iblk m c 0 t (ix2 r q) = yl m c (ix2 ⟨512 * t.val + r.val, row_lt t r⟩ q) := by
  unfold iblk
  rw [View.read_apply]
  refine (congrFun (V_main_arg0 m c) _).trans ?_
  blk_ext [(idx t).1]

theorem blk1 (t : Fin cfg0.N) (r : Fin 512) (q : Fin 1024) : iblk m c 1 t (ix2 r q) = u m c (ix2 ⟨512 * t.val + r.val, row_lt t r⟩ q) := by
  unfold iblk
  rw [View.read_apply]
  refine (congrFun (V_main_arg1 m c) _).trans ?_
  blk_ext [(idx t).2.1]

theorem blk2 (t : Fin cfg0.N) (z : Fin 1) (q : Fin 1024) : iblk m c 2 t (ix2 z q) = d m c (ix2 z q) := by
  unfold iblk
  rw [View.read_apply]
  refine (congrFun (V_main_arg2 m c) _).trans ?_
  blk_ext [(idx t).2.2.1]

theorem blk3 (t : Fin cfg0.N) (r : Fin 512) (q : Fin 1024) : iblk m c 3 t (ix2 r q) = dg m c (ix2 ⟨512 * t.val + r.val, row_lt t r⟩ q) := by
  unfold iblk
  rw [View.read_apply]
  refine (congrFun (V_main_arg3 m c) _).trans ?_
  blk_ext [(idx t).2.2.2]

/-- What a point writes of the rows' gradients. -/
theorem out_rows (t : Fin cfg0.N) :
    (outsAt0 m c t.val t.isLt).1 = k0_pay3 (iblk m c 0 t) (iblk m c 1 t) (iblk m c 2 t) (iblk m c 3 t)
    ∧ (outsAt0 m c t.val t.isLt).2.1 = k0_pay4 (iblk m c 0 t) (iblk m c 1 t) (iblk m c 2 t) (iblk m c 3 t) := by
  by_cases h0 : t.val % 8 = 0
  · rw [outsAt0_A m c t h0]
    constructor <;> frame_out
  · rw [outsAt0_B m c t h0]
    constructor <;> frame_out

/-- The gradient before the activation at an index. -/
def yGrad (R : Fin 4096) (q : Fin 1024) : EReal :=
  grad (yl m c (ix2 R q) + d m c (ix2 0 q) * u m c (ix2 R q)) (dg m c (ix2 R q))

theorem y_row (t : Fin cfg0.N) (r : Fin 512) (q : Fin 1024) :
    (k0_pay3 (iblk m c 0 t) (iblk m c 1 t) (iblk m c 2 t) (iblk m c 3 t) : FVec Ideal S512x1024 .f32) (ix2 r q)
      = yGrad m c ⟨512 * t.val + r.val, row_lt t r⟩ q := by
  rw [y_apply, yGrad]
  simp only [blk0, blk1, blk2, blk3]

/-- The weight's gradient's term of row `k`, zero past the last. -/
def term (q : Fin 1024) (k : ℕ) : EReal := if h : k < 4096 then yGrad m c ⟨k, h⟩ q * u m c (ix2 ⟨k, h⟩ q) else 0

/-- What a point adds to the weight's gradient. -/
theorem point_sum (z : Fin 1) (q : Fin 1024) (t : Fin cfg0.N) (a : FVec Ideal S1x1024 .f32) :
    (k0_pay2 (iblk m c 1 t) (k0_pay3 (iblk m c 0 t) (iblk m c 1 t) (iblk m c 2 t) (iblk m c 3 t)) a : FVec Ideal S1x1024 .f32) (ix2 z q)
      = a (ix2 z q) + ∑ k : Fin 512, term m c q (512 * t.val + k.val) := by
  refine (step_apply _ _ _ _ _).trans (congrArg _ (Finset.sum_congr rfl fun k _ => ?_))
  rw [y_row, blk1, term, dif_pos (row_lt t k)]

/-- What the weight's gradient holds after each point. -/
theorem acc_apply (z : Fin 1) (q : Fin 1024) (j : ℕ) (hj : j < 8) (h : 8 * 0 + j < cfg0.N) :
    ((outsAt0 m c _ h).2.2 (ix2 z q) : EReal) = ∑ k : Fin (512 * (j + 1)), term m c q k.val := by
  refine Cert.Sums.acc_sum (fun t ht => ((outsAt0 m c t ht).2.2 (ix2 z q) : EReal)) 512 8 0 (term m c q) (fun h => ?_) (fun j hj h h' => ?_) j hj h
  · rw [outsAt0_A m c ⟨_, h⟩ rfl]
    frame_out
    rw [point_sum, zero_apply, zero_add]
    simp only [Nat.mul_zero, Nat.zero_add]
  · rw [outsAt0_B m c ⟨_, h'⟩ (by dsimp only; omega)]
    frame_out
    rw [point_sum]
    simp only [Nat.mul_zero, Nat.zero_add, Nat.add_sub_cancel]

end Cert.Kernel10Ideal.Gelu

namespace Cert.Proof

open Cert.Kernel10Ideal.Gelu in
/-- The kernel's results are the reference's. -/
theorem algebraic10 : Cert.algebraic_Kernel10Ideal_Reference10Ideal := by
  intro m ρ m' ρ' _ hagree
  refine ⟨fun c => (Cert.Kernel10Ideal.Gen.dats m 0 c).arrAt 4 Cert.Kernel10Ideal.cfg0.N,
    fun c => (Cert.Kernel10Ideal.Gen.dats m 0 c).arrAt 5 Cert.Kernel10Ideal.cfg0.N,
    fun c => (Cert.Kernel10Ideal.Gen.dats m 0 c).arrAt 6 Cert.Kernel10Ideal.cfg0.N, Cert.Kernel10Ideal.Value.run_blocks m ρ, ?_⟩
  refine (θ_run _ _ _).mono (fun _ h c => ⟨(h c).1.trans ?_, (h c).2.1.trans ?_, (h c).2.2.1.trans ?_, (h c).2.2.2⟩) (Cert.Reference10Ideal.Value.run m' ρ')
  all_goals
    clear h
    obtain ⟨e0, e1, e2, e3⟩ := hagree c
    symm
  · refine (Cert.Kernel10Ideal.Gen.dats m 0 c).arrAt_eq_of_covers 4 _ (by decide +kernel) fun t hf y => ?_
    blk_simp
    rw [Cert.Kernel10Ideal.Gen.after0_4, (out_rows m c t).1]
    obtain ⟨r, q, rfl⟩ : ∃ (r : Fin 512) (q : Fin 1024), y = ix2 r q := ⟨y 0, y 1, eq_ix2 y⟩
    rw [show ((View.whole Cert.Kernel10Ideal.main_v0_0).slice (Cert.Kernel10Ideal.win0_4.rect t)).emb (ix2 r q) = ix2 ⟨512 * t.val + r.val, row_lt t r⟩ q from
      by blk_ext [(oidx t).1]]
    refine (y_row m c t r q).trans ?_
    unfold Cert.Reference10Ideal.Value.res_main_v35 yGrad grad geluInner th
    rw [e0, e1, e2, e3]
    pointwise []
  · refine (Cert.Kernel10Ideal.Gen.dats m 0 c).arrAt_eq_of_covers 5 _ (by decide +kernel) fun t hf y => ?_
    blk_simp
    rw [Cert.Kernel10Ideal.Gen.after0_5, (out_rows m c t).2]
    obtain ⟨r, q, rfl⟩ : ∃ (r : Fin 512) (q : Fin 1024), y = ix2 r q := ⟨y 0, y 1, eq_ix2 y⟩
    rw [show ((View.whole Cert.Kernel10Ideal.main_v0_1).slice (Cert.Kernel10Ideal.win0_5.rect t)).emb (ix2 r q) = ix2 ⟨512 * t.val + r.val, row_lt t r⟩ q from
      by blk_ext [(oidx t).2.1]]
    refine (u_apply _ _ _ _ r q).trans ?_
    rw [y_row, blk2]
    unfold Cert.Reference10Ideal.Value.res_main_v37 yGrad grad geluInner th
    rw [e0, e1, e2, e3]
    pointwise []
  · refine (Cert.Kernel10Ideal.Gen.dats m 0 c).arrAt_eq_of_covers 6 _ (by decide +kernel) fun t hf y => ?_
    have ht := last6 t hf
    blk_simp
    rw [Cert.Kernel10Ideal.Gen.after0_6]
    obtain ⟨z, q, rfl⟩ : ∃ (z : Fin 1) (q : Fin 1024), y = ix2 z q := ⟨y 0, y 1, eq_ix2 y⟩
    rw [show ((View.whole Cert.Kernel10Ideal.main_v0_2).slice (Cert.Kernel10Ideal.win0_6.rect t)).emb (ix2 z q) = ix2 z q from by blk_ext [(oidx t).2.2]]
    obtain rfl : t = ⟨8 * 0 + 7, by decide⟩ := Fin.ext ht
    refine (acc_apply m c z q 7 (by decide) _).trans ?_
    unfold term yGrad grad geluInner th Cert.Reference10Ideal.Value.res_main_v40
    rw [e0, e1, e2, e3]
    pointwise []

end Cert.Proof
-- ==== Proof.Dt.lean ====
/-
  The state-space branch's time step, backwards: one point holds all rows, and writes the gradient of the step's rows and those
  of its bias and of the decay's logarithm, sums over the rows.
-/
module

public import proofs.«01_k».proof.Defs
public import proofs.«01_k».proof.Proof.Sums
public import proofs.«01_k».proof.Proof.Gen.Kernel11Ideal.Value
public import proofs.«01_k».proof.Proof.Gen.Reference11Ideal.Run
public import Idealize.ShloMosaic.Lib.Pipeline.ValueKit

@[expose] public section

set_option maxRecDepth 16384

noncomputable section

open Idealize.ShloMosaic Idealize.ShloMosaic.TcCoe Idealize.SL.Sem

namespace Cert.Kernel11Ideal.Dt

open Cert.Kernel11Ideal Cert.Kernel11Ideal.Gen

variable (m : (ℓ : Loc nD τ sig) → Buf (Elt Ideal) ℓ) (c : Dev nD)

abbrev dtr : FVec Ideal S4096x128 .f32 := m ((c : Thread nD τ).loc main_arg0)
abbrev bias : FVec Ideal S1x128 .f32 := m ((c : Thread nD τ).loc main_arg1)
abbrev alog : FVec Ideal S1x128 .f32 := m ((c : Thread nD τ).loc main_arg2)
abbrev ddt : FVec Ideal S4096x128 .f32 := m ((c : Thread nD τ).loc main_arg3)
abbrev dda : FVec Ideal S4096x128 .f32 := m ((c : Thread nD τ).loc main_arg4)

omit c in
/-- The one point reads and writes whole arrays. -/
theorem idx : ∀ t : Fin cfg0.N, win0_0.index t = ![0, 0] ∧ win0_1.index t = ![0, 0] ∧ win0_2.index t = ![0, 0] ∧ win0_3.index t = ![0, 0]
    ∧ win0_4.index t = ![0, 0] :=
  (by decide +kernel : ∀ t : Fin grid0.N, _)

omit c in
theorem oidx : ∀ t : Fin cfg0.N, win0_5.index t = ![0, 0] ∧ win0_6.index t = ![0, 0] ∧ win0_7.index t = ![0, 0] :=
  (by decide +kernel : ∀ t : Fin grid0.N, _)

theorem blk0 (t : Fin cfg0.N) (r : Fin 4096) (q : Fin 128) : iblk m c 0 t (ix2 r q) = dtr m c (ix2 r q) := by
  unfold iblk
  rw [View.read_apply]
  refine (congrFun (V_main_arg0 m c) _).trans ?_
  blk_ext [(idx t).1]

theorem blk1 (t : Fin cfg0.N) (r : Fin 1) (q : Fin 128) : iblk m c 1 t (ix2 r q) = bias m c (ix2 r q) := by
  unfold iblk
  rw [View.read_apply]
  refine (congrFun (V_main_arg1 m c) _).trans ?_
  blk_ext [(idx t).2.1]

theorem blk2 (t : Fin cfg0.N) (r : Fin 1) (q : Fin 128) : iblk m c 2 t (ix2 r q) = alog m c (ix2 r q) := by
  unfold iblk
  rw [View.read_apply]
  refine (congrFun (V_main_arg2 m c) _).trans ?_
  blk_ext [(idx t).2.2.1]

theorem blk3 (t : Fin cfg0.N) (r : Fin 4096) (q : Fin 128) : iblk m c 3 t (ix2 r q) = ddt m c (ix2 r q) := by
  unfold iblk
  rw [View.read_apply]
  refine (congrFun (V_main_arg3 m c) _).trans ?_
  blk_ext [(idx t).2.2.2.1]

theorem blk4 (t : Fin cfg0.N) (r : Fin 4096) (q : Fin 128) : iblk m c 4 t (ix2 r q) = dda m c (ix2 r q) := by
  unfold iblk
  rw [View.read_apply]
  refine (congrFun (V_main_arg4 m c) _).trans ?_
  blk_ext [(idx t).2.2.2.2]

/-- What the point writes. -/
theorem out_rows (t : Fin cfg0.N) :
    (outsAt0 m c t).1 = k0_pay1 (k0_pay8 (iblk m c 0 t) (iblk m c 1 t)) (k0_pay11 (iblk m c 2 t) (iblk m c 3 t) (iblk m c 4 t))
    ∧ (outsAt0 m c t).2.1
      = k0_pay3 (k0_pay8 (iblk m c 0 t) (iblk m c 1 t)) (k0_pay11 (iblk m c 2 t) (iblk m c 3 t) (iblk m c 4 t)) (k0_pay2 (F := Ideal))
    ∧ (outsAt0 m c t).2.2 = k0_pay5 (k0_pay9 (iblk m c 2 t)) (k0_pay10 (iblk m c 0 t) (iblk m c 1 t) (iblk m c 4 t))
        (Scalar.ofBits (F := Ideal) .f32 0x00000000#32) (k0_pay4 (F := Ideal)) := by
  unfold outsAt0
  refine ⟨?_, ?_, ?_⟩ <;> frame_out

end Cert.Kernel11Ideal.Dt

namespace Cert.Proof

open Cert.Kernel11Ideal Cert.Kernel11Ideal.Dt in
/-- The kernel's results are the reference's. -/
theorem algebraic11 : Cert.algebraic_Kernel11Ideal_Reference11Ideal := by
  intro m ρ m' ρ' _ hagree
  refine ⟨fun c => (Cert.Kernel11Ideal.Gen.dats m 0 c).arrAt 5 Cert.Kernel11Ideal.cfg0.N,
    fun c => (Cert.Kernel11Ideal.Gen.dats m 0 c).arrAt 6 Cert.Kernel11Ideal.cfg0.N,
    fun c => (Cert.Kernel11Ideal.Gen.dats m 0 c).arrAt 7 Cert.Kernel11Ideal.cfg0.N, Cert.Kernel11Ideal.Value.run_blocks m ρ, ?_⟩
  refine (θ_run _ _ _).mono (fun _ h c => ⟨(h c).1.trans ?_, (h c).2.1.trans ?_, (h c).2.2.1.trans ?_, (h c).2.2.2⟩) (Cert.Reference11Ideal.Value.run m' ρ')
  all_goals
    clear h
    obtain ⟨e0, e1, e2, e3, e4⟩ := hagree c
    symm
  · rw [e0, e1, e2, e3, e4]
    refine (Cert.Kernel11Ideal.Gen.dats m 0 c).arrAt_eq_of_covers 5 _ (by decide +kernel) fun t hf y => ?_
    blk_simp
    rw [Cert.Kernel11Ideal.Gen.after0_5, (out_rows m c t).1]
    obtain ⟨r, q, rfl⟩ : ∃ (r : Fin 4096) (q : Fin 128), y = ix2 r q := ⟨y 0, y 1, eq_ix2 y⟩
    rw [show ((View.whole Cert.Kernel11Ideal.main_v0_0).slice (Cert.Kernel11Ideal.win0_5.rect t)).emb (ix2 r q) = ix2 r q from
      by blk_ext [(oidx t).1]]
    pointwise [Gen.k0_pay1, Gen.k0_pay6, Gen.k0_pay7, Gen.k0_pay8, Gen.k0_pay9, Gen.k0_pay11]
    simp only [blk0, blk1, blk2, blk3, blk4, zero_sub]
  · rw [e0, e1, e2, e3, e4]
    refine (Cert.Kernel11Ideal.Gen.dats m 0 c).arrAt_eq_of_covers 6 _ (by decide +kernel) fun t hf y => ?_
    blk_simp
    rw [Cert.Kernel11Ideal.Gen.after0_6, (out_rows m c t).2.1]
    obtain ⟨z, q, rfl⟩ : ∃ (z : Fin 1) (q : Fin 128), y = ix2 z q := ⟨y 0, y 1, eq_ix2 y⟩
    rw [show ((View.whole Cert.Kernel11Ideal.main_v0_1).slice (Cert.Kernel11Ideal.win0_6.rect t)).emb (ix2 z q) = ix2 z q from
      by blk_ext [(oidx t).2.1]]
    pointwise [Gen.k0_pay1, Gen.k0_pay2, Gen.k0_pay3, Gen.k0_pay6, Gen.k0_pay7, Gen.k0_pay8, Gen.k0_pay9, Gen.k0_pay11]
    simp only [blk0, blk1, blk2, blk3, blk4, zero_sub]
  · rw [e0, e1, e2, e4]
    refine (Cert.Kernel11Ideal.Gen.dats m 0 c).arrAt_eq_of_covers 7 _ (by decide +kernel) fun t hf y => ?_
    blk_simp
    rw [Cert.Kernel11Ideal.Gen.after0_7, (out_rows m c t).2.2]
    obtain ⟨z, q, rfl⟩ : ∃ (z : Fin 1) (q : Fin 128), y = ix2 z q := ⟨y 0, y 1, eq_ix2 y⟩
    rw [show ((View.whole Cert.Kernel11Ideal.main_v0_2).slice (Cert.Kernel11Ideal.win0_7.rect t)).emb (ix2 z q) = ix2 z q from
      by blk_ext [(oidx t).2.2]]
    pointwise [Gen.k0_pay4, Gen.k0_pay5, Gen.k0_pay6, Gen.k0_pay7, Gen.k0_pay9, Gen.k0_pay10]
    simp only [blk0, blk1, blk2, blk4, zero_sub]

end Cert.Proof
-- ==== Proof.Loss.lean ====
/-
  The loss: each point adds its rows' part of the loss and of the scale's gradient to those of the points before, and writes the
  gradient of its rows.
-/
module

public import proofs.«01_k».proof.Defs
public import proofs.«01_k».proof.Proof.Sums
public import proofs.«01_k».proof.Proof.Gen.Kernel12Ideal.Value
public import proofs.«01_k».proof.Proof.Gen.Reference12Ideal.Run
public import Idealize.ShloMosaic.Lib.Pipeline.ValueKit

@[expose] public section

set_option maxRecDepth 16384

noncomputable section

open Idealize.ShloMosaic Idealize.ShloMosaic.TcCoe Idealize.SL.Sem

namespace Cert.Kernel12Ideal.Loss

open Cert.Kernel12Ideal Cert.Kernel12Ideal.Gen

variable (m : (ℓ : Loc nD τ sig) → Buf (Elt Ideal) ℓ) (c : Dev nD)

abbrev x : FVec Ideal S4096x1024 .f32 := m ((c : Thread nD τ).loc main_arg0)
abbrev tgt : FVec Ideal S4096x1024 .f32 := m ((c : Thread nD τ).loc main_arg1)
abbrev n : FVec Ideal S1x1024 .f32 := m ((c : Thread nD τ).loc main_arg2)

/-- A row's mean square, shifted. -/
def meanSq (x : Fin 1024 → EReal) : EReal :=
  Ideal.div (∑ j, x j * x j) (Ideal.ofBits .f32 0x44800000#32) + Ideal.ofBits .f32 0x358637BD#32

/-- The difference of a row from its target. -/
def diff (x t n : Fin 1024 → EReal) (q : Fin 1024) : EReal := x q * Ideal.rsqrt (meanSq x) * n q - t q

/-- A row's mean of the squared differences, -/
def rowLoss (x t n : Fin 1024 → EReal) : EReal := Ideal.div (∑ j, diff x t n j * diff x t n j) (Ideal.ofBits .f32 0x44800000#32)

/-- and what half of it has as gradient. -/
def diffGrad (x t n : Fin 1024 → EReal) (q : Fin 1024) : EReal :=
  Ideal.div (Ideal.ofBits .f32 0x3F000000#32 * Ideal.ofBits .f32 0x3F800000#32) (Ideal.ofBits .f32 0x44800000#32)
    * (Ideal.ofBits .f32 0x40000000#32 * diff x t n q)

/-- What the row's gradient takes from the mean square's. -/
def corr (x g : Fin 1024 → EReal) : EReal :=
  Ideal.div ((∑ j, x j * g j) * (Ideal.ofBits .f32 0xBF000000#32 * Ideal.div (Ideal.rsqrt (meanSq x)) (meanSq x))) (Ideal.ofBits .f32 0x44800000#32)

/-- The gradient of the row `x` of a norm whose scaled output's is `g`. -/
def normGrad (x g : Fin 1024 → EReal) (q : Fin 1024) : EReal := g q * Ideal.rsqrt (meanSq x) + x q * corr x g + corr x g * x q

/-- A row's part of the scale's gradient. -/
def scaleGrad (x t n : Fin 1024 → EReal) (q : Fin 1024) : EReal := x q * Ideal.rsqrt (meanSq x) * diffGrad x t n q

section Payloads

variable (x0 x1 : Vec Ideal S1024x1024 .f32) (x2 : Vec Ideal S1x1024 .f32) (xl : Vec Ideal S1x128 .f32) (xs : Vec Ideal S1x1024 .f32)

theorem loss_apply (i : Fin 1) (q : Fin 128) : (k0_pay13 (k0_pay7 x0 x1 x2) xl : FVec Ideal S1x128 .f32) (ix2 i q)
    = xl (ix2 i q) + ∑ k : Fin 1024, Ideal.ofBits .f32 0x3F000000#32 * rowLoss (fun j => x1 (ix2 k j)) (fun j => x0 (ix2 k j)) fun j => x2 (ix2 0 j) := by
  rw [← Cert.Sums.mul_sum_of_nonneg _ Cert.Sums.half_nonneg Cert.Sums.half_ne_top]
  unfold rowLoss diff meanSq
  pointwise [k0_pay13, k0_pay7, k0_pay5, k0_pay4, k0_pay2, k0_pay1]

theorem zero_loss (i : Fin 1) (q : Fin 128) : (k0_pay11 : FVec Ideal S1x128 .f32) (ix2 i q) = (0 : EReal) := by
  pointwise [k0_pay11]

theorem zero_apply (i : Fin 1) (q : Fin 1024) : (k0_pay12 : FVec Ideal S1x1024 .f32) (ix2 i q) = (0 : EReal) := by
  pointwise [k0_pay12]

theorem diff_apply (r q : Fin 1024) :
    (k0_pay9 (k0_pay6 x0 x1 x2) k0_pay8 (Scalar.ofBits (F := Ideal) .f32 0x44800000#32) : FVec Ideal S1024x1024 .f32) (ix2 r q)
      = diffGrad (fun j => x1 (ix2 r j)) (fun j => x0 (ix2 r j)) (fun j => x2 (ix2 0 j)) q := by
  unfold diffGrad diff meanSq
  pointwise [k0_pay9, k0_pay8, k0_pay6, k0_pay5, k0_pay4, k0_pay2, k0_pay1]
  simp only [Fin.sum_univ_one]

theorem rows_apply (r q : Fin 1024) :
    (k0_pay10 x1 x2 (k0_pay2 x1) (k0_pay3 x1) (k0_pay6 x0 x1 x2) k0_pay8 (Scalar.ofBits (F := Ideal) .f32 0x44800000#32) : FVec Ideal S1024x1024 .f32) (ix2 r q)
      = normGrad (fun j => x1 (ix2 r j))
          (fun j => diffGrad (fun j => x1 (ix2 r j)) (fun j => x0 (ix2 r j)) (fun j => x2 (ix2 0 j)) j * x2 (ix2 0 j)) q := by
  simp only [← diff_apply]
  unfold normGrad corr meanSq
  pointwise [k0_pay10, k0_pay3, k0_pay2, k0_pay1]
  simp only [Fin.sum_univ_one]

theorem step_apply (i : Fin 1) (q : Fin 1024) :
    (k0_pay14 (k0_pay4 x1) (k0_pay6 x0 x1 x2) k0_pay8 (Scalar.ofBits (F := Ideal) .f32 0x44800000#32) xs : FVec Ideal S1x1024 .f32) (ix2 i q)
      = xs (ix2 i q) + ∑ k : Fin 1024, scaleGrad (fun j => x1 (ix2 k j)) (fun j => x0 (ix2 k j)) (fun j => x2 (ix2 0 j)) q := by
  unfold scaleGrad
  simp only [← diff_apply]
  unfold meanSq
  pointwise [k0_pay14, k0_pay4, k0_pay2, k0_pay1]

end Payloads

omit c in
/-- The blocks a point reads and writes, -/
theorem idx : ∀ t : Fin cfg0.N, win0_0.index t = ![t.val, 0] ∧ win0_1.index t = ![t.val, 0] ∧ win0_2.index t = ![0, 0] :=
  (by decide +kernel : ∀ t : Fin grid0.N, _)

omit c in
theorem oidx : ∀ t : Fin cfg0.N, win0_3.index t = ![0, 0] ∧ win0_4.index t = ![t.val, 0] ∧ win0_5.index t = ![0, 0] :=
  (by decide +kernel : ∀ t : Fin grid0.N, _)

omit c in
/-- and the point that writes the sums. -/
theorem last : ∀ t : Fin cfg0.N, ((cfg0.win 3).flush t = true → t.val = 3) ∧ ((cfg0.win 5).flush t = true → t.val = 3) :=
  (by decide +kernel : ∀ t : Fin grid0.N, _)

theorem row_lt (t : Fin cfg0.N) (r : Fin 1024) : 1024 * t.val + r.val < 4096 := by
  have := lt_of_lt_of_eq t.isLt (show cfg0.N = 4 from N_0); omega

theorem blk1 (t : Fin cfg0.N) (r q : Fin 1024) : iblk m c 1 t (ix2 r q) = tgt m c (ix2 ⟨1024 * t.val + r.val, row_lt t r⟩ q) := by
  unfold iblk
  rw [View.read_apply]
  refine (congrFun (V_main_arg1 m c) _).trans ?_
  blk_ext [(idx t).2.1]

theorem blk0 (t : Fin cfg0.N) (r q : Fin 1024) : iblk m c 0 t (ix2 r q) = x m c (ix2 ⟨1024 * t.val + r.val, row_lt t r⟩ q) := by
  unfold iblk
  rw [View.read_apply]
  refine (congrFun (V_main_arg0 m c) _).trans ?_
  blk_ext [(idx t).1]

theorem blk2 (t : Fin cfg0.N) (i : Fin 1) (q : Fin 1024) : iblk m c 2 t (ix2 i q) = n m c (ix2 i q) := by
  unfold iblk
  rw [View.read_apply]
  refine (congrFun (V_main_arg2 m c) _).trans ?_
  blk_ext [(idx t).2.2]

/-- What a point writes of the rows' gradient. -/
theorem out4 (t : Fin cfg0.N) :
    (outsAt0 m c t.val t.isLt).2.1 = k0_pay10 (iblk m c 0 t) (iblk m c 2 t) (k0_pay2 (iblk m c 0 t)) (k0_pay3 (iblk m c 0 t))
        (k0_pay6 (iblk m c 1 t) (iblk m c 0 t) (iblk m c 2 t)) k0_pay8 (Scalar.ofBits (F := Ideal) .f32 0x44800000#32) := by
  by_cases h0 : t.val % 4 = 0
  · rw [outsAt0_A m c t h0]
    frame_out
  · rw [outsAt0_B m c t h0]
    frame_out

/-- Row `k`'s part of the loss, zero past the last, -/
def lossTerm (k : ℕ) : EReal :=
  if h : k < 4096 then
    Ideal.ofBits .f32 0x3F000000#32 * rowLoss (fun j => x m c (ix2 ⟨k, h⟩ j)) (fun j => tgt m c (ix2 ⟨k, h⟩ j)) fun j => n m c (ix2 0 j)
  else 0

/-- and of the scale's gradient. -/
def term (q : Fin 1024) (k : ℕ) : EReal :=
  if h : k < 4096 then scaleGrad (fun j => x m c (ix2 ⟨k, h⟩ j)) (fun j => tgt m c (ix2 ⟨k, h⟩ j)) (fun j => n m c (ix2 0 j)) q else 0

/-- What a point adds to the loss, -/
theorem loss_sum (i : Fin 1) (q : Fin 128) (t : Fin cfg0.N) (a : FVec Ideal S1x128 .f32) :
    (k0_pay13 (k0_pay7 (iblk m c 1 t) (iblk m c 0 t) (iblk m c 2 t)) a : FVec Ideal S1x128 .f32) (ix2 i q)
      = a (ix2 i q) + ∑ k : Fin 1024, lossTerm m c (1024 * t.val + k.val) := by
  refine (loss_apply _ _ _ _ _ _).trans (congrArg _ (Finset.sum_congr rfl fun k _ => ?_))
  rw [lossTerm, dif_pos (row_lt t k)]
  simp only [blk0, blk1, blk2]

/-- and to the scale's gradient. -/
theorem point_sum (i : Fin 1) (q : Fin 1024) (t : Fin cfg0.N) (a : FVec Ideal S1x1024 .f32) :
    (k0_pay14 (k0_pay4 (iblk m c 0 t)) (k0_pay6 (iblk m c 1 t) (iblk m c 0 t) (iblk m c 2 t)) k0_pay8
        (Scalar.ofBits (F := Ideal) .f32 0x44800000#32) a : FVec Ideal S1x1024 .f32) (ix2 i q)
      = a (ix2 i q) + ∑ k : Fin 1024, term m c q (1024 * t.val + k.val) := by
  refine (step_apply _ _ _ _ _ _).trans (congrArg _ (Finset.sum_congr rfl fun k _ => ?_))
  rw [term, dif_pos (row_lt t k)]
  simp only [blk0, blk1, blk2]

/-- What the loss holds after each point, -/
theorem loss_acc (i : Fin 1) (q : Fin 128) (j : ℕ) (hj : j < 4) (h : 4 * 0 + j < cfg0.N) :
    ((outsAt0 m c _ h).1 (ix2 i q) : EReal) = ∑ k : Fin (1024 * (j + 1)), lossTerm m c k.val := by
  refine Cert.Sums.acc_sum (fun t ht => ((outsAt0 m c t ht).1 (ix2 i q) : EReal)) 1024 4 0 (lossTerm m c) (fun h => ?_) (fun j hj h h' => ?_) j hj h
  · rw [outsAt0_A m c ⟨_, h⟩ rfl]
    frame_out
    rw [loss_sum, zero_loss, zero_add]
    simp only [Nat.mul_zero, Nat.zero_add]
  · rw [outsAt0_B m c ⟨_, h'⟩ (by dsimp only; omega)]
    frame_out
    rw [loss_sum]
    simp only [Nat.mul_zero, Nat.zero_add, Nat.add_sub_cancel]

/-- and the scale's gradient. -/
theorem acc_apply (i : Fin 1) (q : Fin 1024) (j : ℕ) (hj : j < 4) (h : 4 * 0 + j < cfg0.N) :
    ((outsAt0 m c _ h).2.2 (ix2 i q) : EReal) = ∑ k : Fin (1024 * (j + 1)), term m c q k.val := by
  refine Cert.Sums.acc_sum (fun t ht => ((outsAt0 m c t ht).2.2 (ix2 i q) : EReal)) 1024 4 0 (term m c q) (fun h => ?_) (fun j hj h h' => ?_) j hj h
  · rw [outsAt0_A m c ⟨_, h⟩ rfl]
    frame_out
    rw [point_sum, zero_apply, zero_add]
    simp only [Nat.mul_zero, Nat.zero_add]
  · rw [outsAt0_B m c ⟨_, h'⟩ (by dsimp only; omega)]
    frame_out
    rw [point_sum]
    simp only [Nat.mul_zero, Nat.zero_add, Nat.add_sub_cancel]

end Cert.Kernel12Ideal.Loss

namespace Cert.Proof

open Cert.Kernel12Ideal.Loss in
/-- The kernel's results are the reference's. -/
theorem algebraic12 : Cert.algebraic_Kernel12Ideal_Reference12Ideal := by
  intro m ρ m' ρ' _ hagree
  refine ⟨fun c => (Cert.Kernel12Ideal.Gen.dats m 0 c).arrAt 3 Cert.Kernel12Ideal.cfg0.N,
    fun c => (Cert.Kernel12Ideal.Gen.dats m 0 c).arrAt 4 Cert.Kernel12Ideal.cfg0.N,
    fun c => (Cert.Kernel12Ideal.Gen.dats m 0 c).arrAt 5 Cert.Kernel12Ideal.cfg0.N, Cert.Kernel12Ideal.Value.run_blocks m ρ, ?_⟩
  refine (θ_run _ _ _).mono (fun _ h c => ⟨(h c).1.trans ?_, (h c).2.1.trans ?_, (h c).2.2.1.trans ?_, (h c).2.2.2⟩) (Cert.Reference12Ideal.Value.run m' ρ')
  all_goals
    clear h
    obtain ⟨e0, e1, e2⟩ := hagree c
    symm
  · rw [e0, e1, e2]
    refine (Cert.Kernel12Ideal.Gen.dats m 0 c).arrAt_eq_of_covers 3 _ (by decide +kernel) fun t hf i => ?_
    have ht := (last t).1 hf
    blk_simp
    rw [Cert.Kernel12Ideal.Gen.after0_3]
    obtain ⟨i, q, rfl⟩ : ∃ (r : Fin 1) (q : Fin 128), i = ix2 r q := ⟨i 0, i 1, eq_ix2 i⟩
    rw [show ((View.whole Cert.Kernel12Ideal.main_v0_0).slice (Cert.Kernel12Ideal.win0_3.rect t)).emb (ix2 i q) = ix2 i q from by blk_ext [(oidx t).1]]
    obtain rfl : t = ⟨4 * 0 + 3, by decide⟩ := Fin.ext ht
    refine (loss_acc m c i q 3 (by decide) _).trans ?_
    unfold lossTerm
    simp only [Fin.is_lt, dif_pos, Fin.eta, Nat.reduceAdd, Nat.reduceMul]
    rw [← Cert.Sums.mul_sum_of_nonneg _ Cert.Sums.half_nonneg Cert.Sums.half_ne_top]
    unfold rowLoss diff meanSq
    pointwise []
  · refine (Cert.Kernel12Ideal.Gen.dats m 0 c).arrAt_eq_of_covers 4 _ (by decide +kernel) fun t hf i => ?_
    blk_simp
    rw [Cert.Kernel12Ideal.Gen.after0_4, out4 m c t]
    obtain ⟨r, q, rfl⟩ : ∃ (r : Fin 1024) (q : Fin 1024), i = ix2 r q := ⟨i 0, i 1, eq_ix2 i⟩
    rw [show ((View.whole Cert.Kernel12Ideal.main_v0_1).slice (Cert.Kernel12Ideal.win0_4.rect t)).emb (ix2 r q) = ix2 ⟨1024 * t.val + r.val, row_lt t r⟩ q from
      by blk_ext [(oidx t).2.1]]
    refine (rows_apply _ _ _ r q).trans ?_
    simp only [blk0, blk1, blk2]
    unfold Cert.Reference12Ideal.Value.res_main_v49 normGrad corr diffGrad diff meanSq
    rw [e0, e1, e2]
    pointwise []
    simp only [Fin.sum_univ_one]
  · rw [e0, e1, e2]
    refine (Cert.Kernel12Ideal.Gen.dats m 0 c).arrAt_eq_of_covers 5 _ (by decide +kernel) fun t hf i => ?_
    have ht := (last t).2 hf
    blk_simp
    rw [Cert.Kernel12Ideal.Gen.after0_5]
    obtain ⟨i, q, rfl⟩ : ∃ (r : Fin 1) (q : Fin 1024), i = ix2 r q := ⟨i 0, i 1, eq_ix2 i⟩
    rw [show ((View.whole Cert.Kernel12Ideal.main_v0_2).slice (Cert.Kernel12Ideal.win0_5.rect t)).emb (ix2 i q) = ix2 i q from by blk_ext [(oidx t).2.2]]
    obtain rfl : t = ⟨4 * 0 + 3, by decide⟩ := Fin.ext ht
    refine (acc_apply m c i q 3 (by decide) _).trans ?_
    unfold term scaleGrad diffGrad diff meanSq
    pointwise []

end Cert.Proof
-- ==== Proof.DWz.lean ====
/-
  The gradient of the mixer's `z` weight and of its gate weight (one program: the shapes are the same): over the four row
  blocks of its operands a run of points accumulates the sum over all rows.
-/
module

public import proofs.«01_k».proof.Defs
public import proofs.«01_k».proof.Proof.Sums
public import proofs.«01_k».proof.Proof.Gen.Kernel13Ideal.Value
public import proofs.«01_k».proof.Proof.Gen.Reference13Ideal.Run
public import Idealize.ShloMosaic.Lib.Pipeline.ValueKit

@[expose] public section

set_option maxRecDepth 16384

noncomputable section

open Idealize.ShloMosaic Idealize.ShloMosaic.TcCoe Idealize.SL.Sem

namespace Cert.Kernel13Ideal.Product

open Cert.Kernel13Ideal Cert.Kernel13Ideal.Gen

variable (m : (ℓ : Loc nD τ sig) → Buf (Elt Ideal) ℓ) (c : Dev nD)

abbrev h : FVec Ideal S4096x1024 .bf16 := m ((c : Thread nD τ).loc main_arg0)
abbrev dz : FVec Ideal S4096x2048 .f32 := m ((c : Thread nD τ).loc main_arg1)

section Payloads

variable (x0 : Vec Ideal S1024x512 .bf16) (x1 : Vec Ideal S1024x2048 .f32) (xs : Vec Ideal S512x2048 .f32)

/-- The two blocks' product at an index, added to what was there. -/
theorem step_apply (r : Fin 512) (s : Fin 2048) : (k0_pay2 xs x0 x1 : FVec Ideal S512x2048 .f32) (ix2 r s)
    = xs (ix2 r s) + ∑ k : Fin 1024, (x0 (ix2 k r) : EReal) * x1 (ix2 k s) := by
  pointwise [k0_pay2]

theorem zero_apply (r : Fin 512) (s : Fin 2048) : (k0_pay1 : FVec Ideal S512x2048 .f32) (ix2 r s) = (0 : EReal) := by
  pointwise [k0_pay1]

theorem scale_apply (r : Fin 512) (s : Fin 2048) : (k0_pay3 xs : FVec Ideal S512x2048 .f32) (ix2 r s) = xs (ix2 r s) := by
  pointwise [k0_pay3]

theorem scratch_read : View.read (Elt Ideal) (View.whole cc0_scratch0) ((Memref.isWhole_whole cc0_scratch0).unread xs) = xs :=
  (Memref.isWhole_whole cc0_scratch0).read_unread xs

end Payloads

omit c in
/-- The blocks a point reads and writes, -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

omit c in
/-- and when it writes. -/
theorem last : ∀ t : Fin cfg0.N, (cfg0.win 2).flush t = true → ∃ q : Fin 2, t.val = 4 * q.val + 3 :=
  (by decide +kernel : ∀ t : Fin grid0.N, _)

theorem last_lt (q : Fin 2) : 4 * q.val + 3 < cfg0.N := by
  rw [show cfg0.N = 8 from N_0]; omega

theorem blk0 (t : Fin cfg0.N) (k : Fin 1024) (r : Fin 512) : iblk m c 0 t (ix2 k r)
    = h m c (ix2 ⟨1024 * (t.val % 4) + k.val, by omega⟩ ⟨512 * (t.val / 4) + r.val, by have := lt_of_lt_of_eq t.isLt (show cfg0.N = 8 from N_0); omega⟩) := by
  unfold iblk
  rw [View.read_apply]
  refine (congrFun (V_main_arg0 m c) _).trans ?_
  blk_ext [(idx t).1]

theorem blk1 (t : Fin cfg0.N) (k : Fin 1024) (s : Fin 2048) : iblk m c 1 t (ix2 k s)
    = dz m c (ix2 ⟨1024 * (t.val % 4) + k.val, by omega⟩ s) := by
  unfold iblk
  rw [View.read_apply]
  refine (congrFun (V_main_arg1 m c) _).trans ?_
  blk_ext [(idx t).2.1]

/-- The product's term at row `k` of the operands, zero past the last. -/
def term (R : Fin 1024) (C : Fin 2048) (k : ℕ) : EReal :=
  if hk : k < 4096 then (h m c (ix2 ⟨k, hk⟩ R) : EReal) * dz m c (ix2 ⟨k, hk⟩ C) else 0

/-- What a point of the run `q` adds to the sum. -/
theorem point_sum (q : Fin 2) (t : Fin cfg0.N) (ht : t.val / 4 = q.val) (r : Fin 512) (s : Fin 2048) (a : FVec Ideal S512x2048 .f32) :
    (k0_pay2 a (iblk m c 0 t) (iblk m c 1 t) : FVec Ideal S512x2048 .f32) (ix2 r s)
      = a (ix2 r s) + ∑ k : Fin 1024, term m c ⟨512 * q.val + r.val, by omega⟩ s (1024 * (t.val % 4) + k.val) := by
  refine (step_apply _ _ _ _ _).trans (congrArg _ (Finset.sum_congr rfl fun k _ => ?_))
  rw [blk0, blk1, term, dif_pos (by omega)]
  simp only [ht]

/-- What the accumulator holds after each point of a run. -/
theorem acc_apply (q : Fin 2) (r : Fin 512) (s : Fin 2048) (j : ℕ) (hj : j < 4) (hb : 4 * q.val + j < cfg0.N) :
    ((outsAt0 m c _ hb).2 (ix2 r s) : EReal) = ∑ k : Fin (1024 * (j + 1)), term m c ⟨512 * q.val + r.val, by omega⟩ s k.val := by
  refine Cert.Sums.acc_sum (fun t ht => ((outsAt0 m c t ht).2 (ix2 r s) : EReal)) 1024 4 _ (term m c _ s) (fun hb => ?_) (fun j hj hb hb' => ?_) j hj hb
  · rw [outsAt0_A m c ⟨_, hb⟩ (by dsimp only; omega) (by dsimp only; omega)]
    frame_out
    rw [point_sum m c q _ (by dsimp only; omega), zero_apply, zero_add]
    simp only [Nat.mul_mod_right, Nat.mul_zero, Nat.zero_add]
  · have e : (4 * q.val + j + 1) % 4 = j + 1 := by omega
    by_cases h3 : j + 1 = 3
    · rw [outsAt0_C m c ⟨_, hb'⟩ (by dsimp only; omega) (by dsimp only; omega)]
      frame_out
      rw [scratch_read, point_sum m c q _ (by dsimp only; omega)]
      simp only [e, Nat.add_sub_cancel]
    · rw [outsAt0_B m c ⟨_, hb'⟩ (by dsimp only; omega) (by dsimp only; omega)]
      frame_out
      rw [scratch_read, point_sum m c q _ (by dsimp only; omega)]
      simp only [e, Nat.add_sub_cancel]

/-- The last point of a run writes what the accumulator then holds. -/
theorem out_apply (t : Fin cfg0.N) (h0 : ¬t.val % 4 = 0) (h1 : t.val % 4 = 3) (r : Fin 512) (s : Fin 2048) :
    ((outsAt0 m c t.val t.isLt).1 (ix2 r s) : EReal) = (outsAt0 m c t.val t.isLt).2 (ix2 r s) := by
  rw [outsAt0_C m c t h0 h1]
  frame_out
  rw [scratch_read]
  exact scale_apply _ r s

end Cert.Kernel13Ideal.Product

namespace Cert.Proof

open Cert.Kernel13Ideal.Product in
/-- The kernel's result is the reference's. -/
theorem algebraic13 : Cert.algebraic_Kernel13Ideal_Reference13Ideal := by
  intro m ρ m' ρ' _ hagree
  refine ⟨fun c => (Cert.Kernel13Ideal.Gen.dats m 0 c).arrAt 2 Cert.Kernel13Ideal.cfg0.N, Cert.Kernel13Ideal.Value.run_blocks m ρ, ?_⟩
  refine (θ_run _ _ _).mono (fun _ h c => ⟨(h c).1.trans ?_, (h c).2⟩) (Cert.Reference13Ideal.Value.run m' ρ')
  obtain ⟨e0, e1⟩ := hagree c
  rw [e0, e1]
  symm
  refine (Cert.Kernel13Ideal.Gen.dats m 0 c).arrAt_eq_of_covers 2 _ (by decide +kernel) fun t hf y => ?_
  obtain ⟨p, hp⟩ := last t hf
  blk_simp
  rw [Cert.Kernel13Ideal.Gen.after0_2]
  obtain ⟨r, s, rfl⟩ : ∃ (r : Fin 512) (s : Fin 2048), y = ix2 r s := ⟨y 0, y 1, eq_ix2 y⟩
  rw [show ((View.whole Cert.Kernel13Ideal.main_v0).slice (Cert.Kernel13Ideal.win0_2.rect t)).emb (ix2 r s) = ix2 ⟨512 * p.val + r.val, by omega⟩ s from
    by blk_ext [(idx t).2.2]]
  obtain rfl : t = ⟨4 * p.val + 3, last_lt p⟩ := Fin.ext hp
  refine (out_apply m c _ (by dsimp only; omega) (by dsimp only; omega) r s).trans ((acc_apply m c p r s 3 (by decide) _).trans ?_)
  unfold term
  pointwise []
  exact Finset.sum_congr rfl fun k _ => mul_comm _ _

end Cert.Proof
-- ==== Proof.DWxbc.lean ====
/-
  The gradient of the mixer's convolution weight: over the four row blocks of its operands a run of points accumulates, for
  one of the four blocks of the result, the sum over all rows.
-/
module

public import proofs.«01_k».proof.Defs
public import proofs.«01_k».proof.Proof.Sums
public import proofs.«01_k».proof.Proof.Gen.Kernel14Ideal.Value
public import proofs.«01_k».proof.Proof.Gen.Reference14Ideal.Run
public import Idealize.ShloMosaic.Lib.Pipeline.ValueKit

@[expose] public section

set_option maxRecDepth 16384

noncomputable section

open Idealize.ShloMosaic Idealize.ShloMosaic.TcCoe Idealize.SL.Sem

namespace Cert.Kernel14Ideal.Product

open Cert.Kernel14Ideal Cert.Kernel14Ideal.Gen

variable (m : (ℓ : Loc nD τ sig) → Buf (Elt Ideal) ℓ) (c : Dev nD)

abbrev h : FVec Ideal S4096x1024 .bf16 := m ((c : Thread nD τ).loc main_arg0)
abbrev dxbc : FVec Ideal S4096x4096 .f32 := m ((c : Thread nD τ).loc main_arg1)

section Payloads

variable (x0 : Vec Ideal S1024x512 .bf16) (x1 : Vec Ideal S1024x2048 .f32) (xs : Vec Ideal S512x2048 .f32)

/-- The two blocks' product at an index, added to what was there. -/
theorem step_apply (r : Fin 512) (s : Fin 2048) : (k0_pay2 xs x0 x1 : FVec Ideal S512x2048 .f32) (ix2 r s)
    = xs (ix2 r s) + ∑ k : Fin 1024, (x0 (ix2 k r) : EReal) * x1 (ix2 k s) := by
  pointwise [k0_pay2]

theorem zero_apply (r : Fin 512) (s : Fin 2048) : (k0_pay1 : FVec Ideal S512x2048 .f32) (ix2 r s) = (0 : EReal) := by
  pointwise [k0_pay1]

theorem scale_apply (r : Fin 512) (s : Fin 2048) : (k0_pay3 xs : FVec Ideal S512x2048 .f32) (ix2 r s) = xs (ix2 r s) := by
  pointwise [k0_pay3]

theorem scratch_read : View.read (Elt Ideal) (View.whole cc0_scratch0) ((Memref.isWhole_whole cc0_scratch0).unread xs) = xs :=
  (Memref.isWhole_whole cc0_scratch0).read_unread xs

end Payloads

omit c in
/-- The blocks a point reads and writes, -/
theorem idx : ∀ t : Fin cfg0.N, win0_0.index t = ![t.val % 4, t.val / 4 / 2] ∧ win0_1.index t = ![t.val % 4, t.val / 4 % 2]
    ∧ win0_2.index t = ![t.val / 4 / 2, t.val / 4 % 2] :=
  (by decide +kernel : ∀ t : Fin grid0.N, _)

omit c in
/-- and when it writes. -/
theorem last : ∀ t : Fin cfg0.N, (cfg0.win 2).flush t = true → ∃ q : Fin 4, t.val = 4 * q.val + 3 :=
  (by decide +kernel : ∀ t : Fin grid0.N, _)

theorem last_lt (q : Fin 4) : 4 * q.val + 3 < cfg0.N := by
  rw [show cfg0.N = 16 from N_0]; omega

theorem blk0 (t : Fin cfg0.N) (k : Fin 1024) (r : Fin 512) : iblk m c 0 t (ix2 k r)
    = h m c (ix2 ⟨1024 * (t.val % 4) + k.val, by omega⟩ ⟨512 * (t.val / 4 / 2) + r.val, by have := lt_of_lt_of_eq t.isLt (show cfg0.N = 16 from N_0); omega⟩) := by
  unfold iblk
  rw [View.read_apply]
  refine (congrFun (V_main_arg0 m c) _).trans ?_
  blk_ext [(idx t).1]

theorem blk1 (t : Fin cfg0.N) (k : Fin 1024) (s : Fin 2048) : iblk m c 1 t (ix2 k s)
    = dxbc m c (ix2 ⟨1024 * (t.val % 4) + k.val, by omega⟩ ⟨2048 * (t.val / 4 % 2) + s.val, by omega⟩) := by
  unfold iblk
  rw [View.read_apply]
  refine (congrFun (V_main_arg1 m c) _).trans ?_
  blk_ext [(idx t).2.1]

/-- The product's term at row `k` of the operands, zero past the last. -/
def term (R : Fin 1024) (C : Fin 4096) (k : ℕ) : EReal :=
  if hk : k < 4096 then (h m c (ix2 ⟨k, hk⟩ R) : EReal) * dxbc m c (ix2 ⟨k, hk⟩ C) else 0

/-- The row and the column of the result that an index of the block `q` is at. -/
abbrev row (q : Fin 4) (r : Fin 512) : Fin 1024 := ⟨512 * (q.val / 2) + r.val, by omega⟩
abbrev col (q : Fin 4) (s : Fin 2048) : Fin 4096 := ⟨2048 * (q.val % 2) + s.val, by omega⟩

/-- What a point of the run `q` adds to the sum. -/
theorem point_sum (q : Fin 4) (t : Fin cfg0.N) (ht : t.val / 4 = q.val) (r : Fin 512) (s : Fin 2048) (a : FVec Ideal S512x2048 .f32) :
    (k0_pay2 a (iblk m c 0 t) (iblk m c 1 t) : FVec Ideal S512x2048 .f32) (ix2 r s)
      = a (ix2 r s) + ∑ k : Fin 1024, term m c (row q r) (col q s) (1024 * (t.val % 4) + k.val) := by
  refine (step_apply _ _ _ _ _).trans (congrArg _ (Finset.sum_congr rfl fun k _ => ?_))
  rw [blk0, blk1, term, dif_pos (by omega)]
  simp only [ht]

/-- What the accumulator holds after each point of a run. -/
theorem acc_apply (q : Fin 4) (r : Fin 512) (s : Fin 2048) (j : ℕ) (hj : j < 4) (hb : 4 * q.val + j < cfg0.N) :
    ((outsAt0 m c _ hb).2 (ix2 r s) : EReal) = ∑ k : Fin (1024 * (j + 1)), term m c (row q r) (col q s) k.val := by
  refine Cert.Sums.acc_sum (fun t ht => ((outsAt0 m c t ht).2 (ix2 r s) : EReal)) 1024 4 _ (term m c _ _) (fun hb => ?_) (fun j hj hb hb' => ?_) j hj hb
  · rw [outsAt0_A m c ⟨_, hb⟩ (by dsimp only; omega) (by dsimp only; omega)]
    frame_out
    rw [point_sum m c q _ (by dsimp only; omega), zero_apply, zero_add]
    simp only [Nat.mul_mod_right, Nat.mul_zero, Nat.zero_add]
  · have e : (4 * q.val + j + 1) % 4 = j + 1 := by omega
    by_cases h3 : j + 1 = 3
    · rw [outsAt0_C m c ⟨_, hb'⟩ (by dsimp only; omega) (by dsimp only; omega)]
      frame_out
      rw [scratch_read, point_sum m c q _ (by dsimp only; omega)]
      simp only [e, Nat.add_sub_cancel]
    · rw [outsAt0_B m c ⟨_, hb'⟩ (by dsimp only; omega) (by dsimp only; omega)]
      frame_out
      rw [scratch_read, point_sum m c q _ (by dsimp only; omega)]
      simp only [e, Nat.add_sub_cancel]

/-- The last point of a run writes what the accumulator then holds. -/
theorem out_apply (t : Fin cfg0.N) (h0 : ¬t.val % 4 = 0) (h1 : t.val % 4 = 3) (r : Fin 512) (s : Fin 2048) :
    ((outsAt0 m c t.val t.isLt).1 (ix2 r s) : EReal) = (outsAt0 m c t.val t.isLt).2 (ix2 r s) := by
  rw [outsAt0_C m c t h0 h1]
  frame_out
  rw [scratch_read]
  exact scale_apply _ r s

end Cert.Kernel14Ideal.Product

namespace Cert.Proof

open Cert.Kernel14Ideal.Product in
/-- The kernel's result is the reference's. -/
theorem algebraic14 : Cert.algebraic_Kernel14Ideal_Reference14Ideal := by
  intro m ρ m' ρ' _ hagree
  refine ⟨fun c => (Cert.Kernel14Ideal.Gen.dats m 0 c).arrAt 2 Cert.Kernel14Ideal.cfg0.N, Cert.Kernel14Ideal.Value.run_blocks m ρ, ?_⟩
  refine (θ_run _ _ _).mono (fun _ h c => ⟨(h c).1.trans ?_, (h c).2⟩) (Cert.Reference14Ideal.Value.run m' ρ')
  obtain ⟨e0, e1⟩ := hagree c
  rw [e0, e1]
  symm
  refine (Cert.Kernel14Ideal.Gen.dats m 0 c).arrAt_eq_of_covers 2 _ (by decide +kernel) fun t hf y => ?_
  obtain ⟨p, hp⟩ := last t hf
  blk_simp
  rw [Cert.Kernel14Ideal.Gen.after0_2]
  obtain ⟨r, s, rfl⟩ : ∃ (r : Fin 512) (s : Fin 2048), y = ix2 r s := ⟨y 0, y 1, eq_ix2 y⟩
  rw [show ((View.whole Cert.Kernel14Ideal.main_v0).slice (Cert.Kernel14Ideal.win0_2.rect t)).emb (ix2 r s) = ix2 (row p r) (col p s) from
    by blk_ext [(idx t).2.2]]
  obtain rfl : t = ⟨4 * p.val + 3, last_lt p⟩ := Fin.ext hp
  refine (out_apply m c _ (by dsimp only; omega) (by dsimp only; omega) r s).trans ((acc_apply m c p r s 3 (by decide) _).trans ?_)
  unfold term
  pointwise []
  exact Finset.sum_congr rfl fun k _ => mul_comm _ _

end Cert.Proof
-- ==== Proof.DMerged.lean ====
/-
  The gradient of the mixer's merged rows: each point's block of the product by the transposed weight is the block of the
  reference's.
-/
module

public import proofs.«01_k».proof.Defs
public import proofs.«01_k».proof.Proof.Gen.Kernel15Ideal.Value
public import proofs.«01_k».proof.Proof.Gen.Reference15Ideal.Run
public import Idealize.ShloMosaic.Lib.Pipeline.ValueKit

@[expose] public section

set_option maxRecDepth 16384

noncomputable section

open Idealize.ShloMosaic Idealize.ShloMosaic.TcCoe Idealize.SL.Sem

namespace Cert.Kernel15Ideal.Product

open Cert.Kernel15Ideal Cert.Kernel15Ideal.Gen

variable (m : (ℓ : Loc nD τ sig) → Buf (Elt Ideal) ℓ) (c : Dev nD)

abbrev dx : FVec Ideal S4096x1024 .f32 := m ((c : Thread nD τ).loc main_arg0)
abbrev w : FVec Ideal S1024x1024 .bf16 := m ((c : Thread nD τ).loc main_arg1)

/-- What a point writes at an index of its block. -/
theorem out_apply (x0 : Vec Ideal S512x1024 .f32) (x1 : Vec Ideal S1024x1024 .bf16) (r : Fin 512) (q : Fin 1024) :
    (k0_pay3 (k0_pay2 (k0_pay1 (F := Ideal)) x0 x1) : FVec Ideal S512x1024 .f32) (ix2 r q) = ∑ k : Fin 1024, (x0 (ix2 r k) : EReal) * x1 (ix2 q k) := by
  pointwise [k0_pay3, k0_pay2, k0_pay1]

omit c in
/-- The blocks a point reads and writes. -/
theorem idx : ∀ t : Fin cfg0.N, win0_0.index t = ![t.val, 0] ∧ win0_1.index t = ![0, 0] ∧ win0_2.index t = ![t.val, 0] :=
  (by decide +kernel : ∀ t : Fin grid0.N, _)

theorem row_lt (t : Fin cfg0.N) (r : Fin 512) : 512 * t.val + r.val < 4096 := by
  have := lt_of_lt_of_eq t.isLt (show cfg0.N = 8 from N_0); omega

theorem blk0 (t : Fin cfg0.N) (r : Fin 512) (k : Fin 1024) : iblk m c 0 t (ix2 r k) = dx m c (ix2 ⟨512 * t.val + r.val, row_lt t r⟩ k) := by
  unfold iblk
  rw [View.read_apply]
  refine (congrFun (V_main_arg0 m c) _).trans ?_
  blk_ext [(idx t).1]

theorem blk1 (t : Fin cfg0.N) (q k : Fin 1024) : iblk m c 1 t (ix2 q k) = w m c (ix2 q k) := by
  unfold iblk
  rw [View.read_apply]
  refine (congrFun (V_main_arg1 m c) _).trans ?_
  blk_ext [(idx t).2.1]

end Cert.Kernel15Ideal.Product

namespace Cert.Proof

open Cert.Kernel15Ideal.Product in
/-- The kernel's result is the reference's. -/
theorem algebraic15 : Cert.algebraic_Kernel15Ideal_Reference15Ideal := by
  intro m ρ m' ρ' _ hagree
  refine ⟨fun c => (Cert.Kernel15Ideal.Gen.dats m 0 c).arrAt 2 Cert.Kernel15Ideal.cfg0.N, Cert.Kernel15Ideal.Value.run_blocks m ρ, ?_⟩
  refine (θ_run _ _ _).mono (fun _ h c => ⟨(h c).1.trans ?_, (h c).2⟩) (Cert.Reference15Ideal.Value.run m' ρ')
  obtain ⟨e0, e1⟩ := hagree c
  rw [e0, e1]
  symm
  refine (Cert.Kernel15Ideal.Gen.dats m 0 c).arrAt_eq_of_covers 2 _ (by decide +kernel) fun t hf y => ?_
  blk_simp
  rw [Cert.Kernel15Ideal.Gen.after0_2]
  unfold Cert.Kernel15Ideal.Gen.outsAt0
  frame_out
  obtain ⟨r, q, rfl⟩ : ∃ (r : Fin 512) (q : Fin 1024), y = ix2 r q := ⟨y 0, y 1, eq_ix2 y⟩
  rw [show ((View.whole Cert.Kernel15Ideal.main_v0).slice (Cert.Kernel15Ideal.win0_2.rect t)).emb (ix2 r q) = ix2 ⟨512 * t.val + r.val, row_lt t r⟩ q from
    by blk_ext [(idx t).2.2]]
  refine (out_apply _ _ _ _).trans ?_
  simp only [blk0, blk1]
  pointwise []

end Cert.Proof
-- ==== Proof.DWout.lean ====
/-
  The gradient of the mixer's output weight: over the four row blocks of its operands a run of points accumulates the sum
  over all rows, and its last point writes it in the order of the devices' pieces.
-/
module

public import proofs.«01_k».proof.Defs
public import proofs.«01_k».proof.Proof.Sums
public import proofs.«01_k».proof.Proof.Gen.Kernel16Ideal.Value
public import proofs.«01_k».proof.Proof.Gen.Reference16Ideal.Run
public import Idealize.ShloMosaic.Lib.Pipeline.ValueKit

@[expose] public section

set_option maxRecDepth 16384

noncomputable section

open Idealize.ShloMosaic Idealize.ShloMosaic.TcCoe Idealize.SL.Sem

namespace Cert.Kernel16Ideal.Product

open Cert.Kernel16Ideal Cert.Kernel16Ideal.Gen

variable (m : (ℓ : Loc nD τ sig) → Buf (Elt Ideal) ℓ) (c : Dev nD)

abbrev a : FVec Ideal S4096x1024 .bf16 := m ((c : Thread nD τ).loc main_arg0)
abbrev dx : FVec Ideal S4096x1024 .f32 := m ((c : Thread nD τ).loc main_arg1)

section Payloads

variable (x0 : Vec Ideal S1024x512 .bf16) (x1 : Vec Ideal S1024x1024 .f32) (xs : Vec Ideal S512x1024 .f32)

/-- The two blocks' product at an index, added to what was there. -/
theorem step_apply (r : Fin 512) (s : Fin 1024) : (k0_pay2 xs x0 x1 : FVec Ideal S512x1024 .f32) (ix2 r s)
    = xs (ix2 r s) + ∑ k : Fin 1024, (x0 (ix2 k r) : EReal) * x1 (ix2 k s) := by
  pointwise [k0_pay2]

theorem zero_apply (r : Fin 512) (s : Fin 1024) : (k0_pay1 : FVec Ideal S512x1024 .f32) (ix2 r s) = (0 : EReal) := by
  pointwise [k0_pay1]

/-- The four pieces the last point of a run writes: rows `128 i, …` of the sum. -/
theorem piece_apply (z w : Fin 1) (r : Fin 128) (s : Fin 1024) :
    (k0_pay4 xs : FVec Ideal S1x1x128x1024 .bf16) (ix4 z w r s) = xs (ix2 ⟨128 * 0 + r.val, by omega⟩ s)
    ∧ (k0_pay5 xs : FVec Ideal S1x1x128x1024 .bf16) (ix4 z w r s) = xs (ix2 ⟨128 * 1 + r.val, by omega⟩ s)
    ∧ (k0_pay6 xs : FVec Ideal S1x1x128x1024 .bf16) (ix4 z w r s) = xs (ix2 ⟨128 * 2 + r.val, by omega⟩ s)
    ∧ (k0_pay7 xs : FVec Ideal S1x1x128x1024 .bf16) (ix4 z w r s) = xs (ix2 ⟨128 * 3 + r.val, by omega⟩ s) := by
  refine ⟨?_, ?_, ?_, ?_⟩
  · pointwise [k0_pay4, k0_pay3]
  · pointwise [k0_pay5, k0_pay3]
  · pointwise [k0_pay6, k0_pay3]
  · pointwise [k0_pay7, k0_pay3]

theorem scratch_read : View.read (Elt Ideal) (View.whole cc0_scratch0) ((Memref.isWhole_whole cc0_scratch0).unread xs) = xs :=
  (Memref.isWhole_whole cc0_scratch0).read_unread xs

end Payloads

/-- What the last point of a run writes at an index: the sum at its row. -/
theorem out_apply (t : Fin cfg0.N) (h0 : ¬t.val % 4 = 0) (h1 : t.val % 4 = 3) (u v : Fin 2) (r : Fin 128) (s : Fin 1024) :
    (outsAt0 m c t.val t.isLt).1 (ix4 u v r s) = (outsAt0 m c t.val t.isLt).2 (ix2 ⟨128 * (2 * v.val + u.val) + r.val, by omega⟩ s) := by
  rw [outsAt0_C m c t h0 h1]
  frame_out
  rw [scratch_read]
  generalize k0_pay2 (outsAt0 m c (t.val - 1) _).2 (iblk m c 0 t) (iblk m c 1 t) = xs
  refine View.canon_eq_of_allAt _ _ _ ?_ (View.allAt_cons_unit _ _ _ _ _ ?_ (View.allAt_cons_unit _ _ _ _ _ ?_
    (View.allAt_cons_unit _ _ _ _ _ ?_ (View.allAt_cons_unit _ _ _ _ _ ?_ (View.allAt_nil _ _)))))
  · exact View.cover_of_tiled_head _ _ _ rfl _
  all_goals
    intro x hx
    obtain ⟨z, w, r', s', rfl⟩ : ∃ (z w : Fin 1) (r' : Fin 128) (s' : Fin 1024), x = ix4 z w r' s' := ⟨x 0, x 1, x 2, x 3, eq_ix4 x⟩
    have e0 : u.val = _ + z.val := hx 0
    have e1 : v.val = _ + w.val := hx 1
    have e2 : r.val = 0 + r'.val := hx 2
    have e3 : s.val = 0 + s'.val := hx 3
    obtain rfl : s = s' := Fin.ext (by omega)
    obtain rfl : r = r' := Fin.ext (by omega)
    simp only [Matrix.cons_val_zero, Matrix.cons_val_one] at e0 e1
    have hz : z.val = 0 := by omega
    have hw : w.val = 0 := by omega
    simp only [e0, e1, hz, hw]
  · exact (piece_apply xs z w r s).2.2.2
  · exact (piece_apply xs z w r s).2.2.1
  · exact (piece_apply xs z w r s).2.1
  · exact (piece_apply xs z w r s).1

omit c in
/-- The blocks a point reads and writes, -/
theorem idx : ∀ t : Fin cfg0.N, win0_0.index t = ![t.val % 4, t.val / 4] ∧ win0_1.index t = ![t.val % 4, 0] ∧ win0_2.index t = ![0, t.val / 4, 0, 0] :=
  (by decide +kernel : ∀ t : Fin grid0.N, _)

omit c in
/-- and when it writes. -/
theorem last : ∀ t : Fin cfg0.N, (cfg0.win 2).flush t = true → ∃ q : Fin 2, t.val = 4 * q.val + 3 :=
  (by decide +kernel : ∀ t : Fin grid0.N, _)

theorem last_lt (q : Fin 2) : 4 * q.val + 3 < cfg0.N := by
  rw [show cfg0.N = 8 from N_0]; omega

theorem blk0 (t : Fin cfg0.N) (k : Fin 1024) (r : Fin 512) : iblk m c 0 t (ix2 k r)
    = a m c (ix2 ⟨1024 * (t.val % 4) + k.val, by omega⟩ ⟨512 * (t.val / 4) + r.val, by have := lt_of_lt_of_eq t.isLt (show cfg0.N = 8 from N_0); omega⟩) := by
  unfold iblk
  rw [View.read_apply]
  refine (congrFun (V_main_arg0 m c) _).trans ?_
  blk_ext [(idx t).1]

theorem blk1 (t : Fin cfg0.N) (k s : Fin 1024) : iblk m c 1 t (ix2 k s) = dx m c (ix2 ⟨1024 * (t.val % 4) + k.val, by omega⟩ s) := by
  unfold iblk
  rw [View.read_apply]
  refine (congrFun (V_main_arg1 m c) _).trans ?_
  blk_ext [(idx t).2.1]

/-- The product's term at row `k` of the operands, zero past the last. -/
def term (R C : Fin 1024) (k : ℕ) : EReal :=
  if hk : k < 4096 then (a m c (ix2 ⟨k, hk⟩ R) : EReal) * dx m c (ix2 ⟨k, hk⟩ C) else 0

/-- What a point of the run `q` adds to the sum. -/
theorem point_sum (q : Fin 2) (t : Fin cfg0.N) (ht : t.val / 4 = q.val) (r : Fin 512) (s : Fin 1024) (b : FVec Ideal S512x1024 .f32) :
    (k0_pay2 b (iblk m c 0 t) (iblk m c 1 t) : FVec Ideal S512x1024 .f32) (ix2 r s)
      = b (ix2 r s) + ∑ k : Fin 1024, term m c ⟨512 * q.val + r.val, by omega⟩ s (1024 * (t.val % 4) + k.val) := by
  refine (step_apply _ _ _ _ _).trans (congrArg _ (Finset.sum_congr rfl fun k _ => ?_))
  rw [blk0, blk1, term, dif_pos (by omega)]
  simp only [ht]

/-- What the accumulator holds after each point of a run. -/
theorem acc_apply (q : Fin 2) (r : Fin 512) (s : Fin 1024) (j : ℕ) (hj : j < 4) (hb : 4 * q.val + j < cfg0.N) :
    ((outsAt0 m c _ hb).2 (ix2 r s) : EReal) = ∑ k : Fin (1024 * (j + 1)), term m c ⟨512 * q.val + r.val, by omega⟩ s k.val := by
  refine Cert.Sums.acc_sum (fun t ht => ((outsAt0 m c t ht).2 (ix2 r s) : EReal)) 1024 4 _ (term m c _ s) (fun hb => ?_) (fun j hj hb hb' => ?_) j hj hb
  · rw [outsAt0_A m c ⟨_, hb⟩ (by dsimp only; omega) (by dsimp only; omega)]
    frame_out
    rw [point_sum m c q _ (by dsimp only; omega), zero_apply, zero_add]
    simp only [Nat.mul_mod_right, Nat.mul_zero, Nat.zero_add]
  · have e : (4 * q.val + j + 1) % 4 = j + 1 := by omega
    by_cases h3 : j + 1 = 3
    · rw [outsAt0_C m c ⟨_, hb'⟩ (by dsimp only; omega) (by dsimp only; omega)]
      frame_out
      rw [scratch_read, point_sum m c q _ (by dsimp only; omega)]
      simp only [e, Nat.add_sub_cancel]
    · rw [outsAt0_B m c ⟨_, hb'⟩ (by dsimp only; omega) (by dsimp only; omega)]
      frame_out
      rw [scratch_read, point_sum m c q _ (by dsimp only; omega)]
      simp only [e, Nat.add_sub_cancel]

end Cert.Kernel16Ideal.Product

namespace Cert.Proof

open Cert.Kernel16Ideal.Product in
/-- The kernel's result is the reference's. -/
theorem algebraic16 : Cert.algebraic_Kernel16Ideal_Reference16Ideal := by
  intro m ρ m' ρ' _ hagree
  refine ⟨fun c => (Cert.Kernel16Ideal.Gen.dats m 0 c).arrAt 2 Cert.Kernel16Ideal.cfg0.N, Cert.Kernel16Ideal.Value.run_blocks m ρ, ?_⟩
  refine (θ_run _ _ _).mono (fun _ h c => ⟨(h c).1.trans ?_, (h c).2⟩) (Cert.Reference16Ideal.Value.run m' ρ')
  obtain ⟨e0, e1⟩ := hagree c
  rw [e0, e1]
  symm
  refine (Cert.Kernel16Ideal.Gen.dats m 0 c).arrAt_eq_of_covers 2 _ (by decide +kernel) fun t hf y => ?_
  obtain ⟨p, hp⟩ := last t hf
  blk_simp
  rw [Cert.Kernel16Ideal.Gen.after0_2]
  obtain ⟨u, v, r, s, rfl⟩ : ∃ (u v : Fin 2) (r : Fin 128) (s : Fin 1024), y = ix4 u v r s := ⟨y 0, y 1, y 2, y 3, eq_ix4 y⟩
  rw [show ((View.whole Cert.Kernel16Ideal.main_v0).slice (Cert.Kernel16Ideal.win0_2.rect t)).emb (ix4 u v r s) = ix4 u ⟨2 * p.val + v.val, by omega⟩ r s from
    by blk_ext [(idx t).2.2]]
  obtain rfl : t = ⟨4 * p.val + 3, last_lt p⟩ := Fin.ext hp
  refine (out_apply m c _ (by dsimp only; omega) (by dsimp only; omega) u v r s).trans ((acc_apply m c p _ s 3 (by decide) _).trans ?_)
  have e : 512 * p.val + (128 * (2 * v.val + u.val) + r.val) = (2 * p.val + v.val) * 256 + u.val * 128 + r.val := by omega
  unfold term
  pointwise []
  simp only [e]
  exact Finset.sum_congr rfl fun k _ => mul_comm _ _

end Cert.Proof
-- ==== Proof.DYn.lean ====
/-
  The gradient of the state-space branch's normalised rows: each point's block of the product by the transposed projection
  weight is the block of the reference's.
-/
module

public import proofs.«01_k».proof.Defs
public import proofs.«01_k».proof.Proof.Sums
public import proofs.«01_k».proof.Proof.Gen.Kernel17Ideal.Value
public import proofs.«01_k».proof.Proof.Gen.Reference17Ideal.Run
public import Idealize.ShloMosaic.Lib.Pipeline.ValueKit

@[expose] public section

set_option maxRecDepth 16384

noncomputable section

open Idealize.ShloMosaic Idealize.ShloMosaic.TcCoe Idealize.SL.Sem

namespace Cert.Kernel17Ideal.Product

open Cert.Kernel17Ideal Cert.Kernel17Ideal.Gen

variable (m : (ℓ : Loc nD τ sig) → Buf (Elt Ideal) ℓ) (c : Dev nD)

abbrev dp : FVec Ideal S4096x1024 .f32 := m ((c : Thread nD τ).loc main_arg0)
abbrev w : FVec Ideal S2048x1024 .bf16 := m ((c : Thread nD τ).loc main_arg1)

/-- What a point writes at an index of its block. -/
theorem out_apply (x0 : Vec Ideal S512x1024 .f32) (x1 : Vec Ideal S2048x1024 .bf16) (r : Fin 512) (q : Fin 2048) :
    (k0_pay3 (k0_pay2 (k0_pay1 (F := Ideal)) x0 x1) : FVec Ideal S512x2048 .f32) (ix2 r q) = ∑ k : Fin 1024, (x0 (ix2 r k) : EReal) * x1 (ix2 q k) := by
  pointwise [k0_pay3, k0_pay2, k0_pay1]

omit c in
/-- The blocks a point reads and writes. -/
theorem idx : ∀ t : Fin cfg0.N, win0_0.index t = ![t.val, 0] ∧ win0_1.index t = ![0, 0] ∧ win0_2.index t = ![t.val, 0] :=
  (by decide +kernel : ∀ t : Fin grid0.N, _)

theorem row_lt (t : Fin cfg0.N) (r : Fin 512) : 512 * t.val + r.val < 4096 := by
  have := lt_of_lt_of_eq t.isLt (show cfg0.N = 8 from N_0); omega

theorem blk0 (t : Fin cfg0.N) (r : Fin 512) (k : Fin 1024) : iblk m c 0 t (ix2 r k) = dp m c (ix2 ⟨512 * t.val + r.val, row_lt t r⟩ k) := by
  unfold iblk
  rw [View.read_apply]
  refine (congrFun (V_main_arg0 m c) _).trans ?_
  blk_ext [(idx t).1]

theorem blk1 (t : Fin cfg0.N) (q : Fin 2048) (k : Fin 1024) : iblk m c 1 t (ix2 q k) = w m c (ix2 q k) := by
  unfold iblk
  rw [View.read_apply]
  refine (congrFun (V_main_arg1 m c) _).trans ?_
  blk_ext [(idx t).2.1]

end Cert.Kernel17Ideal.Product

namespace Cert.Proof

open Cert.Kernel17Ideal.Product in
/-- The kernel's result is the reference's. -/
theorem algebraic17 : Cert.algebraic_Kernel17Ideal_Reference17Ideal := by
  intro m ρ m' ρ' _ hagree
  refine ⟨fun c => (Cert.Kernel17Ideal.Gen.dats m 0 c).arrAt 2 Cert.Kernel17Ideal.cfg0.N, Cert.Kernel17Ideal.Value.run_blocks m ρ, ?_⟩
  refine (θ_run _ _ _).mono (fun _ h c => ⟨(h c).1.trans ?_, (h c).2⟩) (Cert.Reference17Ideal.Value.run m' ρ')
  obtain ⟨e0, e1⟩ := hagree c
  rw [e0, e1]
  symm
  refine (Cert.Kernel17Ideal.Gen.dats m 0 c).arrAt_eq_of_covers 2 _ (by decide +kernel) fun t hf y => ?_
  blk_simp
  rw [Cert.Kernel17Ideal.Gen.after0_2]
  unfold Cert.Kernel17Ideal.Gen.outsAt0
  frame_out
  obtain ⟨r, q, rfl⟩ : ∃ (r : Fin 512) (q : Fin 2048), y = ix2 r q := ⟨y 0, y 1, eq_ix2 y⟩
  rw [show ((View.whole Cert.Kernel17Ideal.main_v0).slice (Cert.Kernel17Ideal.win0_2.rect t)).emb (ix2 r q) = ix2 ⟨512 * t.val + r.val, row_lt t r⟩ q from
    by blk_ext [(idx t).2.2]]
  refine (out_apply _ _ _ _).trans ?_
  simp only [blk0, blk1]
  pointwise []

end Cert.Proof
-- ==== Proof.DWssd.lean ====
/-
  The gradient of the state-space branch's projection weight: over the four row blocks of its operands a run of points
  accumulates the sum over all rows, and its last point writes it as two devices' pieces.
-/
module

public import proofs.«01_k».proof.Defs
public import proofs.«01_k».proof.Proof.Sums
public import proofs.«01_k».proof.Proof.Gen.Kernel18Ideal.Value
public import proofs.«01_k».proof.Proof.Gen.Reference18Ideal.Run
public import Idealize.ShloMosaic.Lib.Pipeline.ValueKit

@[expose] public section

set_option maxRecDepth 16384

noncomputable section

open Idealize.ShloMosaic Idealize.ShloMosaic.TcCoe Idealize.SL.Sem

namespace Cert.Kernel18Ideal.Product

open Cert.Kernel18Ideal Cert.Kernel18Ideal.Gen

variable (m : (ℓ : Loc nD τ sig) → Buf (Elt Ideal) ℓ) (c : Dev nD)

abbrev a : FVec Ideal S4096x2048 .bf16 := m ((c : Thread nD τ).loc main_arg0)
abbrev dp : FVec Ideal S4096x1024 .f32 := m ((c : Thread nD τ).loc main_arg1)

section Payloads

variable (x0 : Vec Ideal S1024x512 .bf16) (x1 : Vec Ideal S1024x1024 .f32) (xs : Vec Ideal S512x1024 .f32)

/-- The two blocks' product at an index, added to what was there. -/
theorem step_apply (r : Fin 512) (s : Fin 1024) : (k0_pay2 xs x0 x1 : FVec Ideal S512x1024 .f32) (ix2 r s)
    = xs (ix2 r s) + ∑ k : Fin 1024, (x0 (ix2 k r) : EReal) * x1 (ix2 k s) := by
  pointwise [k0_pay2]

theorem zero_apply (r : Fin 512) (s : Fin 1024) : (k0_pay1 : FVec Ideal S512x1024 .f32) (ix2 r s) = (0 : EReal) := by
  pointwise [k0_pay1]

/-- The two pieces the last point of a run writes: the upper rows of the sum, -/
theorem upper_apply (z w : Fin 1) (r : Fin 256) (s : Fin 1024) :
    (k0_pay4 xs : FVec Ideal S1x1x256x1024 .bf16) (ix4 z w r s) = xs (ix2 ⟨256 * 0 + r.val, by omega⟩ s) := by
  pointwise [k0_pay4, k0_pay3]

/-- and the lower. -/
theorem lower_apply (z w : Fin 1) (r : Fin 256) (s : Fin 1024) :
    (k0_pay5 xs : FVec Ideal S1x1x256x1024 .bf16) (ix4 z w r s) = xs (ix2 ⟨256 * 1 + r.val, by omega⟩ s) := by
  pointwise [k0_pay5, k0_pay3]

theorem scratch_read : View.read (Elt Ideal) (View.whole cc0_scratch0) ((Memref.isWhole_whole cc0_scratch0).unread xs) = xs :=
  (Memref.isWhole_whole cc0_scratch0).read_unread xs

end Payloads

/-- What the last point of a run writes at an index: the sum at its row. -/
theorem out_apply (t : Fin cfg0.N) (h0 : ¬t.val % 4 = 0) (h1 : t.val % 4 = 3) (u : Fin 2) (v : Fin 1) (r : Fin 256) (s : Fin 1024) :
    (outsAt0 m c t.val t.isLt).1 (ix4 u v r s) = (outsAt0 m c t.val t.isLt).2 (ix2 ⟨256 * u.val + r.val, by omega⟩ s) := by
  rw [outsAt0_C m c t h0 h1]
  frame_out
  rw [scratch_read]
  generalize k0_pay2 (outsAt0 m c (t.val - 1) _).2 (iblk m c 0 t) (iblk m c 1 t) = xs
  refine View.canon_eq_of_allAt _ _ _ ?_ (View.allAt_cons_unit _ _ _ _ _ ?_ (View.allAt_cons_unit _ _ _ _ _ ?_ (View.allAt_nil _ _)))
  · exact View.cover_of_tiled_head _ _ _ rfl _
  all_goals
    intro x hx
    obtain ⟨z, w, r', s', rfl⟩ : ∃ (z w : Fin 1) (r' : Fin 256) (s' : Fin 1024), x = ix4 z w r' s' := ⟨x 0, x 1, x 2, x 3, eq_ix4 x⟩
    have e0 : u.val = _ + z.val := hx 0
    have e2 : r.val = 0 + r'.val := hx 2
    have e3 : s.val = 0 + s'.val := hx 3
    obtain rfl : s = s' := Fin.ext (by omega)
    obtain rfl : r = r' := Fin.ext (by omega)
    simp only [Matrix.cons_val_zero] at e0
    have hz : z.val = 0 := by omega
    simp only [e0, hz]
  · exact lower_apply xs z w r s
  · exact upper_apply xs z w r s

omit c in
/-- The blocks a point reads and writes, -/
theorem idx : ∀ t : Fin cfg0.N, win0_0.index t = ![t.val % 4, t.val / 4] ∧ win0_1.index t = ![t.val % 4, 0] ∧ win0_2.index t = ![0, t.val / 4, 0, 0] :=
  (by decide +kernel : ∀ t : Fin grid0.N, _)

omit c in
/-- and when it writes. -/
theorem last : ∀ t : Fin cfg0.N, (cfg0.win 2).flush t = true → ∃ q : Fin 4, t.val = 4 * q.val + 3 :=
  (by decide +kernel : ∀ t : Fin grid0.N, _)

theorem last_lt (q : Fin 4) : 4 * q.val + 3 < cfg0.N := by
  rw [show cfg0.N = 16 from N_0]; omega

theorem blk0 (t : Fin cfg0.N) (k : Fin 1024) (r : Fin 512) : iblk m c 0 t (ix2 k r)
    = a m c (ix2 ⟨1024 * (t.val % 4) + k.val, by omega⟩ ⟨512 * (t.val / 4) + r.val, by have := lt_of_lt_of_eq t.isLt (show cfg0.N = 16 from N_0); omega⟩) := by
  unfold iblk
  rw [View.read_apply]
  refine (congrFun (V_main_arg0 m c) _).trans ?_
  blk_ext [(idx t).1]

theorem blk1 (t : Fin cfg0.N) (k s : Fin 1024) : iblk m c 1 t (ix2 k s) = dp m c (ix2 ⟨1024 * (t.val % 4) + k.val, by omega⟩ s) := by
  unfold iblk
  rw [View.read_apply]
  refine (congrFun (V_main_arg1 m c) _).trans ?_
  blk_ext [(idx t).2.1]

/-- The product's term at row `k` of the operands, zero past the last. -/
def term (R : Fin 2048) (C : Fin 1024) (k : ℕ) : EReal :=
  if hk : k < 4096 then (a m c (ix2 ⟨k, hk⟩ R) : EReal) * dp m c (ix2 ⟨k, hk⟩ C) else 0

/-- What a point of the run `q` adds to the sum. -/
theorem point_sum (q : Fin 4) (t : Fin cfg0.N) (ht : t.val / 4 = q.val) (r : Fin 512) (s : Fin 1024) (b : FVec Ideal S512x1024 .f32) :
    (k0_pay2 b (iblk m c 0 t) (iblk m c 1 t) : FVec Ideal S512x1024 .f32) (ix2 r s)
      = b (ix2 r s) + ∑ k : Fin 1024, term m c ⟨512 * q.val + r.val, by omega⟩ s (1024 * (t.val % 4) + k.val) := by
  refine (step_apply _ _ _ _ _).trans (congrArg _ (Finset.sum_congr rfl fun k _ => ?_))
  rw [blk0, blk1, term, dif_pos (by omega)]
  simp only [ht]

/-- What the accumulator holds after each point of a run. -/
theorem acc_apply (q : Fin 4) (r : Fin 512) (s : Fin 1024) (j : ℕ) (hj : j < 4) (hb : 4 * q.val + j < cfg0.N) :
    ((outsAt0 m c _ hb).2 (ix2 r s) : EReal) = ∑ k : Fin (1024 * (j + 1)), term m c ⟨512 * q.val + r.val, by omega⟩ s k.val := by
  refine Cert.Sums.acc_sum (fun t ht => ((outsAt0 m c t ht).2 (ix2 r s) : EReal)) 1024 4 _ (term m c _ s) (fun hb => ?_) (fun j hj hb hb' => ?_) j hj hb
  · rw [outsAt0_A m c ⟨_, hb⟩ (by dsimp only; omega) (by dsimp only; omega)]
    frame_out
    rw [point_sum m c q _ (by dsimp only; omega), zero_apply, zero_add]
    simp only [Nat.mul_mod_right, Nat.mul_zero, Nat.zero_add]
  · have e : (4 * q.val + j + 1) % 4 = j + 1 := by omega
    by_cases h3 : j + 1 = 3
    · rw [outsAt0_C m c ⟨_, hb'⟩ (by dsimp only; omega) (by dsimp only; omega)]
      frame_out
      rw [scratch_read, point_sum m c q _ (by dsimp only; omega)]
      simp only [e, Nat.add_sub_cancel]
    · rw [outsAt0_B m c ⟨_, hb'⟩ (by dsimp only; omega) (by dsimp only; omega)]
      frame_out
      rw [scratch_read, point_sum m c q _ (by dsimp only; omega)]
      simp only [e, Nat.add_sub_cancel]

end Cert.Kernel18Ideal.Product

namespace Cert.Proof

open Cert.Kernel18Ideal.Product in
/-- The kernel's result is the reference's. -/
theorem algebraic18 : Cert.algebraic_Kernel18Ideal_Reference18Ideal := by
  intro m ρ m' ρ' _ hagree
  refine ⟨fun c => (Cert.Kernel18Ideal.Gen.dats m 0 c).arrAt 2 Cert.Kernel18Ideal.cfg0.N, Cert.Kernel18Ideal.Value.run_blocks m ρ, ?_⟩
  refine (θ_run _ _ _).mono (fun _ h c => ⟨(h c).1.trans ?_, (h c).2⟩) (Cert.Reference18Ideal.Value.run m' ρ')
  obtain ⟨e0, e1⟩ := hagree c
  rw [e0, e1]
  symm
  refine (Cert.Kernel18Ideal.Gen.dats m 0 c).arrAt_eq_of_covers 2 _ (by decide +kernel) fun t hf y => ?_
  obtain ⟨p, hp⟩ := last t hf
  blk_simp
  rw [Cert.Kernel18Ideal.Gen.after0_2]
  obtain ⟨u, v, r, s, rfl⟩ : ∃ (u : Fin 2) (v : Fin 1) (r : Fin 256) (s : Fin 1024), y = ix4 u v r s := ⟨y 0, y 1, y 2, y 3, eq_ix4 y⟩
  rw [show ((View.whole Cert.Kernel18Ideal.main_v0).slice (Cert.Kernel18Ideal.win0_2.rect t)).emb (ix4 u v r s) = ix4 u p r s from
    by blk_ext [(idx t).2.2]]
  obtain rfl : t = ⟨4 * p.val + 3, last_lt p⟩ := Fin.ext hp
  refine (out_apply m c _ (by dsimp only; omega) (by dsimp only; omega) u v r s).trans ((acc_apply m c p _ s 3 (by decide) _).trans ?_)
  have e : 512 * p.val + (256 * u.val + r.val) = p.val * 512 + u.val * 256 + r.val := by omega
  unfold term
  pointwise []
  simp only [e]
  exact Finset.sum_congr rfl fun k _ => mul_comm _ _

end Cert.Proof
-- ==== Proof.DG.lean ====
/-
  The gradient of the S5 branch's rows before its gate: each point's block of the product by the transposed gate weight,
  with the block of the gradient that comes past the gate added, is the block of the reference's sum.
-/
module

public import proofs.«01_k».proof.Defs
public import proofs.«01_k».proof.Proof.Sums
public import proofs.«01_k».proof.Proof.Gen.Kernel19Ideal.Value
public import proofs.«01_k».proof.Proof.Gen.Reference19Ideal.Run
public import Idealize.ShloMosaic.Lib.Pipeline.ValueKit

@[expose] public section

set_option maxRecDepth 16384

noncomputable section

open Idealize.ShloMosaic Idealize.ShloMosaic.TcCoe Idealize.SL.Sem

namespace Cert.Kernel19Ideal.Product

open Cert.Kernel19Ideal Cert.Kernel19Ideal.Gen

variable (m : (ℓ : Loc nD τ sig) → Buf (Elt Ideal) ℓ) (c : Dev nD)

abbrev dv : FVec Ideal S4096x1024 .f32 := m ((c : Thread nD τ).loc main_arg0)
abbrev w : FVec Ideal S1024x1024 .bf16 := m ((c : Thread nD τ).loc main_arg1)
abbrev dg : FVec Ideal S4096x1024 .f32 := m ((c : Thread nD τ).loc main_arg2)

/-- What a point writes at an index of its block. -/
theorem out_apply (x0 : Vec Ideal S512x1024 .f32) (x1 : Vec Ideal S1024x1024 .bf16) (x2 : Vec Ideal S512x1024 .f32) (r : Fin 512) (q : Fin 1024) :
    (k0_pay3 (k0_pay2 (k0_pay1 (F := Ideal)) x0 x1) x2 : FVec Ideal S512x1024 .f32) (ix2 r q)
      = x2 (ix2 r q) + ∑ k : Fin 1024, (x0 (ix2 r k) : EReal) * x1 (ix2 q k) := by
  rw [add_comm]
  pointwise [k0_pay3, k0_pay2, k0_pay1]

omit c in
/-- The blocks a point reads and writes. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem row_lt (t : Fin cfg0.N) (r : Fin 512) : 512 * t.val + r.val < 4096 := by
  have := lt_of_lt_of_eq t.isLt (show cfg0.N = 8 from N_0); omega

theorem blk0 (t : Fin cfg0.N) (r : Fin 512) (k : Fin 1024) : iblk m c 0 t (ix2 r k) = dv m c (ix2 ⟨512 * t.val + r.val, row_lt t r⟩ k) := by
  unfold iblk
  rw [View.read_apply]
  refine (congrFun (V_main_arg0 m c) _).trans ?_
  blk_ext [(idx t).1]

theorem blk1 (t : Fin cfg0.N) (q k : Fin 1024) : iblk m c 1 t (ix2 q k) = w m c (ix2 q k) := by
  unfold iblk
  rw [View.read_apply]
  refine (congrFun (V_main_arg1 m c) _).trans ?_
  blk_ext [(idx t).2.1]

theorem blk2 (t : Fin cfg0.N) (r : Fin 512) (q : Fin 1024) : iblk m c 2 t (ix2 r q) = dg m c (ix2 ⟨512 * t.val + r.val, row_lt t r⟩ q) := by
  unfold iblk
  rw [View.read_apply]
  refine (congrFun (V_main_arg2 m c) _).trans ?_
  blk_ext [(idx t).2.2.1]

end Cert.Kernel19Ideal.Product

namespace Cert.Proof

open Cert.Kernel19Ideal.Product in
/-- The kernel's result is the reference's. -/
theorem algebraic19 : Cert.algebraic_Kernel19Ideal_Reference19Ideal := by
  intro m ρ m' ρ' _ hagree
  refine ⟨fun c => (Cert.Kernel19Ideal.Gen.dats m 0 c).arrAt 3 Cert.Kernel19Ideal.cfg0.N, Cert.Kernel19Ideal.Value.run_blocks m ρ, ?_⟩
  refine (θ_run _ _ _).mono (fun _ h c => ⟨(h c).1.trans ?_, (h c).2⟩) (Cert.Reference19Ideal.Value.run m' ρ')
  obtain ⟨e0, e1, e2⟩ := hagree c
  rw [e0, e1, e2]
  symm
  refine (Cert.Kernel19Ideal.Gen.dats m 0 c).arrAt_eq_of_covers 3 _ (by decide +kernel) fun t hf y => ?_
  blk_simp
  rw [Cert.Kernel19Ideal.Gen.after0_3]
  unfold Cert.Kernel19Ideal.Gen.outsAt0
  frame_out
  obtain ⟨r, q, rfl⟩ : ∃ (r : Fin 512) (q : Fin 1024), y = ix2 r q := ⟨y 0, y 1, eq_ix2 y⟩
  rw [show ((View.whole Cert.Kernel19Ideal.main_v0).slice (Cert.Kernel19Ideal.win0_3.rect t)).emb (ix2 r q) = ix2 ⟨512 * t.val + r.val, row_lt t r⟩ q from
    by blk_ext [(idx t).2.2.2]]
  refine (out_apply _ _ _ _ _).trans ?_
  simp only [blk0, blk1, blk2]
  pointwise []

end Cert.Proof
-- ==== Proof.DWglu.lean ====
/-
  The gradient of the S5 branch's gate weight: over the four row blocks of its operands, both still in f32, a run of points
  accumulates the sum over all rows, and its last point writes it in the order of the devices' pieces.
-/
module

public import proofs.«01_k».proof.Defs
public import proofs.«01_k».proof.Proof.Sums
public import proofs.«01_k».proof.Proof.Gen.Kernel20Ideal.Value
public import proofs.«01_k».proof.Proof.Gen.Reference20Ideal.Run
public import Idealize.ShloMosaic.Lib.Pipeline.ValueKit

@[expose] public section

set_option maxRecDepth 16384

noncomputable section

open Idealize.ShloMosaic Idealize.ShloMosaic.TcCoe Idealize.SL.Sem

namespace Cert.Kernel20Ideal.Product

open Cert.Kernel20Ideal Cert.Kernel20Ideal.Gen

variable (m : (ℓ : Loc nD τ sig) → Buf (Elt Ideal) ℓ) (c : Dev nD)

abbrev g : FVec Ideal S4096x1024 .f32 := m ((c : Thread nD τ).loc main_arg0)
abbrev dv : FVec Ideal S4096x1024 .f32 := m ((c : Thread nD τ).loc main_arg1)

section Payloads

variable (x0 : Vec Ideal S1024x512 .f32) (x1 : Vec Ideal S1024x1024 .f32) (xs : Vec Ideal S512x1024 .f32)

/-- The two blocks' product at an index, added to what was there. -/
theorem step_apply (r : Fin 512) (s : Fin 1024) : (k0_pay2 xs x0 x1 : FVec Ideal S512x1024 .f32) (ix2 r s)
    = xs (ix2 r s) + ∑ k : Fin 1024, (x0 (ix2 k r) : EReal) * x1 (ix2 k s) := by
  pointwise [k0_pay2]

theorem zero_apply (r : Fin 512) (s : Fin 1024) : (k0_pay1 : FVec Ideal S512x1024 .f32) (ix2 r s) = (0 : EReal) := by
  pointwise [k0_pay1]

/-- The four pieces the last point of a run writes: rows `128 i, …` of the sum. -/
theorem piece_apply (z w : Fin 1) (r : Fin 128) (s : Fin 1024) :
    (k0_pay4 xs : FVec Ideal S1x1x128x1024 .bf16) (ix4 z w r s) = xs (ix2 ⟨128 * 0 + r.val, by omega⟩ s)
    ∧ (k0_pay5 xs : FVec Ideal S1x1x128x1024 .bf16) (ix4 z w r s) = xs (ix2 ⟨128 * 1 + r.val, by omega⟩ s)
    ∧ (k0_pay6 xs : FVec Ideal S1x1x128x1024 .bf16) (ix4 z w r s) = xs (ix2 ⟨128 * 2 + r.val, by omega⟩ s)
    ∧ (k0_pay7 xs : FVec Ideal S1x1x128x1024 .bf16) (ix4 z w r s) = xs (ix2 ⟨128 * 3 + r.val, by omega⟩ s) := by
  refine ⟨?_, ?_, ?_, ?_⟩
  · pointwise [k0_pay4, k0_pay3]
  · pointwise [k0_pay5, k0_pay3]
  · pointwise [k0_pay6, k0_pay3]
  · pointwise [k0_pay7, k0_pay3]

theorem scratch_read : View.read (Elt Ideal) (View.whole cc0_scratch0) ((Memref.isWhole_whole cc0_scratch0).unread xs) = xs :=
  (Memref.isWhole_whole cc0_scratch0).read_unread xs

end Payloads

/-- What the last point of a run writes at an index: the sum at its row. -/
theorem out_apply (t : Fin cfg0.N) (h0 : ¬t.val % 4 = 0) (h1 : t.val % 4 = 3) (u v : Fin 2) (r : Fin 128) (s : Fin 1024) :
    (outsAt0 m c t.val t.isLt).1 (ix4 u v r s) = (outsAt0 m c t.val t.isLt).2 (ix2 ⟨128 * (2 * v.val + u.val) + r.val, by omega⟩ s) := by
  rw [outsAt0_C m c t h0 h1]
  frame_out
  rw [scratch_read]
  generalize k0_pay2 (outsAt0 m c (t.val - 1) _).2 (iblk m c 0 t) (iblk m c 1 t) = xs
  refine View.canon_eq_of_allAt _ _ _ ?_ (View.allAt_cons_unit _ _ _ _ _ ?_ (View.allAt_cons_unit _ _ _ _ _ ?_
    (View.allAt_cons_unit _ _ _ _ _ ?_ (View.allAt_cons_unit _ _ _ _ _ ?_ (View.allAt_nil _ _)))))
  · exact View.cover_of_tiled_head _ _ _ rfl _
  all_goals
    intro x hx
    obtain ⟨z, w, r', s', rfl⟩ : ∃ (z w : Fin 1) (r' : Fin 128) (s' : Fin 1024), x = ix4 z w r' s' := ⟨x 0, x 1, x 2, x 3, eq_ix4 x⟩
    have e0 : u.val = _ + z.val := hx 0
    have e1 : v.val = _ + w.val := hx 1
    have e2 : r.val = 0 + r'.val := hx 2
    have e3 : s.val = 0 + s'.val := hx 3
    obtain rfl : s = s' := Fin.ext (by omega)
    obtain rfl : r = r' := Fin.ext (by omega)
    simp only [Matrix.cons_val_zero, Matrix.cons_val_one] at e0 e1
    have hz : z.val = 0 := by omega
    have hw : w.val = 0 := by omega
    simp only [e0, e1, hz, hw]
  · exact (piece_apply xs z w r s).2.2.2
  · exact (piece_apply xs z w r s).2.2.1
  · exact (piece_apply xs z w r s).2.1
  · exact (piece_apply xs z w r s).1

omit c in
/-- The blocks a point reads and writes, -/
theorem idx : ∀ t : Fin cfg0.N, win0_0.index t = ![t.val % 4, t.val / 4] ∧ win0_1.index t = ![t.val % 4, 0] ∧ win0_2.index t = ![0, t.val / 4, 0, 0] :=
  (by decide +kernel : ∀ t : Fin grid0.N, _)

omit c in
/-- and when it writes. -/
theorem last : ∀ t : Fin cfg0.N, (cfg0.win 2).flush t = true → ∃ q : Fin 2, t.val = 4 * q.val + 3 :=
  (by decide +kernel : ∀ t : Fin grid0.N, _)

theorem last_lt (q : Fin 2) : 4 * q.val + 3 < cfg0.N := by
  rw [show cfg0.N = 8 from N_0]; omega

theorem blk0 (t : Fin cfg0.N) (k : Fin 1024) (r : Fin 512) : iblk m c 0 t (ix2 k r)
    = g m c (ix2 ⟨1024 * (t.val % 4) + k.val, by omega⟩ ⟨512 * (t.val / 4) + r.val, by have := lt_of_lt_of_eq t.isLt (show cfg0.N = 8 from N_0); omega⟩) := by
  unfold iblk
  rw [View.read_apply]
  refine (congrFun (V_main_arg0 m c) _).trans ?_
  blk_ext [(idx t).1]

theorem blk1 (t : Fin cfg0.N) (k s : Fin 1024) : iblk m c 1 t (ix2 k s) = dv m c (ix2 ⟨1024 * (t.val % 4) + k.val, by omega⟩ s) := by
  unfold iblk
  rw [View.read_apply]
  refine (congrFun (V_main_arg1 m c) _).trans ?_
  blk_ext [(idx t).2.1]

/-- The product's term at row `k` of the operands, zero past the last. -/
def term (R C : Fin 1024) (k : ℕ) : EReal :=
  if hk : k < 4096 then (g m c (ix2 ⟨k, hk⟩ R) : EReal) * dv m c (ix2 ⟨k, hk⟩ C) else 0

/-- What a point of the run `q` adds to the sum. -/
theorem point_sum (q : Fin 2) (t : Fin cfg0.N) (ht : t.val / 4 = q.val) (r : Fin 512) (s : Fin 1024) (b : FVec Ideal S512x1024 .f32) :
    (k0_pay2 b (iblk m c 0 t) (iblk m c 1 t) : FVec Ideal S512x1024 .f32) (ix2 r s)
      = b (ix2 r s) + ∑ k : Fin 1024, term m c ⟨512 * q.val + r.val, by omega⟩ s (1024 * (t.val % 4) + k.val) := by
  refine (step_apply _ _ _ _ _).trans (congrArg _ (Finset.sum_congr rfl fun k _ => ?_))
  rw [blk0, blk1, term, dif_pos (by omega)]
  simp only [ht]

/-- What the accumulator holds after each point of a run. -/
theorem acc_apply (q : Fin 2) (r : Fin 512) (s : Fin 1024) (j : ℕ) (hj : j < 4) (hb : 4 * q.val + j < cfg0.N) :
    ((outsAt0 m c _ hb).2 (ix2 r s) : EReal) = ∑ k : Fin (1024 * (j + 1)), term m c ⟨512 * q.val + r.val, by omega⟩ s k.val := by
  refine Cert.Sums.acc_sum (fun t ht => ((outsAt0 m c t ht).2 (ix2 r s) : EReal)) 1024 4 _ (term m c _ s) (fun hb => ?_) (fun j hj hb hb' => ?_) j hj hb
  · rw [outsAt0_A m c ⟨_, hb⟩ (by dsimp only; omega) (by dsimp only; omega)]
    frame_out
    rw [point_sum m c q _ (by dsimp only; omega), zero_apply, zero_add]
    simp only [Nat.mul_mod_right, Nat.mul_zero, Nat.zero_add]
  · have e : (4 * q.val + j + 1) % 4 = j + 1 := by omega
    by_cases h3 : j + 1 = 3
    · rw [outsAt0_C m c ⟨_, hb'⟩ (by dsimp only; omega) (by dsimp only; omega)]
      frame_out
      rw [scratch_read, point_sum m c q _ (by dsimp only; omega)]
      simp only [e, Nat.add_sub_cancel]
    · rw [outsAt0_B m c ⟨_, hb'⟩ (by dsimp only; omega) (by dsimp only; omega)]
      frame_out
      rw [scratch_read, point_sum m c q _ (by dsimp only; omega)]
      simp only [e, Nat.add_sub_cancel]

end Cert.Kernel20Ideal.Product

namespace Cert.Proof

open Cert.Kernel20Ideal.Product in
/-- The kernel's result is the reference's. -/
theorem algebraic20 : Cert.algebraic_Kernel20Ideal_Reference20Ideal := by
  intro m ρ m' ρ' _ hagree
  refine ⟨fun c => (Cert.Kernel20Ideal.Gen.dats m 0 c).arrAt 2 Cert.Kernel20Ideal.cfg0.N, Cert.Kernel20Ideal.Value.run_blocks m ρ, ?_⟩
  refine (θ_run _ _ _).mono (fun _ h c => ⟨(h c).1.trans ?_, (h c).2⟩) (Cert.Reference20Ideal.Value.run m' ρ')
  obtain ⟨e0, e1⟩ := hagree c
  rw [e0, e1]
  symm
  refine (Cert.Kernel20Ideal.Gen.dats m 0 c).arrAt_eq_of_covers 2 _ (by decide +kernel) fun t hf y => ?_
  obtain ⟨p, hp⟩ := last t hf
  blk_simp
  rw [Cert.Kernel20Ideal.Gen.after0_2]
  obtain ⟨u, v, r, s, rfl⟩ : ∃ (u v : Fin 2) (r : Fin 128) (s : Fin 1024), y = ix4 u v r s := ⟨y 0, y 1, y 2, y 3, eq_ix4 y⟩
  rw [show ((View.whole Cert.Kernel20Ideal.main_v0).slice (Cert.Kernel20Ideal.win0_2.rect t)).emb (ix4 u v r s) = ix4 u ⟨2 * p.val + v.val, by omega⟩ r s from
    by blk_ext [(idx t).2.2]]
  obtain rfl : t = ⟨4 * p.val + 3, last_lt p⟩ := Fin.ext hp
  refine (out_apply m c _ (by dsimp only; omega) (by dsimp only; omega) u v r s).trans ((acc_apply m c p _ s 3 (by decide) _).trans ?_)
  have e : 512 * p.val + (128 * (2 * v.val + u.val) + r.val) = (2 * p.val + v.val) * 256 + u.val * 128 + r.val := by omega
  unfold term
  pointwise []
  simp only [e]
  exact Finset.sum_congr rfl fun k _ => mul_comm _ _

end Cert.Proof
-- ==== Proof.InZ.lean ====
/-
  The products with the mixer's `z` weight and its gate weight (one program: the shapes are the same): each point's block
  of the product is the block of the reference's.
-/
module

public import proofs.«01_k».proof.Defs
public import proofs.«01_k».proof.Proof.Sums
public import proofs.«01_k».proof.Proof.Gen.Kernel21Ideal.Value
public import proofs.«01_k».proof.Proof.Gen.Reference21Ideal.Run
public import Idealize.ShloMosaic.Lib.Pipeline.ValueKit

@[expose] public section

set_option maxRecDepth 16384

noncomputable section

open Idealize.ShloMosaic Idealize.ShloMosaic.TcCoe Idealize.SL.Sem

namespace Cert.Kernel21Ideal.Product

open Cert.Kernel21Ideal Cert.Kernel21Ideal.Gen

variable (m : (ℓ : Loc nD τ sig) → Buf (Elt Ideal) ℓ) (c : Dev nD)

abbrev h : FVec Ideal S4096x1024 .bf16 := m ((c : Thread nD τ).loc main_arg0)
abbrev w : FVec Ideal S1024x2048 .bf16 := m ((c : Thread nD τ).loc main_arg1)

/-- What a point writes at an index of its block. -/
theorem out_apply (x0 : Vec Ideal S512x1024 .bf16) (x1 : Vec Ideal S1024x2048 .bf16) (r : Fin 512) (q : Fin 2048) :
    (k0_pay3 (k0_pay2 (k0_pay1 (F := Ideal)) x0 x1) : FVec Ideal S512x2048 .f32) (ix2 r q) = ∑ k : Fin 1024, (x0 (ix2 r k) : EReal) * x1 (ix2 k q) := by
  pointwise [k0_pay3, k0_pay2, k0_pay1]

omit c in
/-- The blocks a point reads and writes. -/
theorem idx : ∀ t : Fin cfg0.N, win0_0.index t = ![t.val, 0] ∧ win0_1.index t = ![0, 0] ∧ win0_2.index t = ![t.val, 0] :=
  (by decide +kernel : ∀ t : Fin grid0.N, _)

theorem row_lt (t : Fin cfg0.N) (r : Fin 512) : 512 * t.val + r.val < 4096 := by
  have := lt_of_lt_of_eq t.isLt (show cfg0.N = 8 from N_0); omega

theorem blk0 (t : Fin cfg0.N) (r : Fin 512) (k : Fin 1024) : iblk m c 0 t (ix2 r k) = h m c (ix2 ⟨512 * t.val + r.val, row_lt t r⟩ k) := by
  unfold iblk
  rw [View.read_apply]
  refine (congrFun (V_main_arg0 m c) _).trans ?_
  blk_ext [(idx t).1]

theorem blk1 (t : Fin cfg0.N) (k : Fin 1024) (q : Fin 2048) : iblk m c 1 t (ix2 k q) = w m c (ix2 k q) := by
  unfold iblk
  rw [View.read_apply]
  refine (congrFun (V_main_arg1 m c) _).trans ?_
  blk_ext [(idx t).2.1]

end Cert.Kernel21Ideal.Product

namespace Cert.Proof

open Cert.Kernel21Ideal.Product in
/-- The kernel's result is the reference's. -/
theorem algebraic21 : Cert.algebraic_Kernel21Ideal_Reference21Ideal := by
  intro m ρ m' ρ' _ hagree
  refine ⟨fun c => (Cert.Kernel21Ideal.Gen.dats m 0 c).arrAt 2 Cert.Kernel21Ideal.cfg0.N, Cert.Kernel21Ideal.Value.run_blocks m ρ, ?_⟩
  refine (θ_run _ _ _).mono (fun _ h c => ⟨(h c).1.trans ?_, (h c).2⟩) (Cert.Reference21Ideal.Value.run m' ρ')
  obtain ⟨e0, e1⟩ := hagree c
  rw [e0, e1]
  symm
  refine (Cert.Kernel21Ideal.Gen.dats m 0 c).arrAt_eq_of_covers 2 _ (by decide +kernel) fun t hf y => ?_
  blk_simp
  rw [Cert.Kernel21Ideal.Gen.after0_2]
  unfold Cert.Kernel21Ideal.Gen.outsAt0
  frame_out
  obtain ⟨r, q, rfl⟩ : ∃ (r : Fin 512) (q : Fin 2048), y = ix2 r q := ⟨y 0, y 1, eq_ix2 y⟩
  rw [show ((View.whole Cert.Kernel21Ideal.main_v0).slice (Cert.Kernel21Ideal.win0_2.rect t)).emb (ix2 r q) = ix2 ⟨512 * t.val + r.val, row_lt t r⟩ q from
    by blk_ext [(idx t).2.2]]
  refine (out_apply _ _ _ _).trans ?_
  simp only [blk0, blk1]
  pointwise []

end Cert.Proof
-- ==== Proof.InXbc.lean ====
/-
  The product with the mixer's convolution weight: each point's block of the product, by rows and columns, is the block of
  the reference's.
-/
module

public import proofs.«01_k».proof.Defs
public import proofs.«01_k».proof.Proof.Sums
public import proofs.«01_k».proof.Proof.Gen.Kernel22Ideal.Value
public import proofs.«01_k».proof.Proof.Gen.Reference22Ideal.Run
public import Idealize.ShloMosaic.Lib.Pipeline.ValueKit

@[expose] public section

set_option maxRecDepth 16384

noncomputable section

open Idealize.ShloMosaic Idealize.ShloMosaic.TcCoe Idealize.SL.Sem

namespace Cert.Kernel22Ideal.Product

open Cert.Kernel22Ideal Cert.Kernel22Ideal.Gen

variable (m : (ℓ : Loc nD τ sig) → Buf (Elt Ideal) ℓ) (c : Dev nD)

abbrev h : FVec Ideal S4096x1024 .bf16 := m ((c : Thread nD τ).loc main_arg0)
abbrev w : FVec Ideal S1024x4096 .bf16 := m ((c : Thread nD τ).loc main_arg1)

/-- What a point writes at an index of its block. -/
theorem out_apply (x0 : Vec Ideal S512x1024 .bf16) (x1 : Vec Ideal S1024x2048 .bf16) (r : Fin 512) (q : Fin 2048) :
    (k0_pay3 (k0_pay2 (k0_pay1 (F := Ideal)) x0 x1) : FVec Ideal S512x2048 .f32) (ix2 r q) = ∑ k : Fin 1024, (x0 (ix2 r k) : EReal) * x1 (ix2 k q) := by
  pointwise [k0_pay3, k0_pay2, k0_pay1]

omit c in
/-- The blocks a point reads and writes. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

theorem row_lt (t : Fin cfg0.N) (r : Fin 512) : 512 * (t.val / 2) + r.val < 4096 := by
  have := lt_of_lt_of_eq t.isLt (show cfg0.N = 16 from N_0); omega

theorem col_lt (t : Fin cfg0.N) (q : Fin 2048) : 2048 * (t.val % 2) + q.val < 4096 := by omega

theorem blk0 (t : Fin cfg0.N) (r : Fin 512) (k : Fin 1024) : iblk m c 0 t (ix2 r k) = h m c (ix2 ⟨512 * (t.val / 2) + r.val, row_lt t r⟩ k) := by
  unfold iblk
  rw [View.read_apply]
  refine (congrFun (V_main_arg0 m c) _).trans ?_
  blk_ext [(idx t).1]

theorem blk1 (t : Fin cfg0.N) (k : Fin 1024) (q : Fin 2048) : iblk m c 1 t (ix2 k q) = w m c (ix2 k ⟨2048 * (t.val % 2) + q.val, col_lt t q⟩) := by
  unfold iblk
  rw [View.read_apply]
  refine (congrFun (V_main_arg1 m c) _).trans ?_
  blk_ext [(idx t).2.1]

end Cert.Kernel22Ideal.Product

namespace Cert.Proof

open Cert.Kernel22Ideal.Product in
/-- The kernel's result is the reference's. -/
theorem algebraic22 : Cert.algebraic_Kernel22Ideal_Reference22Ideal := by
  intro m ρ m' ρ' _ hagree
  refine ⟨fun c => (Cert.Kernel22Ideal.Gen.dats m 0 c).arrAt 2 Cert.Kernel22Ideal.cfg0.N, Cert.Kernel22Ideal.Value.run_blocks m ρ, ?_⟩
  refine (θ_run _ _ _).mono (fun _ h c => ⟨(h c).1.trans ?_, (h c).2⟩) (Cert.Reference22Ideal.Value.run m' ρ')
  obtain ⟨e0, e1⟩ := hagree c
  rw [e0, e1]
  symm
  refine (Cert.Kernel22Ideal.Gen.dats m 0 c).arrAt_eq_of_covers 2 _ (by decide +kernel) fun t hf y => ?_
  blk_simp
  rw [Cert.Kernel22Ideal.Gen.after0_2]
  unfold Cert.Kernel22Ideal.Gen.outsAt0
  frame_out
  obtain ⟨r, q, rfl⟩ : ∃ (r : Fin 512) (q : Fin 2048), y = ix2 r q := ⟨y 0, y 1, eq_ix2 y⟩
  rw [show ((View.whole Cert.Kernel22Ideal.main_v0).slice (Cert.Kernel22Ideal.win0_2.rect t)).emb (ix2 r q)
    = ix2 ⟨512 * (t.val / 2) + r.val, row_lt t r⟩ ⟨2048 * (t.val % 2) + q.val, col_lt t q⟩ from by blk_ext [(idx t).2.2]]
  refine (out_apply _ _ _ _).trans ?_
  simp only [blk0, blk1]
  pointwise []

end Cert.Proof
-- ==== Proof.GateUp.lean ====
/-
  The gate and up products of the second feed-forward block: each point's block of the product is the block of the
  reference's, one point per block of rows and half of the columns.
-/
module

public import proofs.«01_k».proof.Defs
public import proofs.«01_k».proof.Proof.Sums
public import proofs.«01_k».proof.Proof.Gen.Kernel23Ideal.Value
public import proofs.«01_k».proof.Proof.Gen.Reference23Ideal.Run
public import Idealize.ShloMosaic.Lib.Pipeline.ValueKit

@[expose] public section

set_option maxRecDepth 16384

noncomputable section

open Idealize.ShloMosaic Idealize.ShloMosaic.TcCoe Idealize.SL.Sem

namespace Cert.Kernel23Ideal.Product

open Cert.Kernel23Ideal Cert.Kernel23Ideal.Gen

variable (m : (ℓ : Loc nD τ sig) → Buf (Elt Ideal) ℓ) (c : Dev nD)

abbrev h : FVec Ideal S4096x1024 .bf16 := m ((c : Thread nD τ).loc main_arg0)
abbrev w : FVec Ideal S1024x5632 .bf16 := m ((c : Thread nD τ).loc main_arg1)

/-- What a point writes at an index of its block. -/
theorem out_apply (x0 : Vec Ideal S512x1024 .bf16) (x1 : Vec Ideal S1024x2816 .bf16) (r : Fin 512) (q : Fin 2816) :
    (k0_pay3 (k0_pay2 (k0_pay1 (F := Ideal)) x0 x1) : FVec Ideal S512x2816 .f32) (ix2 r q) = ∑ k : Fin 1024, (x0 (ix2 r k) : EReal) * x1 (ix2 k q) := by
  pointwise [k0_pay3, k0_pay2, k0_pay1]

omit c in
/-- The blocks a point reads and writes. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

theorem row_lt (t : Fin cfg0.N) (r : Fin 512) : 512 * (t.val / 2) + r.val < 4096 := by
  have := lt_of_lt_of_eq t.isLt (show cfg0.N = 16 from N_0); omega

theorem col_lt (t : Fin cfg0.N) (q : Fin 2816) : 2816 * (t.val % 2) + q.val < 5632 := by omega

theorem blk0 (t : Fin cfg0.N) (r : Fin 512) (k : Fin 1024) : iblk m c 0 t (ix2 r k) = h m c (ix2 ⟨512 * (t.val / 2) + r.val, row_lt t r⟩ k) := by
  unfold iblk
  rw [View.read_apply]
  refine (congrFun (V_main_arg0 m c) _).trans ?_
  blk_ext [(idx t).1]

theorem blk1 (t : Fin cfg0.N) (k : Fin 1024) (q : Fin 2816) : iblk m c 1 t (ix2 k q) = w m c (ix2 k ⟨2816 * (t.val % 2) + q.val, col_lt t q⟩) := by
  unfold iblk
  rw [View.read_apply]
  refine (congrFun (V_main_arg1 m c) _).trans ?_
  blk_ext [(idx t).2.1]

end Cert.Kernel23Ideal.Product

namespace Cert.Proof

open Cert.Kernel23Ideal.Product in
/-- The kernel's result is the reference's. -/
theorem algebraic23 : Cert.algebraic_Kernel23Ideal_Reference23Ideal := by
  intro m ρ m' ρ' _ hagree
  refine ⟨fun c => (Cert.Kernel23Ideal.Gen.dats m 0 c).arrAt 2 Cert.Kernel23Ideal.cfg0.N, Cert.Kernel23Ideal.Value.run_blocks m ρ, ?_⟩
  refine (θ_run _ _ _).mono (fun _ h c => ⟨(h c).1.trans ?_, (h c).2⟩) (Cert.Reference23Ideal.Value.run m' ρ')
  obtain ⟨e0, e1⟩ := hagree c
  rw [e0, e1]
  symm
  refine (Cert.Kernel23Ideal.Gen.dats m 0 c).arrAt_eq_of_covers 2 _ (by decide +kernel) fun t hf y => ?_
  blk_simp
  rw [Cert.Kernel23Ideal.Gen.after0_2]
  unfold Cert.Kernel23Ideal.Gen.outsAt0
  frame_out
  obtain ⟨r, q, rfl⟩ : ∃ (r : Fin 512) (q : Fin 2816), y = ix2 r q := ⟨y 0, y 1, eq_ix2 y⟩
  rw [show ((View.whole Cert.Kernel23Ideal.main_v0).slice (Cert.Kernel23Ideal.win0_2.rect t)).emb (ix2 r q)
    = ix2 ⟨512 * (t.val / 2) + r.val, row_lt t r⟩ ⟨2816 * (t.val % 2) + q.val, col_lt t q⟩ from by blk_ext [(idx t).2.2]]
  refine (out_apply _ _ _ _).trans ?_
  simp only [blk0, blk1]
  pointwise []

end Cert.Proof
-- ==== Proof.Down.lean ====
/-
  The second feed-forward block's last product: each point's block of half the product, with the block's input added, is
  the block of the reference's.
-/
module

public import proofs.«01_k».proof.Defs
public import proofs.«01_k».proof.Proof.Sums
public import proofs.«01_k».proof.Proof.Gen.Kernel24Ideal.Value
public import proofs.«01_k».proof.Proof.Gen.Reference24Ideal.Run
public import Idealize.ShloMosaic.Lib.Pipeline.ValueKit

@[expose] public section

set_option maxRecDepth 16384

noncomputable section

open Idealize.ShloMosaic Idealize.ShloMosaic.TcCoe Idealize.SL.Sem

namespace Cert.Kernel24Ideal.Product

open Cert.Kernel24Ideal Cert.Kernel24Ideal.Gen

variable (m : (ℓ : Loc nD τ sig) → Buf (Elt Ideal) ℓ) (c : Dev nD)

abbrev a : FVec Ideal S4096x2816 .bf16 := m ((c : Thread nD τ).loc main_arg0)
abbrev w : FVec Ideal S2816x1024 .bf16 := m ((c : Thread nD τ).loc main_arg1)
abbrev x : FVec Ideal S4096x1024 .f32 := m ((c : Thread nD τ).loc main_arg2)

/-- What a point writes at an index of its block. -/
theorem out_apply (x0 : Vec Ideal S512x2816 .bf16) (x1 : Vec Ideal S2816x1024 .bf16) (x2 : Vec Ideal S512x1024 .f32) (r : Fin 512) (q : Fin 1024) :
    (k0_pay3 (k0_pay2 (k0_pay1 (F := Ideal)) x0 x1) x2 : FVec Ideal S512x1024 .f32) (ix2 r q)
      = x2 (ix2 r q) + Ideal.ofBits .f32 0x3F000000#32 * ∑ k : Fin 2816, (x0 (ix2 r k) : EReal) * x1 (ix2 k q) := by
  rw [add_comm, mul_comm]
  pointwise [k0_pay3, k0_pay2, k0_pay1]

omit c in
/-- The blocks a point reads and writes. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem row_lt (t : Fin cfg0.N) (r : Fin 512) : 512 * t.val + r.val < 4096 := by
  have := lt_of_lt_of_eq t.isLt (show cfg0.N = 8 from N_0); omega

theorem blk0 (t : Fin cfg0.N) (r : Fin 512) (k : Fin 2816) : iblk m c 0 t (ix2 r k) = a m c (ix2 ⟨512 * t.val + r.val, row_lt t r⟩ k) := by
  unfold iblk
  rw [View.read_apply]
  refine (congrFun (V_main_arg0 m c) _).trans ?_
  blk_ext [(idx t).1]

theorem blk1 (t : Fin cfg0.N) (k : Fin 2816) (q : Fin 1024) : iblk m c 1 t (ix2 k q) = w m c (ix2 k q) := by
  unfold iblk
  rw [View.read_apply]
  refine (congrFun (V_main_arg1 m c) _).trans ?_
  blk_ext [(idx t).2.1]

theorem blk2 (t : Fin cfg0.N) (r : Fin 512) (q : Fin 1024) : iblk m c 2 t (ix2 r q) = x m c (ix2 ⟨512 * t.val + r.val, row_lt t r⟩ q) := by
  unfold iblk
  rw [View.read_apply]
  refine (congrFun (V_main_arg2 m c) _).trans ?_
  blk_ext [(idx t).2.2.1]

end Cert.Kernel24Ideal.Product

namespace Cert.Proof

open Cert.Kernel24Ideal.Product in
/-- The kernel's result is the reference's. -/
theorem algebraic24 : Cert.algebraic_Kernel24Ideal_Reference24Ideal := by
  intro m ρ m' ρ' _ hagree
  refine ⟨fun c => (Cert.Kernel24Ideal.Gen.dats m 0 c).arrAt 3 Cert.Kernel24Ideal.cfg0.N, Cert.Kernel24Ideal.Value.run_blocks m ρ, ?_⟩
  refine (θ_run _ _ _).mono (fun _ h c => ⟨(h c).1.trans ?_, (h c).2⟩) (Cert.Reference24Ideal.Value.run m' ρ')
  obtain ⟨e0, e1, e2⟩ := hagree c
  rw [e0, e1, e2]
  symm
  refine (Cert.Kernel24Ideal.Gen.dats m 0 c).arrAt_eq_of_covers 3 _ (by decide +kernel) fun t hf y => ?_
  blk_simp
  rw [Cert.Kernel24Ideal.Gen.after0_3]
  unfold Cert.Kernel24Ideal.Gen.outsAt0
  frame_out
  obtain ⟨r, q, rfl⟩ : ∃ (r : Fin 512) (q : Fin 1024), y = ix2 r q := ⟨y 0, y 1, eq_ix2 y⟩
  rw [show ((View.whole Cert.Kernel24Ideal.main_v0).slice (Cert.Kernel24Ideal.win0_3.rect t)).emb (ix2 r q) = ix2 ⟨512 * t.val + r.val, row_lt t r⟩ q from
    by blk_ext [(idx t).2.2.2]]
  refine (out_apply _ _ _ _ _).trans ?_
  simp only [blk0, blk1, blk2]
  pointwise []

end Cert.Proof
-- ==== Proof.OutProj.lean ====
/-
  The mixer's output product: each point's block of the product, with the mixer's input added, is the block of the
  reference's.
-/
module

public import proofs.«01_k».proof.Defs
public import proofs.«01_k».proof.Proof.Sums
public import proofs.«01_k».proof.Proof.Gen.Kernel25Ideal.Value
public import proofs.«01_k».proof.Proof.Gen.Reference25Ideal.Run
public import Idealize.ShloMosaic.Lib.Pipeline.ValueKit

@[expose] public section

set_option maxRecDepth 16384

noncomputable section

open Idealize.ShloMosaic Idealize.ShloMosaic.TcCoe Idealize.SL.Sem

namespace Cert.Kernel25Ideal.Product

open Cert.Kernel25Ideal Cert.Kernel25Ideal.Gen

variable (m : (ℓ : Loc nD τ sig) → Buf (Elt Ideal) ℓ) (c : Dev nD)

abbrev a : FVec Ideal S4096x1024 .bf16 := m ((c : Thread nD τ).loc main_arg0)
abbrev w : FVec Ideal S1024x1024 .bf16 := m ((c : Thread nD τ).loc main_arg1)
abbrev x : FVec Ideal S4096x1024 .f32 := m ((c : Thread nD τ).loc main_arg2)

/-- What a point writes at an index of its block. -/
theorem out_apply (x0 : Vec Ideal S512x1024 .bf16) (x1 : Vec Ideal S1024x1024 .bf16) (x2 : Vec Ideal S512x1024 .f32) (r : Fin 512) (q : Fin 1024) :
    (k0_pay3 (k0_pay2 (k0_pay1 (F := Ideal)) x0 x1) x2 : FVec Ideal S512x1024 .f32) (ix2 r q)
      = x2 (ix2 r q) + ∑ k : Fin 1024, (x0 (ix2 r k) : EReal) * x1 (ix2 k q) := by
  rw [add_comm]
  pointwise [k0_pay3, k0_pay2, k0_pay1]

omit c in
/-- The blocks a point reads and writes. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem row_lt (t : Fin cfg0.N) (r : Fin 512) : 512 * t.val + r.val < 4096 := by
  have := lt_of_lt_of_eq t.isLt (show cfg0.N = 8 from N_0); omega

theorem blk0 (t : Fin cfg0.N) (r : Fin 512) (k : Fin 1024) : iblk m c 0 t (ix2 r k) = a m c (ix2 ⟨512 * t.val + r.val, row_lt t r⟩ k) := by
  unfold iblk
  rw [View.read_apply]
  refine (congrFun (V_main_arg0 m c) _).trans ?_
  blk_ext [(idx t).1]

theorem blk1 (t : Fin cfg0.N) (k q : Fin 1024) : iblk m c 1 t (ix2 k q) = w m c (ix2 k q) := by
  unfold iblk
  rw [View.read_apply]
  refine (congrFun (V_main_arg1 m c) _).trans ?_
  blk_ext [(idx t).2.1]

theorem blk2 (t : Fin cfg0.N) (r : Fin 512) (q : Fin 1024) : iblk m c 2 t (ix2 r q) = x m c (ix2 ⟨512 * t.val + r.val, row_lt t r⟩ q) := by
  unfold iblk
  rw [View.read_apply]
  refine (congrFun (V_main_arg2 m c) _).trans ?_
  blk_ext [(idx t).2.2.1]

end Cert.Kernel25Ideal.Product

namespace Cert.Proof

open Cert.Kernel25Ideal.Product in
/-- The kernel's result is the reference's. -/
theorem algebraic25 : Cert.algebraic_Kernel25Ideal_Reference25Ideal := by
  intro m ρ m' ρ' _ hagree
  refine ⟨fun c => (Cert.Kernel25Ideal.Gen.dats m 0 c).arrAt 3 Cert.Kernel25Ideal.cfg0.N, Cert.Kernel25Ideal.Value.run_blocks m ρ, ?_⟩
  refine (θ_run _ _ _).mono (fun _ h c => ⟨(h c).1.trans ?_, (h c).2⟩) (Cert.Reference25Ideal.Value.run m' ρ')
  obtain ⟨e0, e1, e2⟩ := hagree c
  rw [e0, e1, e2]
  symm
  refine (Cert.Kernel25Ideal.Gen.dats m 0 c).arrAt_eq_of_covers 3 _ (by decide +kernel) fun t hf y => ?_
  blk_simp
  rw [Cert.Kernel25Ideal.Gen.after0_3]
  unfold Cert.Kernel25Ideal.Gen.outsAt0
  frame_out
  obtain ⟨r, q, rfl⟩ : ∃ (r : Fin 512) (q : Fin 1024), y = ix2 r q := ⟨y 0, y 1, eq_ix2 y⟩
  rw [show ((View.whole Cert.Kernel25Ideal.main_v0).slice (Cert.Kernel25Ideal.win0_3.rect t)).emb (ix2 r q) = ix2 ⟨512 * t.val + r.val, row_lt t r⟩ q from
    by blk_ext [(idx t).2.2.2]]
  refine (out_apply _ _ _ _ _).trans ?_
  simp only [blk0, blk1, blk2]
  pointwise []

end Cert.Proof
-- ==== Proof.ProjSsd.lean ====
/-
  The state-space branch's projection: each point's block of the product is the block of the reference's.
-/
module

public import proofs.«01_k».proof.Defs
public import proofs.«01_k».proof.Proof.Sums
public import proofs.«01_k».proof.Proof.Gen.Kernel26Ideal.Value
public import proofs.«01_k».proof.Proof.Gen.Reference26Ideal.Run
public import Idealize.ShloMosaic.Lib.Pipeline.ValueKit

@[expose] public section

set_option maxRecDepth 16384

noncomputable section

open Idealize.ShloMosaic Idealize.ShloMosaic.TcCoe Idealize.SL.Sem

namespace Cert.Kernel26Ideal.Product

open Cert.Kernel26Ideal Cert.Kernel26Ideal.Gen

variable (m : (ℓ : Loc nD τ sig) → Buf (Elt Ideal) ℓ) (c : Dev nD)

abbrev a : FVec Ideal S4096x2048 .bf16 := m ((c : Thread nD τ).loc main_arg0)
abbrev w : FVec Ideal S2048x1024 .bf16 := m ((c : Thread nD τ).loc main_arg1)

/-- What a point writes at an index of its block. -/
theorem out_apply (x0 : Vec Ideal S512x2048 .bf16) (x1 : Vec Ideal S2048x1024 .bf16) (r : Fin 512) (q : Fin 1024) :
    (k0_pay3 (k0_pay2 (k0_pay1 (F := Ideal)) x0 x1) : FVec Ideal S512x1024 .f32) (ix2 r q) = ∑ k : Fin 2048, (x0 (ix2 r k) : EReal) * x1 (ix2 k q) := by
  pointwise [k0_pay3, k0_pay2, k0_pay1]

omit c in
/-- The blocks a point reads and writes. -/
theorem idx : ∀ t : Fin cfg0.N, win0_0.index t = ![t.val, 0] ∧ win0_1.index t = ![0, 0] ∧ win0_2.index t = ![t.val, 0] :=
  (by decide +kernel : ∀ t : Fin grid0.N, _)

theorem row_lt (t : Fin cfg0.N) (r : Fin 512) : 512 * t.val + r.val < 4096 := by
  have := lt_of_lt_of_eq t.isLt (show cfg0.N = 8 from N_0); omega

theorem blk0 (t : Fin cfg0.N) (r : Fin 512) (k : Fin 2048) : iblk m c 0 t (ix2 r k) = a m c (ix2 ⟨512 * t.val + r.val, row_lt t r⟩ k) := by
  unfold iblk
  rw [View.read_apply]
  refine (congrFun (V_main_arg0 m c) _).trans ?_
  blk_ext [(idx t).1]

theorem blk1 (t : Fin cfg0.N) (k : Fin 2048) (q : Fin 1024) : iblk m c 1 t (ix2 k q) = w m c (ix2 k q) := by
  unfold iblk
  rw [View.read_apply]
  refine (congrFun (V_main_arg1 m c) _).trans ?_
  blk_ext [(idx t).2.1]

end Cert.Kernel26Ideal.Product

namespace Cert.Proof

open Cert.Kernel26Ideal.Product in
/-- The kernel's result is the reference's. -/
theorem algebraic26 : Cert.algebraic_Kernel26Ideal_Reference26Ideal := by
  intro m ρ m' ρ' _ hagree
  refine ⟨fun c => (Cert.Kernel26Ideal.Gen.dats m 0 c).arrAt 2 Cert.Kernel26Ideal.cfg0.N, Cert.Kernel26Ideal.Value.run_blocks m ρ, ?_⟩
  refine (θ_run _ _ _).mono (fun _ h c => ⟨(h c).1.trans ?_, (h c).2⟩) (Cert.Reference26Ideal.Value.run m' ρ')
  obtain ⟨e0, e1⟩ := hagree c
  rw [e0, e1]
  symm
  refine (Cert.Kernel26Ideal.Gen.dats m 0 c).arrAt_eq_of_covers 2 _ (by decide +kernel) fun t hf y => ?_
  blk_simp
  rw [Cert.Kernel26Ideal.Gen.after0_2]
  unfold Cert.Kernel26Ideal.Gen.outsAt0
  frame_out
  obtain ⟨r, q, rfl⟩ : ∃ (r : Fin 512) (q : Fin 1024), y = ix2 r q := ⟨y 0, y 1, eq_ix2 y⟩
  rw [show ((View.whole Cert.Kernel26Ideal.main_v0).slice (Cert.Kernel26Ideal.win0_2.rect t)).emb (ix2 r q) = ix2 ⟨512 * t.val + r.val, row_lt t r⟩ q from
    by blk_ext [(idx t).2.2]]
  refine (out_apply _ _ _ _).trans ?_
  simp only [blk0, blk1]
  pointwise []

end Cert.Proof
-- ==== Proof.DO.lean ====
/-
  The gradient of the S5 branch's gated rows, in the order of tokens in which the branch's scan takes them: a point's block
  of the product by the transposed weight is a block of columns of the result.
-/
module

public import proofs.«01_k».proof.Defs
public import proofs.«01_k».proof.Proof.Gen.Kernel27Ideal.Value
public import proofs.«01_k».proof.Proof.Gen.Reference27Ideal.Run
public import Idealize.ShloMosaic.Lib.Pipeline.ValueKit

@[expose] public section

set_option maxRecDepth 16384

noncomputable section

open Idealize.ShloMosaic Idealize.ShloMosaic.TcCoe Idealize.SL.Sem

namespace Cert.Kernel27Ideal.Product

open Cert.Kernel27Ideal Cert.Kernel27Ideal.Gen

variable (m : (ℓ : Loc nD τ sig) → Buf (Elt Ideal) ℓ) (c : Dev nD)

abbrev dp : FVec Ideal S4096x1024 .f32 := m ((c : Thread nD τ).loc main_arg0)
abbrev w : FVec Ideal S1024x1024 .bf16 := m ((c : Thread nD τ).loc main_arg1)

/-- What a point writes at an index of its block. -/
theorem out_apply (x0 : Vec Ideal S512x1024 .f32) (x1 : Vec Ideal S1024x1024 .bf16) (r : Fin 512) (q : Fin 1024) :
    (k0_pay3 (k0_pay2 (k0_pay1 (F := Ideal)) x0 x1) : FVec Ideal S512x1024 .f32) (ix2 r q) = ∑ k : Fin 1024, (x0 (ix2 r k) : EReal) * x1 (ix2 q k) := by
  pointwise [k0_pay3, k0_pay2, k0_pay1]

omit c in
/-- The blocks a point reads and writes. -/
theorem idp : ∀ t : Fin cfg0.N, win0_0.index t = ![t.val, 0] ∧ win0_1.index t = ![0, 0] ∧ win0_2.index t = ![0, t.val] :=
  (by decide +kernel : ∀ t : Fin grid0.N, _)

theorem row_lt (t : Fin cfg0.N) (r : Fin 512) : 512 * t.val + r.val < 4096 := by
  have := lt_of_lt_of_eq t.isLt (show cfg0.N = 8 from N_0); omega

theorem col_lt (t : Fin cfg0.N) (q : Fin 1024) : 1024 * t.val + q.val < 8192 := by
  have := lt_of_lt_of_eq t.isLt (show cfg0.N = 8 from N_0); omega

theorem blk0 (t : Fin cfg0.N) (r : Fin 512) (k : Fin 1024) : iblk m c 0 t (ix2 r k) = dp m c (ix2 ⟨512 * t.val + r.val, row_lt t r⟩ k) := by
  unfold iblk
  rw [View.read_apply]
  refine (congrFun (V_main_arg0 m c) _).trans ?_
  blk_ext [(idp t).1]

theorem blk1 (t : Fin cfg0.N) (q k : Fin 1024) : iblk m c 1 t (ix2 q k) = w m c (ix2 q k) := by
  unfold iblk
  rw [View.read_apply]
  refine (congrFun (V_main_arg1 m c) _).trans ?_
  blk_ext [(idp t).2.1]

end Cert.Kernel27Ideal.Product

namespace Cert.Proof

open Cert.Kernel27Ideal.Product in
/-- The kernel's result is the reference's. -/
theorem algebraic27 : Cert.algebraic_Kernel27Ideal_Reference27Ideal := by
  intro m ρ m' ρ' _ hagree
  refine ⟨fun c => (Cert.Kernel27Ideal.Gen.dats m 0 c).arrAt 2 Cert.Kernel27Ideal.cfg0.N, Cert.Kernel27Ideal.Value.run_blocks m ρ, ?_⟩
  refine (θ_run _ _ _).mono (fun _ h c => ⟨(h c).1.trans ?_, (h c).2⟩) (Cert.Reference27Ideal.Value.run m' ρ')
  obtain ⟨e0, e1⟩ := hagree c
  rw [e0, e1]
  symm
  refine (Cert.Kernel27Ideal.Gen.dats m 0 c).arrAt_eq_of_covers 2 _ (by decide +kernel) fun t hf y => ?_
  blk_simp
  rw [Cert.Kernel27Ideal.Gen.after0_2]
  unfold Cert.Kernel27Ideal.Gen.outsAt0
  frame_out
  obtain ⟨r, q, rfl⟩ : ∃ (r : Fin 512) (q : Fin 1024), y = ix2 r q := ⟨y 0, y 1, eq_ix2 y⟩
  rw [show ((View.whole Cert.Kernel27Ideal.main_v0).slice (Cert.Kernel27Ideal.win0_2.rect t)).emb (ix2 r q) = ix2 r ⟨1024 * t.val + q.val, col_lt t q⟩ from
    by blk_ext [(idp t).2.2]]
  refine (out_apply _ _ _ _).trans ?_
  simp only [blk0, blk1]
  pointwise []
  exact Finset.sum_congr rfl fun x _ => congrArg₂ (· * ·) (congrArg (dp m c) (congrArg₂ ix2 (Fin.ext (by dsimp only; omega)) rfl)) rfl

end Cert.Proof
-- ==== Proof.Segment.lean ====
/-
  Rows kept segment by segment: cutting the rows of an array in groups of eight, one per segment, and putting each segment's rows
  together moves row `8 i + g` to row `512 g + i`.
-/
module

public import proofs.«01_k».proof.Defs
public import Idealize.ShloMosaic.Lib.Pipeline.ValueKit

@[expose] public section

noncomputable section

open Idealize.ShloMosaic Idealize.ShloMosaic.TcCoe Idealize.SL.Sem

namespace Cert.Segment

open Cert.Reference33Ideal

theorem eq {α : Type} (x : S4096x1024.Idx → α) (h1 : S4096x1024.ShapeCasts S512x8x1024)
    (h2 : S512x8x1024.Transposes [1, 0, 2] S8x512x1024) (h3 : S8x512x1024.ShapeCasts S4096x1024) :
    shapeCast S4096x1024 (transpose S8x512x1024 [1, 0, 2] (shapeCast S512x8x1024 x h1) h2) h3
      = fun j => x (ix2 ⟨8 * ((j 0).val % 512) + (j 0).val / 512, by have : (j 0).val < 4096 := (j 0).isLt; omega⟩ (j 1)) := by
  funext j
  obtain ⟨K, k, rfl⟩ : ∃ (K : Fin 4096) (k : Fin 1024), j = ix2 K k := ⟨j 0, j 1, eq_ix2 j⟩
  refine (shapeCast_apply _ _ _ (ix3 ⟨K.val / 512, by omega⟩ ⟨K.val % 512, by omega⟩ k) ?_).trans
    ((transpose_apply _ _ _ _ (ix3 ⟨K.val % 512, by omega⟩ ⟨K.val / 512, by omega⟩ k) ?_).trans (shapeCast_apply _ _ _ _ ?_))
  · rw [Shape.rowMajor_val_two, Shape.rowMajor_val_three]
    show (K.val / 512 * 512 + K.val % 512) * 1024 + k.val = K.val * 1024 + k.val
    omega
  · intro b; fin_cases b <;> rfl
  · rw [Shape.rowMajor_val_two, Shape.rowMajor_val_three]
    show (8 * (K.val % 512) + K.val / 512) * 1024 + k.val = (K.val % 512 * 8 + K.val / 512) * 1024 + k.val
    omega

end Cert.Segment
-- ==== Proof.DWproj.lean ====
/-
  The gradient of the S5 branch's projection: the first operand's rows come in the scan's order of tokens, so the eight row
  blocks over which a run of points accumulates the sum are its eight segments; the run's last point writes the sum in the
  order of the devices' pieces.
-/
module

public import proofs.«01_k».proof.Defs
public import proofs.«01_k».proof.Proof.Segment
public import proofs.«01_k».proof.Proof.Sums
public import proofs.«01_k».proof.Proof.Gen.Kernel28Ideal.Value
public import proofs.«01_k».proof.Proof.Gen.Reference28Ideal.Run
public import Idealize.ShloMosaic.Lib.Pipeline.ValueKit

@[expose] public section

set_option maxRecDepth 16384

noncomputable section

open Idealize.ShloMosaic Idealize.ShloMosaic.TcCoe Idealize.SL.Sem

namespace Cert.Kernel28Ideal.Product

open Cert.Kernel28Ideal Cert.Kernel28Ideal.Gen

variable (m : (ℓ : Loc nD τ sig) → Buf (Elt Ideal) ℓ) (c : Dev nD)

abbrev a : FVec Ideal S4096x1024 .bf16 := m ((c : Thread nD τ).loc main_arg0)
abbrev dx : FVec Ideal S4096x1024 .f32 := m ((c : Thread nD τ).loc main_arg1)

section Payloads

variable (x0 : Vec Ideal S512x512 .bf16) (x1 : Vec Ideal S512x1024 .f32) (xs : Vec Ideal S512x1024 .f32)

/-- The two blocks' product at an index, added to what was there. -/
theorem step_apply (r : Fin 512) (s : Fin 1024) : (k0_pay2 xs x0 x1 : FVec Ideal S512x1024 .f32) (ix2 r s)
    = xs (ix2 r s) + ∑ k : Fin 512, (x0 (ix2 k r) : EReal) * x1 (ix2 k s) := by
  pointwise [k0_pay2]

theorem zero_apply (r : Fin 512) (s : Fin 1024) : (k0_pay1 : FVec Ideal S512x1024 .f32) (ix2 r s) = (0 : EReal) := by
  pointwise [k0_pay1]

/-- The four pieces the last point of a run writes: rows `128 i, …` of the sum. -/
theorem piece_apply (z w : Fin 1) (r : Fin 128) (s : Fin 1024) :
    (k0_pay4 xs : FVec Ideal S1x1x128x1024 .bf16) (ix4 z w r s) = xs (ix2 ⟨128 * 0 + r.val, by omega⟩ s)
    ∧ (k0_pay5 xs : FVec Ideal S1x1x128x1024 .bf16) (ix4 z w r s) = xs (ix2 ⟨128 * 1 + r.val, by omega⟩ s)
    ∧ (k0_pay6 xs : FVec Ideal S1x1x128x1024 .bf16) (ix4 z w r s) = xs (ix2 ⟨128 * 2 + r.val, by omega⟩ s)
    ∧ (k0_pay7 xs : FVec Ideal S1x1x128x1024 .bf16) (ix4 z w r s) = xs (ix2 ⟨128 * 3 + r.val, by omega⟩ s) := by
  refine ⟨?_, ?_, ?_, ?_⟩
  · pointwise [k0_pay4, k0_pay3]
  · pointwise [k0_pay5, k0_pay3]
  · pointwise [k0_pay6, k0_pay3]
  · pointwise [k0_pay7, k0_pay3]

theorem scratch_read : View.read (Elt Ideal) (View.whole cc0_scratch0) ((Memref.isWhole_whole cc0_scratch0).unread xs) = xs :=
  (Memref.isWhole_whole cc0_scratch0).read_unread xs

end Payloads

/-- What the last point of a run writes at an index: the sum at its row. -/
theorem out_apply (t : Fin cfg0.N) (h0 : ¬t.val % 8 = 0) (h1 : t.val % 8 = 7) (u v : Fin 2) (r : Fin 128) (s : Fin 1024) :
    (outsAt0 m c t.val t.isLt).1 (ix4 u v r s) = (outsAt0 m c t.val t.isLt).2 (ix2 ⟨128 * (2 * v.val + u.val) + r.val, by omega⟩ s) := by
  rw [outsAt0_C m c t h0 h1]
  frame_out
  rw [scratch_read]
  generalize k0_pay2 (outsAt0 m c (t.val - 1) _).2 (iblk m c 0 t) (iblk m c 1 t) = xs
  refine View.canon_eq_of_allAt _ _ _ ?_ (View.allAt_cons_unit _ _ _ _ _ ?_ (View.allAt_cons_unit _ _ _ _ _ ?_
    (View.allAt_cons_unit _ _ _ _ _ ?_ (View.allAt_cons_unit _ _ _ _ _ ?_ (View.allAt_nil _ _)))))
  · exact View.cover_of_tiled_head _ _ _ rfl _
  all_goals
    intro x hx
    obtain ⟨z, w, r', s', rfl⟩ : ∃ (z w : Fin 1) (r' : Fin 128) (s' : Fin 1024), x = ix4 z w r' s' := ⟨x 0, x 1, x 2, x 3, eq_ix4 x⟩
    have e0 : u.val = _ + z.val := hx 0
    have e1 : v.val = _ + w.val := hx 1
    have e2 : r.val = 0 + r'.val := hx 2
    have e3 : s.val = 0 + s'.val := hx 3
    obtain rfl : s = s' := Fin.ext (by omega)
    obtain rfl : r = r' := Fin.ext (by omega)
    simp only [Matrix.cons_val_zero, Matrix.cons_val_one] at e0 e1
    have hz : z.val = 0 := by omega
    have hw : w.val = 0 := by omega
    simp only [e0, e1, hz, hw]
  · exact (piece_apply xs z w r s).2.2.2
  · exact (piece_apply xs z w r s).2.2.1
  · exact (piece_apply xs z w r s).2.1
  · exact (piece_apply xs z w r s).1

omit c in
/-- The blocks a point reads and writes, -/
theorem idx : ∀ t : Fin cfg0.N, win0_0.index t = ![0, 2 * (t.val % 8) + t.val / 8] ∧ win0_1.index t = ![t.val % 8, 0] ∧ win0_2.index t = ![0, t.val / 8, 0, 0] :=
  (by decide +kernel : ∀ t : Fin grid0.N, _)

omit c in
/-- and when it writes. -/
theorem last : ∀ t : Fin cfg0.N, (cfg0.win 2).flush t = true → ∃ q : Fin 2, t.val = 8 * q.val + 7 :=
  (by decide +kernel : ∀ t : Fin grid0.N, _)

theorem last_lt (q : Fin 2) : 8 * q.val + 7 < cfg0.N := by
  rw [show cfg0.N = 16 from N_0]; omega

theorem V_rows : V m c main_v0 = (shapeCast S512x8192 (a m c) shapeCasts_S4096x1024_S512x8192 : FVec Ideal S512x8192 .bf16) := by
  unfold V
  (simp only [hostOps0]; after_reads_simp) <;> rfl

/-- Row `k` of segment `g` is row `8 k + g` of the first operand. -/
theorem blk0 (t : Fin cfg0.N) (k r : Fin 512) : iblk m c 0 t (ix2 k r) = a m c (ix2 ⟨8 * k.val + t.val % 8, by omega⟩
    ⟨512 * (t.val / 8) + r.val, by have := lt_of_lt_of_eq t.isLt (show cfg0.N = 16 from N_0); omega⟩) := by
  have ht := lt_of_lt_of_eq t.isLt (show cfg0.N = 16 from N_0)
  unfold iblk
  rw [View.read_apply]
  refine (congrFun (V_rows m c) _).trans ?_
  rw [show (((cfg0.win 0).blk t).view).emb (ix2 k r) = ix2 k ⟨1024 * (t.val % 8) + 512 * (t.val / 8) + r.val, by omega⟩ from by blk_ext [(idx t).1]]
  pointwise []
  refine congrArg (a m c) (congrArg₂ ix2 (Fin.ext ?_) (Fin.ext ?_)) <;> dsimp only <;> omega

theorem blk1 (t : Fin cfg0.N) (k : Fin 512) (s : Fin 1024) : iblk m c 1 t (ix2 k s) = dx m c (ix2 ⟨512 * (t.val % 8) + k.val, by omega⟩ s) := by
  unfold iblk
  rw [View.read_apply]
  refine (congrFun (V_main_arg1 m c) _).trans ?_
  blk_ext [(idx t).2.1]

/-- The product's term at token `k`, zero past the last: token `512 g + i` is row `8 i + g` of the first operand. -/
def term (R C : Fin 1024) (k : ℕ) : EReal :=
  if hk : k < 4096 then (a m c (ix2 ⟨8 * (k % 512) + k / 512, by omega⟩ R) : EReal) * dx m c (ix2 ⟨k, hk⟩ C) else 0

/-- What a point of the run `q` adds to the sum. -/
theorem point_sum (q : Fin 2) (t : Fin cfg0.N) (ht : t.val / 8 = q.val) (r : Fin 512) (s : Fin 1024) (b : FVec Ideal S512x1024 .f32) :
    (k0_pay2 b (iblk m c 0 t) (iblk m c 1 t) : FVec Ideal S512x1024 .f32) (ix2 r s)
      = b (ix2 r s) + ∑ k : Fin 512, term m c ⟨512 * q.val + r.val, by omega⟩ s (512 * (t.val % 8) + k.val) := by
  refine (step_apply _ _ _ _ _).trans (congrArg _ (Finset.sum_congr rfl fun k _ => ?_))
  rw [blk0, blk1, term, dif_pos (by omega)]
  have e : (512 * (t.val % 8) + k.val) % 512 = k.val := by omega
  have e' : (512 * (t.val % 8) + k.val) / 512 = t.val % 8 := by omega
  simp only [ht, e, e']

/-- What the accumulator holds after each point of a run. -/
theorem acc_apply (q : Fin 2) (r : Fin 512) (s : Fin 1024) (j : ℕ) (hj : j < 8) (hb : 8 * q.val + j < cfg0.N) :
    ((outsAt0 m c _ hb).2 (ix2 r s) : EReal) = ∑ k : Fin (512 * (j + 1)), term m c ⟨512 * q.val + r.val, by omega⟩ s k.val := by
  refine Cert.Sums.acc_sum (fun t ht => ((outsAt0 m c t ht).2 (ix2 r s) : EReal)) 512 8 _ (term m c _ s) (fun hb => ?_) (fun j hj hb hb' => ?_) j hj hb
  · rw [outsAt0_A m c ⟨_, hb⟩ (by dsimp only; omega) (by dsimp only; omega)]
    frame_out
    rw [point_sum m c q _ (by dsimp only; omega), zero_apply, zero_add]
    simp only [Nat.mul_mod_right, Nat.mul_zero, Nat.zero_add]
  · have e : (8 * q.val + j + 1) % 8 = j + 1 := by omega
    by_cases h3 : j + 1 = 7
    · rw [outsAt0_C m c ⟨_, hb'⟩ (by dsimp only; omega) (by dsimp only; omega)]
      frame_out
      rw [scratch_read, point_sum m c q _ (by dsimp only; omega)]
      simp only [e, Nat.add_sub_cancel]
    · rw [outsAt0_B m c ⟨_, hb'⟩ (by dsimp only; omega) (by dsimp only; omega)]
      frame_out
      rw [scratch_read, point_sum m c q _ (by dsimp only; omega)]
      simp only [e, Nat.add_sub_cancel]

end Cert.Kernel28Ideal.Product

namespace Cert.Proof

open Cert.Kernel28Ideal.Product in
/-- The kernel's result is the reference's. -/
theorem algebraic28 : Cert.algebraic_Kernel28Ideal_Reference28Ideal := by
  intro m ρ m' ρ' _ hagree
  refine ⟨fun c => (Cert.Kernel28Ideal.Gen.dats m 0 c).arrAt 2 Cert.Kernel28Ideal.cfg0.N, Cert.Kernel28Ideal.Value.run_blocks m ρ, ?_⟩
  refine (θ_run _ _ _).mono (fun _ h c => ⟨(h c).1.trans ?_, (h c).2⟩) (Cert.Reference28Ideal.Value.run m' ρ')
  obtain ⟨e0, e1⟩ := hagree c
  rw [e0, e1]
  symm
  refine (Cert.Kernel28Ideal.Gen.dats m 0 c).arrAt_eq_of_covers 2 _ (by decide +kernel) fun t hf y => ?_
  obtain ⟨p, hp⟩ := last t hf
  blk_simp
  rw [Cert.Kernel28Ideal.Gen.after0_2]
  obtain ⟨u, v, r, s, rfl⟩ : ∃ (u v : Fin 2) (r : Fin 128) (s : Fin 1024), y = ix4 u v r s := ⟨y 0, y 1, y 2, y 3, eq_ix4 y⟩
  rw [show (Cert.Kernel28Ideal.win0_2.blk t).view.emb (ix4 u v r s) = ix4 u ⟨2 * p.val + v.val, by omega⟩ r s from
    by blk_ext [(idx t).2.2]]
  obtain rfl : t = ⟨8 * p.val + 7, last_lt p⟩ := Fin.ext hp
  refine (out_apply m c _ (by dsimp only; omega) (by dsimp only; omega) u v r s).trans ((acc_apply m c p _ s 7 (by decide) _).trans ?_)
  unfold term
  rw [Cert.Segment.eq]
  pointwise []
  refine Finset.sum_congr rfl fun x _ => (mul_comm _ _).trans (congrArg₂ (· * ·) rfl (congrArg (a m c) (congrArg₂ ix2 rfl (Fin.ext ?_))))
  dsimp only
  omega

end Cert.Proof
-- ==== Proof.DWu.lean ====
/-
  The gradient of the S5 branch's input weight: the second operand's rows come in the scan's order of tokens, so the eight
  row blocks over which a run of points accumulates the sum are its eight segments.
-/
module

public import proofs.«01_k».proof.Defs
public import proofs.«01_k».proof.Proof.Segment
public import proofs.«01_k».proof.Proof.Sums
public import proofs.«01_k».proof.Proof.Gen.Kernel29Ideal.Value
public import proofs.«01_k».proof.Proof.Gen.Reference29Ideal.Run
public import Idealize.ShloMosaic.Lib.Pipeline.ValueKit

@[expose] public section

set_option maxRecDepth 16384

noncomputable section

open Idealize.ShloMosaic Idealize.ShloMosaic.TcCoe Idealize.SL.Sem

namespace Cert.Kernel29Ideal.Product

open Cert.Kernel29Ideal Cert.Kernel29Ideal.Gen

variable (m : (ℓ : Loc nD τ sig) → Buf (Elt Ideal) ℓ) (c : Dev nD)

abbrev h : FVec Ideal S4096x1024 .bf16 := m ((c : Thread nD τ).loc main_arg0)
abbrev du : FVec Ideal S4096x1024 .f32 := m ((c : Thread nD τ).loc main_arg1)

section Payloads

variable (x0 : Vec Ideal S512x512 .bf16) (x1 : Vec Ideal S512x1024 .f32) (xs : Vec Ideal S512x1024 .f32)

/-- The two blocks' product at an index, added to what was there. -/
theorem step_apply (r : Fin 512) (s : Fin 1024) : (k0_pay2 xs x0 x1 : FVec Ideal S512x1024 .f32) (ix2 r s)
    = xs (ix2 r s) + ∑ k : Fin 512, (x0 (ix2 k r) : EReal) * x1 (ix2 k s) := by
  pointwise [k0_pay2]

theorem zero_apply (r : Fin 512) (s : Fin 1024) : (k0_pay1 : FVec Ideal S512x1024 .f32) (ix2 r s) = (0 : EReal) := by
  pointwise [k0_pay1]

theorem scale_apply (r : Fin 512) (s : Fin 1024) : (k0_pay3 xs : FVec Ideal S512x1024 .f32) (ix2 r s) = xs (ix2 r s) := by
  pointwise [k0_pay3]

theorem scratch_read : View.read (Elt Ideal) (View.whole cc0_scratch0) ((Memref.isWhole_whole cc0_scratch0).unread xs) = xs :=
  (Memref.isWhole_whole cc0_scratch0).read_unread xs

end Payloads

omit c in
/-- The blocks a point reads and writes, -/
theorem idx : ∀ t : Fin cfg0.N, win0_0.index t = ![t.val % 8, t.val / 8] ∧ win0_1.index t = ![0, t.val % 8] ∧ win0_2.index t = ![t.val / 8, 0] :=
  (by decide +kernel : ∀ t : Fin grid0.N, _)

omit c in
/-- and when it writes. -/
theorem last : ∀ t : Fin cfg0.N, (cfg0.win 2).flush t = true → ∃ q : Fin 2, t.val = 8 * q.val + 7 :=
  (by decide +kernel : ∀ t : Fin grid0.N, _)

theorem last_lt (q : Fin 2) : 8 * q.val + 7 < cfg0.N := by
  rw [show cfg0.N = 16 from N_0]; omega

theorem blk0 (t : Fin cfg0.N) (k : Fin 512) (r : Fin 512) : iblk m c 0 t (ix2 k r)
    = h m c (ix2 ⟨512 * (t.val % 8) + k.val, by omega⟩ ⟨512 * (t.val / 8) + r.val, by have := lt_of_lt_of_eq t.isLt (show cfg0.N = 16 from N_0); omega⟩) := by
  unfold iblk
  rw [View.read_apply]
  refine (congrFun (V_main_arg0 m c) _).trans ?_
  blk_ext [(idx t).1]

theorem V_rows : V m c main_v0 = (shapeCast S512x8192 (du m c) shapeCasts_S4096x1024_S512x8192 : FVec Ideal S512x8192 .f32) := by
  unfold V
  (simp only [hostOps0]; after_reads_simp) <;> rfl

/-- Row `k` of segment `g` is row `8 k + g` of the second operand. -/
theorem blk1 (t : Fin cfg0.N) (k : Fin 512) (s : Fin 1024) : iblk m c 1 t (ix2 k s) = du m c (ix2 ⟨8 * k.val + t.val % 8, by omega⟩ s) := by
  unfold iblk
  rw [View.read_apply]
  refine (congrFun (V_rows m c) _).trans ?_
  rw [show (((cfg0.win 1).blk t).view).emb (ix2 k s) = ix2 k ⟨1024 * (t.val % 8) + s.val, by omega⟩ from by blk_ext [(idx t).2.1]]
  pointwise []
  refine congrArg (du m c) (congrArg₂ ix2 (Fin.ext ?_) rfl)
  dsimp only; omega

/-- The product's term at token `k`, zero past the last: token `512 g + i` is row `8 i + g` of the second operand. -/
def term (R : Fin 1024) (C : Fin 1024) (k : ℕ) : EReal :=
  if hk : k < 4096 then (h m c (ix2 ⟨k, hk⟩ R) : EReal) * du m c (ix2 ⟨8 * (k % 512) + k / 512, by omega⟩ C) else 0

/-- What a point of the run `q` adds to the sum. -/
theorem point_sum (q : Fin 2) (t : Fin cfg0.N) (ht : t.val / 8 = q.val) (r : Fin 512) (s : Fin 1024) (a : FVec Ideal S512x1024 .f32) :
    (k0_pay2 a (iblk m c 0 t) (iblk m c 1 t) : FVec Ideal S512x1024 .f32) (ix2 r s)
      = a (ix2 r s) + ∑ k : Fin 512, term m c ⟨512 * q.val + r.val, by omega⟩ s (512 * (t.val % 8) + k.val) := by
  refine (step_apply _ _ _ _ _).trans (congrArg _ (Finset.sum_congr rfl fun k _ => ?_))
  rw [blk0, blk1, term, dif_pos (by omega)]
  have e : (512 * (t.val % 8) + k.val) % 512 = k.val := by omega
  have e' : (512 * (t.val % 8) + k.val) / 512 = t.val % 8 := by omega
  simp only [ht, e, e']

/-- What the accumulator holds after each point of a run. -/
theorem acc_apply (q : Fin 2) (r : Fin 512) (s : Fin 1024) (j : ℕ) (hj : j < 8) (hb : 8 * q.val + j < cfg0.N) :
    ((outsAt0 m c _ hb).2 (ix2 r s) : EReal) = ∑ k : Fin (512 * (j + 1)), term m c ⟨512 * q.val + r.val, by omega⟩ s k.val := by
  refine Cert.Sums.acc_sum (fun t ht => ((outsAt0 m c t ht).2 (ix2 r s) : EReal)) 512 8 _ (term m c _ s) (fun hb => ?_) (fun j hj hb hb' => ?_) j hj hb
  · rw [outsAt0_A m c ⟨_, hb⟩ (by dsimp only; omega) (by dsimp only; omega)]
    frame_out
    rw [point_sum m c q _ (by dsimp only; omega), zero_apply, zero_add]
    simp only [Nat.mul_mod_right, Nat.mul_zero, Nat.zero_add]
  · have e : (8 * q.val + j + 1) % 8 = j + 1 := by omega
    by_cases h3 : j + 1 = 7
    · rw [outsAt0_C m c ⟨_, hb'⟩ (by dsimp only; omega) (by dsimp only; omega)]
      frame_out
      rw [scratch_read, point_sum m c q _ (by dsimp only; omega)]
      simp only [e, Nat.add_sub_cancel]
    · rw [outsAt0_B m c ⟨_, hb'⟩ (by dsimp only; omega) (by dsimp only; omega)]
      frame_out
      rw [scratch_read, point_sum m c q _ (by dsimp only; omega)]
      simp only [e, Nat.add_sub_cancel]

/-- The last point of a run writes what the accumulator then holds. -/
theorem out_apply (t : Fin cfg0.N) (h0 : ¬t.val % 8 = 0) (h1 : t.val % 8 = 7) (r : Fin 512) (s : Fin 1024) :
    ((outsAt0 m c t.val t.isLt).1 (ix2 r s) : EReal) = (outsAt0 m c t.val t.isLt).2 (ix2 r s) := by
  rw [outsAt0_C m c t h0 h1]
  frame_out
  rw [scratch_read]
  exact scale_apply _ r s

end Cert.Kernel29Ideal.Product

namespace Cert.Proof

open Cert.Kernel29Ideal.Product in
/-- The kernel's result is the reference's. -/
theorem algebraic29 : Cert.algebraic_Kernel29Ideal_Reference29Ideal := by
  intro m ρ m' ρ' _ hagree
  refine ⟨fun c => (Cert.Kernel29Ideal.Gen.dats m 0 c).arrAt 2 Cert.Kernel29Ideal.cfg0.N, Cert.Kernel29Ideal.Value.run_blocks m ρ, ?_⟩
  refine (θ_run _ _ _).mono (fun _ h c => ⟨(h c).1.trans ?_, (h c).2⟩) (Cert.Reference29Ideal.Value.run m' ρ')
  obtain ⟨e0, e1⟩ := hagree c
  rw [e0, e1]
  symm
  refine (Cert.Kernel29Ideal.Gen.dats m 0 c).arrAt_eq_of_covers 2 _ (by decide +kernel) fun t hf y => ?_
  obtain ⟨p, hp⟩ := last t hf
  blk_simp
  rw [Cert.Kernel29Ideal.Gen.after0_2]
  obtain ⟨r, s, rfl⟩ : ∃ (r : Fin 512) (s : Fin 1024), y = ix2 r s := ⟨y 0, y 1, eq_ix2 y⟩
  rw [show (Cert.Kernel29Ideal.win0_2.blk t).view.emb (ix2 r s) = ix2 ⟨512 * p.val + r.val, by omega⟩ s from
    by blk_ext [(idx t).2.2]]
  obtain rfl : t = ⟨8 * p.val + 7, last_lt p⟩ := Fin.ext hp
  refine (out_apply m c _ (by dsimp only; omega) (by dsimp only; omega) r s).trans ((acc_apply m c p r s 7 (by decide) _).trans ?_)
  unfold term
  rw [Cert.Segment.eq]
  pointwise []
  exact Finset.sum_congr rfl fun x _ => mul_comm _ _

end Cert.Proof
-- ==== Proof.DWdt.lean ====
/-
  The gradient of the time step's weight: over the four row blocks of its operands a run of points accumulates the sum over
  all rows.
-/
module

public import proofs.«01_k».proof.Defs
public import proofs.«01_k».proof.Proof.Sums
public import proofs.«01_k».proof.Proof.Gen.Kernel30Ideal.Value
public import proofs.«01_k».proof.Proof.Gen.Reference30Ideal.Run
public import Idealize.ShloMosaic.Lib.Pipeline.ValueKit

@[expose] public section

set_option maxRecDepth 16384

noncomputable section

open Idealize.ShloMosaic Idealize.ShloMosaic.TcCoe Idealize.SL.Sem

namespace Cert.Kernel30Ideal.Product

open Cert.Kernel30Ideal Cert.Kernel30Ideal.Gen

variable (m : (ℓ : Loc nD τ sig) → Buf (Elt Ideal) ℓ) (c : Dev nD)

abbrev h : FVec Ideal S4096x1024 .bf16 := m ((c : Thread nD τ).loc main_arg0)
abbrev ddt : FVec Ideal S4096x128 .f32 := m ((c : Thread nD τ).loc main_arg1)

section Payloads

variable (x0 : Vec Ideal S1024x512 .bf16) (x1 : Vec Ideal S1024x128 .f32) (xs : Vec Ideal S512x128 .f32)

/-- The two blocks' product at an index, added to what was there. -/
theorem step_apply (r : Fin 512) (s : Fin 128) : (k0_pay2 xs x0 x1 : FVec Ideal S512x128 .f32) (ix2 r s)
    = xs (ix2 r s) + ∑ k : Fin 1024, (x0 (ix2 k r) : EReal) * x1 (ix2 k s) := by
  pointwise [k0_pay2]

theorem zero_apply (r : Fin 512) (s : Fin 128) : (k0_pay1 : FVec Ideal S512x128 .f32) (ix2 r s) = (0 : EReal) := by
  pointwise [k0_pay1]

theorem scale_apply (r : Fin 512) (s : Fin 128) : (k0_pay3 xs : FVec Ideal S512x128 .f32) (ix2 r s) = xs (ix2 r s) := by
  pointwise [k0_pay3]

theorem scratch_read : View.read (Elt Ideal) (View.whole cc0_scratch0) ((Memref.isWhole_whole cc0_scratch0).unread xs) = xs :=
  (Memref.isWhole_whole cc0_scratch0).read_unread xs

end Payloads

omit c in
/-- The blocks a point reads and writes, -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

omit c in
/-- and when it writes. -/
theorem last : ∀ t : Fin cfg0.N, (cfg0.win 2).flush t = true → ∃ q : Fin 2, t.val = 4 * q.val + 3 :=
  (by decide +kernel : ∀ t : Fin grid0.N, _)

theorem last_lt (q : Fin 2) : 4 * q.val + 3 < cfg0.N := by
  rw [show cfg0.N = 8 from N_0]; omega

theorem blk0 (t : Fin cfg0.N) (k : Fin 1024) (r : Fin 512) : iblk m c 0 t (ix2 k r)
    = h m c (ix2 ⟨1024 * (t.val % 4) + k.val, by omega⟩ ⟨512 * (t.val / 4) + r.val, by have := lt_of_lt_of_eq t.isLt (show cfg0.N = 8 from N_0); omega⟩) := by
  unfold iblk
  rw [View.read_apply]
  refine (congrFun (V_main_arg0 m c) _).trans ?_
  blk_ext [(idx t).1]

theorem blk1 (t : Fin cfg0.N) (k : Fin 1024) (s : Fin 128) : iblk m c 1 t (ix2 k s)
    = ddt m c (ix2 ⟨1024 * (t.val % 4) + k.val, by omega⟩ s) := by
  unfold iblk
  rw [View.read_apply]
  refine (congrFun (V_main_arg1 m c) _).trans ?_
  blk_ext [(idx t).2.1]

/-- The product's term at row `k` of the operands, zero past the last. -/
def term (R : Fin 1024) (C : Fin 128) (k : ℕ) : EReal :=
  if hk : k < 4096 then (h m c (ix2 ⟨k, hk⟩ R) : EReal) * ddt m c (ix2 ⟨k, hk⟩ C) else 0

/-- What a point of the run `q` adds to the sum. -/
theorem point_sum (q : Fin 2) (t : Fin cfg0.N) (ht : t.val / 4 = q.val) (r : Fin 512) (s : Fin 128) (a : FVec Ideal S512x128 .f32) :
    (k0_pay2 a (iblk m c 0 t) (iblk m c 1 t) : FVec Ideal S512x128 .f32) (ix2 r s)
      = a (ix2 r s) + ∑ k : Fin 1024, term m c ⟨512 * q.val + r.val, by omega⟩ s (1024 * (t.val % 4) + k.val) := by
  refine (step_apply _ _ _ _ _).trans (congrArg _ (Finset.sum_congr rfl fun k _ => ?_))
  rw [blk0, blk1, term, dif_pos (by omega)]
  simp only [ht]

/-- What the accumulator holds after each point of a run. -/
theorem acc_apply (q : Fin 2) (r : Fin 512) (s : Fin 128) (j : ℕ) (hj : j < 4) (hb : 4 * q.val + j < cfg0.N) :
    ((outsAt0 m c _ hb).2 (ix2 r s) : EReal) = ∑ k : Fin (1024 * (j + 1)), term m c ⟨512 * q.val + r.val, by omega⟩ s k.val := by
  refine Cert.Sums.acc_sum (fun t ht => ((outsAt0 m c t ht).2 (ix2 r s) : EReal)) 1024 4 _ (term m c _ s) (fun hb => ?_) (fun j hj hb hb' => ?_) j hj hb
  · rw [outsAt0_A m c ⟨_, hb⟩ (by dsimp only; omega) (by dsimp only; omega)]
    frame_out
    rw [point_sum m c q _ (by dsimp only; omega), zero_apply, zero_add]
    simp only [Nat.mul_mod_right, Nat.mul_zero, Nat.zero_add]
  · have e : (4 * q.val + j + 1) % 4 = j + 1 := by omega
    by_cases h3 : j + 1 = 3
    · rw [outsAt0_C m c ⟨_, hb'⟩ (by dsimp only; omega) (by dsimp only; omega)]
      frame_out
      rw [scratch_read, point_sum m c q _ (by dsimp only; omega)]
      simp only [e, Nat.add_sub_cancel]
    · rw [outsAt0_B m c ⟨_, hb'⟩ (by dsimp only; omega) (by dsimp only; omega)]
      frame_out
      rw [scratch_read, point_sum m c q _ (by dsimp only; omega)]
      simp only [e, Nat.add_sub_cancel]

/-- The last point of a run writes what the accumulator then holds. -/
theorem out_apply (t : Fin cfg0.N) (h0 : ¬t.val % 4 = 0) (h1 : t.val % 4 = 3) (r : Fin 512) (s : Fin 128) :
    ((outsAt0 m c t.val t.isLt).1 (ix2 r s) : EReal) = (outsAt0 m c t.val t.isLt).2 (ix2 r s) := by
  rw [outsAt0_C m c t h0 h1]
  frame_out
  rw [scratch_read]
  exact scale_apply _ r s

end Cert.Kernel30Ideal.Product

namespace Cert.Proof

open Cert.Kernel30Ideal.Product in
/-- The kernel's result is the reference's. -/
theorem algebraic30 : Cert.algebraic_Kernel30Ideal_Reference30Ideal := by
  intro m ρ m' ρ' _ hagree
  refine ⟨fun c => (Cert.Kernel30Ideal.Gen.dats m 0 c).arrAt 2 Cert.Kernel30Ideal.cfg0.N, Cert.Kernel30Ideal.Value.run_blocks m ρ, ?_⟩
  refine (θ_run _ _ _).mono (fun _ h c => ⟨(h c).1.trans ?_, (h c).2⟩) (Cert.Reference30Ideal.Value.run m' ρ')
  obtain ⟨e0, e1⟩ := hagree c
  rw [e0, e1]
  symm
  refine (Cert.Kernel30Ideal.Gen.dats m 0 c).arrAt_eq_of_covers 2 _ (by decide +kernel) fun t hf y => ?_
  obtain ⟨p, hp⟩ := last t hf
  blk_simp
  rw [Cert.Kernel30Ideal.Gen.after0_2]
  obtain ⟨r, s, rfl⟩ : ∃ (r : Fin 512) (s : Fin 128), y = ix2 r s := ⟨y 0, y 1, eq_ix2 y⟩
  rw [show ((View.whole Cert.Kernel30Ideal.main_v0).slice (Cert.Kernel30Ideal.win0_2.rect t)).emb (ix2 r s) = ix2 ⟨512 * p.val + r.val, by omega⟩ s from
    by blk_ext [(idx t).2.2]]
  obtain rfl : t = ⟨4 * p.val + 3, last_lt p⟩ := Fin.ext hp
  refine (out_apply m c _ (by dsimp only; omega) (by dsimp only; omega) r s).trans ((acc_apply m c p r s 3 (by decide) _).trans ?_)
  unfold term
  pointwise []
  exact Finset.sum_congr rfl fun k _ => mul_comm _ _

end Cert.Proof
-- ==== Proof.DHdt.lean ====
/-
  The last of the products that the gradient of the mixer's normed rows is made of: each point's block of the time step's
  gradient by its transposed weight, with the block of the gradient so far added, is the block of the reference's sum.
-/
module

public import proofs.«01_k».proof.Defs
public import proofs.«01_k».proof.Proof.Sums
public import proofs.«01_k».proof.Proof.Gen.Kernel31Ideal.Value
public import proofs.«01_k».proof.Proof.Gen.Reference31Ideal.Run
public import Idealize.ShloMosaic.Lib.Pipeline.ValueKit

@[expose] public section

set_option maxRecDepth 16384

noncomputable section

open Idealize.ShloMosaic Idealize.ShloMosaic.TcCoe Idealize.SL.Sem

namespace Cert.Kernel31Ideal.Product

open Cert.Kernel31Ideal Cert.Kernel31Ideal.Gen

variable (m : (ℓ : Loc nD τ sig) → Buf (Elt Ideal) ℓ) (c : Dev nD)

abbrev ddt : FVec Ideal S4096x128 .f32 := m ((c : Thread nD τ).loc main_arg0)
abbrev w : FVec Ideal S1024x128 .bf16 := m ((c : Thread nD τ).loc main_arg1)
abbrev dh : FVec Ideal S4096x1024 .f32 := m ((c : Thread nD τ).loc main_arg2)

/-- What a point writes at an index of its block. -/
theorem out_apply (x0 : Vec Ideal S512x128 .f32) (x1 : Vec Ideal S1024x128 .bf16) (x2 : Vec Ideal S512x1024 .f32) (r : Fin 512) (q : Fin 1024) :
    (k0_pay3 (k0_pay2 (k0_pay1 (F := Ideal)) x0 x1) x2 : FVec Ideal S512x1024 .f32) (ix2 r q)
      = x2 (ix2 r q) + ∑ k : Fin 128, (x0 (ix2 r k) : EReal) * x1 (ix2 q k) := by
  rw [add_comm]
  pointwise [k0_pay3, k0_pay2, k0_pay1]

omit c in
/-- The blocks a point reads and writes. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem row_lt (t : Fin cfg0.N) (r : Fin 512) : 512 * t.val + r.val < 4096 := by
  have := lt_of_lt_of_eq t.isLt (show cfg0.N = 8 from N_0); omega

theorem blk0 (t : Fin cfg0.N) (r : Fin 512) (k : Fin 128) : iblk m c 0 t (ix2 r k) = ddt m c (ix2 ⟨512 * t.val + r.val, row_lt t r⟩ k) := by
  unfold iblk
  rw [View.read_apply]
  refine (congrFun (V_main_arg0 m c) _).trans ?_
  blk_ext [(idx t).1]

theorem blk1 (t : Fin cfg0.N) (q : Fin 1024) (k : Fin 128) : iblk m c 1 t (ix2 q k) = w m c (ix2 q k) := by
  unfold iblk
  rw [View.read_apply]
  refine (congrFun (V_main_arg1 m c) _).trans ?_
  blk_ext [(idx t).2.1]

theorem blk2 (t : Fin cfg0.N) (r : Fin 512) (q : Fin 1024) : iblk m c 2 t (ix2 r q) = dh m c (ix2 ⟨512 * t.val + r.val, row_lt t r⟩ q) := by
  unfold iblk
  rw [View.read_apply]
  refine (congrFun (V_main_arg2 m c) _).trans ?_
  blk_ext [(idx t).2.2.1]

end Cert.Kernel31Ideal.Product

namespace Cert.Proof

open Cert.Kernel31Ideal.Product in
/-- The kernel's result is the reference's. -/
theorem algebraic31 : Cert.algebraic_Kernel31Ideal_Reference31Ideal := by
  intro m ρ m' ρ' _ hagree
  refine ⟨fun c => (Cert.Kernel31Ideal.Gen.dats m 0 c).arrAt 3 Cert.Kernel31Ideal.cfg0.N, Cert.Kernel31Ideal.Value.run_blocks m ρ, ?_⟩
  refine (θ_run _ _ _).mono (fun _ h c => ⟨(h c).1.trans ?_, (h c).2⟩) (Cert.Reference31Ideal.Value.run m' ρ')
  obtain ⟨e0, e1, e2⟩ := hagree c
  rw [e0, e1, e2]
  symm
  refine (Cert.Kernel31Ideal.Gen.dats m 0 c).arrAt_eq_of_covers 3 _ (by decide +kernel) fun t hf y => ?_
  blk_simp
  rw [Cert.Kernel31Ideal.Gen.after0_3]
  unfold Cert.Kernel31Ideal.Gen.outsAt0
  frame_out
  obtain ⟨r, q, rfl⟩ : ∃ (r : Fin 512) (q : Fin 1024), y = ix2 r q := ⟨y 0, y 1, eq_ix2 y⟩
  rw [show ((View.whole Cert.Kernel31Ideal.main_v0).slice (Cert.Kernel31Ideal.win0_3.rect t)).emb (ix2 r q) = ix2 ⟨512 * t.val + r.val, row_lt t r⟩ q from
    by blk_ext [(idx t).2.2.2]]
  refine (out_apply _ _ _ _ _).trans ?_
  simp only [blk0, blk1, blk2]
  pointwise []

end Cert.Proof
-- ==== Proof.InU.lean ====
/-
  The S5 branch's input, in the order of tokens in which its scan takes them: a point's block of the product is a block of
  columns of the result.
-/
module

public import proofs.«01_k».proof.Defs
public import proofs.«01_k».proof.Proof.Sums
public import proofs.«01_k».proof.Proof.Gen.Kernel32Ideal.Value
public import proofs.«01_k».proof.Proof.Gen.Reference32Ideal.Run
public import Idealize.ShloMosaic.Lib.Pipeline.ValueKit

@[expose] public section

set_option maxRecDepth 16384

noncomputable section

open Idealize.ShloMosaic Idealize.ShloMosaic.TcCoe Idealize.SL.Sem

namespace Cert.Kernel32Ideal.Product

open Cert.Kernel32Ideal Cert.Kernel32Ideal.Gen

variable (m : (ℓ : Loc nD τ sig) → Buf (Elt Ideal) ℓ) (c : Dev nD)

abbrev a : FVec Ideal S4096x1024 .bf16 := m ((c : Thread nD τ).loc main_arg0)
abbrev w : FVec Ideal S1024x1024 .bf16 := m ((c : Thread nD τ).loc main_arg1)

/-- What a point writes at an index of its block. -/
theorem out_apply (x0 : Vec Ideal S512x1024 .bf16) (x1 : Vec Ideal S1024x1024 .bf16) (r : Fin 512) (q : Fin 1024) :
    (k0_pay3 (k0_pay2 (k0_pay1 (F := Ideal)) x0 x1) : FVec Ideal S512x1024 .f32) (ix2 r q) = ∑ k : Fin 1024, (x0 (ix2 r k) : EReal) * x1 (ix2 k q) := by
  pointwise [k0_pay3, k0_pay2, k0_pay1]

omit c in
/-- The blocks a point reads and writes. -/
theorem idx : ∀ t : Fin cfg0.N, win0_0.index t = ![t.val, 0] ∧ win0_1.index t = ![0, 0] ∧ win0_2.index t = ![0, t.val] :=
  (by decide +kernel : ∀ t : Fin grid0.N, _)

theorem row_lt (t : Fin cfg0.N) (r : Fin 512) : 512 * t.val + r.val < 4096 := by
  have := lt_of_lt_of_eq t.isLt (show cfg0.N = 8 from N_0); omega

theorem col_lt (t : Fin cfg0.N) (q : Fin 1024) : 1024 * t.val + q.val < 8192 := by
  have := lt_of_lt_of_eq t.isLt (show cfg0.N = 8 from N_0); omega

theorem blk0 (t : Fin cfg0.N) (r : Fin 512) (k : Fin 1024) : iblk m c 0 t (ix2 r k) = a m c (ix2 ⟨512 * t.val + r.val, row_lt t r⟩ k) := by
  unfold iblk
  rw [View.read_apply]
  refine (congrFun (V_main_arg0 m c) _).trans ?_
  blk_ext [(idx t).1]

theorem blk1 (t : Fin cfg0.N) (k : Fin 1024) (q : Fin 1024) : iblk m c 1 t (ix2 k q) = w m c (ix2 k q) := by
  unfold iblk
  rw [View.read_apply]
  refine (congrFun (V_main_arg1 m c) _).trans ?_
  blk_ext [(idx t).2.1]

end Cert.Kernel32Ideal.Product

namespace Cert.Proof

open Cert.Kernel32Ideal.Product in
/-- The kernel's result is the reference's. -/
theorem algebraic32 : Cert.algebraic_Kernel32Ideal_Reference32Ideal := by
  intro m ρ m' ρ' _ hagree
  refine ⟨fun c => (Cert.Kernel32Ideal.Gen.dats m 0 c).arrAt 2 Cert.Kernel32Ideal.cfg0.N, Cert.Kernel32Ideal.Value.run_blocks m ρ, ?_⟩
  refine (θ_run _ _ _).mono (fun _ h c => ⟨(h c).1.trans ?_, (h c).2⟩) (Cert.Reference32Ideal.Value.run m' ρ')
  obtain ⟨e0, e1⟩ := hagree c
  rw [e0, e1]
  symm
  refine (Cert.Kernel32Ideal.Gen.dats m 0 c).arrAt_eq_of_covers 2 _ (by decide +kernel) fun t hf y => ?_
  blk_simp
  rw [Cert.Kernel32Ideal.Gen.after0_2]
  unfold Cert.Kernel32Ideal.Gen.outsAt0
  frame_out
  obtain ⟨r, q, rfl⟩ : ∃ (r : Fin 512) (q : Fin 1024), y = ix2 r q := ⟨y 0, y 1, eq_ix2 y⟩
  rw [show ((View.whole Cert.Kernel32Ideal.main_v0).slice (Cert.Kernel32Ideal.win0_2.rect t)).emb (ix2 r q) = ix2 r ⟨1024 * t.val + q.val, col_lt t q⟩ from
    by blk_ext [(idx t).2.2]]
  refine (out_apply _ _ _ _).trans ?_
  simp only [blk0, blk1]
  pointwise []
  exact Finset.sum_congr rfl fun x _ => congrArg₂ (· * ·) (congrArg (a m c) (congrArg₂ ix2 (Fin.ext (by dsimp only; omega)) rfl)) rfl

end Cert.Proof
-- ==== Proof.ProjS5.lean ====
/-
  The S5 branch's projection: it takes its rows in the scan's order of tokens, so a point reads one segment's rows as a block
  of columns; its block of the product is the block of the reference's.
-/
module

public import proofs.«01_k».proof.Defs
public import proofs.«01_k».proof.Proof.Segment
public import proofs.«01_k».proof.Proof.Sums
public import proofs.«01_k».proof.Proof.Gen.Kernel33Ideal.Value
public import proofs.«01_k».proof.Proof.Gen.Reference33Ideal.Run
public import Idealize.ShloMosaic.Lib.Pipeline.ValueKit

@[expose] public section

set_option maxRecDepth 16384

noncomputable section

open Idealize.ShloMosaic Idealize.ShloMosaic.TcCoe Idealize.SL.Sem

namespace Cert.Kernel33Ideal.Product

open Cert.Kernel33Ideal Cert.Kernel33Ideal.Gen

variable (m : (ℓ : Loc nD τ sig) → Buf (Elt Ideal) ℓ) (c : Dev nD)

abbrev a : FVec Ideal S4096x1024 .bf16 := m ((c : Thread nD τ).loc main_arg0)
abbrev w : FVec Ideal S1024x1024 .bf16 := m ((c : Thread nD τ).loc main_arg1)

/-- What a point writes at an index of its block. -/
theorem out_apply (x0 : Vec Ideal S512x1024 .bf16) (x1 : Vec Ideal S1024x1024 .bf16) (r : Fin 512) (q : Fin 1024) :
    (k0_pay3 (k0_pay2 (k0_pay1 (F := Ideal)) x0 x1) : FVec Ideal S512x1024 .f32) (ix2 r q) = ∑ k : Fin 1024, (x0 (ix2 r k) : EReal) * x1 (ix2 k q) := by
  pointwise [k0_pay3, k0_pay2, k0_pay1]

omit c in
/-- The blocks a point reads and writes. -/
theorem idx : ∀ t : Fin cfg0.N, win0_0.index t = ![0, t.val] ∧ win0_1.index t = ![0, 0] ∧ win0_2.index t = ![t.val, 0] :=
  (by decide +kernel : ∀ t : Fin grid0.N, _)

theorem row_lt (t : Fin cfg0.N) (r : Fin 512) : 512 * t.val + r.val < 4096 := by
  have := lt_of_lt_of_eq t.isLt (show cfg0.N = 8 from N_0); omega

theorem V_rows : V m c main_v0 = (shapeCast S512x8192 (a m c) shapeCasts_S4096x1024_S512x8192 : FVec Ideal S512x8192 .bf16) := by
  unfold V
  (simp only [hostOps0]; after_reads_simp) <;> rfl

theorem seg_lt (t : Fin cfg0.N) (r : Fin 512) : 8 * r.val + t.val < 4096 := by
  have := lt_of_lt_of_eq t.isLt (show cfg0.N = 8 from N_0); omega

/-- Row `r` of segment `t` is row `8 r + t` of the operand. -/
theorem blk0 (t : Fin cfg0.N) (r : Fin 512) (k : Fin 1024) : iblk m c 0 t (ix2 r k) = a m c (ix2 ⟨8 * r.val + t.val, seg_lt t r⟩ k) := by
  have ht := lt_of_lt_of_eq t.isLt (show cfg0.N = 8 from N_0)
  unfold iblk
  rw [View.read_apply]
  refine (congrFun (V_rows m c) _).trans ?_
  rw [show (((cfg0.win 0).blk t).view).emb (ix2 r k) = ix2 r ⟨1024 * t.val + k.val, by omega⟩ from by blk_ext [(idx t).1]]
  pointwise []
  refine congrArg (a m c) (congrArg₂ ix2 (Fin.ext ?_) rfl)
  dsimp only; omega

theorem blk1 (t : Fin cfg0.N) (k : Fin 1024) (q : Fin 1024) : iblk m c 1 t (ix2 k q) = w m c (ix2 k q) := by
  unfold iblk
  rw [View.read_apply]
  refine (congrFun (V_main_arg1 m c) _).trans ?_
  blk_ext [(idx t).2.1]

end Cert.Kernel33Ideal.Product

namespace Cert.Proof

open Cert.Kernel33Ideal.Product in
/-- The kernel's result is the reference's. -/
theorem algebraic33 : Cert.algebraic_Kernel33Ideal_Reference33Ideal := by
  intro m ρ m' ρ' _ hagree
  refine ⟨fun c => (Cert.Kernel33Ideal.Gen.dats m 0 c).arrAt 2 Cert.Kernel33Ideal.cfg0.N, Cert.Kernel33Ideal.Value.run_blocks m ρ, ?_⟩
  refine (θ_run _ _ _).mono (fun _ h c => ⟨(h c).1.trans ?_, (h c).2⟩) (Cert.Reference33Ideal.Value.run m' ρ')
  obtain ⟨e0, e1⟩ := hagree c
  rw [e0, e1]
  symm
  refine (Cert.Kernel33Ideal.Gen.dats m 0 c).arrAt_eq_of_covers 2 _ (by decide +kernel) fun t hf y => ?_
  blk_simp
  rw [Cert.Kernel33Ideal.Gen.after0_2]
  unfold Cert.Kernel33Ideal.Gen.outsAt0
  frame_out
  obtain ⟨r, q, rfl⟩ : ∃ (r : Fin 512) (q : Fin 1024), y = ix2 r q := ⟨y 0, y 1, eq_ix2 y⟩
  rw [show (Cert.Kernel33Ideal.win0_2.blk t).view.emb (ix2 r q) = ix2 ⟨512 * t.val + r.val, row_lt t r⟩ q from
    by blk_ext [(idx t).2.2]]
  refine (out_apply _ _ _ _).trans ?_
  simp only [blk0, blk1]
  rw [Cert.Segment.eq]
  pointwise []
  refine Finset.sum_congr rfl fun x _ => congrArg₂ (· * ·) (congrArg (a m c) (congrArg₂ ix2 (Fin.ext ?_) rfl)) rfl
  dsimp only
  omega

end Cert.Proof
-- ==== Proof.GluIn.lean ====
/-
  The product of the S5 branch's gate: each point's block of the product is the block of the reference's.
-/
module

public import proofs.«01_k».proof.Defs
public import proofs.«01_k».proof.Proof.Sums
public import proofs.«01_k».proof.Proof.Gen.Kernel34Ideal.Value
public import proofs.«01_k».proof.Proof.Gen.Reference34Ideal.Run
public import Idealize.ShloMosaic.Lib.Pipeline.ValueKit

@[expose] public section

set_option maxRecDepth 16384

noncomputable section

open Idealize.ShloMosaic Idealize.ShloMosaic.TcCoe Idealize.SL.Sem

namespace Cert.Kernel34Ideal.Product

open Cert.Kernel34Ideal Cert.Kernel34Ideal.Gen

variable (m : (ℓ : Loc nD τ sig) → Buf (Elt Ideal) ℓ) (c : Dev nD)

abbrev a : FVec Ideal S4096x1024 .f32 := m ((c : Thread nD τ).loc main_arg0)
abbrev w : FVec Ideal S1024x1024 .bf16 := m ((c : Thread nD τ).loc main_arg1)

/-- What a point writes at an index of its block. -/
theorem out_apply (x0 : Vec Ideal S512x1024 .f32) (x1 : Vec Ideal S1024x1024 .bf16) (r : Fin 512) (q : Fin 1024) :
    (k0_pay3 (k0_pay2 (k0_pay1 (F := Ideal)) x0 x1) : FVec Ideal S512x1024 .f32) (ix2 r q) = ∑ k : Fin 1024, (x0 (ix2 r k) : EReal) * x1 (ix2 k q) := by
  pointwise [k0_pay3, k0_pay2, k0_pay1]

omit c in
/-- The blocks a point reads and writes. -/
theorem idx : ∀ t : Fin cfg0.N, win0_0.index t = ![t.val, 0] ∧ win0_1.index t = ![0, 0] ∧ win0_2.index t = ![t.val, 0] :=
  (by decide +kernel : ∀ t : Fin grid0.N, _)

theorem row_lt (t : Fin cfg0.N) (r : Fin 512) : 512 * t.val + r.val < 4096 := by
  have := lt_of_lt_of_eq t.isLt (show cfg0.N = 8 from N_0); omega

theorem blk0 (t : Fin cfg0.N) (r : Fin 512) (k : Fin 1024) : iblk m c 0 t (ix2 r k) = a m c (ix2 ⟨512 * t.val + r.val, row_lt t r⟩ k) := by
  unfold iblk
  rw [View.read_apply]
  refine (congrFun (V_main_arg0 m c) _).trans ?_
  blk_ext [(idx t).1]

theorem blk1 (t : Fin cfg0.N) (k : Fin 1024) (q : Fin 1024) : iblk m c 1 t (ix2 k q) = w m c (ix2 k q) := by
  unfold iblk
  rw [View.read_apply]
  refine (congrFun (V_main_arg1 m c) _).trans ?_
  blk_ext [(idx t).2.1]

end Cert.Kernel34Ideal.Product

namespace Cert.Proof

open Cert.Kernel34Ideal.Product in
/-- The kernel's result is the reference's. -/
theorem algebraic34 : Cert.algebraic_Kernel34Ideal_Reference34Ideal := by
  intro m ρ m' ρ' _ hagree
  refine ⟨fun c => (Cert.Kernel34Ideal.Gen.dats m 0 c).arrAt 2 Cert.Kernel34Ideal.cfg0.N, Cert.Kernel34Ideal.Value.run_blocks m ρ, ?_⟩
  refine (θ_run _ _ _).mono (fun _ h c => ⟨(h c).1.trans ?_, (h c).2⟩) (Cert.Reference34Ideal.Value.run m' ρ')
  obtain ⟨e0, e1⟩ := hagree c
  rw [e0, e1]
  symm
  refine (Cert.Kernel34Ideal.Gen.dats m 0 c).arrAt_eq_of_covers 2 _ (by decide +kernel) fun t hf y => ?_
  blk_simp
  rw [Cert.Kernel34Ideal.Gen.after0_2]
  unfold Cert.Kernel34Ideal.Gen.outsAt0
  frame_out
  obtain ⟨r, q, rfl⟩ : ∃ (r : Fin 512) (q : Fin 1024), y = ix2 r q := ⟨y 0, y 1, eq_ix2 y⟩
  rw [show ((View.whole Cert.Kernel34Ideal.main_v0).slice (Cert.Kernel34Ideal.win0_2.rect t)).emb (ix2 r q) = ix2 ⟨512 * t.val + r.val, row_lt t r⟩ q from
    by blk_ext [(idx t).2.2]]
  refine (out_apply _ _ _ _).trans ?_
  simp only [blk0, blk1]
  pointwise []

end Cert.Proof
-- ==== Proof.InDt.lean ====
/-
  The time step's rows of the input projection: each point's block of the product is the block of the reference's.
-/
module

public import proofs.«01_k».proof.Defs
public import proofs.«01_k».proof.Proof.Sums
public import proofs.«01_k».proof.Proof.Gen.Kernel35Ideal.Value
public import proofs.«01_k».proof.Proof.Gen.Reference35Ideal.Run
public import Idealize.ShloMosaic.Lib.Pipeline.ValueKit

@[expose] public section

set_option maxRecDepth 16384

noncomputable section

open Idealize.ShloMosaic Idealize.ShloMosaic.TcCoe Idealize.SL.Sem

namespace Cert.Kernel35Ideal.Product

open Cert.Kernel35Ideal Cert.Kernel35Ideal.Gen

variable (m : (ℓ : Loc nD τ sig) → Buf (Elt Ideal) ℓ) (c : Dev nD)

abbrev a : FVec Ideal S4096x1024 .bf16 := m ((c : Thread nD τ).loc main_arg0)
abbrev w : FVec Ideal S1024x128 .bf16 := m ((c : Thread nD τ).loc main_arg1)

/-- What a point writes at an index of its block. -/
theorem out_apply (x0 : Vec Ideal S512x1024 .bf16) (x1 : Vec Ideal S1024x128 .bf16) (r : Fin 512) (q : Fin 128) :
    (k0_pay3 (k0_pay2 (k0_pay1 (F := Ideal)) x0 x1) : FVec Ideal S512x128 .f32) (ix2 r q) = ∑ k : Fin 1024, (x0 (ix2 r k) : EReal) * x1 (ix2 k q) := by
  pointwise [k0_pay3, k0_pay2, k0_pay1]

omit c in
/-- The blocks a point reads and writes. -/
theorem idx : ∀ t : Fin cfg0.N, win0_0.index t = ![t.val, 0] ∧ win0_1.index t = ![0, 0] ∧ win0_2.index t = ![t.val, 0] :=
  (by decide +kernel : ∀ t : Fin grid0.N, _)

theorem row_lt (t : Fin cfg0.N) (r : Fin 512) : 512 * t.val + r.val < 4096 := by
  have := lt_of_lt_of_eq t.isLt (show cfg0.N = 8 from N_0); omega

theorem blk0 (t : Fin cfg0.N) (r : Fin 512) (k : Fin 1024) : iblk m c 0 t (ix2 r k) = a m c (ix2 ⟨512 * t.val + r.val, row_lt t r⟩ k) := by
  unfold iblk
  rw [View.read_apply]
  refine (congrFun (V_main_arg0 m c) _).trans ?_
  blk_ext [(idx t).1]

theorem blk1 (t : Fin cfg0.N) (k : Fin 1024) (q : Fin 128) : iblk m c 1 t (ix2 k q) = w m c (ix2 k q) := by
  unfold iblk
  rw [View.read_apply]
  refine (congrFun (V_main_arg1 m c) _).trans ?_
  blk_ext [(idx t).2.1]

end Cert.Kernel35Ideal.Product

namespace Cert.Proof

open Cert.Kernel35Ideal.Product in
/-- The kernel's result is the reference's. -/
theorem algebraic35 : Cert.algebraic_Kernel35Ideal_Reference35Ideal := by
  intro m ρ m' ρ' _ hagree
  refine ⟨fun c => (Cert.Kernel35Ideal.Gen.dats m 0 c).arrAt 2 Cert.Kernel35Ideal.cfg0.N, Cert.Kernel35Ideal.Value.run_blocks m ρ, ?_⟩
  refine (θ_run _ _ _).mono (fun _ h c => ⟨(h c).1.trans ?_, (h c).2⟩) (Cert.Reference35Ideal.Value.run m' ρ')
  obtain ⟨e0, e1⟩ := hagree c
  rw [e0, e1]
  symm
  refine (Cert.Kernel35Ideal.Gen.dats m 0 c).arrAt_eq_of_covers 2 _ (by decide +kernel) fun t hf y => ?_
  blk_simp
  rw [Cert.Kernel35Ideal.Gen.after0_2]
  unfold Cert.Kernel35Ideal.Gen.outsAt0
  frame_out
  obtain ⟨r, q, rfl⟩ : ∃ (r : Fin 512) (q : Fin 128), y = ix2 r q := ⟨y 0, y 1, eq_ix2 y⟩
  rw [show ((View.whole Cert.Kernel35Ideal.main_v0).slice (Cert.Kernel35Ideal.win0_2.rect t)).emb (ix2 r q) = ix2 ⟨512 * t.val + r.val, row_lt t r⟩ q from
    by blk_ext [(idx t).2.2]]
  refine (out_apply _ _ _ _).trans ?_
  simp only [blk0, blk1]
  pointwise []

end Cert.Proof
-- ==== Proof.Conv.lean ====
/-
  The mixer's causal convolution over the tokens and its activation: each point's block of columns is the block of the
  reference's.
-/
module

public import proofs.«01_k».proof.Defs
public import proofs.«01_k».proof.Proof.Gen.Kernel36Ideal.Value
public import proofs.«01_k».proof.Proof.Gen.Reference36Ideal.Run
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem

namespace Cert.Kernel36Ideal.Conv

open Cert.Kernel36Ideal Cert.Kernel36Ideal.Gen

/-- A column moved `s` rows down, zeros above. -/
def down (x : Fin 4096 → EReal) (s : ℕ) (R : Fin 4096) : EReal :=
  if h : s ≤ R.val then x ⟨R.val - s, by omega⟩ else 0

/-- A column's weighted sum with its copies moved down, before the activation. -/
def pre (x : Fin 4096 → EReal) (w : Fin 4 → EReal) (b : EReal) (R : Fin 4096) : EReal :=
  b + w 0 * down x 3 R + w 1 * down x 2 R + w 2 * down x 1 R + w 3 * x R

/-- A rotated column with the rows that came round set to zero is the column moved down. -/
theorem down_eq (x : Fin 4096 → EReal) (r : Fin 4096) (s : ℕ) (hs : s < 4096) (h : (r.val + 4096 - s) % 4096 < 4096) :
    Scalar.select (IntOp.cmpi .sge (BitVec.ofNat 32 r.val) (BitVec.ofNat 32 s)) (x ⟨(r.val + 4096 - s) % 4096, h⟩) 0 = down x s r := by
  rw [WordCmp.cmpi_sge_ofNat (by have := r.isLt; omega) (by omega)]
  unfold down
  by_cases hr : s ≤ r.val
  · have e : (r.val + 4096 - s) % 4096 = r.val - s := by omega
    simp only [hr, e]
    rfl
  · simp only [hr]
    rfl

/-- The weighted sum with its terms in the reference's order. -/
theorem pre_eq (x : Fin 4096 → EReal) (w : Fin 4 → EReal) (b : EReal) (R : Fin 4096) :
    pre x w b R = w 0 * down x 3 R + w 1 * down x 2 R + w 2 * down x 1 R + w 3 * down x 0 R + b := by
  have e : down x 0 R = x R := by unfold down; simp
  unfold pre
  rw [e, add_comm _ b]
  simp only [add_assoc]

/-- The array with three rows of zeros above it, cut at row `i`, is the array moved `3 - i` rows down. -/
theorem moved (x : FVec Ideal Cert.Reference36Ideal.S4096x4096 .f32) (i : ℕ) (hi : i ≤ 3)
    (hp : Cert.Reference36Ideal.S4096x4096.Pads ![3, 0] ![0, 0] ![0, 0] Cert.Reference36Ideal.S4099x4096) (hn : 0 < Cert.Reference36Ideal.S_.numel)
    (hs : Cert.Reference36Ideal.S4099x4096.Slices ![i, 0] Cert.Reference36Ideal.S4096x4096) :
    (extractStridedSlice Cert.Reference36Ideal.S4096x4096 ![i, 0] (pad Cert.Reference36Ideal.S4099x4096 ![3, 0] ![0, 0] ![0, 0] x
      (sitofp .f32 (constantI Cert.Reference36Ideal.S_ 32 0#32)) hp hn) hs : FVec Ideal Cert.Reference36Ideal.S4096x4096 .f32)
      = fun j => down (fun R => x (ix2 R (j 1))) (3 - i) (j 0) := by
  funext j
  obtain ⟨r, q, rfl⟩ : ∃ (r q : Fin 4096), j = ix2 r q := ⟨j 0, j 1, eq_ix2 j⟩
  refine (extractStridedSlice_apply _ _ _ _ (ix2 ⟨i + r.val, by omega⟩ ⟨q.val, by omega⟩) ?_).trans ?_
  · intro a; fin_cases a
    · rfl
    · exact (Nat.zero_add _).symm
  show _ = down (fun R => x (ix2 R q)) (3 - i) r
  unfold down
  by_cases hr : 3 - i ≤ r.val
  · rw [dif_pos hr]
    refine pad_apply_of_inside _ _ _ _ _ _ _ _ (ix2 ⟨r.val - (3 - i), by omega⟩ q) ?_
    intro a; fin_cases a
    · show i + r.val = 3 + (r.val - (3 - i)) * (0 + 1)
      omega
    · show q.val = 0 + q.val * (0 + 1)
      omega
  · rw [dif_neg hr]
    refine (pad_apply_of_not_inside _ _ _ _ _ _ _ _ 0 ?_).trans (sitofp_zero (φ := .f32))
    intro h
    have h3 : 3 ≤ i + r.val := h.1
    omega

/-- What a point writes at an index of its block. -/
theorem out_apply (x0 : Vec Ideal S4096x256 .f32) (x1 : Vec Ideal S4x256 .f32) (x2 : Vec Ideal S1x256 .f32) (r : Fin 4096) (q : Fin 256) :
    (k0_pay1 x0 x1 x2 : FVec Ideal S4096x256 .f32) (ix2 r q)
      = pre (fun R => x0 (ix2 R q)) (fun i => x1 (ix2 i q)) (x2 (ix2 0 q)) r * Ideal.logistic (pre (fun R => x0 (ix2 R q)) (fun i => x1 (ix2 i q)) (x2 (ix2 0 q)) r) := by
  unfold pre
  rw [← down_eq _ r 1 (by decide) (by omega), ← down_eq _ r 2 (by decide) (by omega), ← down_eq _ r 3 (by decide) (by omega)]
  pointwise [k0_pay1]

/-- The blocks a point reads and writes. -/
theorem idx : ∀ t : Fin cfg0.N, win0_0.index t = ![0, t.val] ∧ win0_1.index t = ![0, t.val] ∧ win0_2.index t = ![0, t.val] ∧ win0_3.index t = ![0, t.val] :=
  (by decide +kernel : ∀ t : Fin grid0.N, _)

theorem col_lt (t : Fin cfg0.N) (q : Fin 256) : 256 * t.val + q.val < 4096 := by
  have := lt_of_lt_of_eq t.isLt (show cfg0.N = 16 from N_0); omega

variable (m : (ℓ : Loc nD τ sig) → Buf (Elt Ideal) ℓ) (c : Dev nD)

theorem blk0 (t : Fin cfg0.N) (q : Fin 256) (R : Fin 4096) : iblk m c 0 t (ix2 R q)
    = (m ((c : Thread nD τ).loc main_arg0) : FVec Ideal S4096x4096 .f32) (ix2 R ⟨256 * t.val + q.val, col_lt t q⟩) := by
  unfold iblk
  rw [View.read_apply]
  refine (congrFun (V_main_arg0 m c) _).trans ?_
  blk_ext [(idx t).1]

theorem blk1 (t : Fin cfg0.N) (q : Fin 256) (i : Fin 4) : iblk m c 1 t (ix2 i q)
    = (m ((c : Thread nD τ).loc main_arg1) : FVec Ideal S4x4096 .f32) (ix2 i ⟨256 * t.val + q.val, col_lt t q⟩) := by
  unfold iblk
  rw [View.read_apply]
  refine (congrFun (V_main_arg1 m c) _).trans ?_
  blk_ext [(idx t).2.1]

theorem blk2 (t : Fin cfg0.N) (q : Fin 256) : iblk m c 2 t (ix2 0 q)
    = (m ((c : Thread nD τ).loc main_arg2) : FVec Ideal S1x4096 .f32) (ix2 0 ⟨256 * t.val + q.val, col_lt t q⟩) := by
  unfold iblk
  rw [View.read_apply]
  refine (congrFun (V_main_arg2 m c) _).trans ?_
  blk_ext [(idx t).2.2.1]

end Cert.Kernel36Ideal.Conv

namespace Cert.Proof

open Cert.Kernel36Ideal.Conv in
/-- The kernel's result is the reference's. -/
theorem algebraic36 : Cert.algebraic_Kernel36Ideal_Reference36Ideal := by
  intro m ρ m' ρ' _ hagree
  refine ⟨fun c => (Cert.Kernel36Ideal.Gen.dats m 0 c).arrAt 3 Cert.Kernel36Ideal.cfg0.N, Cert.Kernel36Ideal.Value.run_blocks m ρ, ?_⟩
  refine (θ_run _ _ _).mono (fun _ h c => ⟨(h c).1.trans ?_, (h c).2⟩) (Cert.Reference36Ideal.Value.run m' ρ')
  clear h
  obtain ⟨e0, e1, e2⟩ := hagree c
  symm
  refine (Cert.Kernel36Ideal.Gen.dats m 0 c).arrAt_eq_of_covers 3 _ (by decide +kernel) fun t hf y => ?_
  blk_simp
  rw [Cert.Kernel36Ideal.Gen.after0_3]
  frame_out
  obtain ⟨r, q, rfl⟩ : ∃ (r : Fin 4096) (q : Fin 256), y = ix2 r q := ⟨y 0, y 1, eq_ix2 y⟩
  rw [show ((View.whole Cert.Kernel36Ideal.main_v0).slice (Cert.Kernel36Ideal.win0_3.rect t)).emb (ix2 r q) = ix2 r ⟨256 * t.val + q.val, col_lt t q⟩ from
    by blk_ext [(idx t).2.2.2]]
  refine (out_apply _ _ _ r q).trans ?_
  simp only [blk0, blk1, blk2, pre_eq]
  unfold Cert.Reference36Ideal.Value.res_main_v32
  rw [e0, e1, e2, moved _ 0 (by decide), moved _ 1 (by decide), moved _ 2 (by decide), moved _ 3 (by decide)]
  pointwise [Ideal.logistic]

end Cert.Proof
-- ==== Proof.NormF.lean ====
/-
  The norm in front of the mixer: each point's block of the normed rows is the block of the reference's.
-/
module

public import proofs.«01_k».proof.Defs
public import proofs.«01_k».proof.Proof.Gen.Kernel37Ideal.Value
public import proofs.«01_k».proof.Proof.Gen.Reference37Ideal.Run
public import Idealize.ShloMosaic.Lib.Pipeline.ValueKit

@[expose] public section

set_option maxRecDepth 16384

noncomputable section

open Idealize.ShloMosaic Idealize.ShloMosaic.TcCoe Idealize.SL.Sem

namespace Cert.Kernel37Ideal.Rows

open Cert.Kernel37Ideal Cert.Kernel37Ideal.Gen

/-- The blocks a point reads and writes. -/
theorem idx : ∀ t : Fin cfg0.N, win0_0.index t = ![t.val, 0] ∧ win0_1.index t = ![0, 0] ∧ win0_2.index t = ![t.val, 0] :=
  (by decide +kernel : ∀ t : Fin grid0.N, _)

theorem row_lt (t : Fin cfg0.N) (r : Fin 1024) : 1024 * t.val + r.val < 4096 := by
  have := lt_of_lt_of_eq t.isLt (show cfg0.N = 4 from N_0); omega

end Cert.Kernel37Ideal.Rows

namespace Cert.Proof

open Cert.Kernel37Ideal.Rows in
/-- The kernel's result is the reference's. -/
theorem algebraic37 : Cert.algebraic_Kernel37Ideal_Reference37Ideal := by
  intro m ρ m' ρ' _ hagree
  refine ⟨fun c => (Cert.Kernel37Ideal.Gen.dats m 0 c).arrAt 2 Cert.Kernel37Ideal.cfg0.N, Cert.Kernel37Ideal.Value.run_blocks m ρ, ?_⟩
  refine (θ_run _ _ _).mono (fun _ h c => ⟨(h c).1.trans ?_, (h c).2⟩) (Cert.Reference37Ideal.Value.run m' ρ')
  clear h
  obtain ⟨e0, e1⟩ := hagree c
  rw [e0, e1]
  symm
  refine (Cert.Kernel37Ideal.Gen.dats m 0 c).arrAt_eq_of_covers 2 _ (by decide +kernel) fun t hf y => ?_
  blk_simp
  rw [Cert.Kernel37Ideal.Gen.after0_2]
  frame_out
  obtain ⟨r, q, rfl⟩ : ∃ (r : Fin 1024) (q : Fin 1024), y = ix2 r q := ⟨y 0, y 1, eq_ix2 y⟩
  rw [show ((View.whole Cert.Kernel37Ideal.main_v0).slice (Cert.Kernel37Ideal.win0_2.rect t)).emb (ix2 r q) = ix2 ⟨1024 * t.val + r.val, row_lt t r⟩ q from
    by blk_ext [(idx t).2.2]]
  pointwise [Cert.Kernel37Ideal.Gen.k0_pay1]
  blk_point [Cert.Kernel37Ideal.Gen.iblk, Cert.Kernel37Ideal.Gen.V, idx t]

end Cert.Proof
-- ==== Proof.ActF.lean ====
/-
  The feed-forward network's activation: each point's block is the block of the reference's.
-/
module

public import proofs.«01_k».proof.Defs
public import proofs.«01_k».proof.Proof.Gen.Kernel38Ideal.Value
public import proofs.«01_k».proof.Proof.Gen.Reference38Ideal.Run
public import Idealize.ShloMosaic.Lib.Pipeline.ValueKit

@[expose] public section

set_option maxRecDepth 16384

noncomputable section

open Idealize.ShloMosaic Idealize.ShloMosaic.TcCoe Idealize.SL.Sem

namespace Cert.Kernel38Ideal.Rows

open Cert.Kernel38Ideal Cert.Kernel38Ideal.Gen

/-- The blocks a point reads and writes. -/
theorem idx : ∀ t : Fin cfg0.N, win0_0.index t = ![t.val, 0] ∧ win0_1.index t = ![t.val, 0] :=
  (by decide +kernel : ∀ t : Fin grid0.N, _)

theorem row_lt (t : Fin cfg0.N) (r : Fin 256) : 256 * t.val + r.val < 4096 := by
  have := lt_of_lt_of_eq t.isLt (show cfg0.N = 16 from N_0); omega

end Cert.Kernel38Ideal.Rows

namespace Cert.Proof

open Cert.Kernel38Ideal.Rows in
/-- The kernel's result is the reference's. -/
theorem algebraic38 : Cert.algebraic_Kernel38Ideal_Reference38Ideal := by
  intro m ρ m' ρ' _ hagree
  refine ⟨fun c => (Cert.Kernel38Ideal.Gen.dats m 0 c).arrAt 1 Cert.Kernel38Ideal.cfg0.N, Cert.Kernel38Ideal.Value.run_blocks m ρ, ?_⟩
  refine (θ_run _ _ _).mono (fun _ h c => ⟨(h c).1.trans ?_, (h c).2⟩) (Cert.Reference38Ideal.Value.run m' ρ')
  clear h
  obtain e0 := hagree c
  rw [e0]
  symm
  refine (Cert.Kernel38Ideal.Gen.dats m 0 c).arrAt_eq_of_covers 1 _ (by decide +kernel) fun t hf y => ?_
  blk_simp
  rw [Cert.Kernel38Ideal.Gen.after0_1]
  frame_out
  obtain ⟨r, q, rfl⟩ : ∃ (r : Fin 256) (q : Fin 2816), y = ix2 r q := ⟨y 0, y 1, eq_ix2 y⟩
  rw [show ((View.whole Cert.Kernel38Ideal.main_v0).slice (Cert.Kernel38Ideal.win0_1.rect t)).emb (ix2 r q) = ix2 ⟨256 * t.val + r.val, row_lt t r⟩ q from
    by blk_ext [(idx t).2]]
  pointwise [Cert.Kernel38Ideal.Gen.k0_pay1]
  simp only [Ideal.logistic]
  blk_point [Cert.Kernel38Ideal.Gen.iblk, Cert.Kernel38Ideal.Gen.V, idx t]

end Cert.Proof
-- ==== Proof.GeluF.lean ====
/-
  The S5 branch's activation: each point's block is the block of the reference's.
-/
module

public import proofs.«01_k».proof.Defs
public import proofs.«01_k».proof.Proof.Gen.Kernel39Ideal.Value
public import proofs.«01_k».proof.Proof.Gen.Reference39Ideal.Run
public import Idealize.ShloMosaic.Lib.Pipeline.ValueKit

@[expose] public section

set_option maxRecDepth 16384

noncomputable section

open Idealize.ShloMosaic Idealize.ShloMosaic.TcCoe Idealize.SL.Sem

namespace Cert.Kernel39Ideal.Rows

open Cert.Kernel39Ideal Cert.Kernel39Ideal.Gen

/-- The blocks a point reads and writes. -/
theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

theorem row_lt (t : Fin cfg0.N) (r : Fin 1024) : 1024 * t.val + r.val < 4096 := by
  have := lt_of_lt_of_eq t.isLt (show cfg0.N = 4 from N_0); omega

end Cert.Kernel39Ideal.Rows

namespace Cert.Proof

open Cert.Kernel39Ideal.Rows in
/-- The kernel's result is the reference's. -/
theorem algebraic39 : Cert.algebraic_Kernel39Ideal_Reference39Ideal := by
  intro m ρ m' ρ' _ hagree
  refine ⟨fun c => (Cert.Kernel39Ideal.Gen.dats m 0 c).arrAt 3 Cert.Kernel39Ideal.cfg0.N, Cert.Kernel39Ideal.Value.run_blocks m ρ, ?_⟩
  refine (θ_run _ _ _).mono (fun _ h c => ⟨(h c).1.trans ?_, (h c).2⟩) (Cert.Reference39Ideal.Value.run m' ρ')
  clear h
  obtain ⟨e0, e1, e2⟩ := hagree c
  rw [e0, e1, e2]
  symm
  refine (Cert.Kernel39Ideal.Gen.dats m 0 c).arrAt_eq_of_covers 3 _ (by decide +kernel) fun t hf y => ?_
  blk_simp
  rw [Cert.Kernel39Ideal.Gen.after0_3]
  frame_out
  obtain ⟨r, q, rfl⟩ : ∃ (r : Fin 1024) (q : Fin 1024), y = ix2 r q := ⟨y 0, y 1, eq_ix2 y⟩
  rw [show ((View.whole Cert.Kernel39Ideal.main_v0).slice (Cert.Kernel39Ideal.win0_3.rect t)).emb (ix2 r q) = ix2 ⟨1024 * t.val + r.val, row_lt t r⟩ q from
    by blk_ext [(idx t).2.2.2]]
  pointwise [Cert.Kernel39Ideal.Gen.k0_pay1]
  blk_point [Cert.Kernel39Ideal.Gen.iblk, Cert.Kernel39Ideal.Gen.V, idx t]

end Cert.Proof
-- ==== Proof.GluF.lean ====
/-
  The S5 branch's gate: each point's block of the gated rows is the block of the reference's.
-/
module

public import proofs.«01_k».proof.Defs
public import proofs.«01_k».proof.Proof.Gen.Kernel40Ideal.Value
public import proofs.«01_k».proof.Proof.Gen.Reference40Ideal.Run
public import Idealize.ShloMosaic.Lib.Pipeline.ValueKit

@[expose] public section

set_option maxRecDepth 16384

noncomputable section

open Idealize.ShloMosaic Idealize.ShloMosaic.TcCoe Idealize.SL.Sem

namespace Cert.Kernel40Ideal.Rows

open Cert.Kernel40Ideal Cert.Kernel40Ideal.Gen

/-- The blocks a point reads and writes. -/
theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

theorem row_lt (t : Fin cfg0.N) (r : Fin 1024) : 1024 * t.val + r.val < 4096 := by
  have := lt_of_lt_of_eq t.isLt (show cfg0.N = 4 from N_0); omega

end Cert.Kernel40Ideal.Rows

namespace Cert.Proof

open Cert.Kernel40Ideal.Rows in
/-- The kernel's result is the reference's. -/
theorem algebraic40 : Cert.algebraic_Kernel40Ideal_Reference40Ideal := by
  intro m ρ m' ρ' _ hagree
  refine ⟨fun c => (Cert.Kernel40Ideal.Gen.dats m 0 c).arrAt 3 Cert.Kernel40Ideal.cfg0.N, Cert.Kernel40Ideal.Value.run_blocks m ρ, ?_⟩
  refine (θ_run _ _ _).mono (fun _ h c => ⟨(h c).1.trans ?_, (h c).2⟩) (Cert.Reference40Ideal.Value.run m' ρ')
  clear h
  obtain ⟨e0, e1, e2⟩ := hagree c
  rw [e0, e1, e2]
  symm
  refine (Cert.Kernel40Ideal.Gen.dats m 0 c).arrAt_eq_of_covers 3 _ (by decide +kernel) fun t hf y => ?_
  blk_simp
  rw [Cert.Kernel40Ideal.Gen.after0_3]
  frame_out
  obtain ⟨r, q, rfl⟩ : ∃ (r : Fin 1024) (q : Fin 1024), y = ix2 r q := ⟨y 0, y 1, eq_ix2 y⟩
  rw [show ((View.whole Cert.Kernel40Ideal.main_v0).slice (Cert.Kernel40Ideal.win0_3.rect t)).emb (ix2 r q) = ix2 ⟨1024 * t.val + r.val, row_lt t r⟩ q from
    by blk_ext [(idx t).2.2.2]]
  pointwise [Cert.Kernel40Ideal.Gen.k0_pay1]
  simp only [Ideal.logistic]
  blk_point [Cert.Kernel40Ideal.Gen.iblk, Cert.Kernel40Ideal.Gen.V, idx t]

end Cert.Proof
-- ==== Proof.MergeF.lean ====
/-
  The merge of the mixer's two branches: each point's block is the block of the reference's.
-/
module

public import proofs.«01_k».proof.Defs
public import proofs.«01_k».proof.Proof.Gen.Kernel41Ideal.Value
public import proofs.«01_k».proof.Proof.Gen.Reference41Ideal.Run
public import Idealize.ShloMosaic.Lib.Pipeline.ValueKit

@[expose] public section

set_option maxRecDepth 16384

noncomputable section

open Idealize.ShloMosaic Idealize.ShloMosaic.TcCoe Idealize.SL.Sem

namespace Cert.Kernel41Ideal.Rows

open Cert.Kernel41Ideal Cert.Kernel41Ideal.Gen

/-- The blocks a point reads and writes. -/
theorem idx : ∀ t : Fin cfg0.N, win0_0.index t = ![t.val, 0] ∧ win0_1.index t = ![t.val, 0] ∧ win0_2.index t = ![t.val, 0] ∧ win0_3.index t = ![0, 0] ∧ win0_4.index t = ![t.val, 0] :=
  (by decide +kernel : ∀ t : Fin grid0.N, _)

theorem row_lt (t : Fin cfg0.N) (r : Fin 512) : 512 * t.val + r.val < 4096 := by
  have := lt_of_lt_of_eq t.isLt (show cfg0.N = 8 from N_0); omega

end Cert.Kernel41Ideal.Rows

namespace Cert.Proof

open Cert.Kernel41Ideal.Rows in
/-- The kernel's result is the reference's. -/
theorem algebraic41 : Cert.algebraic_Kernel41Ideal_Reference41Ideal := by
  intro m ρ m' ρ' _ hagree
  refine ⟨fun c => (Cert.Kernel41Ideal.Gen.dats m 0 c).arrAt 4 Cert.Kernel41Ideal.cfg0.N, Cert.Kernel41Ideal.Value.run_blocks m ρ, ?_⟩
  refine (θ_run _ _ _).mono (fun _ h c => ⟨(h c).1.trans ?_, (h c).2⟩) (Cert.Reference41Ideal.Value.run m' ρ')
  clear h
  obtain ⟨e0, e1, e2, e3⟩ := hagree c
  rw [e0, e1, e2, e3]
  symm
  refine (Cert.Kernel41Ideal.Gen.dats m 0 c).arrAt_eq_of_covers 4 _ (by decide +kernel) fun t hf y => ?_
  blk_simp
  rw [Cert.Kernel41Ideal.Gen.after0_4]
  frame_out
  obtain ⟨r, q, rfl⟩ : ∃ (r : Fin 512) (q : Fin 1024), y = ix2 r q := ⟨y 0, y 1, eq_ix2 y⟩
  rw [show ((View.whole Cert.Kernel41Ideal.main_v0).slice (Cert.Kernel41Ideal.win0_4.rect t)).emb (ix2 r q) = ix2 ⟨512 * t.val + r.val, row_lt t r⟩ q from
    by blk_ext [(idx t).2.2.2.2]]
  pointwise [Cert.Kernel41Ideal.Gen.k0_pay1]
  simp only [Ideal.logistic]
  blk_point [Cert.Kernel41Ideal.Gen.iblk, Cert.Kernel41Ideal.Gen.V, idx t]

end Cert.Proof
-- ==== Proof.GatedF.lean ====
/-
  The gated norm of the SSD branch: each point's block of the gated, normed rows is the block of the reference's.
-/
module

public import proofs.«01_k».proof.Defs
public import proofs.«01_k».proof.Proof.Gen.Kernel42Ideal.Value
public import proofs.«01_k».proof.Proof.Gen.Reference42Ideal.Run
public import Idealize.ShloMosaic.Lib.Pipeline.ValueKit

@[expose] public section

set_option maxRecDepth 16384

noncomputable section

open Idealize.ShloMosaic Idealize.ShloMosaic.TcCoe Idealize.SL.Sem

namespace Cert.Kernel42Ideal.Rows

open Cert.Kernel42Ideal Cert.Kernel42Ideal.Gen

/-- The blocks a point reads and writes. -/
theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

theorem row_lt (t : Fin cfg0.N) (r : Fin 512) : 512 * t.val + r.val < 4096 := by
  have := lt_of_lt_of_eq t.isLt (show cfg0.N = 8 from N_0); omega

end Cert.Kernel42Ideal.Rows

namespace Cert.Proof

open Cert.Kernel42Ideal.Rows in
/-- The kernel's result is the reference's. -/
theorem algebraic42 : Cert.algebraic_Kernel42Ideal_Reference42Ideal := by
  intro m ρ m' ρ' _ hagree
  refine ⟨fun c => (Cert.Kernel42Ideal.Gen.dats m 0 c).arrAt 3 Cert.Kernel42Ideal.cfg0.N, Cert.Kernel42Ideal.Value.run_blocks m ρ, ?_⟩
  refine (θ_run _ _ _).mono (fun _ h c => ⟨(h c).1.trans ?_, (h c).2⟩) (Cert.Reference42Ideal.Value.run m' ρ')
  clear h
  obtain ⟨e0, e1, e2⟩ := hagree c
  rw [e0, e1, e2]
  symm
  refine (Cert.Kernel42Ideal.Gen.dats m 0 c).arrAt_eq_of_covers 3 _ (by decide +kernel) fun t hf y => ?_
  blk_simp
  rw [Cert.Kernel42Ideal.Gen.after0_3]
  frame_out
  obtain ⟨r, q, rfl⟩ : ∃ (r : Fin 512) (q : Fin 2048), y = ix2 r q := ⟨y 0, y 1, eq_ix2 y⟩
  rw [show ((View.whole Cert.Kernel42Ideal.main_v0).slice (Cert.Kernel42Ideal.win0_3.rect t)).emb (ix2 r q) = ix2 ⟨512 * t.val + r.val, row_lt t r⟩ q from
    by blk_ext [(idx t).2.2.2]]
  pointwise [Cert.Kernel42Ideal.Gen.k0_pay1]
  simp only [Ideal.logistic]
  blk_point [Cert.Kernel42Ideal.Gen.iblk, Cert.Kernel42Ideal.Gen.V, idx t]

end Cert.Proof
-- ==== Proof.SumSmall.lean ====
/-
  The sum of the packed small gradients over the devices' copies: each point's block of the sum is the block of the reference's.
-/
module

public import proofs.«01_k».proof.Defs
public import proofs.«01_k».proof.Proof.Gen.Kernel43Ideal.Value
public import proofs.«01_k».proof.Proof.Gen.Reference43Ideal.Run
public import Idealize.ShloMosaic.Lib.Pipeline.ValueKit

@[expose] public section

set_option maxRecDepth 16384

noncomputable section

open Idealize.ShloMosaic Idealize.ShloMosaic.TcCoe Idealize.SL.Sem

namespace Cert.Kernel43Ideal.SumCopies

open Cert.Kernel43Ideal Cert.Kernel43Ideal.Gen

/-- The blocks a point reads and writes. -/
theorem idx : ∀ t : Fin cfg0.N, win0_0.index t = ![0, t.val, 0] ∧ win0_1.index t = ![t.val, 0] :=
  (by decide +kernel : ∀ t : Fin grid0.N, _)

theorem row_lt (t : Fin cfg0.N) (r : Fin 752) : 752 * t.val + r.val < 2256 := by
  have := lt_of_lt_of_eq t.isLt (show cfg0.N = 3 from N_0); omega

end Cert.Kernel43Ideal.SumCopies

namespace Cert.Proof

open Cert.Kernel43Ideal.SumCopies in
/-- The kernel's result is the reference's. -/
theorem algebraic43 : Cert.algebraic_Kernel43Ideal_Reference43Ideal := by
  intro m ρ m' ρ' _ hagree
  refine ⟨fun c => (Cert.Kernel43Ideal.Gen.dats m 0 c).arrAt 1 Cert.Kernel43Ideal.cfg0.N, Cert.Kernel43Ideal.Value.run_blocks m ρ, ?_⟩
  refine (θ_run _ _ _).mono (fun _ h c => ⟨(h c).1.trans ?_, (h c).2⟩) (Cert.Reference43Ideal.Value.run m' ρ')
  clear h
  rw [hagree c]
  symm
  refine (Cert.Kernel43Ideal.Gen.dats m 0 c).arrAt_eq_of_covers 1 _ (by decide +kernel) fun t hf y => ?_
  blk_simp
  rw [Cert.Kernel43Ideal.Gen.after0_1]
  frame_out
  obtain ⟨r, q, rfl⟩ : ∃ (r : Fin 752) (q : Fin 128), y = ix2 r q := ⟨y 0, y 1, eq_ix2 y⟩
  rw [show ((View.whole Cert.Kernel43Ideal.main_v0).slice (Cert.Kernel43Ideal.win0_1.rect t)).emb (ix2 r q) = ix2 ⟨752 * t.val + r.val, row_lt t r⟩ q from
    by blk_ext [(idx t).2]]
  pointwise [Cert.Kernel43Ideal.Gen.k0_pay1]
  rw [Fin.sum_univ_eight]
  blk_point [Cert.Kernel43Ideal.Gen.iblk, Cert.Kernel43Ideal.Gen.V, idx t]

end Cert.Proof
-- ==== Proof.Adam.lean ====
/-
  The optimiser's step at one element, and its two bias corrections: a product by the reciprocal of a constant is the
  quotient by that constant.
-/
module

public import Idealize.ShloMosaic.Lib.Pointwise
public import Idealize.ShloMosaic.Lib.IdealHost

@[expose] public section

noncomputable section

open Idealize.ShloMosaic

namespace Cert.Adam

/-- The reciprocal of the first moment's correction, -/
def inv1 : EReal := (((5463681 / 8388608)⁻¹ : ℝ) : EReal)

/-- and of the second's. -/
def inv2 : EReal := (((2672307 / 268435456)⁻¹ : ℝ) : EReal)

/-- The first moment from the old one `m` and the gradient `g`, -/
def moment1 (m g : EReal) : EReal := Ideal.ofBits .f32 0x3F666666#32 * m + Ideal.ofBits .f32 0x3DCCCCCD#32 * g

/-- the second, -/
def moment2 (v g : EReal) : EReal := Ideal.ofBits .f32 0x3F7FBE77#32 * v + Ideal.ofBits .f32 0x3A83126F#32 * (g * g)

/-- and the change of the weight `w`, from the new moments. -/
def delta (w m v : EReal) : EReal :=
  Ideal.ofBits .f32 0xBA83126F#32
    * (Ideal.div (m * inv1) (Ideal.sqrt (v * inv2) + Ideal.ofBits .f32 0x322BCC77#32) + Ideal.ofBits .f32 0x3C23D70A#32 * w)

theorem bits1 : Ideal.ofBits .f32 0x3F26BD02#32 = ((5463681 / 8388608 : ℝ) : EReal) := by
  simp [Ideal.ofBits, Ideal.ieee, -EReal.coe_mul]; norm_num

theorem bits2 : Ideal.ofBits .f32 0x3C231ACC#32 = ((2672307 / 268435456 : ℝ) : EReal) := by
  simp [Ideal.ofBits, Ideal.ieee, -EReal.coe_mul]; norm_num

/-- The quotient by the first correction is the product by its reciprocal, -/
theorem div1 (x : EReal) : Ideal.div x (Ideal.ofBits .f32 0x3F26BD02#32) = x * inv1 := by
  rw [bits1, Ideal.div_coe (by norm_num), one_div]; rfl

/-- and by the second. -/
theorem div2 (x : EReal) : Ideal.div x (Ideal.ofBits .f32 0x3C231ACC#32) = x * inv2 := by
  rw [bits2, Ideal.div_coe (by norm_num), one_div]; rfl

end Cert.Adam

end
-- ==== Proof.AdamGate.lean ====
/-
  The optimiser's step of a gate or up weight: each point's blocks of the summed gradient, of the weight's change and of the new
  moments are the blocks of the reference's.
-/
module

public import proofs.«01_k».proof.Defs
public import proofs.«01_k».proof.Proof.Adam
public import proofs.«01_k».proof.Proof.Gen.Kernel44Ideal.Value
public import proofs.«01_k».proof.Proof.Gen.Reference44Ideal.Run
public import Idealize.ShloMosaic.Lib.Pipeline.ValueKit

@[expose] public section

set_option maxRecDepth 16384

noncomputable section

open Idealize.ShloMosaic Idealize.ShloMosaic.TcCoe Idealize.SL.Sem

namespace Cert.Kernel44Ideal.Step

open Cert.Kernel44Ideal Cert.Kernel44Ideal.Gen

/-- The two named constants. -/
theorem named1 : Named.named (F := Ideal) κ "c1" (φ := .f32) 0x3FC48605#32 = Cert.Adam.inv1 :=
  IdealRules.named_const.ideal_named_scalar _ _ _ _ rfl

theorem named2 : Named.named (F := Ideal) κ "c2" (φ := .f32) 0x42C8E6D3#32 = Cert.Adam.inv2 :=
  IdealRules.named_const.ideal_named_scalar _ _ _ _ rfl

section Payloads

variable (y0 y1 y2 y3 : Vec Ideal S1x512x352 .bf16) (w x : Vec Ideal S512x352 .f32) (v : FVec Ideal S512x352 .f32) (r : Fin 512) (q : Fin 352)

/-- What a point writes at an index of its block: the gradient's sum, -/
theorem grad_apply : (k0_pay2 y0 y1 y2 y3 : FVec Ideal S512x352 .f32) (ix2 r q)
    = (y0 (ix3 0 r q) : EReal) + (y1 (ix3 0 r q) + y2 (ix3 0 r q) + y3 (ix3 0 r q)) := by
  have e : (k0_pay2 y0 y1 y2 y3 : FVec Ideal S512x352 .f32) (ix2 r q)
      = (y0 (ix3 0 r q) : EReal) + y1 (ix3 0 r q) + y2 (ix3 0 r q) + y3 (ix3 0 r q) := by
    pointwise [k0_pay2]
  rw [e]
  simp only [add_assoc]

/-- the moments, -/
theorem m_apply : (k0_pay3 y0 y1 y2 y3 x : FVec Ideal S512x352 .f32) (ix2 r q)
    = Cert.Adam.moment1 (x (ix2 r q)) ((k0_pay2 y0 y1 y2 y3 : FVec Ideal S512x352 .f32) (ix2 r q)) := by
  unfold Cert.Adam.moment1
  pointwise [k0_pay3]

theorem v_apply : (k0_pay4 y0 y1 y2 y3 x : FVec Ideal S512x352 .f32) (ix2 r q)
    = Cert.Adam.moment2 (x (ix2 r q)) ((k0_pay2 y0 y1 y2 y3 : FVec Ideal S512x352 .f32) (ix2 r q)) := by
  unfold Cert.Adam.moment2
  pointwise [k0_pay4]

/-- and the weight's change. -/
theorem delta_apply : (k0_pay1 w v (k0_pay5 y0 y1 y2 y3 x) (Named.named κ "c2" 0x42C8E6D3#32) : FVec Ideal S512x352 .f32) (ix2 r q)
    = Cert.Adam.delta (w (ix2 r q)) ((k0_pay3 y0 y1 y2 y3 x : FVec Ideal S512x352 .f32) (ix2 r q)) (v (ix2 r q)) := by
  unfold Cert.Adam.delta
  pointwise [k0_pay1, k0_pay5, named1, named2]

end Payloads

variable (m : (ℓ : Loc nD τ sig) → Buf (Elt Ideal) ℓ) (c : Dev nD)

/-- The blocks a point reads and writes. -/
theorem idx : ∀ t : Fin cfg0.N, win0_0.index t = ![0, t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

theorem row_lt (t : Fin cfg0.N) (r : Fin 512) : 512 * t.val + r.val < 1024 := by
  have := lt_of_lt_of_eq t.isLt (show cfg0.N = 2 from N_0); omega

end Cert.Kernel44Ideal.Step

namespace Cert.Proof

theorem preserves44 : Cert.preserves_Kernel44_Kernel44Ideal :=
  ⟨IdealRules.named_const.statement _ _ _ _ _ rfl, IdealRules.named_const.statement _ _ _ _ _ rfl⟩

open Cert.Kernel44Ideal.Step in
/-- The kernel's results are the reference's. -/
theorem algebraic44 : Cert.algebraic_Kernel44Ideal_Reference44Ideal := by
  intro m ρ m' ρ' _ hagree
  refine ⟨fun c => (Cert.Kernel44Ideal.Gen.dats m 0 c).arrAt 5 Cert.Kernel44Ideal.cfg0.N, fun c => (Cert.Kernel44Ideal.Gen.dats m 0 c).arrAt 6 Cert.Kernel44Ideal.cfg0.N,
    fun c => (Cert.Kernel44Ideal.Gen.dats m 0 c).arrAt 7 Cert.Kernel44Ideal.cfg0.N, fun c => (Cert.Kernel44Ideal.Gen.dats m 0 c).arrAt 8 Cert.Kernel44Ideal.cfg0.N,
    Cert.Kernel44Ideal.Value.run_blocks m ρ, ?_⟩
  refine (θ_run _ _ _).mono (fun _ h c => ⟨(h c).1.trans ?_, (h c).2.1.trans ?_, (h c).2.2.1.trans ?_, (h c).2.2.2.1.trans ?_, (h c).2.2.2.2⟩)
    (Cert.Reference44Ideal.Value.run m' ρ')
  all_goals
    clear h
    obtain ⟨e0, e1, e2, e3, e4⟩ := hagree c
    rw [e0, e1]
    symm
  · refine (Cert.Kernel44Ideal.Gen.dats m 0 c).arrAt_eq_of_covers 5 _ (by decide +kernel) fun t hf y => ?_
    blk_simp
    rw [Cert.Kernel44Ideal.Gen.after0_5]
    frame_out
    obtain ⟨r, q, rfl⟩ : ∃ (r : Fin 512) (q : Fin 352), y = ix2 r q := ⟨y 0, y 1, eq_ix2 y⟩
    rw [show ((View.whole Cert.Kernel44Ideal.main_v0_0).slice (Cert.Kernel44Ideal.win0_5.rect t)).emb (ix2 r q) = ix2 ⟨512 * t.val + r.val, row_lt t r⟩ q from
      by blk_ext [(idx t).2.2.2.2.2.1]]
    refine (grad_apply _ _ _ _ r q).trans ?_
    pointwise []
    rw [Fin.sum_univ_three]
    blk_point [Cert.Kernel44Ideal.Gen.iblk, Cert.Kernel44Ideal.Gen.V, idx t]
  · refine (Cert.Kernel44Ideal.Gen.dats m 0 c).arrAt_eq_of_covers 6 _ (by decide +kernel) fun t hf y => ?_
    blk_simp
    rw [Cert.Kernel44Ideal.Gen.after0_6]
    unfold Cert.Kernel44Ideal.Gen.out0_6 Cert.Kernel44Ideal.Gen.k0_pay6
    frame_out
    obtain ⟨r, q, rfl⟩ : ∃ (r : Fin 512) (q : Fin 352), y = ix2 r q := ⟨y 0, y 1, eq_ix2 y⟩
    rw [show ((View.whole Cert.Kernel44Ideal.main_v0_1).slice (Cert.Kernel44Ideal.win0_6.rect t)).emb (ix2 r q) = ix2 ⟨512 * t.val + r.val, row_lt t r⟩ q from
      by blk_ext [(idx t).2.2.2.2.2.2.1]]
    refine (delta_apply _ _ _ _ _ _ _ r q).trans ?_
    unfold Cert.Adam.delta
    rw [m_apply, v_apply, grad_apply]
    unfold Cert.Adam.moment1 Cert.Adam.moment2
    rw [e2, e3, e4]
    pointwise []
    rw [Fin.sum_univ_three]
    simp only [Cert.Adam.div1, Cert.Adam.div2]
    blk_point [Cert.Kernel44Ideal.Gen.iblk, Cert.Kernel44Ideal.Gen.V, idx t]
  · refine (Cert.Kernel44Ideal.Gen.dats m 0 c).arrAt_eq_of_covers 7 _ (by decide +kernel) fun t hf y => ?_
    blk_simp
    rw [Cert.Kernel44Ideal.Gen.after0_7]
    frame_out
    obtain ⟨r, q, rfl⟩ : ∃ (r : Fin 512) (q : Fin 352), y = ix2 r q := ⟨y 0, y 1, eq_ix2 y⟩
    rw [show ((View.whole Cert.Kernel44Ideal.main_v0_2).slice (Cert.Kernel44Ideal.win0_7.rect t)).emb (ix2 r q) = ix2 ⟨512 * t.val + r.val, row_lt t r⟩ q from
      by blk_ext [(idx t).2.2.2.2.2.2.2.1]]
    refine (m_apply _ _ _ _ _ r q).trans ?_
    rw [grad_apply, e3]
    unfold Cert.Adam.moment1
    pointwise []
    rw [Fin.sum_univ_three]
    blk_point [Cert.Kernel44Ideal.Gen.iblk, Cert.Kernel44Ideal.Gen.V, idx t]
  · refine (Cert.Kernel44Ideal.Gen.dats m 0 c).arrAt_eq_of_covers 8 _ (by decide +kernel) fun t hf y => ?_
    blk_simp
    rw [Cert.Kernel44Ideal.Gen.after0_8]
    unfold Cert.Kernel44Ideal.Gen.out0_8 Cert.Kernel44Ideal.Gen.k0_pay6
    frame_out
    obtain ⟨r, q, rfl⟩ : ∃ (r : Fin 512) (q : Fin 352), y = ix2 r q := ⟨y 0, y 1, eq_ix2 y⟩
    rw [show ((View.whole Cert.Kernel44Ideal.main_v0_3).slice (Cert.Kernel44Ideal.win0_8.rect t)).emb (ix2 r q) = ix2 ⟨512 * t.val + r.val, row_lt t r⟩ q from
      by blk_ext [(idx t).2.2.2.2.2.2.2.2]]
    refine (v_apply _ _ _ _ _ r q).trans ?_
    rw [grad_apply, e4]
    unfold Cert.Adam.moment2
    pointwise []
    rw [Fin.sum_univ_three]
    blk_point [Cert.Kernel44Ideal.Gen.iblk, Cert.Kernel44Ideal.Gen.V, idx t]

end Cert.Proof
-- ==== Proof.AdamDown.lean ====
/-
  The optimiser's step of the down weight: each point's blocks of the summed gradient, of the weight's change and of the new
  moments are the blocks of the reference's.
-/
module

public import proofs.«01_k».proof.Defs
public import proofs.«01_k».proof.Proof.Adam
public import proofs.«01_k».proof.Proof.Gen.Kernel45Ideal.Value
public import proofs.«01_k».proof.Proof.Gen.Reference45Ideal.Run
public import Idealize.ShloMosaic.Lib.Pipeline.ValueKit

@[expose] public section

set_option maxRecDepth 16384

noncomputable section

open Idealize.ShloMosaic Idealize.ShloMosaic.TcCoe Idealize.SL.Sem

namespace Cert.Kernel45Ideal.Step

open Cert.Kernel45Ideal Cert.Kernel45Ideal.Gen

/-- The two named constants. -/
theorem named1 : Named.named (F := Ideal) κ "c1" (φ := .f32) 0x3FC48605#32 = Cert.Adam.inv1 :=
  IdealRules.named_const.ideal_named_scalar _ _ _ _ rfl

theorem named2 : Named.named (F := Ideal) κ "c2" (φ := .f32) 0x42C8E6D3#32 = Cert.Adam.inv2 :=
  IdealRules.named_const.ideal_named_scalar _ _ _ _ rfl

section Payloads

variable (y0 y1 y2 y3 : Vec Ideal S1x176x1024 .bf16) (w x : Vec Ideal S176x1024 .f32) (v : FVec Ideal S176x1024 .f32) (r : Fin 176) (q : Fin 1024)

/-- What a point writes at an index of its block: the gradient's sum, -/
theorem grad_apply : (k0_pay2 y0 y1 y2 y3 : FVec Ideal S176x1024 .f32) (ix2 r q)
    = (y0 (ix3 0 r q) : EReal) + (y1 (ix3 0 r q) + y2 (ix3 0 r q) + y3 (ix3 0 r q)) := by
  have e : (k0_pay2 y0 y1 y2 y3 : FVec Ideal S176x1024 .f32) (ix2 r q)
      = (y0 (ix3 0 r q) : EReal) + y1 (ix3 0 r q) + y2 (ix3 0 r q) + y3 (ix3 0 r q) := by
    pointwise [k0_pay2]
  rw [e]
  simp only [add_assoc]

/-- the moments, -/
theorem m_apply : (k0_pay3 y0 y1 y2 y3 x : FVec Ideal S176x1024 .f32) (ix2 r q)
    = Cert.Adam.moment1 (x (ix2 r q)) ((k0_pay2 y0 y1 y2 y3 : FVec Ideal S176x1024 .f32) (ix2 r q)) := by
  unfold Cert.Adam.moment1
  pointwise [k0_pay3]

theorem v_apply : (k0_pay4 y0 y1 y2 y3 x : FVec Ideal S176x1024 .f32) (ix2 r q)
    = Cert.Adam.moment2 (x (ix2 r q)) ((k0_pay2 y0 y1 y2 y3 : FVec Ideal S176x1024 .f32) (ix2 r q)) := by
  unfold Cert.Adam.moment2
  pointwise [k0_pay4]

/-- and the weight's change. -/
theorem delta_apply : (k0_pay1 w v (k0_pay5 y0 y1 y2 y3 x) (Named.named κ "c2" 0x42C8E6D3#32) : FVec Ideal S176x1024 .f32) (ix2 r q)
    = Cert.Adam.delta (w (ix2 r q)) ((k0_pay3 y0 y1 y2 y3 x : FVec Ideal S176x1024 .f32) (ix2 r q)) (v (ix2 r q)) := by
  unfold Cert.Adam.delta
  pointwise [k0_pay1, k0_pay5, named1, named2]

end Payloads

variable (m : (ℓ : Loc nD τ sig) → Buf (Elt Ideal) ℓ) (c : Dev nD)

/-- The blocks a point reads and writes. -/
theorem idx : ∀ t : Fin cfg0.N, win0_0.index t = ![0, t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

theorem row_lt (t : Fin cfg0.N) (r : Fin 176) : 176 * t.val + r.val < 352 := by
  have := lt_of_lt_of_eq t.isLt (show cfg0.N = 2 from N_0); omega

end Cert.Kernel45Ideal.Step

namespace Cert.Proof

theorem preserves45 : Cert.preserves_Kernel45_Kernel45Ideal :=
  ⟨IdealRules.named_const.statement _ _ _ _ _ rfl, IdealRules.named_const.statement _ _ _ _ _ rfl⟩

open Cert.Kernel45Ideal.Step in
/-- The kernel's results are the reference's. -/
theorem algebraic45 : Cert.algebraic_Kernel45Ideal_Reference45Ideal := by
  intro m ρ m' ρ' _ hagree
  refine ⟨fun c => (Cert.Kernel45Ideal.Gen.dats m 0 c).arrAt 5 Cert.Kernel45Ideal.cfg0.N, fun c => (Cert.Kernel45Ideal.Gen.dats m 0 c).arrAt 6 Cert.Kernel45Ideal.cfg0.N,
    fun c => (Cert.Kernel45Ideal.Gen.dats m 0 c).arrAt 7 Cert.Kernel45Ideal.cfg0.N, fun c => (Cert.Kernel45Ideal.Gen.dats m 0 c).arrAt 8 Cert.Kernel45Ideal.cfg0.N,
    Cert.Kernel45Ideal.Value.run_blocks m ρ, ?_⟩
  refine (θ_run _ _ _).mono (fun _ h c => ⟨(h c).1.trans ?_, (h c).2.1.trans ?_, (h c).2.2.1.trans ?_, (h c).2.2.2.1.trans ?_, (h c).2.2.2.2⟩)
    (Cert.Reference45Ideal.Value.run m' ρ')
  all_goals
    clear h
    obtain ⟨e0, e1, e2, e3, e4⟩ := hagree c
    rw [e0, e1]
    symm
  · refine (Cert.Kernel45Ideal.Gen.dats m 0 c).arrAt_eq_of_covers 5 _ (by decide +kernel) fun t hf y => ?_
    blk_simp
    rw [Cert.Kernel45Ideal.Gen.after0_5]
    frame_out
    obtain ⟨r, q, rfl⟩ : ∃ (r : Fin 176) (q : Fin 1024), y = ix2 r q := ⟨y 0, y 1, eq_ix2 y⟩
    rw [show ((View.whole Cert.Kernel45Ideal.main_v0_0).slice (Cert.Kernel45Ideal.win0_5.rect t)).emb (ix2 r q) = ix2 ⟨176 * t.val + r.val, row_lt t r⟩ q from
      by blk_ext [(idx t).2.2.2.2.2.1]]
    refine (grad_apply _ _ _ _ r q).trans ?_
    pointwise []
    rw [Fin.sum_univ_three]
    blk_point [Cert.Kernel45Ideal.Gen.iblk, Cert.Kernel45Ideal.Gen.V, idx t]
  · refine (Cert.Kernel45Ideal.Gen.dats m 0 c).arrAt_eq_of_covers 6 _ (by decide +kernel) fun t hf y => ?_
    blk_simp
    rw [Cert.Kernel45Ideal.Gen.after0_6]
    unfold Cert.Kernel45Ideal.Gen.out0_6 Cert.Kernel45Ideal.Gen.k0_pay6
    frame_out
    obtain ⟨r, q, rfl⟩ : ∃ (r : Fin 176) (q : Fin 1024), y = ix2 r q := ⟨y 0, y 1, eq_ix2 y⟩
    rw [show ((View.whole Cert.Kernel45Ideal.main_v0_1).slice (Cert.Kernel45Ideal.win0_6.rect t)).emb (ix2 r q) = ix2 ⟨176 * t.val + r.val, row_lt t r⟩ q from
      by blk_ext [(idx t).2.2.2.2.2.2.1]]
    refine (delta_apply _ _ _ _ _ _ _ r q).trans ?_
    unfold Cert.Adam.delta
    rw [m_apply, v_apply, grad_apply]
    unfold Cert.Adam.moment1 Cert.Adam.moment2
    rw [e2, e3, e4]
    pointwise []
    rw [Fin.sum_univ_three]
    simp only [Cert.Adam.div1, Cert.Adam.div2]
    blk_point [Cert.Kernel45Ideal.Gen.iblk, Cert.Kernel45Ideal.Gen.V, idx t]
  · refine (Cert.Kernel45Ideal.Gen.dats m 0 c).arrAt_eq_of_covers 7 _ (by decide +kernel) fun t hf y => ?_
    blk_simp
    rw [Cert.Kernel45Ideal.Gen.after0_7]
    frame_out
    obtain ⟨r, q, rfl⟩ : ∃ (r : Fin 176) (q : Fin 1024), y = ix2 r q := ⟨y 0, y 1, eq_ix2 y⟩
    rw [show ((View.whole Cert.Kernel45Ideal.main_v0_2).slice (Cert.Kernel45Ideal.win0_7.rect t)).emb (ix2 r q) = ix2 ⟨176 * t.val + r.val, row_lt t r⟩ q from
      by blk_ext [(idx t).2.2.2.2.2.2.2.1]]
    refine (m_apply _ _ _ _ _ r q).trans ?_
    rw [grad_apply, e3]
    unfold Cert.Adam.moment1
    pointwise []
    rw [Fin.sum_univ_three]
    blk_point [Cert.Kernel45Ideal.Gen.iblk, Cert.Kernel45Ideal.Gen.V, idx t]
  · refine (Cert.Kernel45Ideal.Gen.dats m 0 c).arrAt_eq_of_covers 8 _ (by decide +kernel) fun t hf y => ?_
    blk_simp
    rw [Cert.Kernel45Ideal.Gen.after0_8]
    unfold Cert.Kernel45Ideal.Gen.out0_8 Cert.Kernel45Ideal.Gen.k0_pay6
    frame_out
    obtain ⟨r, q, rfl⟩ : ∃ (r : Fin 176) (q : Fin 1024), y = ix2 r q := ⟨y 0, y 1, eq_ix2 y⟩
    rw [show ((View.whole Cert.Kernel45Ideal.main_v0_3).slice (Cert.Kernel45Ideal.win0_8.rect t)).emb (ix2 r q) = ix2 ⟨176 * t.val + r.val, row_lt t r⟩ q from
      by blk_ext [(idx t).2.2.2.2.2.2.2.2]]
    refine (v_apply _ _ _ _ _ r q).trans ?_
    rw [grad_apply, e4]
    unfold Cert.Adam.moment2
    pointwise []
    rw [Fin.sum_univ_three]
    blk_point [Cert.Kernel45Ideal.Gen.iblk, Cert.Kernel45Ideal.Gen.V, idx t]

end Cert.Proof
-- ==== Proof.AdamProj.lean ====
/-
  The optimiser's step of the output projection: each point's blocks of the summed gradient, of the weight's change and of the new
  moments are the blocks of the reference's.
-/
module

public import proofs.«01_k».proof.Defs
public import proofs.«01_k».proof.Proof.Adam
public import proofs.«01_k».proof.Proof.Gen.Kernel46Ideal.Value
public import proofs.«01_k».proof.Proof.Gen.Reference46Ideal.Run
public import Idealize.ShloMosaic.Lib.Pipeline.ValueKit

@[expose] public section

set_option maxRecDepth 16384

noncomputable section

open Idealize.ShloMosaic Idealize.ShloMosaic.TcCoe Idealize.SL.Sem

namespace Cert.Kernel46Ideal.Step

open Cert.Kernel46Ideal Cert.Kernel46Ideal.Gen

/-- The two named constants. -/
theorem named1 : Named.named (F := Ideal) κ "c1" (φ := .f32) 0x3FC48605#32 = Cert.Adam.inv1 :=
  IdealRules.named_const.ideal_named_scalar _ _ _ _ rfl

theorem named2 : Named.named (F := Ideal) κ "c2" (φ := .f32) 0x42C8E6D3#32 = Cert.Adam.inv2 :=
  IdealRules.named_const.ideal_named_scalar _ _ _ _ rfl

section Payloads

variable (y0 y1 y2 y3 : Vec Ideal S1x128x1024 .bf16) (w x : Vec Ideal S128x1024 .f32) (v : FVec Ideal S128x1024 .f32) (r : Fin 128) (q : Fin 1024)

/-- What a point writes at an index of its block: the gradient's sum, -/
theorem grad_apply : (k0_pay2 y0 y1 y2 y3 : FVec Ideal S128x1024 .f32) (ix2 r q)
    = (y0 (ix3 0 r q) : EReal) + (y1 (ix3 0 r q) + y2 (ix3 0 r q) + y3 (ix3 0 r q)) := by
  have e : (k0_pay2 y0 y1 y2 y3 : FVec Ideal S128x1024 .f32) (ix2 r q)
      = (y0 (ix3 0 r q) : EReal) + y1 (ix3 0 r q) + y2 (ix3 0 r q) + y3 (ix3 0 r q) := by
    pointwise [k0_pay2]
  rw [e]
  simp only [add_assoc]

/-- the moments, -/
theorem m_apply : (k0_pay3 y0 y1 y2 y3 x : FVec Ideal S128x1024 .f32) (ix2 r q)
    = Cert.Adam.moment1 (x (ix2 r q)) ((k0_pay2 y0 y1 y2 y3 : FVec Ideal S128x1024 .f32) (ix2 r q)) := by
  unfold Cert.Adam.moment1
  pointwise [k0_pay3]

theorem v_apply : (k0_pay4 y0 y1 y2 y3 x : FVec Ideal S128x1024 .f32) (ix2 r q)
    = Cert.Adam.moment2 (x (ix2 r q)) ((k0_pay2 y0 y1 y2 y3 : FVec Ideal S128x1024 .f32) (ix2 r q)) := by
  unfold Cert.Adam.moment2
  pointwise [k0_pay4]

/-- and the weight's change. -/
theorem delta_apply : (k0_pay1 w v (k0_pay5 y0 y1 y2 y3 x) (Named.named κ "c2" 0x42C8E6D3#32) : FVec Ideal S128x1024 .f32) (ix2 r q)
    = Cert.Adam.delta (w (ix2 r q)) ((k0_pay3 y0 y1 y2 y3 x : FVec Ideal S128x1024 .f32) (ix2 r q)) (v (ix2 r q)) := by
  unfold Cert.Adam.delta
  pointwise [k0_pay1, k0_pay5, named1, named2]

end Payloads

variable (m : (ℓ : Loc nD τ sig) → Buf (Elt Ideal) ℓ) (c : Dev nD)

/-- The blocks a point reads and writes. -/
theorem idx : ∀ t : Fin cfg0.N, win0_0.index t = ![0, t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

theorem row_lt (t : Fin cfg0.N) (r : Fin 128) : 128 * t.val + r.val < 128 := by
  have := lt_of_lt_of_eq t.isLt (show cfg0.N = 1 from N_0); omega

end Cert.Kernel46Ideal.Step

namespace Cert.Proof

theorem preserves46 : Cert.preserves_Kernel46_Kernel46Ideal :=
  ⟨IdealRules.named_const.statement _ _ _ _ _ rfl, IdealRules.named_const.statement _ _ _ _ _ rfl⟩

open Cert.Kernel46Ideal.Step in
/-- The kernel's results are the reference's. -/
theorem algebraic46 : Cert.algebraic_Kernel46Ideal_Reference46Ideal := by
  intro m ρ m' ρ' _ hagree
  refine ⟨fun c => (Cert.Kernel46Ideal.Gen.dats m 0 c).arrAt 5 Cert.Kernel46Ideal.cfg0.N, fun c => (Cert.Kernel46Ideal.Gen.dats m 0 c).arrAt 6 Cert.Kernel46Ideal.cfg0.N,
    fun c => (Cert.Kernel46Ideal.Gen.dats m 0 c).arrAt 7 Cert.Kernel46Ideal.cfg0.N, fun c => (Cert.Kernel46Ideal.Gen.dats m 0 c).arrAt 8 Cert.Kernel46Ideal.cfg0.N,
    Cert.Kernel46Ideal.Value.run_blocks m ρ, ?_⟩
  refine (θ_run _ _ _).mono (fun _ h c => ⟨(h c).1.trans ?_, (h c).2.1.trans ?_, (h c).2.2.1.trans ?_, (h c).2.2.2.1.trans ?_, (h c).2.2.2.2⟩)
    (Cert.Reference46Ideal.Value.run m' ρ')
  all_goals
    clear h
    obtain ⟨e0, e1, e2, e3, e4⟩ := hagree c
    rw [e0, e1]
    symm
  · refine (Cert.Kernel46Ideal.Gen.dats m 0 c).arrAt_eq_of_covers 5 _ (by decide +kernel) fun t hf y => ?_
    blk_simp
    rw [Cert.Kernel46Ideal.Gen.after0_5]
    frame_out
    obtain ⟨r, q, rfl⟩ : ∃ (r : Fin 128) (q : Fin 1024), y = ix2 r q := ⟨y 0, y 1, eq_ix2 y⟩
    rw [show ((View.whole Cert.Kernel46Ideal.main_v0_0).slice (Cert.Kernel46Ideal.win0_5.rect t)).emb (ix2 r q) = ix2 ⟨128 * t.val + r.val, row_lt t r⟩ q from
      by blk_ext [(idx t).2.2.2.2.2.1]]
    refine (grad_apply _ _ _ _ r q).trans ?_
    pointwise []
    rw [Fin.sum_univ_three]
    blk_point [Cert.Kernel46Ideal.Gen.iblk, Cert.Kernel46Ideal.Gen.V, idx t]
  · refine (Cert.Kernel46Ideal.Gen.dats m 0 c).arrAt_eq_of_covers 6 _ (by decide +kernel) fun t hf y => ?_
    blk_simp
    rw [Cert.Kernel46Ideal.Gen.after0_6]
    unfold Cert.Kernel46Ideal.Gen.out0_6 Cert.Kernel46Ideal.Gen.k0_pay6
    frame_out
    obtain ⟨r, q, rfl⟩ : ∃ (r : Fin 128) (q : Fin 1024), y = ix2 r q := ⟨y 0, y 1, eq_ix2 y⟩
    rw [show ((View.whole Cert.Kernel46Ideal.main_v0_1).slice (Cert.Kernel46Ideal.win0_6.rect t)).emb (ix2 r q) = ix2 ⟨128 * t.val + r.val, row_lt t r⟩ q from
      by blk_ext [(idx t).2.2.2.2.2.2.1]]
    refine (delta_apply _ _ _ _ _ _ _ r q).trans ?_
    unfold Cert.Adam.delta
    rw [m_apply, v_apply, grad_apply]
    unfold Cert.Adam.moment1 Cert.Adam.moment2
    rw [e2, e3, e4]
    pointwise []
    rw [Fin.sum_univ_three]
    simp only [Cert.Adam.div1, Cert.Adam.div2]
    blk_point [Cert.Kernel46Ideal.Gen.iblk, Cert.Kernel46Ideal.Gen.V, idx t]
  · refine (Cert.Kernel46Ideal.Gen.dats m 0 c).arrAt_eq_of_covers 7 _ (by decide +kernel) fun t hf y => ?_
    blk_simp
    rw [Cert.Kernel46Ideal.Gen.after0_7]
    frame_out
    obtain ⟨r, q, rfl⟩ : ∃ (r : Fin 128) (q : Fin 1024), y = ix2 r q := ⟨y 0, y 1, eq_ix2 y⟩
    rw [show ((View.whole Cert.Kernel46Ideal.main_v0_2).slice (Cert.Kernel46Ideal.win0_7.rect t)).emb (ix2 r q) = ix2 ⟨128 * t.val + r.val, row_lt t r⟩ q from
      by blk_ext [(idx t).2.2.2.2.2.2.2.1]]
    refine (m_apply _ _ _ _ _ r q).trans ?_
    rw [grad_apply, e3]
    unfold Cert.Adam.moment1
    pointwise []
    rw [Fin.sum_univ_three]
    blk_point [Cert.Kernel46Ideal.Gen.iblk, Cert.Kernel46Ideal.Gen.V, idx t]
  · refine (Cert.Kernel46Ideal.Gen.dats m 0 c).arrAt_eq_of_covers 8 _ (by decide +kernel) fun t hf y => ?_
    blk_simp
    rw [Cert.Kernel46Ideal.Gen.after0_8]
    unfold Cert.Kernel46Ideal.Gen.out0_8 Cert.Kernel46Ideal.Gen.k0_pay6
    frame_out
    obtain ⟨r, q, rfl⟩ : ∃ (r : Fin 128) (q : Fin 1024), y = ix2 r q := ⟨y 0, y 1, eq_ix2 y⟩
    rw [show ((View.whole Cert.Kernel46Ideal.main_v0_3).slice (Cert.Kernel46Ideal.win0_8.rect t)).emb (ix2 r q) = ix2 ⟨128 * t.val + r.val, row_lt t r⟩ q from
      by blk_ext [(idx t).2.2.2.2.2.2.2.2]]
    refine (v_apply _ _ _ _ _ r q).trans ?_
    rw [grad_apply, e4]
    unfold Cert.Adam.moment2
    pointwise []
    rw [Fin.sum_univ_three]
    blk_point [Cert.Kernel46Ideal.Gen.iblk, Cert.Kernel46Ideal.Gen.V, idx t]

end Cert.Proof
-- ==== Proof.AdamSsd.lean ====
/-
  The optimiser's step of the state-space layer's output weight: each point's blocks of the summed gradient, of the weight's change and of the new
  moments are the blocks of the reference's.
-/
module

public import proofs.«01_k».proof.Defs
public import proofs.«01_k».proof.Proof.Adam
public import proofs.«01_k».proof.Proof.Gen.Kernel47Ideal.Value
public import proofs.«01_k».proof.Proof.Gen.Reference47Ideal.Run
public import Idealize.ShloMosaic.Lib.Pipeline.ValueKit

@[expose] public section

set_option maxRecDepth 16384

noncomputable section

open Idealize.ShloMosaic Idealize.ShloMosaic.TcCoe Idealize.SL.Sem

namespace Cert.Kernel47Ideal.Step

open Cert.Kernel47Ideal Cert.Kernel47Ideal.Gen

/-- The two named constants. -/
theorem named1 : Named.named (F := Ideal) κ "c1" (φ := .f32) 0x3FC48605#32 = Cert.Adam.inv1 :=
  IdealRules.named_const.ideal_named_scalar _ _ _ _ rfl

theorem named2 : Named.named (F := Ideal) κ "c2" (φ := .f32) 0x42C8E6D3#32 = Cert.Adam.inv2 :=
  IdealRules.named_const.ideal_named_scalar _ _ _ _ rfl

section Payloads

variable (y0 y1 y2 y3 : Vec Ideal S1x256x1024 .bf16) (w x : Vec Ideal S256x1024 .f32) (v : FVec Ideal S256x1024 .f32) (r : Fin 256) (q : Fin 1024)

/-- What a point writes at an index of its block: the gradient's sum, -/
theorem grad_apply : (k0_pay2 y0 y1 y2 y3 : FVec Ideal S256x1024 .f32) (ix2 r q)
    = (y0 (ix3 0 r q) : EReal) + (y1 (ix3 0 r q) + y2 (ix3 0 r q) + y3 (ix3 0 r q)) := by
  have e : (k0_pay2 y0 y1 y2 y3 : FVec Ideal S256x1024 .f32) (ix2 r q)
      = (y0 (ix3 0 r q) : EReal) + y1 (ix3 0 r q) + y2 (ix3 0 r q) + y3 (ix3 0 r q) := by
    pointwise [k0_pay2]
  rw [e]
  simp only [add_assoc]

/-- the moments, -/
theorem m_apply : (k0_pay3 y0 y1 y2 y3 x : FVec Ideal S256x1024 .f32) (ix2 r q)
    = Cert.Adam.moment1 (x (ix2 r q)) ((k0_pay2 y0 y1 y2 y3 : FVec Ideal S256x1024 .f32) (ix2 r q)) := by
  unfold Cert.Adam.moment1
  pointwise [k0_pay3]

theorem v_apply : (k0_pay4 y0 y1 y2 y3 x : FVec Ideal S256x1024 .f32) (ix2 r q)
    = Cert.Adam.moment2 (x (ix2 r q)) ((k0_pay2 y0 y1 y2 y3 : FVec Ideal S256x1024 .f32) (ix2 r q)) := by
  unfold Cert.Adam.moment2
  pointwise [k0_pay4]

/-- and the weight's change. -/
theorem delta_apply : (k0_pay1 w v (k0_pay5 y0 y1 y2 y3 x) (Named.named κ "c2" 0x42C8E6D3#32) : FVec Ideal S256x1024 .f32) (ix2 r q)
    = Cert.Adam.delta (w (ix2 r q)) ((k0_pay3 y0 y1 y2 y3 x : FVec Ideal S256x1024 .f32) (ix2 r q)) (v (ix2 r q)) := by
  unfold Cert.Adam.delta
  pointwise [k0_pay1, k0_pay5, named1, named2]

end Payloads

variable (m : (ℓ : Loc nD τ sig) → Buf (Elt Ideal) ℓ) (c : Dev nD)

/-- The blocks a point reads and writes. -/
theorem idx : ∀ t : Fin cfg0.N, win0_0.index t = ![0, t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

theorem row_lt (t : Fin cfg0.N) (r : Fin 256) : 256 * t.val + r.val < 256 := by
  have := lt_of_lt_of_eq t.isLt (show cfg0.N = 1 from N_0); omega

end Cert.Kernel47Ideal.Step

namespace Cert.Proof

theorem preserves47 : Cert.preserves_Kernel47_Kernel47Ideal :=
  ⟨IdealRules.named_const.statement _ _ _ _ _ rfl, IdealRules.named_const.statement _ _ _ _ _ rfl⟩

open Cert.Kernel47Ideal.Step in
/-- The kernel's results are the reference's. -/
theorem algebraic47 : Cert.algebraic_Kernel47Ideal_Reference47Ideal := by
  intro m ρ m' ρ' _ hagree
  refine ⟨fun c => (Cert.Kernel47Ideal.Gen.dats m 0 c).arrAt 5 Cert.Kernel47Ideal.cfg0.N, fun c => (Cert.Kernel47Ideal.Gen.dats m 0 c).arrAt 6 Cert.Kernel47Ideal.cfg0.N,
    fun c => (Cert.Kernel47Ideal.Gen.dats m 0 c).arrAt 7 Cert.Kernel47Ideal.cfg0.N, fun c => (Cert.Kernel47Ideal.Gen.dats m 0 c).arrAt 8 Cert.Kernel47Ideal.cfg0.N,
    Cert.Kernel47Ideal.Value.run_blocks m ρ, ?_⟩
  refine (θ_run _ _ _).mono (fun _ h c => ⟨(h c).1.trans ?_, (h c).2.1.trans ?_, (h c).2.2.1.trans ?_, (h c).2.2.2.1.trans ?_, (h c).2.2.2.2⟩)
    (Cert.Reference47Ideal.Value.run m' ρ')
  all_goals
    clear h
    obtain ⟨e0, e1, e2, e3, e4⟩ := hagree c
    rw [e0, e1]
    symm
  · refine (Cert.Kernel47Ideal.Gen.dats m 0 c).arrAt_eq_of_covers 5 _ (by decide +kernel) fun t hf y => ?_
    blk_simp
    rw [Cert.Kernel47Ideal.Gen.after0_5]
    frame_out
    obtain ⟨r, q, rfl⟩ : ∃ (r : Fin 256) (q : Fin 1024), y = ix2 r q := ⟨y 0, y 1, eq_ix2 y⟩
    rw [show ((View.whole Cert.Kernel47Ideal.main_v0_0).slice (Cert.Kernel47Ideal.win0_5.rect t)).emb (ix2 r q) = ix2 ⟨256 * t.val + r.val, row_lt t r⟩ q from
      by blk_ext [(idx t).2.2.2.2.2.1]]
    refine (grad_apply _ _ _ _ r q).trans ?_
    pointwise []
    rw [Fin.sum_univ_three]
    blk_point [Cert.Kernel47Ideal.Gen.iblk, Cert.Kernel47Ideal.Gen.V, idx t]
  · refine (Cert.Kernel47Ideal.Gen.dats m 0 c).arrAt_eq_of_covers 6 _ (by decide +kernel) fun t hf y => ?_
    blk_simp
    rw [Cert.Kernel47Ideal.Gen.after0_6]
    unfold Cert.Kernel47Ideal.Gen.out0_6 Cert.Kernel47Ideal.Gen.k0_pay6
    frame_out
    obtain ⟨r, q, rfl⟩ : ∃ (r : Fin 256) (q : Fin 1024), y = ix2 r q := ⟨y 0, y 1, eq_ix2 y⟩
    rw [show ((View.whole Cert.Kernel47Ideal.main_v0_1).slice (Cert.Kernel47Ideal.win0_6.rect t)).emb (ix2 r q) = ix2 ⟨256 * t.val + r.val, row_lt t r⟩ q from
      by blk_ext [(idx t).2.2.2.2.2.2.1]]
    refine (delta_apply _ _ _ _ _ _ _ r q).trans ?_
    unfold Cert.Adam.delta
    rw [m_apply, v_apply, grad_apply]
    unfold Cert.Adam.moment1 Cert.Adam.moment2
    rw [e2, e3, e4]
    pointwise []
    rw [Fin.sum_univ_three]
    simp only [Cert.Adam.div1, Cert.Adam.div2]
    blk_point [Cert.Kernel47Ideal.Gen.iblk, Cert.Kernel47Ideal.Gen.V, idx t]
  · refine (Cert.Kernel47Ideal.Gen.dats m 0 c).arrAt_eq_of_covers 7 _ (by decide +kernel) fun t hf y => ?_
    blk_simp
    rw [Cert.Kernel47Ideal.Gen.after0_7]
    frame_out
    obtain ⟨r, q, rfl⟩ : ∃ (r : Fin 256) (q : Fin 1024), y = ix2 r q := ⟨y 0, y 1, eq_ix2 y⟩
    rw [show ((View.whole Cert.Kernel47Ideal.main_v0_2).slice (Cert.Kernel47Ideal.win0_7.rect t)).emb (ix2 r q) = ix2 ⟨256 * t.val + r.val, row_lt t r⟩ q from
      by blk_ext [(idx t).2.2.2.2.2.2.2.1]]
    refine (m_apply _ _ _ _ _ r q).trans ?_
    rw [grad_apply, e3]
    unfold Cert.Adam.moment1
    pointwise []
    rw [Fin.sum_univ_three]
    blk_point [Cert.Kernel47Ideal.Gen.iblk, Cert.Kernel47Ideal.Gen.V, idx t]
  · refine (Cert.Kernel47Ideal.Gen.dats m 0 c).arrAt_eq_of_covers 8 _ (by decide +kernel) fun t hf y => ?_
    blk_simp
    rw [Cert.Kernel47Ideal.Gen.after0_8]
    unfold Cert.Kernel47Ideal.Gen.out0_8 Cert.Kernel47Ideal.Gen.k0_pay6
    frame_out
    obtain ⟨r, q, rfl⟩ : ∃ (r : Fin 256) (q : Fin 1024), y = ix2 r q := ⟨y 0, y 1, eq_ix2 y⟩
    rw [show ((View.whole Cert.Kernel47Ideal.main_v0_3).slice (Cert.Kernel47Ideal.win0_8.rect t)).emb (ix2 r q) = ix2 ⟨256 * t.val + r.val, row_lt t r⟩ q from
      by blk_ext [(idx t).2.2.2.2.2.2.2.2]]
    refine (v_apply _ _ _ _ _ r q).trans ?_
    rw [grad_apply, e4]
    unfold Cert.Adam.moment2
    pointwise []
    rw [Fin.sum_univ_three]
    blk_point [Cert.Kernel47Ideal.Gen.iblk, Cert.Kernel47Ideal.Gen.V, idx t]

end Cert.Proof
-- ==== Proof.AdamIn.lean ====
/-
  The optimiser's step of the input projection: each point's blocks of the summed gradient, of the weight's change and of the new
  moments are the blocks of the reference's.
-/
module

public import proofs.«01_k».proof.Defs
public import proofs.«01_k».proof.Proof.Adam
public import proofs.«01_k».proof.Proof.Gen.Kernel48Ideal.Value
public import proofs.«01_k».proof.Proof.Gen.Reference48Ideal.Run
public import Idealize.ShloMosaic.Lib.Pipeline.ValueKit

@[expose] public section

set_option maxRecDepth 16384

noncomputable section

open Idealize.ShloMosaic Idealize.ShloMosaic.TcCoe Idealize.SL.Sem

namespace Cert.Kernel48Ideal.Step

open Cert.Kernel48Ideal Cert.Kernel48Ideal.Gen

/-- The two named constants. -/
theorem named1 : Named.named (F := Ideal) κ "c1" (φ := .f32) 0x3FC48605#32 = Cert.Adam.inv1 :=
  IdealRules.named_const.ideal_named_scalar _ _ _ _ rfl

theorem named2 : Named.named (F := Ideal) κ "c2" (φ := .f32) 0x42C8E6D3#32 = Cert.Adam.inv2 :=
  IdealRules.named_const.ideal_named_scalar _ _ _ _ rfl

section Payloads

variable (y0 y1 y2 y3 : Vec Ideal S1x128x1156 .bf16) (w x : Vec Ideal S128x1156 .f32) (v : FVec Ideal S128x1156 .f32) (r : Fin 128) (q : Fin 1156)

/-- What a point writes at an index of its block: the gradient's sum, -/
theorem grad_apply : (k0_pay2 y0 y1 y2 y3 : FVec Ideal S128x1156 .f32) (ix2 r q)
    = (y0 (ix3 0 r q) : EReal) + (y1 (ix3 0 r q) + y2 (ix3 0 r q) + y3 (ix3 0 r q)) := by
  have e : (k0_pay2 y0 y1 y2 y3 : FVec Ideal S128x1156 .f32) (ix2 r q)
      = (y0 (ix3 0 r q) : EReal) + y1 (ix3 0 r q) + y2 (ix3 0 r q) + y3 (ix3 0 r q) := by
    pointwise [k0_pay2]
  rw [e]
  simp only [add_assoc]

/-- the moments, -/
theorem m_apply : (k0_pay3 y0 y1 y2 y3 x : FVec Ideal S128x1156 .f32) (ix2 r q)
    = Cert.Adam.moment1 (x (ix2 r q)) ((k0_pay2 y0 y1 y2 y3 : FVec Ideal S128x1156 .f32) (ix2 r q)) := by
  unfold Cert.Adam.moment1
  pointwise [k0_pay3]

theorem v_apply : (k0_pay4 y0 y1 y2 y3 x : FVec Ideal S128x1156 .f32) (ix2 r q)
    = Cert.Adam.moment2 (x (ix2 r q)) ((k0_pay2 y0 y1 y2 y3 : FVec Ideal S128x1156 .f32) (ix2 r q)) := by
  unfold Cert.Adam.moment2
  pointwise [k0_pay4]

/-- and the weight's change. -/
theorem delta_apply : (k0_pay1 w v (k0_pay5 y0 y1 y2 y3 x) (Named.named κ "c2" 0x42C8E6D3#32) : FVec Ideal S128x1156 .f32) (ix2 r q)
    = Cert.Adam.delta (w (ix2 r q)) ((k0_pay3 y0 y1 y2 y3 x : FVec Ideal S128x1156 .f32) (ix2 r q)) (v (ix2 r q)) := by
  unfold Cert.Adam.delta
  pointwise [k0_pay1, k0_pay5, named1, named2]

end Payloads

variable (m : (ℓ : Loc nD τ sig) → Buf (Elt Ideal) ℓ) (c : Dev nD)

/-- The blocks a point reads and writes. -/
theorem idx : ∀ t : Fin cfg0.N, win0_0.index t = ![0, t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

theorem row_lt (t : Fin cfg0.N) (r : Fin 128) : 128 * t.val + r.val < 1024 := by
  have := lt_of_lt_of_eq t.isLt (show cfg0.N = 8 from N_0); omega

end Cert.Kernel48Ideal.Step

namespace Cert.Proof

theorem preserves48 : Cert.preserves_Kernel48_Kernel48Ideal :=
  ⟨IdealRules.named_const.statement _ _ _ _ _ rfl, IdealRules.named_const.statement _ _ _ _ _ rfl⟩

open Cert.Kernel48Ideal.Step in
/-- The kernel's results are the reference's. -/
theorem algebraic48 : Cert.algebraic_Kernel48Ideal_Reference48Ideal := by
  intro m ρ m' ρ' _ hagree
  refine ⟨fun c => (Cert.Kernel48Ideal.Gen.dats m 0 c).arrAt 5 Cert.Kernel48Ideal.cfg0.N, fun c => (Cert.Kernel48Ideal.Gen.dats m 0 c).arrAt 6 Cert.Kernel48Ideal.cfg0.N,
    fun c => (Cert.Kernel48Ideal.Gen.dats m 0 c).arrAt 7 Cert.Kernel48Ideal.cfg0.N, fun c => (Cert.Kernel48Ideal.Gen.dats m 0 c).arrAt 8 Cert.Kernel48Ideal.cfg0.N,
    Cert.Kernel48Ideal.Value.run_blocks m ρ, ?_⟩
  refine (θ_run _ _ _).mono (fun _ h c => ⟨(h c).1.trans ?_, (h c).2.1.trans ?_, (h c).2.2.1.trans ?_, (h c).2.2.2.1.trans ?_, (h c).2.2.2.2⟩)
    (Cert.Reference48Ideal.Value.run m' ρ')
  all_goals
    clear h
    obtain ⟨e0, e1, e2, e3, e4⟩ := hagree c
    rw [e0, e1]
    symm
  · refine (Cert.Kernel48Ideal.Gen.dats m 0 c).arrAt_eq_of_covers 5 _ (by decide +kernel) fun t hf y => ?_
    blk_simp
    rw [Cert.Kernel48Ideal.Gen.after0_5]
    frame_out
    obtain ⟨r, q, rfl⟩ : ∃ (r : Fin 128) (q : Fin 1156), y = ix2 r q := ⟨y 0, y 1, eq_ix2 y⟩
    rw [show ((View.whole Cert.Kernel48Ideal.main_v0_0).slice (Cert.Kernel48Ideal.win0_5.rect t)).emb (ix2 r q) = ix2 ⟨128 * t.val + r.val, row_lt t r⟩ q from
      by blk_ext [(idx t).2.2.2.2.2.1]]
    refine (grad_apply _ _ _ _ r q).trans ?_
    pointwise []
    rw [Fin.sum_univ_three]
    blk_point [Cert.Kernel48Ideal.Gen.iblk, Cert.Kernel48Ideal.Gen.V, idx t]
  · refine (Cert.Kernel48Ideal.Gen.dats m 0 c).arrAt_eq_of_covers 6 _ (by decide +kernel) fun t hf y => ?_
    blk_simp
    rw [Cert.Kernel48Ideal.Gen.after0_6]
    unfold Cert.Kernel48Ideal.Gen.out0_6 Cert.Kernel48Ideal.Gen.k0_pay6
    frame_out
    obtain ⟨r, q, rfl⟩ : ∃ (r : Fin 128) (q : Fin 1156), y = ix2 r q := ⟨y 0, y 1, eq_ix2 y⟩
    rw [show ((View.whole Cert.Kernel48Ideal.main_v0_1).slice (Cert.Kernel48Ideal.win0_6.rect t)).emb (ix2 r q) = ix2 ⟨128 * t.val + r.val, row_lt t r⟩ q from
      by blk_ext [(idx t).2.2.2.2.2.2.1]]
    refine (delta_apply _ _ _ _ _ _ _ r q).trans ?_
    unfold Cert.Adam.delta
    rw [m_apply, v_apply, grad_apply]
    unfold Cert.Adam.moment1 Cert.Adam.moment2
    rw [e2, e3, e4]
    pointwise []
    rw [Fin.sum_univ_three]
    simp only [Cert.Adam.div1, Cert.Adam.div2]
    blk_point [Cert.Kernel48Ideal.Gen.iblk, Cert.Kernel48Ideal.Gen.V, idx t]
  · refine (Cert.Kernel48Ideal.Gen.dats m 0 c).arrAt_eq_of_covers 7 _ (by decide +kernel) fun t hf y => ?_
    blk_simp
    rw [Cert.Kernel48Ideal.Gen.after0_7]
    frame_out
    obtain ⟨r, q, rfl⟩ : ∃ (r : Fin 128) (q : Fin 1156), y = ix2 r q := ⟨y 0, y 1, eq_ix2 y⟩
    rw [show ((View.whole Cert.Kernel48Ideal.main_v0_2).slice (Cert.Kernel48Ideal.win0_7.rect t)).emb (ix2 r q) = ix2 ⟨128 * t.val + r.val, row_lt t r⟩ q from
      by blk_ext [(idx t).2.2.2.2.2.2.2.1]]
    refine (m_apply _ _ _ _ _ r q).trans ?_
    rw [grad_apply, e3]
    unfold Cert.Adam.moment1
    pointwise []
    rw [Fin.sum_univ_three]
    blk_point [Cert.Kernel48Ideal.Gen.iblk, Cert.Kernel48Ideal.Gen.V, idx t]
  · refine (Cert.Kernel48Ideal.Gen.dats m 0 c).arrAt_eq_of_covers 8 _ (by decide +kernel) fun t hf y => ?_
    blk_simp
    rw [Cert.Kernel48Ideal.Gen.after0_8]
    unfold Cert.Kernel48Ideal.Gen.out0_8 Cert.Kernel48Ideal.Gen.k0_pay6
    frame_out
    obtain ⟨r, q, rfl⟩ : ∃ (r : Fin 128) (q : Fin 1156), y = ix2 r q := ⟨y 0, y 1, eq_ix2 y⟩
    rw [show ((View.whole Cert.Kernel48Ideal.main_v0_3).slice (Cert.Kernel48Ideal.win0_8.rect t)).emb (ix2 r q) = ix2 ⟨128 * t.val + r.val, row_lt t r⟩ q from
      by blk_ext [(idx t).2.2.2.2.2.2.2.2]]
    refine (v_apply _ _ _ _ _ r q).trans ?_
    rw [grad_apply, e4]
    unfold Cert.Adam.moment2
    pointwise []
    rw [Fin.sum_univ_three]
    blk_point [Cert.Kernel48Ideal.Gen.iblk, Cert.Kernel48Ideal.Gen.V, idx t]

end Cert.Proof
-- ==== Proof.AdamConv.lean ====
/-
  The optimiser's step of the convolution's weight: each point's blocks of the summed gradient, of the weight's change and of the new
  moments are the blocks of the reference's.
-/
module

public import proofs.«01_k».proof.Defs
public import proofs.«01_k».proof.Proof.Adam
public import proofs.«01_k».proof.Proof.Gen.Kernel49Ideal.Value
public import proofs.«01_k».proof.Proof.Gen.Reference49Ideal.Run
public import Idealize.ShloMosaic.Lib.Pipeline.ValueKit

@[expose] public section

set_option maxRecDepth 16384

noncomputable section

open Idealize.ShloMosaic Idealize.ShloMosaic.TcCoe Idealize.SL.Sem

namespace Cert.Kernel49Ideal.Step

open Cert.Kernel49Ideal Cert.Kernel49Ideal.Gen

/-- The two named constants. -/
theorem named1 : Named.named (F := Ideal) κ "c1" (φ := .f32) 0x3FC48605#32 = Cert.Adam.inv1 :=
  IdealRules.named_const.ideal_named_scalar _ _ _ _ rfl

theorem named2 : Named.named (F := Ideal) κ "c2" (φ := .f32) 0x42C8E6D3#32 = Cert.Adam.inv2 :=
  IdealRules.named_const.ideal_named_scalar _ _ _ _ rfl

section Payloads

variable (y0 y1 y2 y3 : Vec Ideal S1x4x512 .f32) (w x : Vec Ideal S4x512 .f32) (v : FVec Ideal S4x512 .f32) (r : Fin 4) (q : Fin 512)

/-- What a point writes at an index of its block: the gradient's sum, -/
theorem grad_apply : (k0_pay2 y0 y1 y2 y3 : FVec Ideal S4x512 .f32) (ix2 r q)
    = (y0 (ix3 0 r q) : EReal) + (y1 (ix3 0 r q) + y2 (ix3 0 r q) + y3 (ix3 0 r q)) := by
  have e : (k0_pay2 y0 y1 y2 y3 : FVec Ideal S4x512 .f32) (ix2 r q)
      = (y0 (ix3 0 r q) : EReal) + y1 (ix3 0 r q) + y2 (ix3 0 r q) + y3 (ix3 0 r q) := by
    pointwise [k0_pay2]
  rw [e]
  simp only [add_assoc]

/-- the moments, -/
theorem m_apply : (k0_pay3 y0 y1 y2 y3 x : FVec Ideal S4x512 .f32) (ix2 r q)
    = Cert.Adam.moment1 (x (ix2 r q)) ((k0_pay2 y0 y1 y2 y3 : FVec Ideal S4x512 .f32) (ix2 r q)) := by
  unfold Cert.Adam.moment1
  pointwise [k0_pay3]

theorem v_apply : (k0_pay4 y0 y1 y2 y3 x : FVec Ideal S4x512 .f32) (ix2 r q)
    = Cert.Adam.moment2 (x (ix2 r q)) ((k0_pay2 y0 y1 y2 y3 : FVec Ideal S4x512 .f32) (ix2 r q)) := by
  unfold Cert.Adam.moment2
  pointwise [k0_pay4]

/-- and the weight's change. -/
theorem delta_apply (y : Vec Ideal S4x512 .f32) : (k0_pay1 w (k0_pay5 y0 y1 y2 y3 x) (k0_pay6 y0 y1 y2 y3 y) (Scalar.ofBits .f32 0x322BCC77#32) : FVec Ideal S4x512 .f32) (ix2 r q)
    = Cert.Adam.delta (w (ix2 r q)) ((k0_pay3 y0 y1 y2 y3 x : FVec Ideal S4x512 .f32) (ix2 r q)) ((k0_pay4 y0 y1 y2 y3 y : FVec Ideal S4x512 .f32) (ix2 r q)) := by
  unfold Cert.Adam.delta
  pointwise [k0_pay1, k0_pay5, k0_pay6, named1, named2]

end Payloads

variable (m : (ℓ : Loc nD τ sig) → Buf (Elt Ideal) ℓ) (c : Dev nD)

/-- The blocks a point reads and writes. -/
theorem idx : ∀ t : Fin cfg0.N, win0_0.index t = ![0, t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

theorem row_lt (t : Fin cfg0.N) (r : Fin 4) : 4 * t.val + r.val < 4 := by
  have := lt_of_lt_of_eq t.isLt (show cfg0.N = 1 from N_0); omega

end Cert.Kernel49Ideal.Step

namespace Cert.Proof

theorem preserves49 : Cert.preserves_Kernel49_Kernel49Ideal :=
  ⟨IdealRules.named_const.statement _ _ _ _ _ rfl, IdealRules.named_const.statement _ _ _ _ _ rfl⟩

open Cert.Kernel49Ideal.Step in
/-- The kernel's results are the reference's. -/
theorem algebraic49 : Cert.algebraic_Kernel49Ideal_Reference49Ideal := by
  intro m ρ m' ρ' _ hagree
  refine ⟨fun c => (Cert.Kernel49Ideal.Gen.dats m 0 c).arrAt 5 Cert.Kernel49Ideal.cfg0.N, fun c => (Cert.Kernel49Ideal.Gen.dats m 0 c).arrAt 6 Cert.Kernel49Ideal.cfg0.N,
    fun c => (Cert.Kernel49Ideal.Gen.dats m 0 c).arrAt 7 Cert.Kernel49Ideal.cfg0.N, fun c => (Cert.Kernel49Ideal.Gen.dats m 0 c).arrAt 8 Cert.Kernel49Ideal.cfg0.N,
    Cert.Kernel49Ideal.Value.run_blocks m ρ, ?_⟩
  refine (θ_run _ _ _).mono (fun _ h c => ⟨(h c).1.trans ?_, (h c).2.1.trans ?_, (h c).2.2.1.trans ?_, (h c).2.2.2.1.trans ?_, (h c).2.2.2.2⟩)
    (Cert.Reference49Ideal.Value.run m' ρ')
  all_goals
    clear h
    obtain ⟨e0, e1, e2, e3, e4⟩ := hagree c
    rw [e0, e1]
    symm
  · refine (Cert.Kernel49Ideal.Gen.dats m 0 c).arrAt_eq_of_covers 5 _ (by decide +kernel) fun t hf y => ?_
    blk_simp
    rw [Cert.Kernel49Ideal.Gen.after0_5]
    frame_out
    obtain ⟨r, q, rfl⟩ : ∃ (r : Fin 4) (q : Fin 512), y = ix2 r q := ⟨y 0, y 1, eq_ix2 y⟩
    rw [show ((View.whole Cert.Kernel49Ideal.main_v0_0).slice (Cert.Kernel49Ideal.win0_5.rect t)).emb (ix2 r q) = ix2 ⟨4 * t.val + r.val, row_lt t r⟩ q from
      by blk_ext [(idx t).2.2.2.2.2.1]]
    refine (grad_apply _ _ _ _ r q).trans ?_
    pointwise []
    rw [Fin.sum_univ_three]
    blk_point [Cert.Kernel49Ideal.Gen.iblk, Cert.Kernel49Ideal.Gen.V, idx t]
  · refine (Cert.Kernel49Ideal.Gen.dats m 0 c).arrAt_eq_of_covers 6 _ (by decide +kernel) fun t hf y => ?_
    blk_simp
    rw [Cert.Kernel49Ideal.Gen.after0_6]
    unfold Cert.Kernel49Ideal.Gen.out0_6
    frame_out
    obtain ⟨r, q, rfl⟩ : ∃ (r : Fin 4) (q : Fin 512), y = ix2 r q := ⟨y 0, y 1, eq_ix2 y⟩
    rw [show ((View.whole Cert.Kernel49Ideal.main_v0_1).slice (Cert.Kernel49Ideal.win0_6.rect t)).emb (ix2 r q) = ix2 ⟨4 * t.val + r.val, row_lt t r⟩ q from
      by blk_ext [(idx t).2.2.2.2.2.2.1]]
    refine (delta_apply _ _ _ _ _ _ r q _).trans ?_
    unfold Cert.Adam.delta
    rw [m_apply, v_apply, grad_apply]
    unfold Cert.Adam.moment1 Cert.Adam.moment2
    rw [e2, e3, e4]
    pointwise []
    rw [Fin.sum_univ_three]
    simp only [Cert.Adam.div1, Cert.Adam.div2]
    blk_point [Cert.Kernel49Ideal.Gen.iblk, Cert.Kernel49Ideal.Gen.V, idx t]
  · refine (Cert.Kernel49Ideal.Gen.dats m 0 c).arrAt_eq_of_covers 7 _ (by decide +kernel) fun t hf y => ?_
    blk_simp
    rw [Cert.Kernel49Ideal.Gen.after0_7]
    frame_out
    obtain ⟨r, q, rfl⟩ : ∃ (r : Fin 4) (q : Fin 512), y = ix2 r q := ⟨y 0, y 1, eq_ix2 y⟩
    rw [show ((View.whole Cert.Kernel49Ideal.main_v0_2).slice (Cert.Kernel49Ideal.win0_7.rect t)).emb (ix2 r q) = ix2 ⟨4 * t.val + r.val, row_lt t r⟩ q from
      by blk_ext [(idx t).2.2.2.2.2.2.2.1]]
    refine (m_apply _ _ _ _ _ r q).trans ?_
    rw [grad_apply, e3]
    unfold Cert.Adam.moment1
    pointwise []
    rw [Fin.sum_univ_three]
    blk_point [Cert.Kernel49Ideal.Gen.iblk, Cert.Kernel49Ideal.Gen.V, idx t]
  · refine (Cert.Kernel49Ideal.Gen.dats m 0 c).arrAt_eq_of_covers 8 _ (by decide +kernel) fun t hf y => ?_
    blk_simp
    rw [Cert.Kernel49Ideal.Gen.after0_8]
    unfold Cert.Kernel49Ideal.Gen.out0_8
    frame_out
    obtain ⟨r, q, rfl⟩ : ∃ (r : Fin 4) (q : Fin 512), y = ix2 r q := ⟨y 0, y 1, eq_ix2 y⟩
    rw [show ((View.whole Cert.Kernel49Ideal.main_v0_3).slice (Cert.Kernel49Ideal.win0_8.rect t)).emb (ix2 r q) = ix2 ⟨4 * t.val + r.val, row_lt t r⟩ q from
      by blk_ext [(idx t).2.2.2.2.2.2.2.2]]
    refine (v_apply _ _ _ _ _ r q).trans ?_
    rw [grad_apply, e4]
    unfold Cert.Adam.moment2
    pointwise []
    rw [Fin.sum_univ_three]
    blk_point [Cert.Kernel49Ideal.Gen.iblk, Cert.Kernel49Ideal.Gen.V, idx t]

end Cert.Proof
-- ==== Proof.AdamSmall.lean ====
/-
  The optimiser's step of the packed small weights: each point's blocks of the weights' change and of the new moments are the
  blocks of the reference's.
-/
module

public import proofs.«01_k».proof.Defs
public import proofs.«01_k».proof.Proof.Adam
public import proofs.«01_k».proof.Proof.Gen.Kernel50Ideal.Value
public import proofs.«01_k».proof.Proof.Gen.Reference50Ideal.Run
public import Idealize.ShloMosaic.Lib.Pipeline.ValueKit

@[expose] public section

set_option maxRecDepth 16384

noncomputable section

open Idealize.ShloMosaic Idealize.ShloMosaic.TcCoe Idealize.SL.Sem

namespace Cert.Kernel50Ideal.Step

open Cert.Kernel50Ideal Cert.Kernel50Ideal.Gen

/-- The two named constants. -/
theorem named1 : Named.named (F := Ideal) κ "c1" (φ := .f32) 0x3FC48605#32 = Cert.Adam.inv1 :=
  IdealRules.named_const.ideal_named_scalar _ _ _ _ rfl

theorem named2 : Named.named (F := Ideal) κ "c2" (φ := .f32) 0x42C8E6D3#32 = Cert.Adam.inv2 :=
  IdealRules.named_const.ideal_named_scalar _ _ _ _ rfl

/-- The blocks a point reads and writes. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem row_lt (t : Fin cfg0.N) (r : Fin 1128) : 1128 * t.val + r.val < 2256 := by
  have := lt_of_lt_of_eq t.isLt (show cfg0.N = 2 from N_0); omega

end Cert.Kernel50Ideal.Step

namespace Cert.Proof

theorem preserves50 : Cert.preserves_Kernel50_Kernel50Ideal :=
  ⟨IdealRules.named_const.statement _ _ _ _ _ rfl, IdealRules.named_const.statement _ _ _ _ _ rfl⟩

open Cert.Kernel50Ideal.Step in
/-- The kernel's results are the reference's. -/
theorem algebraic50 : Cert.algebraic_Kernel50Ideal_Reference50Ideal := by
  intro m ρ m' ρ' _ hagree
  refine ⟨fun c => (Cert.Kernel50Ideal.Gen.dats m 0 c).arrAt 4 Cert.Kernel50Ideal.cfg0.N,
    fun c => (Cert.Kernel50Ideal.Gen.dats m 0 c).arrAt 5 Cert.Kernel50Ideal.cfg0.N,
    fun c => (Cert.Kernel50Ideal.Gen.dats m 0 c).arrAt 6 Cert.Kernel50Ideal.cfg0.N, Cert.Kernel50Ideal.Value.run_blocks m ρ, ?_⟩
  refine (θ_run _ _ _).mono (fun _ h c => ⟨(h c).1.trans ?_, (h c).2.1.trans ?_, (h c).2.2.1.trans ?_, (h c).2.2.2⟩) (Cert.Reference50Ideal.Value.run m' ρ')
  all_goals
    clear h
    obtain ⟨e0, e1, e2, e3⟩ := hagree c
    symm
  · refine (Cert.Kernel50Ideal.Gen.dats m 0 c).arrAt_eq_of_covers 4 _ (by decide +kernel) fun t hf y => ?_
    blk_simp
    rw [Cert.Kernel50Ideal.Gen.after0_4]
    frame_out
    obtain ⟨r, q, rfl⟩ : ∃ (r : Fin 1128) (q : Fin 128), y = ix2 r q := ⟨y 0, y 1, eq_ix2 y⟩
    rw [show ((View.whole Cert.Kernel50Ideal.main_v0_0).slice (Cert.Kernel50Ideal.win0_4.rect t)).emb (ix2 r q) = ix2 ⟨1128 * t.val + r.val, row_lt t r⟩ q from
      by blk_ext [(idx t).2.2.2.2.1]]
    rw [e0, e1, e2, e3]
    pointwise [Cert.Kernel50Ideal.Gen.k0_pay3, Cert.Kernel50Ideal.Gen.k0_pay1, Cert.Kernel50Ideal.Gen.k0_pay2, named1, named2]
    simp only [Cert.Adam.div1, Cert.Adam.div2]
    blk_point [Cert.Kernel50Ideal.Gen.iblk, Cert.Kernel50Ideal.Gen.V, idx t]
  · refine (Cert.Kernel50Ideal.Gen.dats m 0 c).arrAt_eq_of_covers 5 _ (by decide +kernel) fun t hf y => ?_
    blk_simp
    rw [Cert.Kernel50Ideal.Gen.after0_5]
    frame_out
    obtain ⟨r, q, rfl⟩ : ∃ (r : Fin 1128) (q : Fin 128), y = ix2 r q := ⟨y 0, y 1, eq_ix2 y⟩
    rw [show ((View.whole Cert.Kernel50Ideal.main_v0_1).slice (Cert.Kernel50Ideal.win0_5.rect t)).emb (ix2 r q) = ix2 ⟨1128 * t.val + r.val, row_lt t r⟩ q from
      by blk_ext [(idx t).2.2.2.2.2.1]]
    rw [e0, e2]
    pointwise [Cert.Kernel50Ideal.Gen.k0_pay1]
    blk_point [Cert.Kernel50Ideal.Gen.iblk, Cert.Kernel50Ideal.Gen.V, idx t]
  · refine (Cert.Kernel50Ideal.Gen.dats m 0 c).arrAt_eq_of_covers 6 _ (by decide +kernel) fun t hf y => ?_
    blk_simp
    rw [Cert.Kernel50Ideal.Gen.after0_6]
    frame_out
    obtain ⟨r, q, rfl⟩ : ∃ (r : Fin 1128) (q : Fin 128), y = ix2 r q := ⟨y 0, y 1, eq_ix2 y⟩
    rw [show ((View.whole Cert.Kernel50Ideal.main_v0_2).slice (Cert.Kernel50Ideal.win0_6.rect t)).emb (ix2 r q) = ix2 ⟨1128 * t.val + r.val, row_lt t r⟩ q from
      by blk_ext [(idx t).2.2.2.2.2.2]]
    rw [e0, e3]
    pointwise [Cert.Kernel50Ideal.Gen.k0_pay2]
    blk_point [Cert.Kernel50Ideal.Gen.iblk, Cert.Kernel50Ideal.Gen.V, idx t]

end Cert.Proof
-- ==== Proof.lean ====
module

public import proofs.«01_k».proof.Defs
public import proofs.«01_k».proof.Proof.Gen.Kernel
public import proofs.«01_k».proof.Proof.Value
public import proofs.«01_k».proof.Proof.RefValue
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame
public import proofs.«01_k».proof.Proof.Gen.Kernel24.Frame
public import proofs.«01_k».proof.Proof.Gen.Kernel25.Frame
public import proofs.«01_k».proof.Proof.Gen.Kernel26.Frame
public import proofs.«01_k».proof.Proof.Gen.Kernel27.Frame
public import proofs.«01_k».proof.Proof.Gen.Kernel28.Frame
public import proofs.«01_k».proof.Proof.Gen.Kernel29.Frame
public import proofs.«01_k».proof.Proof.Gen.Kernel30.Frame
public import proofs.«01_k».proof.Proof.Gen.Kernel31.Frame
public import proofs.«01_k».proof.Proof.Gen.Kernel32.Frame
public import proofs.«01_k».proof.Proof.Gen.Kernel33.Frame
public import proofs.«01_k».proof.Proof.Gen.Kernel34.Frame
public import proofs.«01_k».proof.Proof.Gen.Kernel35.Frame
public import proofs.«01_k».proof.Proof.Gen.Kernel36.Frame
public import proofs.«01_k».proof.Proof.Gen.Kernel37.Frame
public import proofs.«01_k».proof.Proof.Gen.Kernel38.Frame
public import proofs.«01_k».proof.Proof.Gen.Kernel39.Frame
public import proofs.«01_k».proof.Proof.Gen.Kernel40.Frame
public import proofs.«01_k».proof.Proof.Gen.Kernel41.Frame
public import proofs.«01_k».proof.Proof.Gen.Kernel42.Frame
public import proofs.«01_k».proof.Proof.Gen.Kernel43.Frame
public import proofs.«01_k».proof.Proof.Gen.Kernel44.Frame
public import proofs.«01_k».proof.Proof.Gen.Kernel45.Frame
public import proofs.«01_k».proof.Proof.Gen.Kernel46.Frame
public import proofs.«01_k».proof.Proof.Gen.Kernel47.Frame
public import proofs.«01_k».proof.Proof.Gen.Kernel48.Frame
public import proofs.«01_k».proof.Proof.Gen.Kernel49.Frame
public import proofs.«01_k».proof.Proof.Gen.Kernel50.Frame
public import proofs.«01_k».proof.Proof.Act
public import proofs.«01_k».proof.Proof.Wgu
public import proofs.«01_k».proof.Proof.DH
public import proofs.«01_k».proof.Proof.Wdown
public import proofs.«01_k».proof.Proof.Norm
public import proofs.«01_k».proof.Proof.Merge
public import proofs.«01_k».proof.Proof.GatedNorm
public import proofs.«01_k».proof.Proof.Glu
public import proofs.«01_k».proof.Proof.Gelu
public import proofs.«01_k».proof.Proof.Dt
public import proofs.«01_k».proof.Proof.Loss
public import proofs.«01_k».proof.Proof.DWz
public import proofs.«01_k».proof.Proof.DWxbc
public import proofs.«01_k».proof.Proof.DMerged
public import proofs.«01_k».proof.Proof.DWout
public import proofs.«01_k».proof.Proof.DYn
public import proofs.«01_k».proof.Proof.DWssd
public import proofs.«01_k».proof.Proof.DG
public import proofs.«01_k».proof.Proof.DWglu
public import proofs.«01_k».proof.Proof.InZ
public import proofs.«01_k».proof.Proof.InXbc
public import proofs.«01_k».proof.Proof.GateUp
public import proofs.«01_k».proof.Proof.Down
public import proofs.«01_k».proof.Proof.OutProj
public import proofs.«01_k».proof.Proof.ProjSsd
public import proofs.«01_k».proof.Proof.DO
public import proofs.«01_k».proof.Proof.DWproj
public import proofs.«01_k».proof.Proof.DWu
public import proofs.«01_k».proof.Proof.DWdt
public import proofs.«01_k».proof.Proof.DHdt
public import proofs.«01_k».proof.Proof.InU
public import proofs.«01_k».proof.Proof.ProjS5
public import proofs.«01_k».proof.Proof.GluIn
public import proofs.«01_k».proof.Proof.InDt
public import proofs.«01_k».proof.Proof.Conv
public import proofs.«01_k».proof.Proof.NormF
public import proofs.«01_k».proof.Proof.ActF
public import proofs.«01_k».proof.Proof.GeluF
public import proofs.«01_k».proof.Proof.GluF
public import proofs.«01_k».proof.Proof.MergeF
public import proofs.«01_k».proof.Proof.GatedF
public import proofs.«01_k».proof.Proof.SumSmall
public import proofs.«01_k».proof.Proof.AdamGate
public import proofs.«01_k».proof.Proof.AdamDown
public import proofs.«01_k».proof.Proof.AdamProj
public import proofs.«01_k».proof.Proof.AdamSsd
public import proofs.«01_k».proof.Proof.AdamIn
public import proofs.«01_k».proof.Proof.AdamConv
public import proofs.«01_k».proof.Proof.AdamSmall
public import Idealize.ShloMosaic.Lib.Quiescent

@[expose] public section

noncomputable section

namespace Cert.Proof

open Idealize.ShloMosaic Idealize.ShloMosaic.TcCoe Idealize.SL.Sem

/-- The kernel and its ideal reading have the same text: the same table of bodies. -/
theorem bodies_eq : @Cert.Kernel.defs₀ Bits _ _ = @Cert.KernelIdeal.defs₀ Bits _ _ := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

theorem defs_eq : @Cert.Kernel.defs Bits _ _ = @Cert.KernelIdeal.defs Bits _ _ :=
  congrArg (Pipeline.defs Cert.KernelIdeal.pcfgs) bodies_eq

theorem frame_kernel : Cert.quiescent_Kernel := fun m ρ _ => by
  rw [defs_eq]
  exact Cert.KernelIdeal.Scan.run_frame (F := Bits) m ρ

theorem frame_kernelIdeal : Cert.quiescent_KernelIdeal := fun m ρ _ =>
  Cert.KernelIdeal.Scan.run_frame m ρ

theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩) (Cert.ReferenceIdeal.Value.run m ρ)

theorem algebraic : Cert.algebraic_KernelIdeal_ReferenceIdeal := by
  intro m ρ m' ρ' _ hagree
  refine ⟨fun c => Cert.KernelIdeal.Scan.resR m c, fun c => Cert.KernelIdeal.Scan.resI m c,
    Cert.KernelIdeal.Scan.run m ρ, ?_⟩
  refine (θ_run _ _ _).mono (fun _ h c => ⟨(h c).1.trans ?_, (h c).2.1.trans ?_, (h c).2.2⟩)
    (Cert.ReferenceIdeal.Scan.run_states m' ρ')
  · obtain ⟨e0, e1, e2, e3, e4⟩ := hagree c
    rw [e0, e1, e2, e3, e4]
    funext y
    obtain ⟨t, q, rfl⟩ : ∃ (t q : Fin 4096), y = ix2 t q := ⟨y 0, y 1, eq_ix2 y⟩
    exact (Cert.ReferenceIdeal.Scan.result_apply _ _ _ _ _ t q).1
  · obtain ⟨e0, e1, e2, e3, e4⟩ := hagree c
    rw [e0, e1, e2, e3, e4]
    funext y
    obtain ⟨t, q, rfl⟩ : ∃ (t q : Fin 4096), y = ix2 t q := ⟨y 0, y 1, eq_ix2 y⟩
    exact (Cert.ReferenceIdeal.Scan.result_apply _ _ _ _ _ t q).2

theorem frame_reference2 : Cert.quiescent_Reference2Ideal := fun m ρ _ =>
  (θ_run Cert.Reference2Ideal.defs _ _).mono (fun r h => ⟨fun c => (h c).2,
      Idealize.ShloMosaic.sem_eq_zero_of_no_sems (by decide) r.2⟩) (Cert.Reference2Ideal.Value.run m ρ)

theorem frame_reference3 : Cert.quiescent_Reference3Ideal := fun m ρ _ =>
  (θ_run Cert.Reference3Ideal.defs _ _).mono (fun r h => ⟨fun c => (h c).2,
      Idealize.ShloMosaic.sem_eq_zero_of_no_sems (by decide) r.2⟩) (Cert.Reference3Ideal.Value.run m ρ)

theorem frame_reference4 : Cert.quiescent_Reference4Ideal := fun m ρ _ =>
  (θ_run Cert.Reference4Ideal.defs _ _).mono (fun r h => ⟨fun c => (h c).2,
      Idealize.ShloMosaic.sem_eq_zero_of_no_sems (by decide) r.2⟩) (Cert.Reference4Ideal.Value.run m ρ)

theorem frame_reference5 : Cert.quiescent_Reference5Ideal := fun m ρ _ =>
  (θ_run Cert.Reference5Ideal.defs _ _).mono (fun r h => ⟨fun c => (h c).2,
      Idealize.ShloMosaic.sem_eq_zero_of_no_sems (by decide) r.2⟩) (Cert.Reference5Ideal.Value.run m ρ)

theorem frame_reference6 : Cert.quiescent_Reference6Ideal := fun m ρ _ =>
  (θ_run Cert.Reference6Ideal.defs _ _).mono (fun r h => ⟨fun c => (h c).2.2,
      Idealize.ShloMosaic.sem_eq_zero_of_no_sems (by decide) r.2⟩) (Cert.Reference6Ideal.Value.run m ρ)

theorem frame_reference7 : Cert.quiescent_Reference7Ideal := fun m ρ _ =>
  (θ_run Cert.Reference7Ideal.defs _ _).mono (fun r h => ⟨fun c => (h c).2.2.2.2,
      Idealize.ShloMosaic.sem_eq_zero_of_no_sems (by decide) r.2⟩) (Cert.Reference7Ideal.Value.run m ρ)

theorem frame_reference8 : Cert.quiescent_Reference8Ideal := fun m ρ _ =>
  (θ_run Cert.Reference8Ideal.defs _ _).mono (fun r h => ⟨fun c => (h c).2.2.2,
      Idealize.ShloMosaic.sem_eq_zero_of_no_sems (by decide) r.2⟩) (Cert.Reference8Ideal.Value.run m ρ)

theorem frame_reference9 : Cert.quiescent_Reference9Ideal := fun m ρ _ =>
  (θ_run Cert.Reference9Ideal.defs _ _).mono (fun r h => ⟨fun c => (h c).2.2.2,
      Idealize.ShloMosaic.sem_eq_zero_of_no_sems (by decide) r.2⟩) (Cert.Reference9Ideal.Value.run m ρ)

theorem frame_reference10 : Cert.quiescent_Reference10Ideal := fun m ρ _ =>
  (θ_run Cert.Reference10Ideal.defs _ _).mono (fun r h => ⟨fun c => (h c).2.2.2,
      Idealize.ShloMosaic.sem_eq_zero_of_no_sems (by decide) r.2⟩) (Cert.Reference10Ideal.Value.run m ρ)

theorem frame_reference11 : Cert.quiescent_Reference11Ideal := fun m ρ _ =>
  (θ_run Cert.Reference11Ideal.defs _ _).mono (fun r h => ⟨fun c => (h c).2.2.2,
      Idealize.ShloMosaic.sem_eq_zero_of_no_sems (by decide) r.2⟩) (Cert.Reference11Ideal.Value.run m ρ)

theorem frame_reference12 : Cert.quiescent_Reference12Ideal := fun m ρ _ =>
  (θ_run Cert.Reference12Ideal.defs _ _).mono (fun r h => ⟨fun c => (h c).2.2.2,
      Idealize.ShloMosaic.sem_eq_zero_of_no_sems (by decide) r.2⟩) (Cert.Reference12Ideal.Value.run m ρ)

theorem frame_reference13 : Cert.quiescent_Reference13Ideal := fun m ρ _ =>
  (θ_run Cert.Reference13Ideal.defs _ _).mono (fun r h => ⟨fun c => (h c).2,
      Idealize.ShloMosaic.sem_eq_zero_of_no_sems (by decide) r.2⟩) (Cert.Reference13Ideal.Value.run m ρ)

theorem frame_reference14 : Cert.quiescent_Reference14Ideal := fun m ρ _ =>
  (θ_run Cert.Reference14Ideal.defs _ _).mono (fun r h => ⟨fun c => (h c).2,
      Idealize.ShloMosaic.sem_eq_zero_of_no_sems (by decide) r.2⟩) (Cert.Reference14Ideal.Value.run m ρ)

theorem frame_reference15 : Cert.quiescent_Reference15Ideal := fun m ρ _ =>
  (θ_run Cert.Reference15Ideal.defs _ _).mono (fun r h => ⟨fun c => (h c).2,
      Idealize.ShloMosaic.sem_eq_zero_of_no_sems (by decide) r.2⟩) (Cert.Reference15Ideal.Value.run m ρ)

theorem frame_reference16 : Cert.quiescent_Reference16Ideal := fun m ρ _ =>
  (θ_run Cert.Reference16Ideal.defs _ _).mono (fun r h => ⟨fun c => (h c).2,
      Idealize.ShloMosaic.sem_eq_zero_of_no_sems (by decide) r.2⟩) (Cert.Reference16Ideal.Value.run m ρ)

theorem frame_reference17 : Cert.quiescent_Reference17Ideal := fun m ρ _ =>
  (θ_run Cert.Reference17Ideal.defs _ _).mono (fun r h => ⟨fun c => (h c).2,
      Idealize.ShloMosaic.sem_eq_zero_of_no_sems (by decide) r.2⟩) (Cert.Reference17Ideal.Value.run m ρ)

theorem frame_reference18 : Cert.quiescent_Reference18Ideal := fun m ρ _ =>
  (θ_run Cert.Reference18Ideal.defs _ _).mono (fun r h => ⟨fun c => (h c).2,
      Idealize.ShloMosaic.sem_eq_zero_of_no_sems (by decide) r.2⟩) (Cert.Reference18Ideal.Value.run m ρ)

theorem frame_reference19 : Cert.quiescent_Reference19Ideal := fun m ρ _ =>
  (θ_run Cert.Reference19Ideal.defs _ _).mono (fun r h => ⟨fun c => (h c).2,
      Idealize.ShloMosaic.sem_eq_zero_of_no_sems (by decide) r.2⟩) (Cert.Reference19Ideal.Value.run m ρ)

theorem frame_reference20 : Cert.quiescent_Reference20Ideal := fun m ρ _ =>
  (θ_run Cert.Reference20Ideal.defs _ _).mono (fun r h => ⟨fun c => (h c).2,
      Idealize.ShloMosaic.sem_eq_zero_of_no_sems (by decide) r.2⟩) (Cert.Reference20Ideal.Value.run m ρ)

theorem frame_reference21 : Cert.quiescent_Reference21Ideal := fun m ρ _ =>
  (θ_run Cert.Reference21Ideal.defs _ _).mono (fun r h => ⟨fun c => (h c).2,
      Idealize.ShloMosaic.sem_eq_zero_of_no_sems (by decide) r.2⟩) (Cert.Reference21Ideal.Value.run m ρ)

theorem frame_reference22 : Cert.quiescent_Reference22Ideal := fun m ρ _ =>
  (θ_run Cert.Reference22Ideal.defs _ _).mono (fun r h => ⟨fun c => (h c).2,
      Idealize.ShloMosaic.sem_eq_zero_of_no_sems (by decide) r.2⟩) (Cert.Reference22Ideal.Value.run m ρ)

theorem frame_reference23 : Cert.quiescent_Reference23Ideal := fun m ρ _ =>
  (θ_run Cert.Reference23Ideal.defs _ _).mono (fun r h => ⟨fun c => (h c).2,
      Idealize.ShloMosaic.sem_eq_zero_of_no_sems (by decide) r.2⟩) (Cert.Reference23Ideal.Value.run m ρ)

theorem frame_reference24 : Cert.quiescent_Reference24Ideal := fun m ρ _ =>
  (θ_run Cert.Reference24Ideal.defs _ _).mono (fun r h => ⟨fun c => (h c).2,
      Idealize.ShloMosaic.sem_eq_zero_of_no_sems (by decide) r.2⟩) (Cert.Reference24Ideal.Value.run m ρ)

theorem frame_reference25 : Cert.quiescent_Reference25Ideal := fun m ρ _ =>
  (θ_run Cert.Reference25Ideal.defs _ _).mono (fun r h => ⟨fun c => (h c).2,
      Idealize.ShloMosaic.sem_eq_zero_of_no_sems (by decide) r.2⟩) (Cert.Reference25Ideal.Value.run m ρ)

theorem frame_reference26 : Cert.quiescent_Reference26Ideal := fun m ρ _ =>
  (θ_run Cert.Reference26Ideal.defs _ _).mono (fun r h => ⟨fun c => (h c).2,
      Idealize.ShloMosaic.sem_eq_zero_of_no_sems (by decide) r.2⟩) (Cert.Reference26Ideal.Value.run m ρ)

theorem frame_reference27 : Cert.quiescent_Reference27Ideal := fun m ρ _ =>
  (θ_run Cert.Reference27Ideal.defs _ _).mono (fun r h => ⟨fun c => (h c).2,
      Idealize.ShloMosaic.sem_eq_zero_of_no_sems (by decide) r.2⟩) (Cert.Reference27Ideal.Value.run m ρ)

theorem frame_reference28 : Cert.quiescent_Reference28Ideal := fun m ρ _ =>
  (θ_run Cert.Reference28Ideal.defs _ _).mono (fun r h => ⟨fun c => (h c).2,
      Idealize.ShloMosaic.sem_eq_zero_of_no_sems (by decide) r.2⟩) (Cert.Reference28Ideal.Value.run m ρ)

theorem frame_reference29 : Cert.quiescent_Reference29Ideal := fun m ρ _ =>
  (θ_run Cert.Reference29Ideal.defs _ _).mono (fun r h => ⟨fun c => (h c).2,
      Idealize.ShloMosaic.sem_eq_zero_of_no_sems (by decide) r.2⟩) (Cert.Reference29Ideal.Value.run m ρ)

theorem frame_reference30 : Cert.quiescent_Reference30Ideal := fun m ρ _ =>
  (θ_run Cert.Reference30Ideal.defs _ _).mono (fun r h => ⟨fun c => (h c).2,
      Idealize.ShloMosaic.sem_eq_zero_of_no_sems (by decide) r.2⟩) (Cert.Reference30Ideal.Value.run m ρ)

theorem frame_reference31 : Cert.quiescent_Reference31Ideal := fun m ρ _ =>
  (θ_run Cert.Reference31Ideal.defs _ _).mono (fun r h => ⟨fun c => (h c).2,
      Idealize.ShloMosaic.sem_eq_zero_of_no_sems (by decide) r.2⟩) (Cert.Reference31Ideal.Value.run m ρ)

theorem frame_reference32 : Cert.quiescent_Reference32Ideal := fun m ρ _ =>
  (θ_run Cert.Reference32Ideal.defs _ _).mono (fun r h => ⟨fun c => (h c).2,
      Idealize.ShloMosaic.sem_eq_zero_of_no_sems (by decide) r.2⟩) (Cert.Reference32Ideal.Value.run m ρ)

theorem frame_reference33 : Cert.quiescent_Reference33Ideal := fun m ρ _ =>
  (θ_run Cert.Reference33Ideal.defs _ _).mono (fun r h => ⟨fun c => (h c).2,
      Idealize.ShloMosaic.sem_eq_zero_of_no_sems (by decide) r.2⟩) (Cert.Reference33Ideal.Value.run m ρ)

theorem frame_reference34 : Cert.quiescent_Reference34Ideal := fun m ρ _ =>
  (θ_run Cert.Reference34Ideal.defs _ _).mono (fun r h => ⟨fun c => (h c).2,
      Idealize.ShloMosaic.sem_eq_zero_of_no_sems (by decide) r.2⟩) (Cert.Reference34Ideal.Value.run m ρ)

theorem frame_reference35 : Cert.quiescent_Reference35Ideal := fun m ρ _ =>
  (θ_run Cert.Reference35Ideal.defs _ _).mono (fun r h => ⟨fun c => (h c).2,
      Idealize.ShloMosaic.sem_eq_zero_of_no_sems (by decide) r.2⟩) (Cert.Reference35Ideal.Value.run m ρ)

theorem frame_reference36 : Cert.quiescent_Reference36Ideal := fun m ρ _ =>
  (θ_run Cert.Reference36Ideal.defs _ _).mono (fun r h => ⟨fun c => (h c).2,
      Idealize.ShloMosaic.sem_eq_zero_of_no_sems (by decide) r.2⟩) (Cert.Reference36Ideal.Value.run m ρ)

theorem frame_reference37 : Cert.quiescent_Reference37Ideal := fun m ρ _ =>
  (θ_run Cert.Reference37Ideal.defs _ _).mono (fun r h => ⟨fun c => (h c).2,
      Idealize.ShloMosaic.sem_eq_zero_of_no_sems (by decide) r.2⟩) (Cert.Reference37Ideal.Value.run m ρ)

theorem frame_reference38 : Cert.quiescent_Reference38Ideal := fun m ρ _ =>
  (θ_run Cert.Reference38Ideal.defs _ _).mono (fun r h => ⟨fun c => (h c).2,
      Idealize.ShloMosaic.sem_eq_zero_of_no_sems (by decide) r.2⟩) (Cert.Reference38Ideal.Value.run m ρ)

theorem frame_reference39 : Cert.quiescent_Reference39Ideal := fun m ρ _ =>
  (θ_run Cert.Reference39Ideal.defs _ _).mono (fun r h => ⟨fun c => (h c).2,
      Idealize.ShloMosaic.sem_eq_zero_of_no_sems (by decide) r.2⟩) (Cert.Reference39Ideal.Value.run m ρ)

theorem frame_reference40 : Cert.quiescent_Reference40Ideal := fun m ρ _ =>
  (θ_run Cert.Reference40Ideal.defs _ _).mono (fun r h => ⟨fun c => (h c).2,
      Idealize.ShloMosaic.sem_eq_zero_of_no_sems (by decide) r.2⟩) (Cert.Reference40Ideal.Value.run m ρ)

theorem frame_reference41 : Cert.quiescent_Reference41Ideal := fun m ρ _ =>
  (θ_run Cert.Reference41Ideal.defs _ _).mono (fun r h => ⟨fun c => (h c).2,
      Idealize.ShloMosaic.sem_eq_zero_of_no_sems (by decide) r.2⟩) (Cert.Reference41Ideal.Value.run m ρ)

theorem frame_reference42 : Cert.quiescent_Reference42Ideal := fun m ρ _ =>
  (θ_run Cert.Reference42Ideal.defs _ _).mono (fun r h => ⟨fun c => (h c).2,
      Idealize.ShloMosaic.sem_eq_zero_of_no_sems (by decide) r.2⟩) (Cert.Reference42Ideal.Value.run m ρ)

theorem frame_reference43 : Cert.quiescent_Reference43Ideal := fun m ρ _ =>
  (θ_run Cert.Reference43Ideal.defs _ _).mono (fun r h => ⟨fun c => (h c).2,
      Idealize.ShloMosaic.sem_eq_zero_of_no_sems (by decide) r.2⟩) (Cert.Reference43Ideal.Value.run m ρ)

theorem frame_reference44 : Cert.quiescent_Reference44Ideal := fun m ρ _ =>
  (θ_run Cert.Reference44Ideal.defs _ _).mono (fun r h => ⟨fun c => (h c).2.2.2.2,
      Idealize.ShloMosaic.sem_eq_zero_of_no_sems (by decide) r.2⟩) (Cert.Reference44Ideal.Value.run m ρ)

theorem frame_reference45 : Cert.quiescent_Reference45Ideal := fun m ρ _ =>
  (θ_run Cert.Reference45Ideal.defs _ _).mono (fun r h => ⟨fun c => (h c).2.2.2.2,
      Idealize.ShloMosaic.sem_eq_zero_of_no_sems (by decide) r.2⟩) (Cert.Reference45Ideal.Value.run m ρ)

theorem frame_reference46 : Cert.quiescent_Reference46Ideal := fun m ρ _ =>
  (θ_run Cert.Reference46Ideal.defs _ _).mono (fun r h => ⟨fun c => (h c).2.2.2.2,
      Idealize.ShloMosaic.sem_eq_zero_of_no_sems (by decide) r.2⟩) (Cert.Reference46Ideal.Value.run m ρ)

theorem frame_reference47 : Cert.quiescent_Reference47Ideal := fun m ρ _ =>
  (θ_run Cert.Reference47Ideal.defs _ _).mono (fun r h => ⟨fun c => (h c).2.2.2.2,
      Idealize.ShloMosaic.sem_eq_zero_of_no_sems (by decide) r.2⟩) (Cert.Reference47Ideal.Value.run m ρ)

theorem frame_reference48 : Cert.quiescent_Reference48Ideal := fun m ρ _ =>
  (θ_run Cert.Reference48Ideal.defs _ _).mono (fun r h => ⟨fun c => (h c).2.2.2.2,
      Idealize.ShloMosaic.sem_eq_zero_of_no_sems (by decide) r.2⟩) (Cert.Reference48Ideal.Value.run m ρ)

theorem frame_reference49 : Cert.quiescent_Reference49Ideal := fun m ρ _ =>
  (θ_run Cert.Reference49Ideal.defs _ _).mono (fun r h => ⟨fun c => (h c).2.2.2.2,
      Idealize.ShloMosaic.sem_eq_zero_of_no_sems (by decide) r.2⟩) (Cert.Reference49Ideal.Value.run m ρ)

theorem frame_reference50 : Cert.quiescent_Reference50Ideal := fun m ρ _ =>
  (θ_run Cert.Reference50Ideal.defs _ _).mono (fun r h => ⟨fun c => (h c).2.2.2,
      Idealize.ShloMosaic.sem_eq_zero_of_no_sems (by decide) r.2⟩) (Cert.Reference50Ideal.Value.run m ρ)

theorem claim : Cert.Claim := ⟨Cert.Kernel.Gen.facts,
  Cert.KernelIdeal.Gen.facts, Cert.ReferenceIdeal.Gen.facts,
  Cert.Kernel2.Gen.facts,
  Cert.Kernel2Ideal.Gen.facts, Cert.Reference2Ideal.Gen.facts,
  Cert.Kernel3.Gen.facts,
  Cert.Kernel3Ideal.Gen.facts, Cert.Reference3Ideal.Gen.facts,
  Cert.Kernel4.Gen.facts,
  Cert.Kernel4Ideal.Gen.facts, Cert.Reference4Ideal.Gen.facts,
  Cert.Kernel5.Gen.facts,
  Cert.Kernel5Ideal.Gen.facts, Cert.Reference5Ideal.Gen.facts,
  Cert.Kernel6.Gen.facts,
  Cert.Kernel6Ideal.Gen.facts, Cert.Reference6Ideal.Gen.facts,
  Cert.Kernel7.Gen.facts,
  Cert.Kernel7Ideal.Gen.facts, Cert.Reference7Ideal.Gen.facts,
  Cert.Kernel8.Gen.facts,
  Cert.Kernel8Ideal.Gen.facts, Cert.Reference8Ideal.Gen.facts,
  Cert.Kernel9.Gen.facts,
  Cert.Kernel9Ideal.Gen.facts, Cert.Reference9Ideal.Gen.facts,
  Cert.Kernel10.Gen.facts,
  Cert.Kernel10Ideal.Gen.facts, Cert.Reference10Ideal.Gen.facts,
  Cert.Kernel11.Gen.facts,
  Cert.Kernel11Ideal.Gen.facts, Cert.Reference11Ideal.Gen.facts,
  Cert.Kernel12.Gen.facts,
  Cert.Kernel12Ideal.Gen.facts, Cert.Reference12Ideal.Gen.facts,
  Cert.Kernel13.Gen.facts,
  Cert.Kernel13Ideal.Gen.facts, Cert.Reference13Ideal.Gen.facts,
  Cert.Kernel14.Gen.facts,
  Cert.Kernel14Ideal.Gen.facts, Cert.Reference14Ideal.Gen.facts,
  Cert.Kernel15.Gen.facts,
  Cert.Kernel15Ideal.Gen.facts, Cert.Reference15Ideal.Gen.facts,
  Cert.Kernel16.Gen.facts,
  Cert.Kernel16Ideal.Gen.facts, Cert.Reference16Ideal.Gen.facts,
  Cert.Kernel17.Gen.facts,
  Cert.Kernel17Ideal.Gen.facts, Cert.Reference17Ideal.Gen.facts,
  Cert.Kernel18.Gen.facts,
  Cert.Kernel18Ideal.Gen.facts, Cert.Reference18Ideal.Gen.facts,
  Cert.Kernel19.Gen.facts,
  Cert.Kernel19Ideal.Gen.facts, Cert.Reference19Ideal.Gen.facts,
  Cert.Kernel20.Gen.facts,
  Cert.Kernel20Ideal.Gen.facts, Cert.Reference20Ideal.Gen.facts,
  Cert.Kernel21.Gen.facts,
  Cert.Kernel21Ideal.Gen.facts, Cert.Reference21Ideal.Gen.facts,
  Cert.Kernel22.Gen.facts,
  Cert.Kernel22Ideal.Gen.facts, Cert.Reference22Ideal.Gen.facts,
  Cert.Kernel23.Gen.facts,
  Cert.Kernel23Ideal.Gen.facts, Cert.Reference23Ideal.Gen.facts,
  Cert.Kernel24.Gen.facts,
  Cert.Kernel24Ideal.Gen.facts, Cert.Reference24Ideal.Gen.facts,
  Cert.Kernel25.Gen.facts,
  Cert.Kernel25Ideal.Gen.facts, Cert.Reference25Ideal.Gen.facts,
  Cert.Kernel26.Gen.facts,
  Cert.Kernel26Ideal.Gen.facts, Cert.Reference26Ideal.Gen.facts,
  Cert.Kernel27.Gen.facts,
  Cert.Kernel27Ideal.Gen.facts, Cert.Reference27Ideal.Gen.facts,
  Cert.Kernel28.Gen.facts,
  Cert.Kernel28Ideal.Gen.facts, Cert.Reference28Ideal.Gen.facts,
  Cert.Kernel29.Gen.facts,
  Cert.Kernel29Ideal.Gen.facts, Cert.Reference29Ideal.Gen.facts,
  Cert.Kernel30.Gen.facts,
  Cert.Kernel30Ideal.Gen.facts, Cert.Reference30Ideal.Gen.facts,
  Cert.Kernel31.Gen.facts,
  Cert.Kernel31Ideal.Gen.facts, Cert.Reference31Ideal.Gen.facts,
  Cert.Kernel32.Gen.facts,
  Cert.Kernel32Ideal.Gen.facts, Cert.Reference32Ideal.Gen.facts,
  Cert.Kernel33.Gen.facts,
  Cert.Kernel33Ideal.Gen.facts, Cert.Reference33Ideal.Gen.facts,
  Cert.Kernel34.Gen.facts,
  Cert.Kernel34Ideal.Gen.facts, Cert.Reference34Ideal.Gen.facts,
  Cert.Kernel35.Gen.facts,
  Cert.Kernel35Ideal.Gen.facts, Cert.Reference35Ideal.Gen.facts,
  Cert.Kernel36.Gen.facts,
  Cert.Kernel36Ideal.Gen.facts, Cert.Reference36Ideal.Gen.facts,
  Cert.Kernel37.Gen.facts,
  Cert.Kernel37Ideal.Gen.facts, Cert.Reference37Ideal.Gen.facts,
  Cert.Kernel38.Gen.facts,
  Cert.Kernel38Ideal.Gen.facts, Cert.Reference38Ideal.Gen.facts,
  Cert.Kernel39.Gen.facts,
  Cert.Kernel39Ideal.Gen.facts, Cert.Reference39Ideal.Gen.facts,
  Cert.Kernel40.Gen.facts,
  Cert.Kernel40Ideal.Gen.facts, Cert.Reference40Ideal.Gen.facts,
  Cert.Kernel41.Gen.facts,
  Cert.Kernel41Ideal.Gen.facts, Cert.Reference41Ideal.Gen.facts,
  Cert.Kernel42.Gen.facts,
  Cert.Kernel42Ideal.Gen.facts, Cert.Reference42Ideal.Gen.facts,
  Cert.Kernel43.Gen.facts,
  Cert.Kernel43Ideal.Gen.facts, Cert.Reference43Ideal.Gen.facts,
  Cert.Kernel44.Gen.facts,
  Cert.Kernel44Ideal.Gen.facts, Cert.Reference44Ideal.Gen.facts,
  Cert.Kernel45.Gen.facts,
  Cert.Kernel45Ideal.Gen.facts, Cert.Reference45Ideal.Gen.facts,
  Cert.Kernel46.Gen.facts,
  Cert.Kernel46Ideal.Gen.facts, Cert.Reference46Ideal.Gen.facts,
  Cert.Kernel47.Gen.facts,
  Cert.Kernel47Ideal.Gen.facts, Cert.Reference47Ideal.Gen.facts,
  Cert.Kernel48.Gen.facts,
  Cert.Kernel48Ideal.Gen.facts, Cert.Reference48Ideal.Gen.facts,
  Cert.Kernel49.Gen.facts,
  Cert.Kernel49Ideal.Gen.facts, Cert.Reference49Ideal.Gen.facts,
  Cert.Kernel50.Gen.facts,
  Cert.Kernel50Ideal.Gen.facts, Cert.Reference50Ideal.Gen.facts,
  frame_kernel, frame_kernelIdeal, frame_reference,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, frame_reference13,
  fun m ρ _ => Cert.Kernel14.Gen.frame m ρ, fun m ρ _ => Cert.Kernel14Ideal.Gen.frame m ρ, frame_reference14,
  fun m ρ _ => Cert.Kernel15.Gen.frame m ρ, fun m ρ _ => Cert.Kernel15Ideal.Gen.frame m ρ, frame_reference15,
  fun m ρ _ => Cert.Kernel16.Gen.frame m ρ, fun m ρ _ => Cert.Kernel16Ideal.Gen.frame m ρ, frame_reference16,
  fun m ρ _ => Cert.Kernel17.Gen.frame m ρ, fun m ρ _ => Cert.Kernel17Ideal.Gen.frame m ρ, frame_reference17,
  fun m ρ _ => Cert.Kernel18.Gen.frame m ρ, fun m ρ _ => Cert.Kernel18Ideal.Gen.frame m ρ, frame_reference18,
  fun m ρ _ => Cert.Kernel19.Gen.frame m ρ, fun m ρ _ => Cert.Kernel19Ideal.Gen.frame m ρ, frame_reference19,
  fun m ρ _ => Cert.Kernel20.Gen.frame m ρ, fun m ρ _ => Cert.Kernel20Ideal.Gen.frame m ρ, frame_reference20,
  fun m ρ _ => Cert.Kernel21.Gen.frame m ρ, fun m ρ _ => Cert.Kernel21Ideal.Gen.frame m ρ, frame_reference21,
  fun m ρ _ => Cert.Kernel22.Gen.frame m ρ, fun m ρ _ => Cert.Kernel22Ideal.Gen.frame m ρ, frame_reference22,
  fun m ρ _ => Cert.Kernel23.Gen.frame m ρ, fun m ρ _ => Cert.Kernel23Ideal.Gen.frame m ρ, frame_reference23,
  fun m ρ _ => Cert.Kernel24.Gen.frame m ρ, fun m ρ _ => Cert.Kernel24Ideal.Gen.frame m ρ, frame_reference24,
  fun m ρ _ => Cert.Kernel25.Gen.frame m ρ, fun m ρ _ => Cert.Kernel25Ideal.Gen.frame m ρ, frame_reference25,
  fun m ρ _ => Cert.Kernel26.Gen.frame m ρ, fun m ρ _ => Cert.Kernel26Ideal.Gen.frame m ρ, frame_reference26,
  fun m ρ _ => Cert.Kernel27.Gen.frame m ρ, fun m ρ _ => Cert.Kernel27Ideal.Gen.frame m ρ, frame_reference27,
  fun m ρ _ => Cert.Kernel28.Gen.frame m ρ, fun m ρ _ => Cert.Kernel28Ideal.Gen.frame m ρ, frame_reference28,
  fun m ρ _ => Cert.Kernel29.Gen.frame m ρ, fun m ρ _ => Cert.Kernel29Ideal.Gen.frame m ρ, frame_reference29,
  fun m ρ _ => Cert.Kernel30.Gen.frame m ρ, fun m ρ _ => Cert.Kernel30Ideal.Gen.frame m ρ, frame_reference30,
  fun m ρ _ => Cert.Kernel31.Gen.frame m ρ, fun m ρ _ => Cert.Kernel31Ideal.Gen.frame m ρ, frame_reference31,
  fun m ρ _ => Cert.Kernel32.Gen.frame m ρ, fun m ρ _ => Cert.Kernel32Ideal.Gen.frame m ρ, frame_reference32,
  fun m ρ _ => Cert.Kernel33.Gen.frame m ρ, fun m ρ _ => Cert.Kernel33Ideal.Gen.frame m ρ, frame_reference33,
  fun m ρ _ => Cert.Kernel34.Gen.frame m ρ, fun m ρ _ => Cert.Kernel34Ideal.Gen.frame m ρ, frame_reference34,
  fun m ρ _ => Cert.Kernel35.Gen.frame m ρ, fun m ρ _ => Cert.Kernel35Ideal.Gen.frame m ρ, frame_reference35,
  fun m ρ _ => Cert.Kernel36.Gen.frame m ρ, fun m ρ _ => Cert.Kernel36Ideal.Gen.frame m ρ, frame_reference36,
  fun m ρ _ => Cert.Kernel37.Gen.frame m ρ, fun m ρ _ => Cert.Kernel37Ideal.Gen.frame m ρ, frame_reference37,
  fun m ρ _ => Cert.Kernel38.Gen.frame m ρ, fun m ρ _ => Cert.Kernel38Ideal.Gen.frame m ρ, frame_reference38,
  fun m ρ _ => Cert.Kernel39.Gen.frame m ρ, fun m ρ _ => Cert.Kernel39Ideal.Gen.frame m ρ, frame_reference39,
  fun m ρ _ => Cert.Kernel40.Gen.frame m ρ, fun m ρ _ => Cert.Kernel40Ideal.Gen.frame m ρ, frame_reference40,
  fun m ρ _ => Cert.Kernel41.Gen.frame m ρ, fun m ρ _ => Cert.Kernel41Ideal.Gen.frame m ρ, frame_reference41,
  fun m ρ _ => Cert.Kernel42.Gen.frame m ρ, fun m ρ _ => Cert.Kernel42Ideal.Gen.frame m ρ, frame_reference42,
  fun m ρ _ => Cert.Kernel43.Gen.frame m ρ, fun m ρ _ => Cert.Kernel43Ideal.Gen.frame m ρ, frame_reference43,
  fun m ρ _ => Cert.Kernel44.Gen.frame m ρ, fun m ρ _ => Cert.Kernel44Ideal.Gen.frame m ρ, frame_reference44,
  fun m ρ _ => Cert.Kernel45.Gen.frame m ρ, fun m ρ _ => Cert.Kernel45Ideal.Gen.frame m ρ, frame_reference45,
  fun m ρ _ => Cert.Kernel46.Gen.frame m ρ, fun m ρ _ => Cert.Kernel46Ideal.Gen.frame m ρ, frame_reference46,
  fun m ρ _ => Cert.Kernel47.Gen.frame m ρ, fun m ρ _ => Cert.Kernel47Ideal.Gen.frame m ρ, frame_reference47,
  fun m ρ _ => Cert.Kernel48.Gen.frame m ρ, fun m ρ _ => Cert.Kernel48Ideal.Gen.frame m ρ, frame_reference48,
  fun m ρ _ => Cert.Kernel49.Gen.frame m ρ, fun m ρ _ => Cert.Kernel49Ideal.Gen.frame m ρ, frame_reference49,
  fun m ρ _ => Cert.Kernel50.Gen.frame m ρ, fun m ρ _ => Cert.Kernel50Ideal.Gen.frame m ρ, frame_reference50,
  trivial, algebraic, trivial, algebraic2, trivial, algebraic3, trivial, algebraic4, trivial, algebraic5, trivial, algebraic6,
  trivial, algebraic7, trivial, algebraic8, trivial, algebraic9, trivial, algebraic10, trivial, algebraic11, trivial, algebraic12,
  trivial, algebraic13, trivial, algebraic14, trivial, algebraic15, trivial, algebraic16, trivial, algebraic17, trivial, algebraic18,
  trivial, algebraic19, trivial, algebraic20, trivial, algebraic21, trivial, algebraic22, trivial, algebraic23, trivial, algebraic24,
  trivial, algebraic25, trivial, algebraic26, trivial, algebraic27, trivial, algebraic28, trivial, algebraic29, trivial, algebraic30,
  trivial, algebraic31, trivial, algebraic32, trivial, algebraic33, trivial, algebraic34, trivial, algebraic35, trivial, algebraic36,
  trivial, algebraic37, trivial, algebraic38, trivial, algebraic39, trivial, algebraic40, trivial, algebraic41, trivial, algebraic42,
  trivial, algebraic43, preserves44, algebraic44, preserves45, algebraic45, preserves46, algebraic46, preserves47, algebraic47, preserves48, algebraic48,
  preserves49, algebraic49, preserves50, algebraic50⟩

end Cert.Proof

end
